-- ==== Defs.lean ====
def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_finite_conv [hPre_finite_conv : Cert.Pre_finite_conv.Facts] (m : (ℓ : Loc Cert.ConvIdeal.nD Cert.ConvIdeal.τ Cert.ConvIdeal.sig) → Buf (Elt Ideal) ℓ) : Prop :=
  ∀ c : Dev Cert.ConvIdeal.nD,
    (Cert.Pre_finite_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_finite_conv [hPre_finite_conv : Cert.Pre_finite_conv.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_finite_conv.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2))) = (fun _ => 1#1)

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_finite_memattn [hPre_finite_memattn : Cert.Pre_finite_memattn.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_finite_memattn.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)) (m ((c.tc : Thread Cert.MemAttnIdeal.nD Cert.MemAttnIdeal.τ).loc Cert.MemAttnIdeal.main_arg3))) = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_finite_memattn [hPre_finite_memattn : Cert.Pre_finite_memattn.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_finite_memattn.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2)) (m ((c.tc : Thread Cert.MemAttnRefIdeal.nD Cert.MemAttnRefIdeal.τ).loc Cert.MemAttnRefIdeal.main_arg3))) = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite_mid [hPre_finite_mid : Cert.Pre_finite_mid.Facts] (m : (ℓ : Loc Cert.MidIdeal.nD Cert.MidIdeal.τ Cert.MidIdeal.sig) → Buf (Elt Ideal) ℓ) : Prop :=
  ∀ c : Dev Cert.MidIdeal.nD,
    (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))) = (fun _ => 1#1)

def Pre_MidRefIdeal (m : (ℓ : Loc Cert.MidRefIdeal.nD Cert.MidRefIdeal.τ Cert.MidRefIdeal.sig) → Buf (Elt Ideal) ℓ) : Prop :=
  True

def Pre_MidRefIdeal_finite_mid [hPre_finite_mid : Cert.Pre_finite_mid.Facts] (m : (ℓ : Loc Cert.MidRefIdeal.nD Cert.MidRefIdeal.τ Cert.MidRefIdeal.sig) → Buf (Elt Ideal) ℓ) : Prop :=
  ∀ c : Dev Cert.MidRefIdeal.nD,
    (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))) = (fun _ => 1#1)

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdIdeal_finite_memfwd [hPre_finite_memfwd : Cert.Pre_finite_memfwd.Facts] (m : (ℓ : Loc Cert.MemFwdIdeal.nD Cert.MemFwdIdeal.τ Cert.MemFwdIdeal.sig) → Buf (Elt Ideal) ℓ) : Prop :=
  ∀ c : Dev Cert.MemFwdIdeal.nD,
    (Cert.Pre_finite_memfwd.fn (F := Ideal) (m ((c.tc : Thread Cert.MemFwdIdeal.nD Cert.MemFwdIdeal.τ).loc Cert.MemFwdIdeal.main_arg0)) (m ((c.tc : Thread Cert.MemFwdIdeal.nD Cert.MemFwdIdeal.τ).loc Cert.MemFwdIdeal.main_arg1)) (m ((c.tc : Thread Cert.MemFwdIdeal.nD Cert.MemFwdIdeal.τ).loc Cert.MemFwdIdeal.main_arg2))) = (fun _ => 1#1)

def Pre_MemFwdRefIdeal (m : (ℓ : Loc Cert.MemFwdRefIdeal.nD Cert.MemFwdRefIdeal.τ Cert.MemFwdRefIdeal.sig) → Buf (Elt Ideal) ℓ) : Prop :=
  True

def Pre_MemFwdRefIdeal_finite_memfwd [hPre_finite_memfwd : Cert.Pre_finite_memfwd.Facts] (m : (ℓ : Loc Cert.MemFwdRefIdeal.nD Cert.MemFwdRefIdeal.τ Cert.MemFwdRefIdeal.sig) → Buf (Elt Ideal) ℓ) : Prop :=
  ∀ c : Dev Cert.MemFwdRefIdeal.nD,
    (Cert.Pre_finite_memfwd.fn (F := Ideal) (m ((c.tc : Thread Cert.MemFwdRefIdeal.nD Cert.MemFwdRefIdeal.τ).loc Cert.MemFwdRefIdeal.main_arg0)) (m ((c.tc : Thread Cert.MemFwdRefIdeal.nD Cert.MemFwdRefIdeal.τ).loc Cert.MemFwdRefIdeal.main_arg1)) (m ((c.tc : Thread Cert.MemFwdRefIdeal.nD Cert.MemFwdRefIdeal.τ).loc Cert.MemFwdRefIdeal.main_arg2))) = (fun _ => 1#1)

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhIdeal_finite_dh [hPre_finite_dh : Cert.Pre_finite_dh.Facts] (m : (ℓ : Loc Cert.DhIdeal.nD Cert.DhIdeal.τ Cert.DhIdeal.sig) → Buf (Elt Ideal) ℓ) : Prop :=
  ∀ c : Dev Cert.DhIdeal.nD,
    (Cert.Pre_finite_dh.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7)) (m ((c.tc : Thread Cert.DhIdeal.nD Cert.DhIdeal.τ).loc Cert.DhIdeal.main_arg8)) (m ((c.tc : Thread Cert.DhIdeal.nD Cert.DhIdeal.τ).loc Cert.DhIdeal.main_arg9)) (m ((c.tc : Thread Cert.DhIdeal.nD Cert.DhIdeal.τ).loc Cert.DhIdeal.main_arg10))) = (fun _ => 1#1)

def Pre_DhRefIdeal (m : (ℓ : Loc Cert.DhRefIdeal.nD Cert.DhRefIdeal.τ Cert.DhRefIdeal.sig) → Buf (Elt Ideal) ℓ) : Prop :=
  True

def Pre_DhRefIdeal_finite_dh [hPre_finite_dh : Cert.Pre_finite_dh.Facts] (m : (ℓ : Loc Cert.DhRefIdeal.nD Cert.DhRefIdeal.τ Cert.DhRefIdeal.sig) → Buf (Elt Ideal) ℓ) : Prop :=
  ∀ c : Dev Cert.DhRefIdeal.nD,
    (Cert.Pre_finite_dh.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6)) (m ((c.tc : Thread Cert.DhRefIdeal.nD Cert.DhRefIdeal.τ).loc Cert.DhRefIdeal.main_arg7)) (m ((c.tc : Thread Cert.DhRefIdeal.nD Cert.DhRefIdeal.τ).loc Cert.DhRefIdeal.main_arg8)) (m ((c.tc : Thread Cert.DhRefIdeal.nD Cert.DhRefIdeal.τ).loc Cert.DhRefIdeal.main_arg9)) (m ((c.tc : Thread Cert.DhRefIdeal.nD Cert.DhRefIdeal.τ).loc Cert.DhRefIdeal.main_arg10))) = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvIdeal_pre_finite_conv [hConvIdeal : Cert.ConvIdeal.Facts] [hPre_finite_conv : Cert.Pre_finite_conv.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_finite_conv m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_ConvRefIdeal_pre_finite_conv [hConvRefIdeal : Cert.ConvRefIdeal.Facts] [hPre_finite_conv : Cert.Pre_finite_conv.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_finite_conv m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2)
      ∧ r.2.mem ((c.tc : Thread Cert.MemAttn.nD Cert.MemAttn.τ).loc Cert.MemAttn.main_arg3) = m ((c.tc : Thread Cert.MemAttn.nD Cert.MemAttn.τ).loc Cert.MemAttn.main_arg3))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ r.2.sem = fun _ => 0)

def quiescent_MemAttnIdeal_pre_finite_memattn [hMemAttnIdeal : Cert.MemAttnIdeal.Facts] [hPre_finite_memattn : Cert.Pre_finite_memattn.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_finite_memattn m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3))
      ∧ r.2.sem = fun _ => 0)

def quiescent_MemAttnRefIdeal_pre_finite_memattn [hMemAttnRefIdeal : Cert.MemAttnRefIdeal.Facts] [hPre_finite_memattn : Cert.Pre_finite_memattn.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_finite_memattn m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidIdeal_pre_finite_mid [hMidIdeal : Cert.MidIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite_mid m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8))
      ∧ r.2.sem = fun _ => 0)

def quiescent_MidRefIdeal_pre_finite_mid [hMidRefIdeal : Cert.MidRefIdeal.Facts] [hPre_finite_mid : Cert.Pre_finite_mid.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal_finite_mid m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1)
      ∧ r.2.mem ((c.tc : Thread Cert.MemFwd.nD Cert.MemFwd.τ).loc Cert.MemFwd.main_arg2) = m ((c.tc : Thread Cert.MemFwd.nD Cert.MemFwd.τ).loc Cert.MemFwd.main_arg2))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
      ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2))
      ∧ r.2.sem = fun _ => 0)

def quiescent_MemFwdIdeal_pre_finite_memfwd [hMemFwdIdeal : Cert.MemFwdIdeal.Facts] [hPre_finite_memfwd : Cert.Pre_finite_memfwd.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal_finite_memfwd m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
      ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2))
      ∧ r.2.sem = fun _ => 0)

def quiescent_MemFwdRefIdeal [hMemFwdRefIdeal : Cert.MemFwdRefIdeal.Facts] : Prop :=
  ∀ (m : (ℓ : Loc Cert.MemFwdRefIdeal.nD Cert.MemFwdRefIdeal.τ Cert.MemFwdRefIdeal.sig) → Buf (Elt Ideal) ℓ) (g : Dev Cert.MemFwdRefIdeal.nD → PrngReg), Pre_MemFwdRefIdeal m →
    θ_run (Cert.MemFwdRefIdeal.defs (F := Ideal)) (onTc (τ := Cert.MemFwdRefIdeal.τ) (Cert.MemFwdRefIdeal.main (F := Ideal))) ⟨m, fun _ => 0, g⟩ (fun r => (∀ c : Dev Cert.MemFwdRefIdeal.nD,
      r.2.mem ((c.tc : Thread Cert.MemFwdRefIdeal.nD Cert.MemFwdRefIdeal.τ).loc Cert.MemFwdRefIdeal.main_arg0) = m ((c.tc : Thread Cert.MemFwdRefIdeal.nD Cert.MemFwdRefIdeal.τ).loc Cert.MemFwdRefIdeal.main_arg0)
      ∧ r.2.mem ((c.tc : Thread Cert.MemFwdRefIdeal.nD Cert.MemFwdRefIdeal.τ).loc Cert.MemFwdRefIdeal.main_arg1) = m ((c.tc : Thread Cert.MemFwdRefIdeal.nD Cert.MemFwdRefIdeal.τ).loc Cert.MemFwdRefIdeal.main_arg1)
      ∧ r.2.mem ((c.tc : Thread Cert.MemFwdRefIdeal.nD Cert.MemFwdRefIdeal.τ).loc Cert.MemFwdRefIdeal.main_arg2) = m ((c.tc : Thread Cert.MemFwdRefIdeal.nD Cert.MemFwdRefIdeal.τ).loc Cert.MemFwdRefIdeal.main_arg2))
      ∧ r.2.sem = fun _ => 0)

def quiescent_MemFwdRefIdeal_pre_finite_memfwd [hMemFwdRefIdeal : Cert.MemFwdRefIdeal.Facts] [hPre_finite_memfwd : Cert.Pre_finite_memfwd.Facts] : Prop :=
  ∀ (m : (ℓ : Loc Cert.MemFwdRefIdeal.nD Cert.MemFwdRefIdeal.τ Cert.MemFwdRefIdeal.sig) → Buf (Elt Ideal) ℓ) (g : Dev Cert.MemFwdRefIdeal.nD → PrngReg), Pre_MemFwdRefIdeal_finite_memfwd m →
    θ_run (Cert.MemFwdRefIdeal.defs (F := Ideal)) (onTc (τ := Cert.MemFwdRefIdeal.τ) (Cert.MemFwdRefIdeal.main (F := Ideal))) ⟨m, fun _ => 0, g⟩ (fun r => (∀ c : Dev Cert.MemFwdRefIdeal.nD,
      r.2.mem ((c.tc : Thread Cert.MemFwdRefIdeal.nD Cert.MemFwdRefIdeal.τ).loc Cert.MemFwdRefIdeal.main_arg0) = m ((c.tc : Thread Cert.MemFwdRefIdeal.nD Cert.MemFwdRefIdeal.τ).loc Cert.MemFwdRefIdeal.main_arg0)
      ∧ r.2.mem ((c.tc : Thread Cert.MemFwdRefIdeal.nD Cert.MemFwdRefIdeal.τ).loc Cert.MemFwdRefIdeal.main_arg1) = m ((c.tc : Thread Cert.MemFwdRefIdeal.nD Cert.MemFwdRefIdeal.τ).loc Cert.MemFwdRefIdeal.main_arg1)
      ∧ r.2.mem ((c.tc : Thread Cert.MemFwdRefIdeal.nD Cert.MemFwdRefIdeal.τ).loc Cert.MemFwdRefIdeal.main_arg2) = m ((c.tc : Thread Cert.MemFwdRefIdeal.nD Cert.MemFwdRefIdeal.τ).loc Cert.MemFwdRefIdeal.main_arg2))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4)
      ∧ r.2.mem ((c.tc : Thread Cert.Dh.nD Cert.Dh.τ).loc Cert.Dh.main_arg5) = m ((c.tc : Thread Cert.Dh.nD Cert.Dh.τ).loc Cert.Dh.main_arg5)
      ∧ r.2.mem ((c.tc : Thread Cert.Dh.nD Cert.Dh.τ).loc Cert.Dh.main_arg6) = m ((c.tc : Thread Cert.Dh.nD Cert.Dh.τ).loc Cert.Dh.main_arg6)
      ∧ r.2.mem ((c.tc : Thread Cert.Dh.nD Cert.Dh.τ).loc Cert.Dh.main_arg7) = m ((c.tc : Thread Cert.Dh.nD Cert.Dh.τ).loc Cert.Dh.main_arg7)
      ∧ r.2.mem ((c.tc : Thread Cert.Dh.nD Cert.Dh.τ).loc Cert.Dh.main_arg8) = m ((c.tc : Thread Cert.Dh.nD Cert.Dh.τ).loc Cert.Dh.main_arg8)
      ∧ r.2.mem ((c.tc : Thread Cert.Dh.nD Cert.Dh.τ).loc Cert.Dh.main_arg9) = m ((c.tc : Thread Cert.Dh.nD Cert.Dh.τ).loc Cert.Dh.main_arg9)
      ∧ r.2.mem ((c.tc : Thread Cert.Dh.nD Cert.Dh.τ).loc Cert.Dh.main_arg10) = m ((c.tc : Thread Cert.Dh.nD Cert.Dh.τ).loc Cert.Dh.main_arg10))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
      ∧ r.2.mem ((c.tc : Thread Cert.DhIdeal.nD Cert.DhIdeal.τ).loc Cert.DhIdeal.main_arg7) = m ((c.tc : Thread Cert.DhIdeal.nD Cert.DhIdeal.τ).loc Cert.DhIdeal.main_arg7)
      ∧ r.2.mem ((c.tc : Thread Cert.DhIdeal.nD Cert.DhIdeal.τ).loc Cert.DhIdeal.main_arg8) = m ((c.tc : Thread Cert.DhIdeal.nD Cert.DhIdeal.τ).loc Cert.DhIdeal.main_arg8)
      ∧ r.2.mem ((c.tc : Thread Cert.DhIdeal.nD Cert.DhIdeal.τ).loc Cert.DhIdeal.main_arg9) = m ((c.tc : Thread Cert.DhIdeal.nD Cert.DhIdeal.τ).loc Cert.DhIdeal.main_arg9)
      ∧ r.2.mem ((c.tc : Thread Cert.DhIdeal.nD Cert.DhIdeal.τ).loc Cert.DhIdeal.main_arg10) = m ((c.tc : Thread Cert.DhIdeal.nD Cert.DhIdeal.τ).loc Cert.DhIdeal.main_arg10))
      ∧ r.2.sem = fun _ => 0)

def quiescent_DhIdeal_pre_finite_dh [hDhIdeal : Cert.DhIdeal.Facts] [hPre_finite_dh : Cert.Pre_finite_dh.Facts] : Prop :=
  ∀ (m : (ℓ : Loc Cert.DhIdeal.nD Cert.DhIdeal.τ Cert.DhIdeal.sig) → Buf (Elt Ideal) ℓ) (g : Dev Cert.DhIdeal.nD → PrngReg), Pre_DhIdeal_finite_dh m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
      ∧ r.2.mem ((c.tc : Thread Cert.DhIdeal.nD Cert.DhIdeal.τ).loc Cert.DhIdeal.main_arg7) = m ((c.tc : Thread Cert.DhIdeal.nD Cert.DhIdeal.τ).loc Cert.DhIdeal.main_arg7)
      ∧ r.2.mem ((c.tc : Thread Cert.DhIdeal.nD Cert.DhIdeal.τ).loc Cert.DhIdeal.main_arg8) = m ((c.tc : Thread Cert.DhIdeal.nD Cert.DhIdeal.τ).loc Cert.DhIdeal.main_arg8)
      ∧ r.2.mem ((c.tc : Thread Cert.DhIdeal.nD Cert.DhIdeal.τ).loc Cert.DhIdeal.main_arg9) = m ((c.tc : Thread Cert.DhIdeal.nD Cert.DhIdeal.τ).loc Cert.DhIdeal.main_arg9)
      ∧ r.2.mem ((c.tc : Thread Cert.DhIdeal.nD Cert.DhIdeal.τ).loc Cert.DhIdeal.main_arg10) = m ((c.tc : Thread Cert.DhIdeal.nD Cert.DhIdeal.τ).loc Cert.DhIdeal.main_arg10))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5)
      ∧ r.2.mem ((c.tc : Thread Cert.DhRefIdeal.nD Cert.DhRefIdeal.τ).loc Cert.DhRefIdeal.main_arg6) = m ((c.tc : Thread Cert.DhRefIdeal.nD Cert.DhRefIdeal.τ).loc Cert.DhRefIdeal.main_arg6)
      ∧ r.2.mem ((c.tc : Thread Cert.DhRefIdeal.nD Cert.DhRefIdeal.τ).loc Cert.DhRefIdeal.main_arg7) = m ((c.tc : Thread Cert.DhRefIdeal.nD Cert.DhRefIdeal.τ).loc Cert.DhRefIdeal.main_arg7)
      ∧ r.2.mem ((c.tc : Thread Cert.DhRefIdeal.nD Cert.DhRefIdeal.τ).loc Cert.DhRefIdeal.main_arg8) = m ((c.tc : Thread Cert.DhRefIdeal.nD Cert.DhRefIdeal.τ).loc Cert.DhRefIdeal.main_arg8)
      ∧ r.2.mem ((c.tc : Thread Cert.DhRefIdeal.nD Cert.DhRefIdeal.τ).loc Cert.DhRefIdeal.main_arg9) = m ((c.tc : Thread Cert.DhRefIdeal.nD Cert.DhRefIdeal.τ).loc Cert.DhRefIdeal.main_arg9)
      ∧ r.2.mem ((c.tc : Thread Cert.DhRefIdeal.nD Cert.DhRefIdeal.τ).loc Cert.DhRefIdeal.main_arg10) = m ((c.tc : Thread Cert.DhRefIdeal.nD Cert.DhRefIdeal.τ).loc Cert.DhRefIdeal.main_arg10))
      ∧ r.2.sem = fun _ => 0)

def quiescent_DhRefIdeal_pre_finite_dh [hDhRefIdeal : Cert.DhRefIdeal.Facts] [hPre_finite_dh : Cert.Pre_finite_dh.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal_finite_dh m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5)
      ∧ r.2.mem ((c.tc : Thread Cert.DhRefIdeal.nD Cert.DhRefIdeal.τ).loc Cert.DhRefIdeal.main_arg6) = m ((c.tc : Thread Cert.DhRefIdeal.nD Cert.DhRefIdeal.τ).loc Cert.DhRefIdeal.main_arg6)
      ∧ r.2.mem ((c.tc : Thread Cert.DhRefIdeal.nD Cert.DhRefIdeal.τ).loc Cert.DhRefIdeal.main_arg7) = m ((c.tc : Thread Cert.DhRefIdeal.nD Cert.DhRefIdeal.τ).loc Cert.DhRefIdeal.main_arg7)
      ∧ r.2.mem ((c.tc : Thread Cert.DhRefIdeal.nD Cert.DhRefIdeal.τ).loc Cert.DhRefIdeal.main_arg8) = m ((c.tc : Thread Cert.DhRefIdeal.nD Cert.DhRefIdeal.τ).loc Cert.DhRefIdeal.main_arg8)
      ∧ r.2.mem ((c.tc : Thread Cert.DhRefIdeal.nD Cert.DhRefIdeal.τ).loc Cert.DhRefIdeal.main_arg9) = m ((c.tc : Thread Cert.DhRefIdeal.nD Cert.DhRefIdeal.τ).loc Cert.DhRefIdeal.main_arg9)
      ∧ r.2.mem ((c.tc : Thread Cert.DhRefIdeal.nD Cert.DhRefIdeal.τ).loc Cert.DhRefIdeal.main_arg10) = m ((c.tc : Thread Cert.DhRefIdeal.nD Cert.DhRefIdeal.τ).loc Cert.DhRefIdeal.main_arg10))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1)
      ∧ r.2.mem ((c.tc : Thread Cert.ProjFwdRefIdeal.nD Cert.ProjFwdRefIdeal.τ).loc Cert.ProjFwdRefIdeal.main_arg2) = m ((c.tc : Thread Cert.ProjFwdRefIdeal.nD Cert.ProjFwdRefIdeal.τ).loc Cert.ProjFwdRefIdeal.main_arg2))
      ∧ r.2.sem = fun _ => 0)

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v0_1)) (v1 : (c : Dev Cert.MemKvIdeal.nD) → Buf (Elt Ideal) ((c.tc : Thread Cert.MemKvIdeal.nD Cert.MemKvIdeal.τ).loc Cert.MemKvIdeal.main_v1_0)) (v2 : (c : Dev Cert.MemKvIdeal.nD) → Buf (Elt Ideal) ((c.tc : Thread Cert.MemKvIdeal.nD Cert.MemKvIdeal.τ).loc Cert.MemKvIdeal.main_v1_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0_1) = v0 c
          ∧ r.2.mem ((c.tc : Thread Cert.MemKvIdeal.nD Cert.MemKvIdeal.τ).loc Cert.MemKvIdeal.main_v1_0) = v1 c
          ∧ r.2.mem ((c.tc : Thread Cert.MemKvIdeal.nD Cert.MemKvIdeal.τ).loc Cert.MemKvIdeal.main_v1_1) = v2 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v24) = v0 c
          ∧ r.2.mem ((c.tc : Thread Cert.MemKvRefIdeal.nD Cert.MemKvRefIdeal.τ).loc Cert.MemKvRefIdeal.main_v25) = v1 c
          ∧ r.2.mem ((c.tc : Thread Cert.MemKvRefIdeal.nD Cert.MemKvRefIdeal.τ).loc Cert.MemKvRefIdeal.main_v23) = v2 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Conv_ConvIdeal : Prop :=
  True

def algebraic_ConvIdeal_ConvRefIdeal_pre_finite_conv [hConvIdeal : Cert.ConvIdeal.Facts] [hConvRefIdeal : Cert.ConvRefIdeal.Facts] [hPre_finite_conv : Cert.Pre_finite_conv.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_finite_conv m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1_0)) (v1 : (c : Dev Cert.ConvIdeal.nD) → Buf (Elt Ideal) ((c.tc : Thread Cert.ConvIdeal.nD Cert.ConvIdeal.τ).loc Cert.ConvIdeal.main_v1_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1_0) = v0 c
          ∧ r.2.mem ((c.tc : Thread Cert.ConvIdeal.nD Cert.ConvIdeal.τ).loc Cert.ConvIdeal.main_v1_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v76) = v0 c
          ∧ r.2.mem ((c.tc : Thread Cert.ConvRefIdeal.nD Cert.ConvRefIdeal.τ).loc Cert.ConvRefIdeal.main_v77) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_MemAttn_MemAttnIdeal : Prop :=
  True

def algebraic_MemAttnIdeal_MemAttnRefIdeal_pre_finite_memattn [hMemAttnIdeal : Cert.MemAttnIdeal.Facts] [hMemAttnRefIdeal : Cert.MemAttnRefIdeal.Facts] [hPre_finite_memattn : Cert.Pre_finite_memattn.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_finite_memattn m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)
      ∧ m' ((c.tc : Thread Cert.MemAttnRefIdeal.nD Cert.MemAttnRefIdeal.τ).loc Cert.MemAttnRefIdeal.main_arg3) = m ((c.tc : Thread Cert.MemAttnIdeal.nD Cert.MemAttnIdeal.τ).loc Cert.MemAttnIdeal.main_arg3)) →
    ∃ (v0 : (c : Dev Cert.MemAttnIdeal.nD) → Buf (Elt Ideal) ((c.tc : Thread Cert.MemAttnIdeal.nD Cert.MemAttnIdeal.τ).loc Cert.MemAttnIdeal.main_v0_0)) (v1 : (c : Dev Cert.MemAttnIdeal.nD) → Buf (Elt Ideal) ((c.tc : Thread Cert.MemAttnIdeal.nD Cert.MemAttnIdeal.τ).loc Cert.MemAttnIdeal.main_v0_1)) (v2 : (c : Dev Cert.MemAttnIdeal.nD) → Buf (Elt Ideal) ((c.tc : Thread Cert.MemAttnIdeal.nD Cert.MemAttnIdeal.τ).loc Cert.MemAttnIdeal.main_v0_2)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v0_0) = v0 c
          ∧ r.2.mem ((c.tc : Thread Cert.MemAttnIdeal.nD Cert.MemAttnIdeal.τ).loc Cert.MemAttnIdeal.main_v0_1) = v1 c
          ∧ r.2.mem ((c.tc : Thread Cert.MemAttnIdeal.nD Cert.MemAttnIdeal.τ).loc Cert.MemAttnIdeal.main_v0_2) = v2 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
          ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v75) = v0 c
          ∧ r.2.mem ((c.tc : Thread Cert.MemAttnRefIdeal.nD Cert.MemAttnRefIdeal.τ).loc Cert.MemAttnRefIdeal.main_v76) = v1 c
          ∧ r.2.mem ((c.tc : Thread Cert.MemAttnRefIdeal.nD Cert.MemAttnRefIdeal.τ).loc Cert.MemAttnRefIdeal.main_v74) = v2 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2)
          ∧ r.2.mem ((c.tc : Thread Cert.MemAttnRefIdeal.nD Cert.MemAttnRefIdeal.τ).loc Cert.MemAttnRefIdeal.main_arg3) = m' ((c.tc : Thread Cert.MemAttnRefIdeal.nD Cert.MemAttnRefIdeal.τ).loc Cert.MemAttnRefIdeal.main_arg3))

def preserves_Mid_MidIdeal : Prop :=
  True

def algebraic_MidIdeal_MidRefIdeal_pre_finite_mid [hMidIdeal : Cert.MidIdeal.Facts] [hMidRefIdeal : Cert.MidRefIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal_finite_mid m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)) →
    ∃ (v0 : (c : Dev Cert.MidIdeal.nD) → Buf (Elt Ideal) ((c.tc : Thread Cert.MidIdeal.nD Cert.MidIdeal.τ).loc Cert.MidIdeal.main_v0_0)) (v1 : (c : Dev Cert.MidIdeal.nD) → Buf (Elt Ideal) ((c.tc : Thread Cert.MidIdeal.nD Cert.MidIdeal.τ).loc Cert.MidIdeal.main_v0_1)) (v2 : (c : Dev Cert.MidIdeal.nD) → Buf (Elt Ideal) ((c.tc : Thread Cert.MidIdeal.nD Cert.MidIdeal.τ).loc Cert.MidIdeal.main_v0_2)) (v3 : (c : Dev Cert.MidIdeal.nD) → Buf (Elt Ideal) ((c.tc : Thread Cert.MidIdeal.nD Cert.MidIdeal.τ).loc Cert.MidIdeal.main_v0_3)) (v4 : (c : Dev Cert.MidIdeal.nD) → Buf (Elt Ideal) ((c.tc : Thread Cert.MidIdeal.nD Cert.MidIdeal.τ).loc Cert.MidIdeal.main_v0_4)) (v5 : (c : Dev Cert.MidIdeal.nD) → Buf (Elt Ideal) ((c.tc : Thread Cert.MidIdeal.nD Cert.MidIdeal.τ).loc Cert.MidIdeal.main_v0_5)) (v6 : (c : Dev Cert.MidIdeal.nD) → Buf (Elt Ideal) ((c.tc : Thread Cert.MidIdeal.nD Cert.MidIdeal.τ).loc Cert.MidIdeal.main_v0_6)) (v7 : (c : Dev Cert.MidIdeal.nD) → Buf (Elt Ideal) ((c.tc : Thread Cert.MidIdeal.nD Cert.MidIdeal.τ).loc Cert.MidIdeal.main_v0_7)) (v8 : (c : Dev Cert.MidIdeal.nD) → Buf (Elt Ideal) ((c.tc : Thread Cert.MidIdeal.nD Cert.MidIdeal.τ).loc Cert.MidIdeal.main_v0_8)) (v9 : (c : Dev Cert.MidIdeal.nD) → Buf (Elt Ideal) ((c.tc : Thread Cert.MidIdeal.nD Cert.MidIdeal.τ).loc Cert.MidIdeal.main_v0_9)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v0_0) = v0 c
          ∧ r.2.mem ((c.tc : Thread Cert.MidIdeal.nD Cert.MidIdeal.τ).loc Cert.MidIdeal.main_v0_1) = v1 c
          ∧ r.2.mem ((c.tc : Thread Cert.MidIdeal.nD Cert.MidIdeal.τ).loc Cert.MidIdeal.main_v0_2) = v2 c
          ∧ r.2.mem ((c.tc : Thread Cert.MidIdeal.nD Cert.MidIdeal.τ).loc Cert.MidIdeal.main_v0_3) = v3 c
          ∧ r.2.mem ((c.tc : Thread Cert.MidIdeal.nD Cert.MidIdeal.τ).loc Cert.MidIdeal.main_v0_4) = v4 c
          ∧ r.2.mem ((c.tc : Thread Cert.MidIdeal.nD Cert.MidIdeal.τ).loc Cert.MidIdeal.main_v0_5) = v5 c
          ∧ r.2.mem ((c.tc : Thread Cert.MidIdeal.nD Cert.MidIdeal.τ).loc Cert.MidIdeal.main_v0_6) = v6 c
          ∧ r.2.mem ((c.tc : Thread Cert.MidIdeal.nD Cert.MidIdeal.τ).loc Cert.MidIdeal.main_v0_7) = v7 c
          ∧ r.2.mem ((c.tc : Thread Cert.MidIdeal.nD Cert.MidIdeal.τ).loc Cert.MidIdeal.main_v0_8) = v8 c
          ∧ r.2.mem ((c.tc : Thread Cert.MidIdeal.nD Cert.MidIdeal.τ).loc Cert.MidIdeal.main_v0_9) = v9 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v110) = v0 c
          ∧ r.2.mem ((c.tc : Thread Cert.MidRefIdeal.nD Cert.MidRefIdeal.τ).loc Cert.MidRefIdeal.main_v111) = v1 c
          ∧ r.2.mem ((c.tc : Thread Cert.MidRefIdeal.nD Cert.MidRefIdeal.τ).loc Cert.MidRefIdeal.main_v112) = v2 c
          ∧ r.2.mem ((c.tc : Thread Cert.MidRefIdeal.nD Cert.MidRefIdeal.τ).loc Cert.MidRefIdeal.main_v113) = v3 c
          ∧ r.2.mem ((c.tc : Thread Cert.MidRefIdeal.nD Cert.MidRefIdeal.τ).loc Cert.MidRefIdeal.main_v68) = v4 c
          ∧ r.2.mem ((c.tc : Thread Cert.MidRefIdeal.nD Cert.MidRefIdeal.τ).loc Cert.MidRefIdeal.main_v114) = v5 c
          ∧ r.2.mem ((c.tc : Thread Cert.MidRefIdeal.nD Cert.MidRefIdeal.τ).loc Cert.MidRefIdeal.main_v89) = v6 c
          ∧ r.2.mem ((c.tc : Thread Cert.MidRefIdeal.nD Cert.MidRefIdeal.τ).loc Cert.MidRefIdeal.main_v115) = v7 c
          ∧ r.2.mem ((c.tc : Thread Cert.MidRefIdeal.nD Cert.MidRefIdeal.τ).loc Cert.MidRefIdeal.main_v116) = v8 c
          ∧ r.2.mem ((c.tc : Thread Cert.MidRefIdeal.nD Cert.MidRefIdeal.τ).loc Cert.MidRefIdeal.main_v121) = v9 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8))

def preserves_MemFwd_MemFwdIdeal : Prop :=
  True

def algebraic_MemFwdIdeal_MemFwdRefIdeal_pre_finite_memfwd [hMemFwdIdeal : Cert.MemFwdIdeal.Facts] [hMemFwdRefIdeal : Cert.MemFwdRefIdeal.Facts] [hPre_finite_memfwd : Cert.Pre_finite_memfwd.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdRefIdeal.nD Cert.MemFwdRefIdeal.τ Cert.MemFwdRefIdeal.sig) → Buf (Elt Ideal) ℓ) (g' : Dev Cert.MemFwdRefIdeal.nD → PrngReg), Pre_MemFwdIdeal_finite_memfwd m →
    (∀ c : Dev Cert.MemFwdIdeal.nD,
      m' ((c.tc : Thread Cert.MemFwdRefIdeal.nD Cert.MemFwdRefIdeal.τ).loc Cert.MemFwdRefIdeal.main_arg0) = m ((c.tc : Thread Cert.MemFwdIdeal.nD Cert.MemFwdIdeal.τ).loc Cert.MemFwdIdeal.main_arg0)
      ∧ m' ((c.tc : Thread Cert.MemFwdRefIdeal.nD Cert.MemFwdRefIdeal.τ).loc Cert.MemFwdRefIdeal.main_arg1) = m ((c.tc : Thread Cert.MemFwdIdeal.nD Cert.MemFwdIdeal.τ).loc Cert.MemFwdIdeal.main_arg1)
      ∧ m' ((c.tc : Thread Cert.MemFwdRefIdeal.nD Cert.MemFwdRefIdeal.τ).loc Cert.MemFwdRefIdeal.main_arg2) = m ((c.tc : Thread Cert.MemFwdIdeal.nD Cert.MemFwdIdeal.τ).loc Cert.MemFwdIdeal.main_arg2)) →
    ∃ (v0 : (c : Dev Cert.MemFwdIdeal.nD) → Buf (Elt Ideal) ((c.tc : Thread Cert.MemFwdIdeal.nD Cert.MemFwdIdeal.τ).loc Cert.MemFwdIdeal.main_v0)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v0) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
          ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2))
      ∧ θ_run (Cert.MemFwdRefIdeal.defs (F := Ideal)) (onTc (τ := Cert.MemFwdRefIdeal.τ) (Cert.MemFwdRefIdeal.main (F := Ideal))) ⟨m', fun _ => 0, g'⟩ (fun r => ∀ c : Dev Cert.MemFwdRefIdeal.nD,
          r.2.mem ((c.tc : Thread Cert.MemFwdRefIdeal.nD Cert.MemFwdRefIdeal.τ).loc Cert.MemFwdRefIdeal.main_v27) = v0 c
          ∧ r.2.mem ((c.tc : Thread Cert.MemFwdRefIdeal.nD Cert.MemFwdRefIdeal.τ).loc Cert.MemFwdRefIdeal.main_arg0) = m' ((c.tc : Thread Cert.MemFwdRefIdeal.nD Cert.MemFwdRefIdeal.τ).loc Cert.MemFwdRefIdeal.main_arg0)
          ∧ r.2.mem ((c.tc : Thread Cert.MemFwdRefIdeal.nD Cert.MemFwdRefIdeal.τ).loc Cert.MemFwdRefIdeal.main_arg1) = m' ((c.tc : Thread Cert.MemFwdRefIdeal.nD Cert.MemFwdRefIdeal.τ).loc Cert.MemFwdRefIdeal.main_arg1)
          ∧ r.2.mem ((c.tc : Thread Cert.MemFwdRefIdeal.nD Cert.MemFwdRefIdeal.τ).loc Cert.MemFwdRefIdeal.main_arg2) = m' ((c.tc : Thread Cert.MemFwdRefIdeal.nD Cert.MemFwdRefIdeal.τ).loc Cert.MemFwdRefIdeal.main_arg2))

def preserves_Dh_DhIdeal : Prop :=
  True

def algebraic_DhIdeal_DhRefIdeal_pre_finite_dh [hDhIdeal : Cert.DhIdeal.Facts] [hDhRefIdeal : Cert.DhRefIdeal.Facts] [hPre_finite_dh : Cert.Pre_finite_dh.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal_finite_dh m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)
      ∧ m' ((c.tc : Thread Cert.DhRefIdeal.nD Cert.DhRefIdeal.τ).loc Cert.DhRefIdeal.main_arg5) = m ((c.tc : Thread Cert.DhIdeal.nD Cert.DhIdeal.τ).loc Cert.DhIdeal.main_arg5)
      ∧ m' ((c.tc : Thread Cert.DhRefIdeal.nD Cert.DhRefIdeal.τ).loc Cert.DhRefIdeal.main_arg6) = m ((c.tc : Thread Cert.DhIdeal.nD Cert.DhIdeal.τ).loc Cert.DhIdeal.main_arg6)
      ∧ m' ((c.tc : Thread Cert.DhRefIdeal.nD Cert.DhRefIdeal.τ).loc Cert.DhRefIdeal.main_arg7) = m ((c.tc : Thread Cert.DhIdeal.nD Cert.DhIdeal.τ).loc Cert.DhIdeal.main_arg7)
      ∧ m' ((c.tc : Thread Cert.DhRefIdeal.nD Cert.DhRefIdeal.τ).loc Cert.DhRefIdeal.main_arg8) = m ((c.tc : Thread Cert.DhIdeal.nD Cert.DhIdeal.τ).loc Cert.DhIdeal.main_arg8)
      ∧ m' ((c.tc : Thread Cert.DhRefIdeal.nD Cert.DhRefIdeal.τ).loc Cert.DhRefIdeal.main_arg9) = m ((c.tc : Thread Cert.DhIdeal.nD Cert.DhIdeal.τ).loc Cert.DhIdeal.main_arg9)
      ∧ m' ((c.tc : Thread Cert.DhRefIdeal.nD Cert.DhRefIdeal.τ).loc Cert.DhRefIdeal.main_arg10) = m ((c.tc : Thread Cert.DhIdeal.nD Cert.DhIdeal.τ).loc Cert.DhIdeal.main_arg10)) →
    ∃ (v0 : (c : Dev Cert.DhIdeal.nD) → Buf (Elt Ideal) ((c.tc : Thread Cert.DhIdeal.nD Cert.DhIdeal.τ).loc Cert.DhIdeal.main_v1_0)) (v1 : (c : Dev Cert.DhIdeal.nD) → Buf (Elt Ideal) ((c.tc : Thread Cert.DhIdeal.nD Cert.DhIdeal.τ).loc Cert.DhIdeal.main_v1_1)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v1_0) = v0 c
          ∧ r.2.mem ((c.tc : Thread Cert.DhIdeal.nD Cert.DhIdeal.τ).loc Cert.DhIdeal.main_v1_1) = v1 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
          ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
          ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
          ∧ r.2.mem ((c.tc : Thread Cert.DhIdeal.nD Cert.DhIdeal.τ).loc Cert.DhIdeal.main_arg7) = m ((c.tc : Thread Cert.DhIdeal.nD Cert.DhIdeal.τ).loc Cert.DhIdeal.main_arg7)
          ∧ r.2.mem ((c.tc : Thread Cert.DhIdeal.nD Cert.DhIdeal.τ).loc Cert.DhIdeal.main_arg8) = m ((c.tc : Thread Cert.DhIdeal.nD Cert.DhIdeal.τ).loc Cert.DhIdeal.main_arg8)
          ∧ r.2.mem ((c.tc : Thread Cert.DhIdeal.nD Cert.DhIdeal.τ).loc Cert.DhIdeal.main_arg9) = m ((c.tc : Thread Cert.DhIdeal.nD Cert.DhIdeal.τ).loc Cert.DhIdeal.main_arg9)
          ∧ r.2.mem ((c.tc : Thread Cert.DhIdeal.nD Cert.DhIdeal.τ).loc Cert.DhIdeal.main_arg10) = m ((c.tc : Thread Cert.DhIdeal.nD Cert.DhIdeal.τ).loc Cert.DhIdeal.main_arg10))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v49) = v0 c
          ∧ r.2.mem ((c.tc : Thread Cert.DhRefIdeal.nD Cert.DhRefIdeal.τ).loc Cert.DhRefIdeal.main_v50) = v1 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4)
          ∧ r.2.mem ((c.tc : Thread Cert.DhRefIdeal.nD Cert.DhRefIdeal.τ).loc Cert.DhRefIdeal.main_arg5) = m' ((c.tc : Thread Cert.DhRefIdeal.nD Cert.DhRefIdeal.τ).loc Cert.DhRefIdeal.main_arg5)
          ∧ r.2.mem ((c.tc : Thread Cert.DhRefIdeal.nD Cert.DhRefIdeal.τ).loc Cert.DhRefIdeal.main_arg6) = m' ((c.tc : Thread Cert.DhRefIdeal.nD Cert.DhRefIdeal.τ).loc Cert.DhRefIdeal.main_arg6)
          ∧ r.2.mem ((c.tc : Thread Cert.DhRefIdeal.nD Cert.DhRefIdeal.τ).loc Cert.DhRefIdeal.main_arg7) = m' ((c.tc : Thread Cert.DhRefIdeal.nD Cert.DhRefIdeal.τ).loc Cert.DhRefIdeal.main_arg7)
          ∧ r.2.mem ((c.tc : Thread Cert.DhRefIdeal.nD Cert.DhRefIdeal.τ).loc Cert.DhRefIdeal.main_arg8) = m' ((c.tc : Thread Cert.DhRefIdeal.nD Cert.DhRefIdeal.τ).loc Cert.DhRefIdeal.main_arg8)
          ∧ r.2.mem ((c.tc : Thread Cert.DhRefIdeal.nD Cert.DhRefIdeal.τ).loc Cert.DhRefIdeal.main_arg9) = m' ((c.tc : Thread Cert.DhRefIdeal.nD Cert.DhRefIdeal.τ).loc Cert.DhRefIdeal.main_arg9)
          ∧ r.2.mem ((c.tc : Thread Cert.DhRefIdeal.nD Cert.DhRefIdeal.τ).loc Cert.DhRefIdeal.main_arg10) = m' ((c.tc : Thread Cert.DhRefIdeal.nD Cert.DhRefIdeal.τ).loc Cert.DhRefIdeal.main_arg10))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v31) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)
      ∧ m' ((c.tc : Thread Cert.ProjFwdRefIdeal.nD Cert.ProjFwdRefIdeal.τ).loc Cert.ProjFwdRefIdeal.main_arg2) = m ((c.tc : Thread Cert.ProjFwdIdeal.nD Cert.ProjFwdIdeal.τ).loc Cert.ProjFwdIdeal.main_arg2)) →
    ∃ (v0 : (c : Dev Cert.ProjFwdIdeal.nD) → Buf (Elt Ideal) ((c.tc : Thread Cert.ProjFwdIdeal.nD Cert.ProjFwdIdeal.τ).loc Cert.ProjFwdIdeal.main_v38_0)) (v1 : (c : Dev Cert.ProjFwdIdeal.nD) → Buf (Elt Ideal) ((c.tc : Thread Cert.ProjFwdIdeal.nD Cert.ProjFwdIdeal.τ).loc Cert.ProjFwdIdeal.main_v38_1)) (v2 : (c : Dev Cert.ProjFwdIdeal.nD) → Buf (Elt Ideal) ((c.tc : Thread Cert.ProjFwdIdeal.nD Cert.ProjFwdIdeal.τ).loc Cert.ProjFwdIdeal.main_v38_2)) (v3 : (c : Dev Cert.ProjFwdIdeal.nD) → Buf (Elt Ideal) ((c.tc : Thread Cert.ProjFwdIdeal.nD Cert.ProjFwdIdeal.τ).loc Cert.ProjFwdIdeal.main_v38_3)) (v4 : (c : Dev Cert.ProjFwdIdeal.nD) → Buf (Elt Ideal) ((c.tc : Thread Cert.ProjFwdIdeal.nD Cert.ProjFwdIdeal.τ).loc Cert.ProjFwdIdeal.main_v38_4)) (v5 : (c : Dev Cert.ProjFwdIdeal.nD) → Buf (Elt Ideal) ((c.tc : Thread Cert.ProjFwdIdeal.nD Cert.ProjFwdIdeal.τ).loc Cert.ProjFwdIdeal.main_v38_5)) (v6 : (c : Dev Cert.ProjFwdIdeal.nD) → Buf (Elt Ideal) ((c.tc : Thread Cert.ProjFwdIdeal.nD Cert.ProjFwdIdeal.τ).loc Cert.ProjFwdIdeal.main_v38_6)) (v7 : (c : Dev Cert.ProjFwdIdeal.nD) → Buf (Elt Ideal) ((c.tc : Thread Cert.ProjFwdIdeal.nD Cert.ProjFwdIdeal.τ).loc Cert.ProjFwdIdeal.main_v38_7)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v38_0) = v0 c
          ∧ r.2.mem ((c.tc : Thread Cert.ProjFwdIdeal.nD Cert.ProjFwdIdeal.τ).loc Cert.ProjFwdIdeal.main_v38_1) = v1 c
          ∧ r.2.mem ((c.tc : Thread Cert.ProjFwdIdeal.nD Cert.ProjFwdIdeal.τ).loc Cert.ProjFwdIdeal.main_v38_2) = v2 c
          ∧ r.2.mem ((c.tc : Thread Cert.ProjFwdIdeal.nD Cert.ProjFwdIdeal.τ).loc Cert.ProjFwdIdeal.main_v38_3) = v3 c
          ∧ r.2.mem ((c.tc : Thread Cert.ProjFwdIdeal.nD Cert.ProjFwdIdeal.τ).loc Cert.ProjFwdIdeal.main_v38_4) = v4 c
          ∧ r.2.mem ((c.tc : Thread Cert.ProjFwdIdeal.nD Cert.ProjFwdIdeal.τ).loc Cert.ProjFwdIdeal.main_v38_5) = v5 c
          ∧ r.2.mem ((c.tc : Thread Cert.ProjFwdIdeal.nD Cert.ProjFwdIdeal.τ).loc Cert.ProjFwdIdeal.main_v38_6) = v6 c
          ∧ r.2.mem ((c.tc : Thread Cert.ProjFwdIdeal.nD Cert.ProjFwdIdeal.τ).loc Cert.ProjFwdIdeal.main_v38_7) = v7 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v14) = v0 c
          ∧ r.2.mem ((c.tc : Thread Cert.ProjFwdRefIdeal.nD Cert.ProjFwdRefIdeal.τ).loc Cert.ProjFwdRefIdeal.main_v106) = v1 c
          ∧ r.2.mem ((c.tc : Thread Cert.ProjFwdRefIdeal.nD Cert.ProjFwdRefIdeal.τ).loc Cert.ProjFwdRefIdeal.main_v107) = v2 c
          ∧ r.2.mem ((c.tc : Thread Cert.ProjFwdRefIdeal.nD Cert.ProjFwdRefIdeal.τ).loc Cert.ProjFwdRefIdeal.main_v108) = v3 c
          ∧ r.2.mem ((c.tc : Thread Cert.ProjFwdRefIdeal.nD Cert.ProjFwdRefIdeal.τ).loc Cert.ProjFwdRefIdeal.main_v109) = v4 c
          ∧ r.2.mem ((c.tc : Thread Cert.ProjFwdRefIdeal.nD Cert.ProjFwdRefIdeal.τ).loc Cert.ProjFwdRefIdeal.main_v110) = v5 c
          ∧ r.2.mem ((c.tc : Thread Cert.ProjFwdRefIdeal.nD Cert.ProjFwdRefIdeal.τ).loc Cert.ProjFwdRefIdeal.main_v111) = v6 c
          ∧ r.2.mem ((c.tc : Thread Cert.ProjFwdRefIdeal.nD Cert.ProjFwdRefIdeal.τ).loc Cert.ProjFwdRefIdeal.main_v112) = v7 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1)
          ∧ r.2.mem ((c.tc : Thread Cert.ProjFwdRefIdeal.nD Cert.ProjFwdRefIdeal.τ).loc Cert.ProjFwdRefIdeal.main_arg2) = m' ((c.tc : Thread Cert.ProjFwdRefIdeal.nD Cert.ProjFwdRefIdeal.τ).loc Cert.ProjFwdRefIdeal.main_arg2))

def Claim : Prop :=
  ∃ (hMemKv : Cert.MemKv.Facts) (hMemKvIdeal : Cert.MemKvIdeal.Facts) (hMemKvRefIdeal : Cert.MemKvRefIdeal.Facts) (hConv : Cert.Conv.Facts) (hConvIdeal : Cert.ConvIdeal.Facts) (hConvRefIdeal : Cert.ConvRefIdeal.Facts) (hMemAttn : Cert.MemAttn.Facts) (hMemAttnIdeal : Cert.MemAttnIdeal.Facts) (hMemAttnRefIdeal : Cert.MemAttnRefIdeal.Facts) (hMid : Cert.Mid.Facts) (hMidIdeal : Cert.MidIdeal.Facts) (hMidRefIdeal : Cert.MidRefIdeal.Facts) (hMemFwd : Cert.MemFwd.Facts) (hMemFwdIdeal : Cert.MemFwdIdeal.Facts) (hMemFwdRefIdeal : Cert.MemFwdRefIdeal.Facts) (hDh : Cert.Dh.Facts) (hDhIdeal : Cert.DhIdeal.Facts) (hDhRefIdeal : Cert.DhRefIdeal.Facts) (hConvFwd : Cert.ConvFwd.Facts) (hConvFwdIdeal : Cert.ConvFwdIdeal.Facts) (hConvFwdRefIdeal : Cert.ConvFwdRefIdeal.Facts) (hProjFwd : Cert.ProjFwd.Facts) (hProjFwdIdeal : Cert.ProjFwdIdeal.Facts) (hProjFwdRefIdeal : Cert.ProjFwdRefIdeal.Facts) (hPre_finite_conv : Cert.Pre_finite_conv.Facts) (hPre_finite_memattn : Cert.Pre_finite_memattn.Facts) (hPre_finite_mid : Cert.Pre_finite_mid.Facts) (hPre_finite_memfwd : Cert.Pre_finite_memfwd.Facts) (hPre_finite_dh : Cert.Pre_finite_dh.Facts),
    quiescent_MemKv (hMemKv := hMemKv)
    ∧ quiescent_MemKvIdeal (hMemKvIdeal := hMemKvIdeal)
    ∧ quiescent_MemKvRefIdeal (hMemKvRefIdeal := hMemKvRefIdeal)
    ∧ quiescent_Conv (hConv := hConv)
    ∧ quiescent_ConvIdeal (hConvIdeal := hConvIdeal)
    ∧ quiescent_ConvIdeal_pre_finite_conv (hConvIdeal := hConvIdeal) (hPre_finite_conv := hPre_finite_conv)
    ∧ quiescent_ConvRefIdeal (hConvRefIdeal := hConvRefIdeal)
    ∧ quiescent_ConvRefIdeal_pre_finite_conv (hConvRefIdeal := hConvRefIdeal) (hPre_finite_conv := hPre_finite_conv)
    ∧ quiescent_MemAttn (hMemAttn := hMemAttn)
    ∧ quiescent_MemAttnIdeal (hMemAttnIdeal := hMemAttnIdeal)
    ∧ quiescent_MemAttnIdeal_pre_finite_memattn (hMemAttnIdeal := hMemAttnIdeal) (hPre_finite_memattn := hPre_finite_memattn)
    ∧ quiescent_MemAttnRefIdeal (hMemAttnRefIdeal := hMemAttnRefIdeal)
    ∧ quiescent_MemAttnRefIdeal_pre_finite_memattn (hMemAttnRefIdeal := hMemAttnRefIdeal) (hPre_finite_memattn := hPre_finite_memattn)
    ∧ quiescent_Mid (hMid := hMid)
    ∧ quiescent_MidIdeal (hMidIdeal := hMidIdeal)
    ∧ quiescent_MidIdeal_pre_finite_mid (hMidIdeal := hMidIdeal) (hPre_finite_mid := hPre_finite_mid)
    ∧ quiescent_MidRefIdeal (hMidRefIdeal := hMidRefIdeal)
    ∧ quiescent_MidRefIdeal_pre_finite_mid (hMidRefIdeal := hMidRefIdeal) (hPre_finite_mid := hPre_finite_mid)
    ∧ quiescent_MemFwd (hMemFwd := hMemFwd)
    ∧ quiescent_MemFwdIdeal (hMemFwdIdeal := hMemFwdIdeal)
    ∧ quiescent_MemFwdIdeal_pre_finite_memfwd (hMemFwdIdeal := hMemFwdIdeal) (hPre_finite_memfwd := hPre_finite_memfwd)
    ∧ quiescent_MemFwdRefIdeal (hMemFwdRefIdeal := hMemFwdRefIdeal)
    ∧ quiescent_MemFwdRefIdeal_pre_finite_memfwd (hMemFwdRefIdeal := hMemFwdRefIdeal) (hPre_finite_memfwd := hPre_finite_memfwd)
    ∧ quiescent_Dh (hDh := hDh)
    ∧ quiescent_DhIdeal (hDhIdeal := hDhIdeal)
    ∧ quiescent_DhIdeal_pre_finite_dh (hDhIdeal := hDhIdeal) (hPre_finite_dh := hPre_finite_dh)
    ∧ quiescent_DhRefIdeal (hDhRefIdeal := hDhRefIdeal)
    ∧ quiescent_DhRefIdeal_pre_finite_dh (hDhRefIdeal := hDhRefIdeal) (hPre_finite_dh := hPre_finite_dh)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ preserves_MemKv_MemKvIdeal
    ∧ algebraic_MemKvIdeal_MemKvRefIdeal (hMemKvIdeal := hMemKvIdeal) (hMemKvRefIdeal := hMemKvRefIdeal)
    ∧ preserves_Conv_ConvIdeal
    ∧ algebraic_ConvIdeal_ConvRefIdeal_pre_finite_conv (hConvIdeal := hConvIdeal) (hConvRefIdeal := hConvRefIdeal) (hPre_finite_conv := hPre_finite_conv)
    ∧ preserves_MemAttn_MemAttnIdeal
    ∧ algebraic_MemAttnIdeal_MemAttnRefIdeal_pre_finite_memattn (hMemAttnIdeal := hMemAttnIdeal) (hMemAttnRefIdeal := hMemAttnRefIdeal) (hPre_finite_memattn := hPre_finite_memattn)
    ∧ preserves_Mid_MidIdeal
    ∧ algebraic_MidIdeal_MidRefIdeal_pre_finite_mid (hMidIdeal := hMidIdeal) (hMidRefIdeal := hMidRefIdeal) (hPre_finite_mid := hPre_finite_mid)
    ∧ preserves_MemFwd_MemFwdIdeal
    ∧ algebraic_MemFwdIdeal_MemFwdRefIdeal_pre_finite_memfwd (hMemFwdIdeal := hMemFwdIdeal) (hMemFwdRefIdeal := hMemFwdRefIdeal) (hPre_finite_memfwd := hPre_finite_memfwd)
    ∧ preserves_Dh_DhIdeal
    ∧ algebraic_DhIdeal_DhRefIdeal_pre_finite_dh (hDhIdeal := hDhIdeal) (hDhRefIdeal := hDhRefIdeal) (hPre_finite_dh := hPre_finite_dh)
    ∧ preserves_ConvFwd_ConvFwdIdeal
    ∧ algebraic_ConvFwdIdeal_ConvFwdRefIdeal (hConvFwdIdeal := hConvFwdIdeal) (hConvFwdRefIdeal := hConvFwdRefIdeal)
    ∧ preserves_ProjFwd_ProjFwdIdeal
    ∧ algebraic_ProjFwdIdeal_ProjFwdRefIdeal (hProjFwdIdeal := hProjFwdIdeal) (hProjFwdRefIdeal := hProjFwdRefIdeal)
-- ==== Pre_finite_conv.lean ====
abbrev S4096x2048 : Shape := ⟨2, ![4096, 2048]⟩
abbrev S4096x512 : Shape := ⟨2, ![4096, 512]⟩
abbrev S3x512 : Shape := ⟨2, ![3, 512]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S3x512 : S_.BroadcastsInDim S3x512 (![] : Fin 0 → Fin S3x512.rank)
  reducesTo_S3x512_S_d0_1 : S3x512.ReducesTo [0, 1] S_

variable [Facts]

def fn {F : FTy → Type} [FloatOps F] (main_arg0 : FVec F S4096x2048 .bf16) (main_arg1 : FVec F S4096x512 .bf16) (main_arg2 : FVec F S3x512 .f32) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x512 .bf16 := Host.absf main_arg1
  let main_cst_0 : FVec F S_ .bf16 := constant S_ .bf16 0x7F80#16
  let main_v5 : FVec F S4096x512 .bf16 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S3x512 .f32 := Host.absf main_arg2
  let main_cst_2 : FVec F S_ .f32 := constant S_ .f32 0x7F800000#32
  let main_v10 : FVec F S3x512 .f32 := broadcastInDim S3x512 ![] bcast_S_S3x512 main_cst_2
  let main_v11 : IVec S3x512 1 := cmpf .olt main_v9 main_v10
  let main_c_3 : IVec S_ 1 := constantI S_ 1 1#1
  let main_v12 : IVec S_ 1 := (fun x v => Host.reduce IntOp.andi x v reducesTo_S3x512_S_d0_1 h_S_) main_v11 main_c_3
  let main_v13 : IVec S_ 1 := andi main_v8 main_v12
  main_v13
-- ==== Pre_finite_dh.lean ====
abbrev S4096x2048 : Shape := ⟨2, ![4096, 2048]⟩
abbrev S4096x512 : Shape := ⟨2, ![4096, 512]⟩
abbrev S4096x256 : Shape := ⟨2, ![4096, 256]⟩
abbrev S4096x3072 : Shape := ⟨2, ![4096, 3072]⟩
abbrev S4096x1024 : Shape := ⟨2, ![4096, 1024]⟩
abbrev S1x1024 : Shape := ⟨2, ![1, 1024]⟩
abbrev S7424x1024 : Shape := ⟨2, ![7424, 1024]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x256 : S_.BroadcastsInDim S4096x256 (![] : Fin 0 → Fin S4096x256.rank)
  reducesTo_S4096x256_S_d0_1 : S4096x256.ReducesTo [0, 1] S_
  bcast_S_S4096x3072 : S_.BroadcastsInDim S4096x3072 (![] : Fin 0 → Fin S4096x3072.rank)
  reducesTo_S4096x3072_S_d0_1 : S4096x3072.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S7424x1024 : S_.BroadcastsInDim S7424x1024 (![] : Fin 0 → Fin S7424x1024.rank)
  reducesTo_S7424x1024_S_d0_1 : S7424x1024.ReducesTo [0, 1] S_

variable [Facts]

def fn_part2 {F : FTy → Type} [FloatOps F] (main_arg7 : FVec F S4096x1024 .f32) (main_arg9 : FVec F S1x1024 .f32) (main_arg10 : FVec F S7424x1024 .bf16) (main_v33 : IVec S_ 1) : IVec S_ 1 :=
  let main_v34 : FVec F S4096x1024 .f32 := Host.absf main_arg7
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  let main_v39 : FVec F S1x1024 .f32 := Host.absf main_arg9
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  let main_v44 : FVec F S7424x1024 .bf16 := Host.absf main_arg10
  let main_cst_16 : FVec F S_ .bf16 := constant S_ .bf16 0x7F80#16
  let main_v45 : FVec F S7424x1024 .bf16 := broadcastInDim S7424x1024 ![] bcast_S_S7424x1024 main_cst_16
  let main_v46 : IVec S7424x1024 1 := cmpf .olt main_v44 main_v45
  let main_c_17 : IVec S_ 1 := constantI S_ 1 1#1
  let main_v47 : IVec S_ 1 := (fun x v => Host.reduce IntOp.andi x v reducesTo_S7424x1024_S_d0_1 h_S_) main_v46 main_c_17
  let main_v48 : IVec S_ 1 := andi main_v43 main_v47
  main_v48

def fn_part1 {F : FTy → Type} [FloatOps F] (main_arg4 : FVec F S4096x512 .bf16) (main_arg5 : FVec F S4096x512 .bf16) (main_arg6 : FVec F S4096x3072 .bf16) (main_arg7 : FVec F S4096x1024 .f32) (main_arg9 : FVec F S1x1024 .f32) (main_arg10 : FVec F S7424x1024 .bf16) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096x512 .bf16 := Host.absf main_arg4
  let main_cst_6 : FVec F S_ .bf16 := constant S_ .bf16 0x7F80#16
  let main_v20 : FVec F S4096x512 .bf16 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  let main_v24 : FVec F S4096x512 .bf16 := Host.absf main_arg5
  let main_cst_8 : FVec F S_ .bf16 := constant S_ .bf16 0x7F80#16
  let main_v25 : FVec F S4096x512 .bf16 := broadcastInDim S4096x512 ![] bcast_S_S4096x512 main_cst_8
  let main_v26 : IVec S4096x512 1 := cmpf .olt main_v24 main_v25
  let main_c_9 : IVec S_ 1 := constantI S_ 1 1#1
  let main_v27 : IVec S_ 1 := (fun x v => Host.reduce IntOp.andi x v reducesTo_S4096x512_S_d0_1 h_S_) main_v26 main_c_9
  let main_v28 : IVec S_ 1 := andi main_v23 main_v27
  let main_v29 : FVec F S4096x3072 .bf16 := Host.absf main_arg6
  let main_cst_10 : FVec F S_ .bf16 := constant S_ .bf16 0x7F80#16
  let main_v30 : FVec F S4096x3072 .bf16 := broadcastInDim S4096x3072 ![] bcast_S_S4096x3072 main_cst_10
  let main_v31 : IVec S4096x3072 1 := cmpf .olt main_v29 main_v30
  let main_c_11 : IVec S_ 1 := constantI S_ 1 1#1
  let main_v32 : IVec S_ 1 := (fun x v => Host.reduce IntOp.andi x v reducesTo_S4096x3072_S_d0_1 h_S_) main_v31 main_c_11
  let main_v33 : IVec S_ 1 := andi main_v28 main_v32
  fn_part2 (F := F) main_arg7 main_arg9 main_arg10 main_v33

def fn {F : FTy → Type} [FloatOps F] (main_arg0 : FVec F S4096x2048 .bf16) (main_arg1 : FVec F S4096x512 .bf16) (main_arg2 : FVec F S4096x256 .bf16) (main_arg3 : FVec F S4096x512 .bf16) (main_arg4 : FVec F S4096x512 .bf16) (main_arg5 : FVec F S4096x512 .bf16) (main_arg6 : FVec F S4096x3072 .bf16) (main_arg7 : FVec F S4096x1024 .f32) (main_arg8 : FVec F S4096x1024 .f32) (main_arg9 : FVec F S1x1024 .f32) (main_arg10 : FVec F S7424x1024 .bf16) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x512 .bf16 := Host.absf main_arg1
  let main_cst_0 : FVec F S_ .bf16 := constant S_ .bf16 0x7F80#16
  let main_v5 : FVec F S4096x512 .bf16 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x256 .bf16 := Host.absf main_arg2
  let main_cst_2 : FVec F S_ .bf16 := constant S_ .bf16 0x7F80#16
  let main_v10 : FVec F S4096x256 .bf16 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S4096x512 .bf16 := Host.absf main_arg3
  let main_cst_4 : FVec F S_ .bf16 := constant S_ .bf16 0x7F80#16
  let main_v15 : FVec F S4096x512 .bf16 := broadcastInDim S4096x512 ![] bcast_S_S4096x512 main_cst_4
  let main_v16 : IVec S4096x512 1 := cmpf .olt main_v14 main_v15
  fn_part1 (F := F) main_arg4 main_arg5 main_arg6 main_arg7 main_arg9 main_arg10 main_v13 main_v16
-- ==== Pre_finite_memattn.lean ====
abbrev S4096x512 : Shape := ⟨2, ![4096, 512]⟩
abbrev S256x1024 : Shape := ⟨2, ![256, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S4096x512 .bf16) (main_arg1 : FVec F S4096x512 .bf16) (main_arg2 : FVec F S256x1024 .bf16) (main_arg3 : FVec F S4096x512 .bf16) : IVec S_ 1 :=
  let main_v0 : FVec F S4096x512 .bf16 := Host.absf main_arg0
  let main_cst : FVec F S_ .bf16 := constant S_ .bf16 0x7F80#16
  let main_v1 : FVec F S4096x512 .bf16 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .bf16 := Host.absf main_arg1
  let main_cst_0 : FVec F S_ .bf16 := constant S_ .bf16 0x7F80#16
  let main_v5 : FVec F S4096x512 .bf16 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S256x1024 .bf16 := Host.absf main_arg2
  let main_cst_2 : FVec F S_ .bf16 := constant S_ .bf16 0x7F80#16
  let main_v10 : FVec F S256x1024 .bf16 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S4096x512 .bf16 := Host.absf main_arg3
  let main_cst_4 : FVec F S_ .bf16 := constant S_ .bf16 0x7F80#16
  let main_v15 : FVec F S4096x512 .bf16 := broadcastInDim S4096x512 ![] bcast_S_S4096x512 main_cst_4
  let main_v16 : IVec S4096x512 1 := cmpf .olt main_v14 main_v15
  fn_part1 (F := F) main_v13 main_v16
-- ==== Pre_finite_memfwd.lean ====
abbrev S4096x512 : Shape := ⟨2, ![4096, 512]⟩
abbrev S256x1024 : Shape := ⟨2, ![256, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S4096x512 .bf16) (main_arg1 : FVec F S4096x512 .bf16) (main_arg2 : FVec F S256x1024 .bf16) : IVec S_ 1 :=
  let main_v0 : FVec F S4096x512 .bf16 := Host.absf main_arg0
  let main_cst : FVec F S_ .bf16 := constant S_ .bf16 0x7F80#16
  let main_v1 : FVec F S4096x512 .bf16 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S256x1024 .bf16 := Host.absf main_arg2
  let main_cst_0 : FVec F S_ .bf16 := constant S_ .bf16 0x7F80#16
  let main_v5 : FVec F S256x1024 .bf16 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  main_v8
-- ==== Pre_finite_mid.lean ====
abbrev S4096x512 : Shape := ⟨2, ![4096, 512]⟩
abbrev S4096x3072 : Shape := ⟨2, ![4096, 3072]⟩
abbrev S4096x1024 : Shape := ⟨2, ![4096, 1024]⟩
abbrev S1x1024 : Shape := ⟨2, ![1, 1024]⟩
abbrev S8x1536x128 : Shape := ⟨3, ![8, 1536, 128]⟩
abbrev S1024x1024 : Shape := ⟨2, ![1024, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S8x1536x128 : S_.BroadcastsInDim S8x1536x128 (![] : Fin 0 → Fin S8x1536x128.rank)
  reducesTo_S8x1536x128_S_d0_1_2 : S8x1536x128.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg8 : FVec F S1024x1024 .bf16) (main_v33 : IVec S_ 1) : IVec S_ 1 :=
  let main_v34 : FVec F S1024x1024 .bf16 := Host.absf main_arg8
  let main_cst_12 : FVec F S_ .bf16 := constant S_ .bf16 0x7F80#16
  let main_v35 : FVec F S1024x1024 .bf16 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg5 : FVec F S4096x1024 .f32) (main_arg6 : FVec F S1x1024 .f32) (main_arg7 : FVec F S8x1536x128 .bf16) (main_arg8 : FVec F S1024x1024 .bf16) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg5
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1x1024 .f32 := Host.absf main_arg6
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S8x1536x128 .bf16 := Host.absf main_arg7
  let main_cst_10 : FVec F S_ .bf16 := constant S_ .bf16 0x7F80#16
  let main_v30 : FVec F S8x1536x128 .bf16 := broadcastInDim S8x1536x128 ![] bcast_S_S8x1536x128 main_cst_10
  let main_v31 : IVec S8x1536x128 1 := cmpf .olt main_v29 main_v30
  let main_c_11 : IVec S_ 1 := constantI S_ 1 1#1
  let main_v32 : IVec S_ 1 := (fun x v => Host.reduce IntOp.andi x v reducesTo_S8x1536x128_S_d0_1_2 h_S_) main_v31 main_c_11
  let main_v33 : IVec S_ 1 := andi main_v28 main_v32
  fn_part2 (F := F) main_arg8 main_v33

def fn {F : FTy → Type} [FloatOps F] (main_arg0 : FVec F S4096x512 .bf16) (main_arg1 : FVec F S4096x512 .bf16) (main_arg2 : FVec F S4096x512 .bf16) (main_arg3 : FVec F S4096x3072 .bf16) (main_arg4 : FVec F S4096x1024 .f32) (main_arg5 : FVec F S4096x1024 .f32) (main_arg6 : FVec F S1x1024 .f32) (main_arg7 : FVec F S8x1536x128 .bf16) (main_arg8 : FVec F S1024x1024 .bf16) : IVec S_ 1 :=
  let main_v0 : FVec F S4096x512 .bf16 := Host.absf main_arg0
  let main_cst : FVec F S_ .bf16 := constant S_ .bf16 0x7F80#16
  let main_v1 : FVec F S4096x512 .bf16 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .bf16 := Host.absf main_arg1
  let main_cst_0 : FVec F S_ .bf16 := constant S_ .bf16 0x7F80#16
  let main_v5 : FVec F S4096x512 .bf16 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .bf16 := Host.absf main_arg2
  let main_cst_2 : FVec F S_ .bf16 := constant S_ .bf16 0x7F80#16
  let main_v10 : FVec F S4096x512 .bf16 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg5 main_arg6 main_arg7 main_arg8 main_v13 main_v16
-- ==== MemKv.lean ====
abbrev S256x1024 : Shape := ⟨2, ![256, 1024]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .bf16⟩
  | .hbm, ⟨3, _⟩ => ⟨S256x1024, .f32⟩
  | .hbm, ⟨4, _⟩ => ⟨S256x1024, .bf16⟩
  | .hbm, ⟨5, _⟩ => ⟨S256x1024, .bf16⟩
  | .hbm, ⟨6, _⟩ => ⟨S1024x1024, .bf16⟩
  | .hbm, ⟨7, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== MemKvRefIdeal.lean ====
abbrev S256x1024 : Shape := ⟨2, ![256, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S256 : Shape := ⟨1, ![256]⟩
abbrev S256x1 : Shape := ⟨2, ![256, 1]⟩

abbrev nBuf : Space → Nat
  | .hbm => 35
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .bf16⟩
  | .hbm, ⟨3, _⟩ => ⟨S256x1024, .f32⟩
  | .hbm, ⟨4, _⟩ => ⟨S1024x1024, .f32⟩
  | .hbm, ⟨5, _⟩ => ⟨S1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S1024x1024, .f32⟩
  | .hbm, ⟨24, _⟩ => ⟨S1024x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S256x1024, .bf16⟩
  | .hbm, ⟨34, _⟩ => ⟨S1024x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Conv.lean ====
abbrev S4096x2048 : Shape := ⟨2, ![4096, 2048]⟩
abbrev S4096x512 : Shape := ⟨2, ![4096, 512]⟩
abbrev S3x512 : Shape := ⟨2, ![3, 512]⟩
abbrev S_ : Shape := ⟨0, ![]⟩
abbrev S8x128 : Shape := ⟨2, ![8, 128]⟩
abbrev S8x512 : Shape := ⟨2, ![8, 512]⟩
abbrev S512x2048 : Shape := ⟨2, ![512, 2048]⟩
abbrev S16x2048 : Shape := ⟨2, ![16, 2048]⟩
abbrev S512x512 : Shape := ⟨2, ![512, 512]⟩
abbrev S16x512 : Shape := ⟨2, ![16, 512]⟩
abbrev S1x2048 : Shape := ⟨2, ![1, 2048]⟩
abbrev S1x512 : Shape := ⟨2, ![1, 512]⟩
abbrev S512 : Shape := ⟨1, ![512]⟩

abbrev nBuf : Space → Nat
  | .hbm => 7
  | .vmem => 17
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S3x512, .f32⟩
  | .hbm, ⟨3, _⟩ => ⟨S_, .f32⟩
  | .hbm, ⟨4, _⟩ => ⟨S8x128, .f32⟩
  | .hbm, ⟨5, _⟩ => ⟨S4096x2048, .bf16⟩
  | .hbm, ⟨6, _⟩ => ⟨S8x512, .f32⟩
  | .local _ .vmem, ⟨0, _⟩ => ⟨S8x128, .f32⟩
  | .local _ .vmem, ⟨1, _⟩ => ⟨S512x2048, .bf16⟩
  | .local _ .vmem, ⟨2, _⟩ => ⟨S512x2048, .bf16⟩
  | .local _ .vmem, ⟨3, _⟩ => ⟨S16x2048, .bf16⟩
  | .local _ .vmem, ⟨4, _⟩ => ⟨S16x2048, .bf16⟩
  | .local _ .vmem, ⟨5, _⟩ => ⟨S16x2048, .bf16⟩
  | .local _ .vmem, ⟨6, _⟩ => ⟨S16x2048, .bf16⟩
  | .local _ .vmem, ⟨7, _⟩ => ⟨S512x512, .bf16⟩
  | .local _ .vmem, ⟨8, _⟩ => ⟨S512x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S3x512, .f32⟩
  | .local _ .vmem, ⟨14, _⟩ => ⟨S512x2048, .bf16⟩
  | .local _ .vmem, ⟨15, _⟩ => ⟨S512x2048, .bf16⟩
  | .local _ .vmem, ⟨16, _⟩ => ⟨S8x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ConvRefIdeal.lean ====
abbrev S4096x2048 : Shape := ⟨2, ![4096, 2048]⟩
abbrev S4096x512 : Shape := ⟨2, ![4096, 512]⟩
abbrev S3x512 : Shape := ⟨2, ![3, 512]⟩
abbrev S_ : Shape := ⟨0, ![]⟩
abbrev S1x512 : Shape := ⟨2, ![1, 512]⟩
abbrev S4098x512 : Shape := ⟨2, ![4098, 512]⟩
abbrev S512 : Shape := ⟨1, ![512]⟩
abbrev S8x512 : Shape := ⟨2, ![8, 512]⟩

abbrev nBuf : Space → Nat
  | .hbm => 113
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S3x512, .f32⟩
  | .hbm, ⟨3, _⟩ => ⟨S4096x2048, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S1x512, .f32⟩
  | .hbm, ⟨10, _⟩ => ⟨S4096x512, .f32⟩
  | .hbm, ⟨11, _⟩ => ⟨S4098x512, .f32⟩
  | .hbm, ⟨12, _⟩ => ⟨S_, .f32⟩
  | .hbm, ⟨13, _⟩ => ⟨S1x512, .f32⟩
  | .hbm, ⟨14, _⟩ => ⟨S_, .f32⟩
  | .hbm, ⟨15, _⟩ => ⟨S1x512, .f32⟩
  | .hbm, ⟨16, _⟩ => ⟨S4096x512, .f32⟩
  | .hbm, ⟨17, _⟩ => ⟨S1x512, .f32⟩
  | .hbm, ⟨18, _⟩ => ⟨S512, .f32⟩
  | .hbm, ⟨19, _⟩ => ⟨S1x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S1x512, .f32⟩
  | .hbm, ⟨24, _⟩ => ⟨S512, .f32⟩
  | .hbm, ⟨25, _⟩ => ⟨S1x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S1x512, .f32⟩
  | .hbm, ⟨31, _⟩ => ⟨S512, .f32⟩
  | .hbm, ⟨32, _⟩ => ⟨S1x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S4096x512, .f32⟩
  | .hbm, ⟨61, _⟩ => ⟨S_, .f32⟩
  | .hbm, ⟨62, _⟩ => ⟨S512, .f32⟩
  | .hbm, ⟨63, _⟩ => ⟨S1x512, .f32⟩
  | .hbm, ⟨64, _⟩ => ⟨S4096x512, .f32⟩
  | .hbm, ⟨65, _⟩ => ⟨S4096x512, .f32⟩
  | .hbm, ⟨66, _⟩ => ⟨S_, .f32⟩
  | .hbm, ⟨67, _⟩ => ⟨S512, .f32⟩
  | .hbm, ⟨68, _⟩ => ⟨S1x512, .f32⟩
  | .hbm, ⟨69, _⟩ => ⟨S_, .f32⟩
  | .hbm, ⟨70, _⟩ => ⟨S3x512, .f32⟩
  | .hbm, ⟨71, _⟩ => ⟨S_, .f32⟩
  | .hbm, ⟨72, _⟩ => ⟨S4098x512, .f32⟩
  | .hbm, ⟨73, _⟩ => ⟨S4096x512, .f32⟩
  | .hbm, ⟨74, _⟩ => ⟨S_, .f32⟩
  | .hbm, ⟨75, _⟩ => ⟨S512, .f32⟩
  | .hbm, ⟨76, _⟩ => ⟨S1x512, .f32⟩
  | .hbm, ⟨77, _⟩ => ⟨S4096x512, .f32⟩
  | .hbm, ⟨78, _⟩ => ⟨S4096x512, .f32⟩
  | .hbm, ⟨79, _⟩ => ⟨S_, .f32⟩
  | .hbm, ⟨80, _⟩ => ⟨S512, .f32⟩
  | .hbm, ⟨81, _⟩ => ⟨S1x512, .f32⟩
  | .hbm, ⟨82, _⟩ => ⟨S_, .f32⟩
  | .hbm, ⟨83, _⟩ => ⟨S3x512, .f32⟩
  | .hbm, ⟨84, _⟩ => ⟨S3x512, .f32⟩
  | .hbm, ⟨85, _⟩ => ⟨S_, .f32⟩
  | .hbm, ⟨86, _⟩ => ⟨S4098x512, .f32⟩
  | .hbm, ⟨87, _⟩ => ⟨S4098x512, .f32⟩
  | .hbm, ⟨88, _⟩ => ⟨S4096x512, .f32⟩
  | .hbm, ⟨89, _⟩ => ⟨S_, .f32⟩
  | .hbm, ⟨90, _⟩ => ⟨S512, .f32⟩
  | .hbm, ⟨91, _⟩ => ⟨S1x512, .f32⟩
  | .hbm, ⟨92, _⟩ => ⟨S4096x512, .f32⟩
  | .hbm, ⟨93, _⟩ => ⟨S4096x512, .f32⟩
  | .hbm, ⟨94, _⟩ => ⟨S_, .f32⟩
  | .hbm, ⟨95, _⟩ => ⟨S512, .f32⟩
  | .hbm, ⟨96, _⟩ => ⟨S1x512, .f32⟩
  | .hbm, ⟨97, _⟩ => ⟨S_, .f32⟩
  | .hbm, ⟨98, _⟩ => ⟨S3x512, .f32⟩
  | .hbm, ⟨99, _⟩ => ⟨S3x512, .f32⟩
  | .hbm, ⟨100, _⟩ => ⟨S_, .f32⟩
  | .hbm, ⟨101, _⟩ => ⟨S4098x512, .f32⟩
  | .hbm, ⟨102, _⟩ => ⟨S4098x512, .f32⟩
  | .hbm, ⟨103, _⟩ => ⟨S1x512, .f32⟩
  | .hbm, ⟨104, _⟩ => ⟨S4096x512, .f32⟩
  | .hbm, ⟨105, _⟩ => ⟨S1x512, .f32⟩
  | .hbm, ⟨106, _⟩ => ⟨S4096x512, .f32⟩
  | .hbm, ⟨107, _⟩ => ⟨S4096x512, .f32⟩
  | .hbm, ⟨108, _⟩ => ⟨S4096x2048, .f32⟩
  | .hbm, ⟨109, _⟩ => ⟨S4096x2048, .bf16⟩
  | .hbm, ⟨110, _⟩ => ⟨S_, .i32⟩
  | .hbm, ⟨111, _⟩ => ⟨S_, .f32⟩
  | .hbm, ⟨112, _⟩ => ⟨S8x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v31_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v31_1 : Ref sig .tc := ⟨.hbm, 48, rfl⟩
abbrev main_v31_0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_2 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_3 : Ref sig .tc := ⟨.hbm, 66, rfl⟩
abbrev main_v44 : Ref sig .tc := ⟨.hbm, 67, rfl⟩
abbrev main_v45 : Ref sig .tc := ⟨.hbm, 68, rfl⟩
abbrev main_cst_4 : Ref sig .tc := ⟨.hbm, 69, rfl⟩
abbrev main_v46 : Ref sig .tc := ⟨.hbm, 70, rfl⟩
abbrev main_cst_5 : Ref sig .tc := ⟨.hbm, 71, rfl⟩
abbrev main_v47 : Ref sig .tc := ⟨.hbm, 72, rfl⟩
abbrev main_v48 : Ref sig .tc := ⟨.hbm, 73, rfl⟩
abbrev main_cst_6 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_7 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_v56 : Ref sig .tc := ⟨.hbm, 84, rfl⟩
abbrev main_cst_9 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_10 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_11 : Ref sig .tc := ⟨.hbm, 94, rfl⟩
abbrev main_v64 : Ref sig .tc := ⟨.hbm, 95, rfl⟩
abbrev main_v65 : Ref sig .tc := ⟨.hbm, 96, rfl⟩
abbrev main_cst_12 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c : Ref sig .tc := ⟨.hbm, 110, rfl⟩
abbrev main_call2_v0 : Ref sig .tc := ⟨.hbm, 111, rfl⟩
abbrev main_v77 : Ref sig .tc := ⟨.hbm, 112, rfl⟩

abbrev nD : Nat := 1
abbrev τ : Topo := Topo.v7x

variable {F : FTy → Type} [FloatOps F]
-- ==== MemAttn.lean ====
abbrev S4096x512 : Shape := ⟨2, ![4096, 512]⟩
abbrev S256x1024 : Shape := ⟨2, ![256, 1024]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512 : Shape := ⟨1, ![512]⟩
abbrev S1x512 : Shape := ⟨2, ![1, 512]⟩

abbrev nBuf : Space → Nat
  | .hbm => 7
  | .vmem => 13
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S256x1024, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S256x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S256x512, .bf16⟩
  | .local _ .vmem, ⟨7, _⟩ => ⟨S256x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S256x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MemAttnRefIdeal.lean ====
abbrev S4096x512 : Shape := ⟨2, ![4096, 512]⟩
abbrev S256x1024 : Shape := ⟨2, ![256, 1024]⟩
abbrev S256x512 : Shape := ⟨2, ![256, 512]⟩
abbrev S4096x4x128 : Shape := ⟨3, ![4096, 4, 128]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4x128x256 : Shape := ⟨3, ![4, 128, 256]⟩
abbrev S4x256x128 : Shape := ⟨3, ![4, 256, 128]⟩
abbrev S4x4096x128 : Shape := ⟨3, ![4, 4096, 128]⟩

abbrev nBuf : Space → Nat
  | .hbm => 110
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S256x1024, .bf16⟩
  | .hbm, ⟨3, _⟩ => ⟨S4096x512, .bf16⟩
  | .hbm, ⟨4, _⟩ => ⟨S4096x512, .f32⟩
  | .hbm, ⟨5, _⟩ => ⟨S4096x512, .f32⟩
  | .hbm, ⟨6, _⟩ => ⟨S256x1024, .f32⟩
  | .hbm, ⟨7, _⟩ => ⟨S256x512, .f32⟩
  | .hbm, ⟨8, _⟩ => ⟨S256x512, .f32⟩
  | .hbm, ⟨9, _⟩ => ⟨S4096x4x128, .f32⟩
  | .hbm, ⟨10, _⟩ => ⟨S256x4x128, .f32⟩
  | .hbm, ⟨11, _⟩ => ⟨S256x4x128, .f32⟩
  | .hbm, ⟨12, _⟩ => ⟨S4x4096x256, .f32⟩
  | .hbm, ⟨13, _⟩ => ⟨S_, .f32⟩
  | .hbm, ⟨14, _⟩ => ⟨S4x4096x256, .f32⟩
  | .hbm, ⟨15, _⟩ => ⟨S4x4096x256, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .i1⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .f32⟩
  | .hbm, ⟨27, _⟩ => ⟨S_, .f32⟩
  | .hbm, ⟨28, _⟩ => ⟨S4x4096, .f32⟩
  | .hbm, ⟨29, _⟩ => ⟨S4x4096, .i1⟩
  | .hbm, ⟨30, _⟩ => ⟨S_, .f32⟩
  | .hbm, ⟨31, _⟩ => ⟨S4x4096, .f32⟩
  | .hbm, ⟨32, _⟩ => ⟨S4x4096, .i1⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S_, .f32⟩
  | .hbm, ⟨38, _⟩ => ⟨S4x4096, .f32⟩
  | .hbm, ⟨39, _⟩ => ⟨S4x4096, .f32⟩
  | .hbm, ⟨40, _⟩ => ⟨S4x4096, .f32⟩
  | .hbm, ⟨41, _⟩ => ⟨S4x4096x1, .f32⟩
  | .hbm, ⟨42, _⟩ => ⟨S4x4096x256, .f32⟩
  | .hbm, ⟨43, _⟩ => ⟨S4x4096x256, .f32⟩
  | .hbm, ⟨44, _⟩ => ⟨S4x4096x256, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S4x4096x256, .f32⟩
  | .hbm, ⟨49, _⟩ => ⟨S4x4096x256, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S4x128x4096, .f32⟩
  | .hbm, ⟨55, _⟩ => ⟨S4096x4x128, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S_, .f32⟩
  | .hbm, ⟨60, _⟩ => ⟨S4096x512, .f32⟩
  | .hbm, ⟨61, _⟩ => ⟨S4096x512, .f32⟩
  | .hbm, ⟨62, _⟩ => ⟨S_, .f32⟩
  | .hbm, ⟨63, _⟩ => ⟨S4096x512, .f32⟩
  | .hbm, ⟨64, _⟩ => ⟨S4096x512, .f32⟩
  | .hbm, ⟨65, _⟩ => ⟨S_, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S4096x4x128, .f32⟩
  | .hbm, ⟨79, _⟩ => ⟨S4x128x4096, .f32⟩
  | .hbm, ⟨80, _⟩ => ⟨S4x4096x256, .f32⟩
  | .hbm, ⟨81, _⟩ => ⟨S4x128x256, .f32⟩
  | .hbm, ⟨82, _⟩ => ⟨S256x4x128, .f32⟩
  | .hbm, ⟨83, _⟩ => ⟨S4x4096x256, .f32⟩
  | .hbm, ⟨84, _⟩ => ⟨S4x4096x256, .f32⟩
  | .hbm, ⟨85, _⟩ => ⟨S4x4096x256, .f32⟩
  | .hbm, ⟨86, _⟩ => ⟨S_, .f32⟩
  | .hbm, ⟨87, _⟩ => ⟨S4x4096, .f32⟩
  | .hbm, ⟨88, _⟩ => ⟨S4x4096x1, .f32⟩
  | .hbm, ⟨89, _⟩ => ⟨S4x4096x1, .f32⟩
  | .hbm, ⟨90, _⟩ => ⟨S4x4096x256, .f32⟩
  | .hbm, ⟨91, _⟩ => ⟨S4x4096x256, .f32⟩
  | .hbm, ⟨92, _⟩ => ⟨S_, .f32⟩
  | .hbm, ⟨93, _⟩ => ⟨S4x4096, .f32⟩
  | .hbm, ⟨94, _⟩ => ⟨S4x4096x256, .f32⟩
  | .hbm, ⟨95, _⟩ => ⟨S4x4096x256, .f32⟩
  | .hbm, ⟨96, _⟩ => ⟨S4x4096x256, .f32⟩
  | .hbm, ⟨97, _⟩ => ⟨S_, .f32⟩
  | .hbm, ⟨98, _⟩ => ⟨S4x4096x256, .f32⟩
  | .hbm, ⟨99, _⟩ => ⟨S4x4096x256, .f32⟩
  | .hbm, ⟨100, _⟩ => ⟨S4x256x128, .f32⟩
  | .hbm, ⟨101, _⟩ => ⟨S256x4x128, .f32⟩
  | .hbm, ⟨102, _⟩ => ⟨S4x4096x128, .f32⟩
  | .hbm, ⟨103, _⟩ => ⟨S4096x4x128, .f32⟩
  | .hbm, ⟨104, _⟩ => ⟨S256x512, .f32⟩
  | .hbm, ⟨105, _⟩ => ⟨S256x512, .f32⟩
  | .hbm, ⟨106, _⟩ => ⟨S4096x512, .f32⟩
  | .hbm, ⟨107, _⟩ => ⟨S256x1024, .f32⟩
  | .hbm, ⟨108, _⟩ => ⟨S4096x512, .bf16⟩
  | .hbm, ⟨109, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v42_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v42_1 : Ref sig .tc := ⟨.hbm, 68, rfl⟩
abbrev main_v42_0 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩

abbrev nD : Nat := 1
abbrev τ : Topo := Topo.v7x

variable {F : FTy → Type} [FloatOps F]
-- ==== Mid.lean ====
abbrev S4096x512 : Shape := ⟨2, ![4096, 512]⟩
abbrev S4096x3072 : Shape := ⟨2, ![4096, 3072]⟩
abbrev S4096x1024 : Shape := ⟨2, ![4096, 1024]⟩
abbrev S1x1024 : Shape := ⟨2, ![1, 1024]⟩
abbrev S8x1536x128 : Shape := ⟨3, ![8, 1536, 128]⟩
abbrev S1024x1024 : Shape := ⟨2, ![1024, 1024]⟩
abbrev S8x128 : Shape := ⟨2, ![8, 128]⟩
abbrev S3x4096x1024 : Shape := ⟨3, ![3, 4096, 1024]⟩
abbrev S256x512 : Shape := ⟨2, ![256, 512]⟩
abbrev S256x3072 : Shape := ⟨2, ![256, 3072]⟩
abbrev S256x1024 : Shape := ⟨2, ![256, 1024]⟩
abbrev S3x256x1024 : Shape := ⟨3, ![3, 256, 1024]⟩
abbrev S1536x1024 : Shape := ⟨2, ![1536, 1024]⟩
abbrev S9 : Shape := ⟨1, ![9]⟩
abbrev S1 : Shape := ⟨1, ![1]⟩
abbrev S_ : Shape := ⟨0, ![]⟩
abbrev S1536x128 : Shape := ⟨2, ![1536, 128]⟩
abbrev S1x1536x128 : Shape := ⟨3, ![1, 1536, 128]⟩
abbrev S512x1024 : Shape := ⟨2, ![512, 1024]⟩
abbrev S256 : Shape := ⟨1, ![256]⟩
abbrev S256x1 : Shape := ⟨2, ![256, 1]⟩
abbrev S1x256x1024 : Shape := ⟨3, ![1, 256, 1024]⟩
abbrev S1x1x1 : Shape := ⟨3, ![1, 1, 1]⟩
abbrev S1024 : Shape := ⟨1, ![1024]⟩

abbrev nBuf : Space → Nat
  | .hbm => 19
  | .vmem => 33
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x3072, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S8x1536x128, .bf16⟩
  | .hbm, ⟨8, _⟩ => ⟨S1024x1024, .bf16⟩
  | .hbm, ⟨9, _⟩ => ⟨S4096x3072, .bf16⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x1024, .f32⟩
  | .hbm, ⟨14, _⟩ => ⟨S8x128, .f32⟩
  | .hbm, ⟨15, _⟩ => ⟨S1x1024, .f32⟩
  | .hbm, ⟨16, _⟩ => ⟨S4096x1024, .bf16⟩
  | .hbm, ⟨17, _⟩ => ⟨S4096x1024, .bf16⟩
  | .hbm, ⟨18, _⟩ => ⟨S3x4096x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x3072, .bf16⟩
  | .local _ .vmem, ⟨7, _⟩ => ⟨S256x3072, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S256x3072, .bf16⟩
  | .local _ .vmem, ⟨14, _⟩ => ⟨S256x3072, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x1024, .f32⟩
  | .local _ .vmem, ⟨22, _⟩ => ⟨S256x1024, .f32⟩
  | .local _ .vmem, ⟨23, _⟩ => ⟨S8x128, .f32⟩
  | .local _ .vmem, ⟨24, _⟩ => ⟨S1x1024, .f32⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S3x256x1024, .bf16⟩
  | .local _ .vmem, ⟨30, _⟩ => ⟨S3x256x1024, .bf16⟩
  | .local _ .vmem, ⟨31, _⟩ => ⟨S1536x1024, .bf16⟩
  | .local _ .vmem, ⟨32, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev main_v0_9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S3x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MidRefIdeal.lean ====
abbrev S4096x512 : Shape := ⟨2, ![4096, 512]⟩
abbrev S4096x3072 : Shape := ⟨2, ![4096, 3072]⟩
abbrev S4096x1024 : Shape := ⟨2, ![4096, 1024]⟩
abbrev S1x1024 : Shape := ⟨2, ![1, 1024]⟩
abbrev S8x1536x128 : Shape := ⟨3, ![8, 1536, 128]⟩
abbrev S1024x1024 : Shape := ⟨2, ![1024, 1024]⟩
abbrev S1536x8x128 : Shape := ⟨3, ![1536, 8, 128]⟩
abbrev S1536x1024 : Shape := ⟨2, ![1536, 1024]⟩
abbrev S512x1024 : Shape := ⟨2, ![512, 1024]⟩
abbrev S_ : Shape := ⟨0, ![]⟩
abbrev S4096x3x1024 : Shape := ⟨3, ![4096, 3, 1024]⟩
abbrev S4096x1x1024 : Shape := ⟨3, ![4096, 1, 1024]⟩
abbrev S1024 : Shape := ⟨1, ![1024]⟩
abbrev S4096 : Shape := ⟨1, ![4096]⟩
abbrev S4096x1 : Shape := ⟨2, ![4096, 1]⟩
abbrev S8x128 : Shape := ⟨2, ![8, 128]⟩
abbrev S1x4096x1024 : Shape := ⟨3, ![1, 4096, 1024]⟩
abbrev S3x4096x1024 : Shape := ⟨3, ![3, 4096, 1024]⟩

abbrev nBuf : Space → Nat
  | .hbm => 154
  | .vmem => 0
  | .smem => 0
  | _ => 0

abbrev hbmTy0_0 (i : Nat) : BufTy := match i % 128 with
  | 0 => ⟨S4096x512, .bf16⟩
  | 1 => ⟨S4096x512, .bf16⟩
  | 2 => ⟨S4096x512, .bf16⟩
  | 3 => ⟨S4096x3072, .bf16⟩
  | 4 => ⟨S4096x1024, .f32⟩
  | 5 => ⟨S4096x1024, .f32⟩
  | 6 => ⟨S1x1024, .f32⟩
  | 7 => ⟨S8x1536x128, .bf16⟩
  | 8 => ⟨S1024x1024, .bf16⟩
  | 9 => ⟨S8x1536x128, .f32⟩
  | 10 => ⟨S1536x8x128, .f32⟩
  | 11 => ⟨S1536x1024, .f32⟩
  | 12 => ⟨S512x1024, .f32⟩
  | 13 => ⟨S512x1024, .f32⟩
  | 14 => ⟨S512x1024, .f32⟩
  | 15 => ⟨S1024x1024, .f32⟩
  | 16 => ⟨S4096x512, .f32⟩
  | 17 => ⟨S4096x512, .f32⟩
  | 18 => ⟨S4096x512, .f32⟩
  | 19 => ⟨S4096x1024, .f32⟩
  | 20 => ⟨S4096x1024, .f32⟩
  | 21 => ⟨S4096x1024, .f32⟩
  | 22 => ⟨S4096x3072, .f32⟩
  | 23 => ⟨S4096x3072, .f32⟩
  | 24 => ⟨S4096x3072, .f32⟩
  | 25 => ⟨S_, .f32⟩
  | 26 => ⟨S4096x3072, .f32⟩
  | 27 => ⟨S4096x3072, .f32⟩
  | 28 => ⟨S_, .f32⟩
  | 29 => ⟨S4096x3072, .f32⟩
  | 30 => ⟨S4096x3072, .f32⟩
  | 31 => ⟨S_, .f32⟩
  | 32 => ⟨S4096x3072, .f32⟩
  | 33 => ⟨S4096x3072, .f32⟩
  | 34 => ⟨S4096x3072, .f32⟩
  | 35 => ⟨S4096x3x1024, .f32⟩
  | 36 => ⟨S4096x1x1024, .f32⟩
  | 37 => ⟨S4096x1024, .f32⟩
  | 38 => ⟨S4096x1024, .f32⟩
  | 39 => ⟨S4096x1x1024, .f32⟩
  | 40 => ⟨S4096x1024, .f32⟩
  | 41 => ⟨S4096x1024, .f32⟩
  | 42 => ⟨S4096x1024, .f32⟩
  | 43 => ⟨S4096x1x1024, .f32⟩
  | 44 => ⟨S4096x1024, .f32⟩
  | 45 => ⟨S4096x1024, .f32⟩
  | 46 => ⟨S4096x1024, .f32⟩
  | 47 => ⟨S4096x1024, .f32⟩
  | 48 => ⟨S1024, .f32⟩
  | 49 => ⟨S4096x1024, .f32⟩
  | 50 => ⟨S_, .f32⟩
  | 51 => ⟨S4096, .f32⟩
  | 52 => ⟨S4096x1, .f32⟩
  | 53 => ⟨S_, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1, .f32⟩
  | 60 => ⟨S4096x1, .f32⟩
  | 61 => ⟨S_, .f32⟩
  | 62 => ⟨S4096x1, .f32⟩
  | 63 => ⟨S4096x1, .f32⟩
  | 64 => ⟨S4096x1024, .f32⟩
  | 65 => ⟨S4096x1024, .f32⟩
  | 66 => ⟨S1x1024, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S_, .f32⟩
  | 73 => ⟨S4096x1024, .f32⟩
  | 74 => ⟨S4096x1024, .f32⟩
  | 75 => ⟨S_, .f32⟩
  | 76 => ⟨S4096, .f32⟩
  | 77 => ⟨S_, .f32⟩
  | 78 => ⟨S4096, .f32⟩
  | 79 => ⟨S4096, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S4096, .f32⟩
  | 88 => ⟨S_, .f32⟩
  | 89 => ⟨S4096, .f32⟩
  | 90 => ⟨S4096, .f32⟩
  | 91 => ⟨S4096x1024, .f32⟩
  | 92 => ⟨S4096x1024, .f32⟩
  | 93 => ⟨S4096x1024, .f32⟩
  | 94 => ⟨S_, .f32⟩
  | 95 => ⟨S1024, .f32⟩
  | 96 => ⟨S1x1024, .f32⟩
  | 97 => ⟨S4096x1024, .f32⟩
  | 98 => ⟨S4096x1024, .f32⟩
  | 99 => ⟨S_, .f32⟩
  | 100 => ⟨S1024, .f32⟩
  | 101 => ⟨S4096x1024, .f32⟩
  | 102 => ⟨S_, .f32⟩
  | 103 => ⟨S4096, .f32⟩
  | 104 => ⟨S4096x1, .f32⟩
  | 105 => ⟨S4096x1024, .f32⟩
  | 106 => ⟨S4096x1024, .f32⟩
  | 107 => ⟨S4096x1, .f32⟩
  | 108 => ⟨S_, .f32⟩
  | 109 => ⟨S4096x1, .f32⟩
  | 110 => ⟨S4096x1, .f32⟩
  | 111 => ⟨S_, .f32⟩
  | 112 => ⟨S4096, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S1x1024, .f32⟩
  | 119 => ⟨S4096x1024, .f32⟩
  | 120 => ⟨S4096x1024, .f32⟩
  | 121 => ⟨S4096x1024, .f32⟩
  | 122 => ⟨S4096x1x1024, .f32⟩
  | 123 => ⟨S_, .f32⟩
  | 124 => ⟨S4096x3x1024, .f32⟩
  | 125 => ⟨S4096x1024, .f32⟩
  | 126 => ⟨S4096x1024, .f32⟩
  | 127 => ⟨S4096x1x1024, .f32⟩
  | _ => ⟨S4096x512, .bf16⟩

abbrev hbmTy0_1 (i : Nat) : BufTy := match i % 128 with
  | 0 => ⟨S_, .f32⟩
  | 1 => ⟨S4096x3x1024, .f32⟩
  | 2 => ⟨S4096x3x1024, .f32⟩
  | 3 => ⟨S4096x1024, .f32⟩
  | 4 => ⟨S4096x1024, .f32⟩
  | 5 => ⟨S4096x1x1024, .f32⟩
  | 6 => ⟨S_, .f32⟩
  | 7 => ⟨S4096x3x1024, .f32⟩
  | 8 => ⟨S4096x3x1024, .f32⟩
  | 9 => ⟨S4096x3072, .f32⟩
  | 10 => ⟨S4096x3072, .f32⟩
  | 11 => ⟨S4096x512, .f32⟩
  | 12 => ⟨S4096x512, .f32⟩
  | 13 => ⟨S4096x512, .f32⟩
  | 14 => ⟨S4096x3072, .bf16⟩
  | 15 => ⟨S4096x512, .bf16⟩
  | 16 => ⟨S4096x512, .bf16⟩
  | 17 => ⟨S4096x512, .bf16⟩
  | 18 => ⟨S8x128, .f32⟩
  | 19 => ⟨S4096x1024, .bf16⟩
  | 20 => ⟨S4096x1024, .bf16⟩
  | 21 => ⟨S1x4096x1024, .f32⟩
  | 22 => ⟨S1x4096x1024, .f32⟩
  | 23 => ⟨S1x4096x1024, .f32⟩
  | 24 => ⟨S3x4096x1024, .f32⟩
  | 25 => ⟨S3x4096x1024, .bf16⟩
  | _ => ⟨S4096x512, .bf16⟩

abbrev hbmTy (i : Nat) : BufTy := match i / 128 with
  | 0 => hbmTy0_0 i
  | 1 => hbmTy0_1 i
  | _ => ⟨S4096x512, .bf16⟩

abbrev bufTy : (tb : Table) → Fin (tcTables nBuf tb) → BufTy
  | .hbm, ⟨i, _⟩ => hbmTy i
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_v60 : Ref sig .tc := ⟨.hbm, 79, rfl⟩
abbrev main_cst_9 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_cst_11 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_cst_13 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_15 : Ref sig .tc := ⟨.hbm, 99, rfl⟩
abbrev main_v74 : Ref sig .tc := ⟨.hbm, 100, rfl⟩
abbrev main_v75 : Ref sig .tc := ⟨.hbm, 101, rfl⟩
abbrev main_cst_16 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_cst_18 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_19 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_20 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_21 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩

abbrev nD : Nat := 1
abbrev τ : Topo := Topo.v7x

variable {F : FTy → Type} [FloatOps F]
-- ==== MemFwd.lean ====
abbrev S4096x512 : Shape := ⟨2, ![4096, 512]⟩
abbrev S256x1024 : Shape := ⟨2, ![256, 1024]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512 : Shape := ⟨1, ![512]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S256x1024, .bf16⟩
  | .hbm, ⟨3, _⟩ => ⟨S4096x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S256x512, .bf16⟩
  | .local _ .vmem, ⟨5, _⟩ => ⟨S256x512, .bf16⟩
  | .local _ .vmem, ⟨6, _⟩ => ⟨S512x512, .bf16⟩
  | .local _ .vmem, ⟨7, _⟩ => ⟨S512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemFwdRefIdeal.lean ====
abbrev S4096x512 : Shape := ⟨2, ![4096, 512]⟩
abbrev S256x1024 : Shape := ⟨2, ![256, 1024]⟩
abbrev S256x512 : Shape := ⟨2, ![256, 512]⟩
abbrev S4096x4x128 : Shape := ⟨3, ![4096, 4, 128]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S256x1024, .bf16⟩
  | .hbm, ⟨3, _⟩ => ⟨S256x1024, .f32⟩
  | .hbm, ⟨4, _⟩ => ⟨S256x512, .f32⟩
  | .hbm, ⟨5, _⟩ => ⟨S256x512, .f32⟩
  | .hbm, ⟨6, _⟩ => ⟨S4096x512, .f32⟩
  | .hbm, ⟨7, _⟩ => ⟨S4096x4x128, .f32⟩
  | .hbm, ⟨8, _⟩ => ⟨S256x4x128, .f32⟩
  | .hbm, ⟨9, _⟩ => ⟨S256x4x128, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S_, .f32⟩
  | .hbm, ⟨17, _⟩ => ⟨S4x4096, .f32⟩
  | .hbm, ⟨18, _⟩ => ⟨S4x4096, .f32⟩
  | .hbm, ⟨19, _⟩ => ⟨S4x4096x1, .f32⟩
  | .hbm, ⟨20, _⟩ => ⟨S4x4096x256, .f32⟩
  | .hbm, ⟨21, _⟩ => ⟨S4x4096x256, .f32⟩
  | .hbm, ⟨22, _⟩ => ⟨S4x4096x256, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S4x4096x256, .f32⟩
  | .hbm, ⟨27, _⟩ => ⟨S4x4096x256, .f32⟩
  | .hbm, ⟨28, _⟩ => ⟨S4x128x4096, .f32⟩
  | .hbm, ⟨29, _⟩ => ⟨S4096x4x128, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Dh.lean ====
abbrev S4096x2048 : Shape := ⟨2, ![4096, 2048]⟩
abbrev S4096x512 : Shape := ⟨2, ![4096, 512]⟩
abbrev S4096x256 : Shape := ⟨2, ![4096, 256]⟩
abbrev S4096x3072 : Shape := ⟨2, ![4096, 3072]⟩
abbrev S4096x1024 : Shape := ⟨2, ![4096, 1024]⟩
abbrev S1x1024 : Shape := ⟨2, ![1, 1024]⟩
abbrev S7424x1024 : Shape := ⟨2, ![7424, 1024]⟩
abbrev S_ : Shape := ⟨0, ![]⟩
abbrev S8x128 : Shape := ⟨2, ![8, 128]⟩
abbrev S2x256x2048 : Shape := ⟨3, ![2, 256, 2048]⟩
abbrev S2x256x512 : Shape := ⟨3, ![2, 256, 512]⟩
abbrev S2x256x256 : Shape := ⟨3, ![2, 256, 256]⟩
abbrev S2x256x3072 : Shape := ⟨3, ![2, 256, 3072]⟩
abbrev S2x256x1024 : Shape := ⟨3, ![2, 256, 1024]⟩
abbrev S2x9 : Shape := ⟨2, ![2, 9]⟩
abbrev S2 : Shape := ⟨1, ![2]⟩
abbrev S1x1 : Shape := ⟨2, ![1, 1]⟩
abbrev S1x256x2048 : Shape := ⟨3, ![1, 256, 2048]⟩
abbrev S256x2048 : Shape := ⟨2, ![256, 2048]⟩
abbrev S1x256x512 : Shape := ⟨3, ![1, 256, 512]⟩
abbrev S256x512 : Shape := ⟨2, ![256, 512]⟩
abbrev S1x256x256 : Shape := ⟨3, ![1, 256, 256]⟩
abbrev S256x256 : Shape := ⟨2, ![256, 256]⟩
abbrev S1x256x3072 : Shape := ⟨3, ![1, 256, 3072]⟩
abbrev S256x3072 : Shape := ⟨2, ![256, 3072]⟩
abbrev S1x256x1024 : Shape := ⟨3, ![1, 256, 1024]⟩
abbrev S256x1024 : Shape := ⟨2, ![256, 1024]⟩
abbrev S1 : Shape := ⟨1, ![1]⟩
abbrev S512x1024 : Shape := ⟨2, ![512, 1024]⟩
abbrev S256 : Shape := ⟨1, ![256]⟩
abbrev S256x1 : Shape := ⟨2, ![256, 1]⟩
abbrev S1024 : Shape := ⟨1, ![1024]⟩

abbrev nBuf : Space → Nat
  | .hbm => 15
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x256, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x3072, .bf16⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S7424x1024, .bf16⟩
  | .hbm, ⟨11, _⟩ => ⟨S_, .f32⟩
  | .hbm, ⟨12, _⟩ => ⟨S8x128, .f32⟩
  | .hbm, ⟨13, _⟩ => ⟨S4096x1024, .f32⟩
  | .hbm, ⟨14, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S2x256x2048, .bf16⟩
  | .local _ .vmem, ⟨3, _⟩ => ⟨S2x256x512, .bf16⟩
  | .local _ .vmem, ⟨4, _⟩ => ⟨S2x256x256, .bf16⟩
  | .local _ .vmem, ⟨5, _⟩ => ⟨S2x256x512, .bf16⟩
  | .local _ .vmem, ⟨6, _⟩ => ⟨S2x256x512, .bf16⟩
  | .local _ .vmem, ⟨7, _⟩ => ⟨S2x256x512, .bf16⟩
  | .local _ .vmem, ⟨8, _⟩ => ⟨S2x256x3072, .bf16⟩
  | .local _ .vmem, ⟨9, _⟩ => ⟨S2x256x1024, .f32⟩
  | .local _ .vmem, ⟨10, _⟩ => ⟨S2x256x1024, .f32⟩
  | .local _ .vmem, ⟨11, _⟩ => ⟨S7424x1024, .bf16⟩
  | .local _ .vmem, ⟨12, _⟩ => ⟨S2x256x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
@[reducible] def k0_t1_loop : Scf.Loop 32 :=
  let c0_i32_46 : BitVec 32 := 0#32
  let c16_i32 : BitVec 32 := 16#32
  let v47 : BitVec 32 := Scalar.addi c0_i32_46 c16_i32
  let c1_i32_47 : BitVec 32 := 1#32
  ⟨c0_i32_46, v47, c1_i32_47⟩
def k0_cond1 (k0_t1 : Fin k0_t1_loop.trips) : BitVec 1 :=
  let c0_i32_46 : BitVec 32 := 0#32
  let c1_i32_47 : BitVec 32 := 1#32
  let arg28 : BitVec 32 := Scf.iv c0_i32_46 c1_i32_47 k0_t1
  let c1_i32_61 : BitVec 32 := 1#32
  let v63 : BitVec 32 := Scalar.addi arg28 c1_i32_61
  let c16_i32_62 : BitVec 32 := 16#32
  let v64 : BitVec 1 := Scalar.cmpi .slt v63 c16_i32_62
  let v65 : BitVec 32 := Scalar.extui v64
  let c0_i32_63 : BitVec 32 := 0#32
  let v66 : BitVec 1 := Scalar.cmpi .ne v65 c0_i32_63
  v66

def k0_mult2 (k0_t1 : Fin k0_t1_loop.trips) : BitVec 32 :=
  let c0_i32_46 : BitVec 32 := 0#32
  let c1_i32_47 : BitVec 32 := 1#32
  let arg28 : BitVec 32 := Scf.iv c0_i32_46 c1_i32_47 k0_t1
  let c1_i32_212 : BitVec 32 := 1#32
  let v253 : BitVec 32 := Scalar.addi arg28 c1_i32_212
  let c256_i32_214 : BitVec 32 := 256#32
  let v255 : BitVec 32 := Scalar.muli v253 c256_i32_214
  v255
def k0_off1 (k0_t1 : Fin k0_t1_loop.trips) : Fin 2 → Nat :=
  let c1_i32_213 : BitVec 32 := 1#32
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let v254 : BitVec 32 := Scalar.subi c1_i32_213 v62
  let c0_i32_215 : BitVec 32 := 0#32
  ![v254.toNat, 0]
def k0_off2 (k0_t1 : Fin k0_t1_loop.trips) : Fin 3 → Nat :=
  let c1_i32_213 : BitVec 32 := 1#32
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let v254 : BitVec 32 := Scalar.subi c1_i32_213 v62
  let c0_i32_216 : BitVec 32 := 0#32
  let c0_i32_217 : BitVec 32 := 0#32
  ![v254.toNat, 0, 0]
def k0_off3 (k0_t1 : Fin k0_t1_loop.trips) : Fin 2 → Nat :=
  let c0_i32_46 : BitVec 32 := 0#32
  let c1_i32_47 : BitVec 32 := 1#32
  let arg28 : BitVec 32 := Scf.iv c0_i32_46 c1_i32_47 k0_t1
  let c1_i32_212 : BitVec 32 := 1#32
  let v253 : BitVec 32 := Scalar.addi arg28 c1_i32_212
  let c256_i32_214 : BitVec 32 := 256#32
  let v255 : BitVec 32 := Scalar.muli v253 c256_i32_214
  let v256 : BitVec 32 := v255
  let c0_i32_218 : BitVec 32 := 0#32
  ![v256.toNat, 0]
def k0_off4 (k0_t1 : Fin k0_t1_loop.trips) : Fin 2 → Nat :=
  let c1_i32_213 : BitVec 32 := 1#32
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let v254 : BitVec 32 := Scalar.subi c1_i32_213 v62
  let c1_i32_219 : BitVec 32 := 1#32
  ![v254.toNat, 1]
def k0_off5 (k0_t1 : Fin k0_t1_loop.trips) : Fin 3 → Nat :=
  let c1_i32_213 : BitVec 32 := 1#32
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let v254 : BitVec 32 := Scalar.subi c1_i32_213 v62
  let c0_i32_220 : BitVec 32 := 0#32
  let c0_i32_221 : BitVec 32 := 0#32
  ![v254.toNat, 0, 0]
def k0_off6 (k0_t1 : Fin k0_t1_loop.trips) : Fin 2 → Nat :=
  let c0_i32_46 : BitVec 32 := 0#32
  let c1_i32_47 : BitVec 32 := 1#32
  let arg28 : BitVec 32 := Scf.iv c0_i32_46 c1_i32_47 k0_t1
  let c1_i32_212 : BitVec 32 := 1#32
  let v253 : BitVec 32 := Scalar.addi arg28 c1_i32_212
  let c256_i32_214 : BitVec 32 := 256#32
  let v255 : BitVec 32 := Scalar.muli v253 c256_i32_214
  let v256 : BitVec 32 := v255
  let c0_i32_222 : BitVec 32 := 0#32
  ![v256.toNat, 0]
def k0_off7 (k0_t1 : Fin k0_t1_loop.trips) : Fin 2 → Nat :=
  let c1_i32_213 : BitVec 32 := 1#32
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let v254 : BitVec 32 := Scalar.subi c1_i32_213 v62
  let c2_i32_223 : BitVec 32 := 2#32
  ![v254.toNat, 2]
def k0_off8 (k0_t1 : Fin k0_t1_loop.trips) : Fin 3 → Nat :=
  let c1_i32_213 : BitVec 32 := 1#32
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let v254 : BitVec 32 := Scalar.subi c1_i32_213 v62
  let c0_i32_224 : BitVec 32 := 0#32
  let c0_i32_225 : BitVec 32 := 0#32
  ![v254.toNat, 0, 0]
def k0_off9 (k0_t1 : Fin k0_t1_loop.trips) : Fin 2 → Nat :=
  let c0_i32_46 : BitVec 32 := 0#32
  let c1_i32_47 : BitVec 32 := 1#32
  let arg28 : BitVec 32 := Scf.iv c0_i32_46 c1_i32_47 k0_t1
  let c1_i32_212 : BitVec 32 := 1#32
  let v253 : BitVec 32 := Scalar.addi arg28 c1_i32_212
  let c256_i32_214 : BitVec 32 := 256#32
  let v255 : BitVec 32 := Scalar.muli v253 c256_i32_214
  let v256 : BitVec 32 := v255
  let c0_i32_226 : BitVec 32 := 0#32
  ![v256.toNat, 0]
def k0_off10 (k0_t1 : Fin k0_t1_loop.trips) : Fin 2 → Nat :=
  let c1_i32_213 : BitVec 32 := 1#32
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let v254 : BitVec 32 := Scalar.subi c1_i32_213 v62
  let c3_i32_227 : BitVec 32 := 3#32
  ![v254.toNat, 3]
def k0_off11 (k0_t1 : Fin k0_t1_loop.trips) : Fin 2 → Nat :=
  let c1_i32_213 : BitVec 32 := 1#32
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let v254 : BitVec 32 := Scalar.subi c1_i32_213 v62
  let c4_i32_231 : BitVec 32 := 4#32
  ![v254.toNat, 4]
def k0_off12 (k0_t1 : Fin k0_t1_loop.trips) : Fin 2 → Nat :=
  let c1_i32_213 : BitVec 32 := 1#32
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let v254 : BitVec 32 := Scalar.subi c1_i32_213 v62
  let c5_i32_235 : BitVec 32 := 5#32
  ![v254.toNat, 5]
def k0_off13 (k0_t1 : Fin k0_t1_loop.trips) : Fin 2 → Nat :=
  let c1_i32_213 : BitVec 32 := 1#32
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let v254 : BitVec 32 := Scalar.subi c1_i32_213 v62
  let c6_i32_239 : BitVec 32 := 6#32
  ![v254.toNat, 6]
def k0_off14 (k0_t1 : Fin k0_t1_loop.trips) : Fin 3 → Nat :=
  let c1_i32_213 : BitVec 32 := 1#32
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let v254 : BitVec 32 := Scalar.subi c1_i32_213 v62
  let c0_i32_240 : BitVec 32 := 0#32
  let c0_i32_241 : BitVec 32 := 0#32
  ![v254.toNat, 0, 0]
def k0_off15 (k0_t1 : Fin k0_t1_loop.trips) : Fin 2 → Nat :=
  let c0_i32_46 : BitVec 32 := 0#32
  let c1_i32_47 : BitVec 32 := 1#32
  let arg28 : BitVec 32 := Scf.iv c0_i32_46 c1_i32_47 k0_t1
  let c1_i32_212 : BitVec 32 := 1#32
  let v253 : BitVec 32 := Scalar.addi arg28 c1_i32_212
  let c256_i32_214 : BitVec 32 := 256#32
  let v255 : BitVec 32 := Scalar.muli v253 c256_i32_214
  let v256 : BitVec 32 := v255
  let c0_i32_242 : BitVec 32 := 0#32
  ![v256.toNat, 0]
def k0_off16 (k0_t1 : Fin k0_t1_loop.trips) : Fin 2 → Nat :=
  let c1_i32_213 : BitVec 32 := 1#32
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let v254 : BitVec 32 := Scalar.subi c1_i32_213 v62
  let c7_i32_243 : BitVec 32 := 7#32
  ![v254.toNat, 7]
def k0_off17 (k0_t1 : Fin k0_t1_loop.trips) : Fin 3 → Nat :=
  let c1_i32_213 : BitVec 32 := 1#32
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let v254 : BitVec 32 := Scalar.subi c1_i32_213 v62
  let c0_i32_244 : BitVec 32 := 0#32
  let c0_i32_245 : BitVec 32 := 0#32
  ![v254.toNat, 0, 0]
def k0_off18 (k0_t1 : Fin k0_t1_loop.trips) : Fin 2 → Nat :=
  let c0_i32_46 : BitVec 32 := 0#32
  let c1_i32_47 : BitVec 32 := 1#32
  let arg28 : BitVec 32 := Scf.iv c0_i32_46 c1_i32_47 k0_t1
  let c1_i32_212 : BitVec 32 := 1#32
  let v253 : BitVec 32 := Scalar.addi arg28 c1_i32_212
  let c256_i32_214 : BitVec 32 := 256#32
  let v255 : BitVec 32 := Scalar.muli v253 c256_i32_214
  let v256 : BitVec 32 := v255
  let c0_i32_246 : BitVec 32 := 0#32
  ![v256.toNat, 0]
def k0_off19 (k0_t1 : Fin k0_t1_loop.trips) : Fin 2 → Nat :=
  let c1_i32_213 : BitVec 32 := 1#32
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let v254 : BitVec 32 := Scalar.subi c1_i32_213 v62
  let c8_i32_247 : BitVec 32 := 8#32
  ![v254.toNat, 8]
def k0_mult3 (k0_t1 : Fin k0_t1_loop.trips) : BitVec 32 :=
  let c0_i32_46 : BitVec 32 := 0#32
  let c1_i32_47 : BitVec 32 := 1#32
  let arg28 : BitVec 32 := Scf.iv c0_i32_46 c1_i32_47 k0_t1
  let c256_i32 : BitVec 32 := 256#32
  let v67 : BitVec 32 := Scalar.muli arg28 c256_i32
  v67
def k0_off20 (k0_t1 : Fin k0_t1_loop.trips) : Fin 2 → Nat :=
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let c0_i32_64 : BitVec 32 := 0#32
  ![v62.toNat, 0]
def k0_off21 (k0_t1 : Fin k0_t1_loop.trips) : Fin 3 → Nat :=
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let c0_i32_65 : BitVec 32 := 0#32
  let c0_i32_66 : BitVec 32 := 0#32
  ![v62.toNat, 0, 0]
def k0_off22 (k0_t1 : Fin k0_t1_loop.trips) : Fin 2 → Nat :=
  let c0_i32_46 : BitVec 32 := 0#32
  let c1_i32_47 : BitVec 32 := 1#32
  let arg28 : BitVec 32 := Scf.iv c0_i32_46 c1_i32_47 k0_t1
  let c256_i32 : BitVec 32 := 256#32
  let v67 : BitVec 32 := Scalar.muli arg28 c256_i32
  let v68 : BitVec 32 := v67
  let c0_i32_67 : BitVec 32 := 0#32
  ![v68.toNat, 0]
def k0_off23 (k0_t1 : Fin k0_t1_loop.trips) : Fin 2 → Nat :=
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let c1_i32_68 : BitVec 32 := 1#32
  ![v62.toNat, 1]
def k0_off24 (k0_t1 : Fin k0_t1_loop.trips) : Fin 3 → Nat :=
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let c0_i32_69 : BitVec 32 := 0#32
  let c0_i32_70 : BitVec 32 := 0#32
  ![v62.toNat, 0, 0]
def k0_off25 (k0_t1 : Fin k0_t1_loop.trips) : Fin 2 → Nat :=
  let c0_i32_46 : BitVec 32 := 0#32
  let c1_i32_47 : BitVec 32 := 1#32
  let arg28 : BitVec 32 := Scf.iv c0_i32_46 c1_i32_47 k0_t1
  let c256_i32 : BitVec 32 := 256#32
  let v67 : BitVec 32 := Scalar.muli arg28 c256_i32
  let v68 : BitVec 32 := v67
  let c0_i32_71 : BitVec 32 := 0#32
  ![v68.toNat, 0]
def k0_off26 (k0_t1 : Fin k0_t1_loop.trips) : Fin 2 → Nat :=
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let c2_i32_72 : BitVec 32 := 2#32
  ![v62.toNat, 2]
def k0_off27 (k0_t1 : Fin k0_t1_loop.trips) : Fin 3 → Nat :=
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let c0_i32_73 : BitVec 32 := 0#32
  let c0_i32_74 : BitVec 32 := 0#32
  ![v62.toNat, 0, 0]
def k0_off28 (k0_t1 : Fin k0_t1_loop.trips) : Fin 2 → Nat :=
  let c0_i32_46 : BitVec 32 := 0#32
  let c1_i32_47 : BitVec 32 := 1#32
  let arg28 : BitVec 32 := Scf.iv c0_i32_46 c1_i32_47 k0_t1
  let c256_i32 : BitVec 32 := 256#32
  let v67 : BitVec 32 := Scalar.muli arg28 c256_i32
  let v68 : BitVec 32 := v67
  let c0_i32_75 : BitVec 32 := 0#32
  ![v68.toNat, 0]
def k0_off29 (k0_t1 : Fin k0_t1_loop.trips) : Fin 2 → Nat :=
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let c3_i32_76 : BitVec 32 := 3#32
  ![v62.toNat, 3]
def k0_off30 (k0_t1 : Fin k0_t1_loop.trips) : Fin 2 → Nat :=
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let c4_i32_80 : BitVec 32 := 4#32
  ![v62.toNat, 4]
def k0_off31 (k0_t1 : Fin k0_t1_loop.trips) : Fin 2 → Nat :=
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let c5_i32_84 : BitVec 32 := 5#32
  ![v62.toNat, 5]
def k0_off32 (k0_t1 : Fin k0_t1_loop.trips) : Fin 2 → Nat :=
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let c6_i32_88 : BitVec 32 := 6#32
  ![v62.toNat, 6]
def k0_off33 (k0_t1 : Fin k0_t1_loop.trips) : Fin 3 → Nat :=
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let c0_i32_89 : BitVec 32 := 0#32
  let c0_i32_90 : BitVec 32 := 0#32
  ![v62.toNat, 0, 0]
def k0_off34 (k0_t1 : Fin k0_t1_loop.trips) : Fin 2 → Nat :=
  let c0_i32_46 : BitVec 32 := 0#32
  let c1_i32_47 : BitVec 32 := 1#32
  let arg28 : BitVec 32 := Scf.iv c0_i32_46 c1_i32_47 k0_t1
  let c256_i32 : BitVec 32 := 256#32
  let v67 : BitVec 32 := Scalar.muli arg28 c256_i32
  let v68 : BitVec 32 := v67
  let c0_i32_91 : BitVec 32 := 0#32
  ![v68.toNat, 0]
def k0_off35 (k0_t1 : Fin k0_t1_loop.trips) : Fin 2 → Nat :=
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let c7_i32_92 : BitVec 32 := 7#32
  ![v62.toNat, 7]
def k0_off36 (k0_t1 : Fin k0_t1_loop.trips) : Fin 3 → Nat :=
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let c0_i32_93 : BitVec 32 := 0#32
  let c0_i32_94 : BitVec 32 := 0#32
  ![v62.toNat, 0, 0]
def k0_off37 (k0_t1 : Fin k0_t1_loop.trips) : Fin 2 → Nat :=
  let c0_i32_46 : BitVec 32 := 0#32
  let c1_i32_47 : BitVec 32 := 1#32
  let arg28 : BitVec 32 := Scf.iv c0_i32_46 c1_i32_47 k0_t1
  let c256_i32 : BitVec 32 := 256#32
  let v67 : BitVec 32 := Scalar.muli arg28 c256_i32
  let v68 : BitVec 32 := v67
  let c0_i32_95 : BitVec 32 := 0#32
  ![v68.toNat, 0]
def k0_off38 (k0_t1 : Fin k0_t1_loop.trips) : Fin 2 → Nat :=
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let c8_i32_96 : BitVec 32 := 8#32
  ![v62.toNat, 8]
def k0_cond2 (k0_t1 : Fin k0_t1_loop.trips) : BitVec 1 :=
  let c0_i32_46 : BitVec 32 := 0#32
  let c1_i32_47 : BitVec 32 := 1#32
  let arg28 : BitVec 32 := Scf.iv c0_i32_46 c1_i32_47 k0_t1
  let c2_i32_100 : BitVec 32 := 2#32
  let v114 : BitVec 1 := Scalar.cmpi .sge arg28 c2_i32_100
  let v115 : BitVec 32 := Scalar.extui v114
  let c0_i32_101 : BitVec 32 := 0#32
  let v116 : BitVec 1 := Scalar.cmpi .ne v115 c0_i32_101
  v116

def k0_mult4 (k0_t1 : Fin k0_t1_loop.trips) : BitVec 32 :=
  let c0_i32_46 : BitVec 32 := 0#32
  let c1_i32_47 : BitVec 32 := 1#32
  let arg28 : BitVec 32 := Scf.iv c0_i32_46 c1_i32_47 k0_t1
  let c2_i32_212 : BitVec 32 := 2#32
  let v253 : BitVec 32 := Scalar.subi arg28 c2_i32_212
  let c256_i32_213 : BitVec 32 := 256#32
  let v254 : BitVec 32 := Scalar.muli v253 c256_i32_213
  v254
def k0_off39 (k0_t1 : Fin k0_t1_loop.trips) : Fin 1 → Nat :=
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  ![v62.toNat]
def k0_off40 (k0_t1 : Fin k0_t1_loop.trips) : Fin 2 → Nat :=
  let c0_i32_46 : BitVec 32 := 0#32
  let c1_i32_47 : BitVec 32 := 1#32
  let arg28 : BitVec 32 := Scf.iv c0_i32_46 c1_i32_47 k0_t1
  let c2_i32_212 : BitVec 32 := 2#32
  let v253 : BitVec 32 := Scalar.subi arg28 c2_i32_212
  let c256_i32_213 : BitVec 32 := 256#32
  let v254 : BitVec 32 := Scalar.muli v253 c256_i32_213
  let v255 : BitVec 32 := v254
  let c0_i32_214 : BitVec 32 := 0#32
  ![v255.toNat, 0]
def k0_off41 (k0_t1 : Fin k0_t1_loop.trips) : Fin 3 → Nat :=
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let c0_i32_215 : BitVec 32 := 0#32
  let c0_i32_216 : BitVec 32 := 0#32
  ![v62.toNat, 0, 0]
def k0_off42 (k0_t1 : Fin k0_t1_loop.trips) : Fin 3 → Nat :=
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  let v208 : Index := Scalar.indexCast v62
  let c0_194 : Index := 0#32
  let c0_195 : Index := 0#32
  ![v208.toNat, 0, 0]
def k0_mult5 (k0_t1 : Fin k0_t1_loop.trips) : BitVec 32 :=
  let c0_i32_46 : BitVec 32 := 0#32
  let c1_i32_47 : BitVec 32 := 1#32
  let arg28 : BitVec 32 := Scf.iv c0_i32_46 c1_i32_47 k0_t1
  let c256_i32_207 : BitVec 32 := 256#32
  let v242 : BitVec 32 := Scalar.muli arg28 c256_i32_207
  v242
def k0_off43 (k0_t1 : Fin k0_t1_loop.trips) : Fin 1 → Nat :=
  let c0_i32_46 : BitVec 32 := 0#32
  let c1_i32_47 : BitVec 32 := 1#32
  let arg28 : BitVec 32 := Scf.iv c0_i32_46 c1_i32_47 k0_t1
  let c1_i32_60 : BitVec 32 := 1#32
  let v62 : BitVec 32 := Scalar.andi arg28 c1_i32_60
  ![v62.toNat]
def k0_mult6 : BitVec 32 :=
  let c3584_i32 : BitVec 32 := 3584#32
  c3584_i32
def k0_mult7 : BitVec 32 :=
  let c3840_i32 : BitVec 32 := 3840#32
  c3840_i32
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== DhRefIdeal.lean ====
abbrev S4096x2048 : Shape := ⟨2, ![4096, 2048]⟩
abbrev S4096x512 : Shape := ⟨2, ![4096, 512]⟩
abbrev S4096x256 : Shape := ⟨2, ![4096, 256]⟩
abbrev S4096x3072 : Shape := ⟨2, ![4096, 3072]⟩
abbrev S4096x1024 : Shape := ⟨2, ![4096, 1024]⟩
abbrev S1x1024 : Shape := ⟨2, ![1, 1024]⟩
abbrev S7424x1024 : Shape := ⟨2, ![7424, 1024]⟩
abbrev S1024x7424 : Shape := ⟨2, ![1024, 7424]⟩
abbrev S4096x7424 : Shape := ⟨2, ![4096, 7424]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 71
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x256, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x3072, .bf16⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S7424x1024, .bf16⟩
  | .hbm, ⟨11, _⟩ => ⟨S7424x1024, .f32⟩
  | .hbm, ⟨12, _⟩ => ⟨S1024x7424, .f32⟩
  | .hbm, ⟨13, _⟩ => ⟨S4096x2048, .f32⟩
  | .hbm, ⟨14, _⟩ => ⟨S4096x512, .f32⟩
  | .hbm, ⟨15, _⟩ => ⟨S4096x256, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x3072, .f32⟩
  | .hbm, ⟨20, _⟩ => ⟨S4096x7424, .f32⟩
  | .hbm, ⟨21, _⟩ => ⟨S1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x7424, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S1x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== ConvFwd.lean ====
abbrev S4096x2048 : Shape := ⟨2, ![4096, 2048]⟩
abbrev S3x512 : Shape := ⟨2, ![3, 512]⟩
abbrev S4096x512 : Shape := ⟨2, ![4096, 512]⟩
abbrev S512x2048 : Shape := ⟨2, ![512, 2048]⟩
abbrev S16x2048 : Shape := ⟨2, ![16, 2048]⟩
abbrev S512x512 : Shape := ⟨2, ![512, 512]⟩
abbrev S1x2048 : Shape := ⟨2, ![1, 2048]⟩
abbrev S1x512 : Shape := ⟨2, ![1, 512]⟩

abbrev nBuf : Space → Nat
  | .hbm => 3
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S3x512, .f32⟩
  | .hbm, ⟨2, _⟩ => ⟨S4096x512, .bf16⟩
  | .local _ .vmem, ⟨0, _⟩ => ⟨S512x2048, .bf16⟩
  | .local _ .vmem, ⟨1, _⟩ => ⟨S512x2048, .bf16⟩
  | .local _ .vmem, ⟨2, _⟩ => ⟨S16x2048, .bf16⟩
  | .local _ .vmem, ⟨3, _⟩ => ⟨S16x2048, .bf16⟩
  | .local _ .vmem, ⟨4, _⟩ => ⟨S16x2048, .bf16⟩
  | .local _ .vmem, ⟨5, _⟩ => ⟨S16x2048, .bf16⟩
  | .local _ .vmem, ⟨6, _⟩ => ⟨S3x512, .f32⟩
  | .local _ .vmem, ⟨7, _⟩ => ⟨S512x512, .bf16⟩
  | .local _ .vmem, ⟨8, _⟩ => ⟨S512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvFwdRefIdeal.lean ====
abbrev S4096x2048 : Shape := ⟨2, ![4096, 2048]⟩
abbrev S3x512 : Shape := ⟨2, ![3, 512]⟩
abbrev S4096x512 : Shape := ⟨2, ![4096, 512]⟩
abbrev S_ : Shape := ⟨0, ![]⟩
abbrev S1x512 : Shape := ⟨2, ![1, 512]⟩
abbrev S4098x512 : Shape := ⟨2, ![4098, 512]⟩
abbrev S512 : Shape := ⟨1, ![512]⟩

abbrev nBuf : Space → Nat
  | .hbm => 43
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S3x512, .f32⟩
  | .hbm, ⟨2, _⟩ => ⟨S4096x2048, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S1x512, .f32⟩
  | .hbm, ⟨9, _⟩ => ⟨S4096x512, .f32⟩
  | .hbm, ⟨10, _⟩ => ⟨S4098x512, .f32⟩
  | .hbm, ⟨11, _⟩ => ⟨S4096x512, .f32⟩
  | .hbm, ⟨12, _⟩ => ⟨S1x512, .f32⟩
  | .hbm, ⟨13, _⟩ => ⟨S512, .f32⟩
  | .hbm, ⟨14, _⟩ => ⟨S1x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S1x512, .f32⟩
  | .hbm, ⟨19, _⟩ => ⟨S512, .f32⟩
  | .hbm, ⟨20, _⟩ => ⟨S1x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S1x512, .f32⟩
  | .hbm, ⟨26, _⟩ => ⟨S512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== ProjFwd.lean ====
abbrev S4096x1024 : Shape := ⟨2, ![4096, 1024]⟩
abbrev S1x1024 : Shape := ⟨2, ![1, 1024]⟩
abbrev S7424x1024 : Shape := ⟨2, ![7424, 1024]⟩
abbrev S_ : Shape := ⟨0, ![]⟩
abbrev S8x128 : Shape := ⟨2, ![8, 128]⟩
abbrev S8 : Shape := ⟨1, ![8]⟩
abbrev S48 : Shape := ⟨1, ![48]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S4096x128 : Shape := ⟨2, ![4096, 128]⟩
abbrev S1x4096x128 : Shape := ⟨3, ![1, 4096, 128]⟩
abbrev S3x4096x128 : Shape := ⟨3, ![3, 4096, 128]⟩
abbrev S4096x2048 : Shape := ⟨2, ![4096, 2048]⟩
abbrev S4096x512 : Shape := ⟨2, ![4096, 512]⟩
abbrev S4096x256 : Shape := ⟨2, ![4096, 256]⟩
abbrev S4096x3072 : Shape := ⟨2, ![4096, 3072]⟩
abbrev S512x1024 : Shape := ⟨2, ![512, 1024]⟩
abbrev S3x512x128 : Shape := ⟨3, ![3, 512, 128]⟩
abbrev S512x2048 : Shape := ⟨2, ![512, 2048]⟩
abbrev S512x512 : Shape := ⟨2, ![512, 512]⟩
abbrev S512x256 : Shape := ⟨2, ![512, 256]⟩
abbrev S512x3072 : Shape := ⟨2, ![512, 3072]⟩
abbrev S1 : Shape := ⟨1, ![1]⟩
abbrev S512 : Shape := ⟨1, ![512]⟩
abbrev S512x1 : Shape := ⟨2, ![512, 1]⟩
abbrev S1x512x128 : Shape := ⟨3, ![1, 512, 128]⟩
abbrev S512x128 : Shape := ⟨2, ![512, 128]⟩
abbrev S256x1024 : Shape := ⟨2, ![256, 1024]⟩

abbrev nBuf : Space → Nat
  | .hbm => 66
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S7424x1024, .bf16⟩
  | .hbm, ⟨3, _⟩ => ⟨S_, .f32⟩
  | .hbm, ⟨4, _⟩ => ⟨S8x128, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S48, .f32⟩
  | .hbm, ⟨15, _⟩ => ⟨S64, .f32⟩
  | .hbm, ⟨16, _⟩ => ⟨S1x64, .f32⟩
  | .hbm, ⟨17, _⟩ => ⟨S2x64, .f32⟩
  | .hbm, ⟨18, _⟩ => ⟨S128, .f32⟩
  | .hbm, ⟨19, _⟩ => ⟨S1x128, .f32⟩
  | .hbm, ⟨20, _⟩ => ⟨S4096x128, .i32⟩
  | .hbm, ⟨21, _⟩ => ⟨S4096x128, .f32⟩
  | .hbm, ⟨22, _⟩ => ⟨S4096x128, .i32⟩
  | .hbm, ⟨23, _⟩ => ⟨S_, .i32⟩
  | .hbm, ⟨24, _⟩ => ⟨S4096x128, .i32⟩
  | .hbm, ⟨25, _⟩ => ⟨S4096x128, .i32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S_, .i32⟩
  | .hbm, ⟨31, _⟩ => ⟨S4096x128, .i32⟩
  | .hbm, ⟨32, _⟩ => ⟨S4096x128, .i1⟩
  | .hbm, ⟨33, _⟩ => ⟨S_, .i32⟩
  | .hbm, ⟨34, _⟩ => ⟨S4096x128, .i32⟩
  | .hbm, ⟨35, _⟩ => ⟨S4096x128, .i1⟩
  | .hbm, ⟨36, _⟩ => ⟨S_, .i32⟩
  | .hbm, ⟨37, _⟩ => ⟨S4096x128, .i32⟩
  | .hbm, ⟨38, _⟩ => ⟨S4096x128, .i1⟩
  | .hbm, ⟨39, _⟩ => ⟨S4096x128, .i1⟩
  | .hbm, ⟨40, _⟩ => ⟨S4096x128, .i1⟩
  | .hbm, ⟨41, _⟩ => ⟨S_, .f32⟩
  | .hbm, ⟨42, _⟩ => ⟨S_, .f32⟩
  | .hbm, ⟨43, _⟩ => ⟨S4096x128, .f32⟩
  | .hbm, ⟨44, _⟩ => ⟨S4096x128, .f32⟩
  | .hbm, ⟨45, _⟩ => ⟨S4096x128, .f32⟩
  | .hbm, ⟨46, _⟩ => ⟨S_, .f32⟩
  | .hbm, ⟨47, _⟩ => ⟨S_, .f32⟩
  | .hbm, ⟨48, _⟩ => ⟨S4096x128, .f32⟩
  | .hbm, ⟨49, _⟩ => ⟨S4096x128, .f32⟩
  | .hbm, ⟨50, _⟩ => ⟨S_, .f32⟩
  | .hbm, ⟨51, _⟩ => ⟨S_, .f32⟩
  | .hbm, ⟨52, _⟩ => ⟨S4096x128, .f32⟩
  | .hbm, ⟨53, _⟩ => ⟨S4096x128, .f32⟩
  | .hbm, ⟨54, _⟩ => ⟨S1x4096x128, .f32⟩
  | .hbm, ⟨55, _⟩ => ⟨S1x4096x128, .f32⟩
  | .hbm, ⟨56, _⟩ => ⟨S1x4096x128, .f32⟩
  | .hbm, ⟨57, _⟩ => ⟨S3x4096x128, .f32⟩
  | .hbm, ⟨58, _⟩ => ⟨S4096x1024, .bf16⟩
  | .hbm, ⟨59, _⟩ => ⟨S4096x2048, .bf16⟩
  | .hbm, ⟨60, _⟩ => ⟨S4096x512, .bf16⟩
  | .hbm, ⟨61, _⟩ => ⟨S4096x256, .bf16⟩
  | .hbm, ⟨62, _⟩ => ⟨S4096x512, .bf16⟩
  | .hbm, ⟨63, _⟩ => ⟨S4096x512, .bf16⟩
  | .hbm, ⟨64, _⟩ => ⟨S4096x512, .bf16⟩
  | .hbm, ⟨65, _⟩ => ⟨S4096x3072, .bf16⟩
  | .local _ .vmem, ⟨0, _⟩ => ⟨S8x128, .f32⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S3x512x128, .f32⟩
  | .local _ .vmem, ⟨5, _⟩ => ⟨S3x512x128, .f32⟩
  | .local _ .vmem, ⟨6, _⟩ => ⟨S512x1024, .bf16⟩
  | .local _ .vmem, ⟨7, _⟩ => ⟨S512x1024, .bf16⟩
  | .local _ .vmem, ⟨8, _⟩ => ⟨S512x2048, .bf16⟩
  | .local _ .vmem, ⟨9, _⟩ => ⟨S512x2048, .bf16⟩
  | .local _ .vmem, ⟨10, _⟩ => ⟨S512x512, .bf16⟩
  | .local _ .vmem, ⟨11, _⟩ => ⟨S512x512, .bf16⟩
  | .local _ .vmem, ⟨12, _⟩ => ⟨S512x256, .bf16⟩
  | .local _ .vmem, ⟨13, _⟩ => ⟨S512x256, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x3072, .bf16⟩
  | .local _ .vmem, ⟨21, _⟩ => ⟨S512x3072, .bf16⟩
  | .local _ .vmem, ⟨22, _⟩ => ⟨S7424x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_call0_v0 : Ref sig .tc := ⟨.hbm, 42, rfl⟩
abbrev main_call0_v1 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_call1_v0 : Ref sig .tc := ⟨.hbm, 47, rfl⟩
abbrev main_call1_v1 : Ref sig .tc := ⟨.hbm, 48, rfl⟩
abbrev main_v32 : Ref sig .tc := ⟨.hbm, 49, rfl⟩
abbrev main_cst_8 : Ref sig .tc := ⟨.hbm, 50, rfl⟩
abbrev main_call2_v0 : Ref sig .tc := ⟨.hbm, 51, rfl⟩
abbrev main_call2_v1 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38_0 : Ref sig .tc := ⟨.hbm, 58, rfl⟩
abbrev main_v38_1 : Ref sig .tc := ⟨.hbm, 59, rfl⟩
abbrev main_v38_2 : Ref sig .tc := ⟨.hbm, 60, rfl⟩
abbrev main_v38_3 : Ref sig .tc := ⟨.hbm, 61, rfl⟩
abbrev main_v38_4 : Ref sig .tc := ⟨.hbm, 62, rfl⟩
abbrev main_v38_5 : Ref sig .tc := ⟨.hbm, 63, rfl⟩
abbrev main_v38_6 : Ref sig .tc := ⟨.hbm, 64, rfl⟩
abbrev main_v38_7 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjFwdRefIdeal.lean ====
abbrev S4096x1024 : Shape := ⟨2, ![4096, 1024]⟩
abbrev S1x1024 : Shape := ⟨2, ![1, 1024]⟩
abbrev S7424x1024 : Shape := ⟨2, ![7424, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x7424 : Shape := ⟨2, ![1024, 7424]⟩
abbrev S4096x7424 : Shape := ⟨2, ![4096, 7424]⟩
abbrev S4096x2048 : Shape := ⟨2, ![4096, 2048]⟩
abbrev S4096x512 : Shape := ⟨2, ![4096, 512]⟩
abbrev S4096x128 : Shape := ⟨2, ![4096, 128]⟩
abbrev S4096x3072 : Shape := ⟨2, ![4096, 3072]⟩
abbrev S1x4096x8x64 : Shape := ⟨4, ![1, 4096, 8, 64]⟩
abbrev S8 : Shape := ⟨1, ![8]⟩
abbrev S1x8 : Shape := ⟨2, ![1, 8]⟩
abbrev S4096x8 : Shape := ⟨2, ![4096, 8]⟩
abbrev S4096x1x8 : Shape := ⟨3, ![4096, 1, 8]⟩
abbrev S1x4096x8x16 : Shape := ⟨4, ![1, 4096, 8, 16]⟩
abbrev S1x4096x8x8 : Shape := ⟨4, ![1, 4096, 8, 8]⟩
abbrev S1x4096x1x8 : Shape := ⟨4, ![1, 4096, 1, 8]⟩
abbrev S1x4096x8x48 : Shape := ⟨4, ![1, 4096, 8, 48]⟩
abbrev S1x4096x2x64 : Shape := ⟨4, ![1, 4096, 2, 64]⟩
abbrev S1x4096x2x16 : Shape := ⟨4, ![1, 4096, 2, 16]⟩
abbrev S1x4096x2x8 : Shape := ⟨4, ![1, 4096, 2, 8]⟩
abbrev S1x4096x2x48 : Shape := ⟨4, ![1, 4096, 2, 48]⟩
abbrev S4096x256 : Shape := ⟨2, ![4096, 256]⟩

abbrev nBuf : Space → Nat
  | .hbm => 123
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S7424x1024, .bf16⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x1024, .f32⟩
  | .hbm, ⟨22, _⟩ => ⟨S7424x1024, .f32⟩
  | .hbm, ⟨23, _⟩ => ⟨S1024x7424, .f32⟩
  | .hbm, ⟨24, _⟩ => ⟨S4096x7424, .f32⟩
  | .hbm, ⟨25, _⟩ => ⟨S4096x2048, .f32⟩
  | .hbm, ⟨26, _⟩ => ⟨S4096x512, .f32⟩
  | .hbm, ⟨27, _⟩ => ⟨S4096x128, .f32⟩
  | .hbm, ⟨28, _⟩ => ⟨S4096x128, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x3072, .f32⟩
  | .hbm, ⟨33, _⟩ => ⟨S1x4096x8x64, .f32⟩
  | .hbm, ⟨34, _⟩ => ⟨S4096, .i32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S4096, .f32⟩
  | .hbm, ⟨44, _⟩ => ⟨S4096x1, .f32⟩
  | .hbm, ⟨45, _⟩ => ⟨S1x8, .f32⟩
  | .hbm, ⟨46, _⟩ => ⟨S4096x8, .f32⟩
  | .hbm, ⟨47, _⟩ => ⟨S4096x8, .f32⟩
  | .hbm, ⟨48, _⟩ => ⟨S4096x8, .f32⟩
  | .hbm, ⟨49, _⟩ => ⟨S4096x8, .f32⟩
  | .hbm, ⟨50, _⟩ => ⟨S4096x1x8, .f32⟩
  | .hbm, ⟨51, _⟩ => ⟨S4096x8, .f32⟩
  | .hbm, ⟨52, _⟩ => ⟨S4096x1x8, .f32⟩
  | .hbm, ⟨53, _⟩ => ⟨S1x4096x8x16, .f32⟩
  | .hbm, ⟨54, _⟩ => ⟨S1x4096x8x8, .f32⟩
  | .hbm, ⟨55, _⟩ => ⟨S1x4096x8x8, .f32⟩
  | .hbm, ⟨56, _⟩ => ⟨S1x4096x1x8, .f32⟩
  | .hbm, ⟨57, _⟩ => ⟨S1x4096x8x8, .f32⟩
  | .hbm, ⟨58, _⟩ => ⟨S1x4096x8x8, .f32⟩
  | .hbm, ⟨59, _⟩ => ⟨S1x4096x1x8, .f32⟩
  | .hbm, ⟨60, _⟩ => ⟨S1x4096x8x8, .f32⟩
  | .hbm, ⟨61, _⟩ => ⟨S1x4096x8x8, .f32⟩
  | .hbm, ⟨62, _⟩ => ⟨S1x4096x8x8, .f32⟩
  | .hbm, ⟨63, _⟩ => ⟨S1x4096x1x8, .f32⟩
  | .hbm, ⟨64, _⟩ => ⟨S1x4096x8x8, .f32⟩
  | .hbm, ⟨65, _⟩ => ⟨S1x4096x8x8, .f32⟩
  | .hbm, ⟨66, _⟩ => ⟨S1x4096x1x8, .f32⟩
  | .hbm, ⟨67, _⟩ => ⟨S1x4096x8x8, .f32⟩
  | .hbm, ⟨68, _⟩ => ⟨S1x4096x8x8, .f32⟩
  | .hbm, ⟨69, _⟩ => ⟨S1x4096x8x8, .f32⟩
  | .hbm, ⟨70, _⟩ => ⟨S1x4096x8x16, .f32⟩
  | .hbm, ⟨71, _⟩ => ⟨S1x4096x8x48, .f32⟩
  | .hbm, ⟨72, _⟩ => ⟨S1x4096x8x64, .f32⟩
  | .hbm, ⟨73, _⟩ => ⟨S4096x512, .f32⟩
  | .hbm, ⟨74, _⟩ => ⟨S1x4096x2x64, .f32⟩
  | .hbm, ⟨75, _⟩ => ⟨S4096, .i32⟩
  | .hbm, ⟨76, _⟩ => ⟨S8, .f32⟩
  | .hbm, ⟨77, _⟩ => ⟨S8, .f32⟩
  | .hbm, ⟨78, _⟩ => ⟨S_, .f32⟩
  | .hbm, ⟨79, _⟩ => ⟨S8, .f32⟩
  | .hbm, ⟨80, _⟩ => ⟨S8, .f32⟩
  | .hbm, ⟨81, _⟩ => ⟨S_, .f32⟩
  | .hbm, ⟨82, _⟩ => ⟨S8, .f32⟩
  | .hbm, ⟨83, _⟩ => ⟨S8, .f32⟩
  | .hbm, ⟨84, _⟩ => ⟨S4096, .f32⟩
  | .hbm, ⟨85, _⟩ => ⟨S4096x1, .f32⟩
  | .hbm, ⟨86, _⟩ => ⟨S1x8, .f32⟩
  | .hbm, ⟨87, _⟩ => ⟨S4096x8, .f32⟩
  | .hbm, ⟨88, _⟩ => ⟨S4096x8, .f32⟩
  | .hbm, ⟨89, _⟩ => ⟨S4096x8, .f32⟩
  | .hbm, ⟨90, _⟩ => ⟨S4096x8, .f32⟩
  | .hbm, ⟨91, _⟩ => ⟨S4096x1x8, .f32⟩
  | .hbm, ⟨92, _⟩ => ⟨S4096x8, .f32⟩
  | .hbm, ⟨93, _⟩ => ⟨S4096x1x8, .f32⟩
  | .hbm, ⟨94, _⟩ => ⟨S1x4096x2x16, .f32⟩
  | .hbm, ⟨95, _⟩ => ⟨S1x4096x2x8, .f32⟩
  | .hbm, ⟨96, _⟩ => ⟨S1x4096x2x8, .f32⟩
  | .hbm, ⟨97, _⟩ => ⟨S1x4096x1x8, .f32⟩
  | .hbm, ⟨98, _⟩ => ⟨S1x4096x2x8, .f32⟩
  | .hbm, ⟨99, _⟩ => ⟨S1x4096x2x8, .f32⟩
  | .hbm, ⟨100, _⟩ => ⟨S1x4096x1x8, .f32⟩
  | .hbm, ⟨101, _⟩ => ⟨S1x4096x2x8, .f32⟩
  | .hbm, ⟨102, _⟩ => ⟨S1x4096x2x8, .f32⟩
  | .hbm, ⟨103, _⟩ => ⟨S1x4096x2x8, .f32⟩
  | .hbm, ⟨104, _⟩ => ⟨S1x4096x1x8, .f32⟩
  | .hbm, ⟨105, _⟩ => ⟨S1x4096x2x8, .f32⟩
  | .hbm, ⟨106, _⟩ => ⟨S1x4096x2x8, .f32⟩
  | .hbm, ⟨107, _⟩ => ⟨S1x4096x1x8, .f32⟩
  | .hbm, ⟨108, _⟩ => ⟨S1x4096x2x8, .f32⟩
  | .hbm, ⟨109, _⟩ => ⟨S1x4096x2x8, .f32⟩
  | .hbm, ⟨110, _⟩ => ⟨S1x4096x2x8, .f32⟩
  | .hbm, ⟨111, _⟩ => ⟨S1x4096x2x16, .f32⟩
  | .hbm, ⟨112, _⟩ => ⟨S1x4096x2x48, .f32⟩
  | .hbm, ⟨113, _⟩ => ⟨S1x4096x2x64, .f32⟩
  | .hbm, ⟨114, _⟩ => ⟨S4096x128, .f32⟩
  | .hbm, ⟨115, _⟩ => ⟨S4096x256, .f32⟩
  | .hbm, ⟨116, _⟩ => ⟨S4096x2048, .bf16⟩
  | .hbm, ⟨117, _⟩ => ⟨S4096x512, .bf16⟩
  | .hbm, ⟨118, _⟩ => ⟨S4096x256, .bf16⟩
  | .hbm, ⟨119, _⟩ => ⟨S4096x512, .bf16⟩
  | .hbm, ⟨120, _⟩ => ⟨S4096x512, .bf16⟩
  | .hbm, ⟨121, _⟩ => ⟨S4096x512, .bf16⟩
  | .hbm, ⟨122, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_cst_4 : Ref sig .tc := ⟨.hbm, 78, rfl⟩
abbrev main_v70 : Ref sig .tc := ⟨.hbm, 79, rfl⟩
abbrev main_v71 : Ref sig .tc := ⟨.hbm, 80, rfl⟩
abbrev main_cst_5 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩

abbrev nD : Nat := 1
abbrev τ : Topo := Topo.v7x

variable {F : FTy → Type} [FloatOps F]
-- ==== Proof.MemKv.lean ====
/- The memory projection's gradient (`MemKv`): the two launches of one run, the forward call that saves the normed memory
   and the backward call, against `jax.vjp` of `rms_norm(mem, g) @ w`.  Each launch has one grid point whose blocks are the
   whole arrays, so each result array is one payload of the argument arrays; at exact arithmetic the payloads and the
   reference's terms differ by the order of factors only. -/
module

public import proofs.«01_k».proof.Defs
public import proofs.«01_k».proof.Proof.Gen.MemKvIdeal.Frame
public import proofs.«01_k».proof.Proof.Gen.MemKvRefIdeal.Run
public import Idealize.ShloMosaic.Lib.Pipeline.Value
public import Idealize.ShloMosaic.Lib.Pipeline.ValueKit
public import Idealize.ShloMosaic.Lib.Quiescent
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MemKvIdeal.Hand

open Cert.MemKvIdeal Cert.MemKvIdeal.Gen
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]
variable (m : (ℓ : Loc nD τ sig) → Buf (Elt F) ℓ) (ρ : Dev nD → PrngReg)

theorem off_zero : (![0, 0] : Fin 2 → Nat) = fun _ => 0 := funext fun a => by fin_cases a <;> rfl

section blocks
variable (V : (c : Dev nD) → (b : Ref sig .tc) → Buf (Elt F) ((c : Thread nD τ).loc b)) (c : Dev nD)

/-- The forward launch's input blocks are the arrays themselves. -/
theorem blk0_0 : iblk0 V c 0 t0_0 = V c main_arg0 := View.ld_unit_zero (S := S256x1024) (by funext a; fin_cases a <;> decide +kernel) _ _
theorem blk0_1 : iblk0 V c 1 t0_0 = V c main_arg1 := View.ld_unit_zero (S := S1x1024) (by funext a; fin_cases a <;> decide +kernel) _ _
theorem blk0_2 : iblk0 V c 2 t0_0 = V c main_arg2 := View.ld_unit_zero (S := S1024x1024) (by funext a; fin_cases a <;> decide +kernel) _ _
/-- The backward launch's input blocks, likewise. -/
theorem blk1_0 : iblk1 V c 0 t1_0 = V c main_arg0 := View.ld_unit_zero (S := S256x1024) (by funext a; fin_cases a <;> decide +kernel) _ _
theorem blk1_2 : iblk1 V c 2 t1_0 = V c main_v0_0 := View.ld_unit_zero (S := S256x1024) (by funext a; fin_cases a <;> decide +kernel) _ _
theorem blk1_3 : iblk1 V c 3 t1_0 = V c main_arg3 := View.ld_unit_zero (S := S256x1024) (by funext a; fin_cases a <;> decide +kernel) _ _
theorem blk1_4 : iblk1 V c 4 t1_0 = V c main_arg2 := View.ld_unit_zero (S := S1024x1024) (by funext a; fin_cases a <;> decide +kernel) _ _

theorem out3_whole (X : S256x1024.Idx → Elt F .bf16) : ((cfg0.win 3).blk t0_0).view.read (Elt F) X = X :=
  View.ld_unit_zero (S := S256x1024) (by funext a; fin_cases a <;> decide +kernel) _ X
theorem out4_whole (X : S256x1024.Idx → Elt F .bf16) : ((cfg0.win 4).blk t0_0).view.read (Elt F) X = X :=
  View.ld_unit_zero (S := S256x1024) (by funext a; fin_cases a <;> decide +kernel) _ X
theorem out5_whole (X : S1024x1024.Idx → Elt F .bf16) : ((cfg1.win 5).blk t1_0).view.read (Elt F) X = X :=
  View.ld_unit_zero (S := S1024x1024) (by funext a; fin_cases a <;> decide +kernel) _ X
theorem out6_whole (X : S1x1024.Idx → Elt F .f32) : ((cfg1.win 6).blk t1_0).view.read (Elt F) X = X :=
  View.ld_unit_zero (S := S1x1024) (by funext a; fin_cases a <;> decide +kernel) _ X
/-- The forward launch leaves the normed memory and its projection. -/
theorem end0_3 : (dat0 V c).arrAt 3 cfg0.N = k0_pay1 (V c main_arg0) (V c main_arg1) := by
  refine (dat0 V c).arrAt_eq_of_covers 3 _ (by decide +kernel) fun t hf y => ?_
  blk_simp
  rw [after0_3]
  rcases fin_N0 t with rfl
  rw [blk0_0, blk0_1, blk0_2]
  unfold out0_3
  rw [View.canon_unit_zero off_zero, View.ld_unit_zero off_zero, View.ld_unit_zero off_zero]
  exact (congrFun (out3_whole _) y).symm

theorem end0_4 : (dat0 V c).arrAt 4 cfg0.N = k0_pay2 (V c main_arg0) (V c main_arg1) (V c main_arg2) := by
  refine (dat0 V c).arrAt_eq_of_covers 4 _ (by decide +kernel) fun t hf y => ?_
  blk_simp
  rw [after0_4]
  rcases fin_N0 t with rfl
  rw [blk0_0, blk0_1, blk0_2]
  unfold out0_4
  rw [View.canon_unit_zero off_zero, View.ld_unit_zero off_zero, View.ld_unit_zero off_zero, View.ld_unit_zero off_zero]
  exact (congrFun (out4_whole _) y).symm

/-- The backward launch leaves the weight's gradient and the norm gain's. -/
theorem end1_5 : (dat1 V c).arrAt 5 cfg1.N = k1_pay2 (V c main_arg3) (V c main_v0_0) := by
  refine (dat1 V c).arrAt_eq_of_covers 5 _ (by decide +kernel) fun t hf y => ?_
  blk_simp
  rw [after1_5]
  rcases fin_N1 t with rfl
  rw [blk1_0, blk1_2, blk1_3, blk1_4]
  unfold out1_5
  rw [View.canon_unit_zero off_zero, View.ld_unit_zero off_zero, View.ld_unit_zero off_zero]
  exact (congrFun (out5_whole _) y).symm

theorem end1_6 : (dat1 V c).arrAt 6 cfg1.N = k1_pay3 (V c main_arg3) (V c main_arg2) (V c main_arg0) := by
  refine (dat1 V c).arrAt_eq_of_covers 6 _ (by decide +kernel) fun t hf y => ?_
  blk_simp
  rw [after1_6]
  rcases fin_N1 t with rfl
  rw [blk1_0, blk1_2, blk1_3, blk1_4]
  unfold out1_6
  rw [View.canon_unit_zero off_zero, View.ld_unit_zero off_zero, View.ld_unit_zero off_zero, View.ld_unit_zero off_zero]
  exact (congrFun (out6_whole _) y).symm

end blocks

/-- What the run leaves in the three results, in terms of the arguments. -/
theorem W2_mkv (c : Dev nD) : W2 m ρ c (Proc.devRef .tc main_v0_1)
    = k0_pay2 (m ((c : Thread nD τ).loc main_arg0)) (m ((c : Thread nD τ).loc main_arg1)) (m ((c : Thread nD τ).loc main_arg2)) :=
  (W2_of m ρ c main_v0_1 (by decide)).trans ((W1_arr m ρ c 4).trans (end0_4 (V0 m ρ) c))

theorem V1_mn (c : Dev nD) : V1 m ρ c main_v0_0 = k0_pay1 (m ((c : Thread nD τ).loc main_arg0)) (m ((c : Thread nD τ).loc main_arg1)) :=
  (W1_arr m ρ c 3).trans (end0_3 (V0 m ρ) c)

theorem W2_gw (c : Dev nD) : W2 m ρ c (Proc.devRef .tc main_v1_0)
    = k1_pay2 (m ((c : Thread nD τ).loc main_arg3)) (k0_pay1 (m ((c : Thread nD τ).loc main_arg0)) (m ((c : Thread nD τ).loc main_arg1))) := by
  refine (W2_arr m ρ c 5).trans ((end1_5 (V1 m ρ) c).trans ?_)
  rw [V1_mn, show V1 m ρ c main_arg3 = m ((c : Thread nD τ).loc main_arg3) from W1_args m ρ c main_arg3 (by decide)]

theorem W2_gg (c : Dev nD) : W2 m ρ c (Proc.devRef .tc main_v1_1)
    = k1_pay3 (m ((c : Thread nD τ).loc main_arg3)) (m ((c : Thread nD τ).loc main_arg2)) (m ((c : Thread nD τ).loc main_arg0)) := by
  refine (W2_arr m ρ c 6).trans ((end1_6 (V1 m ρ) c).trans ?_)
  rw [show V1 m ρ c main_arg3 = m ((c : Thread nD τ).loc main_arg3) from W1_args m ρ c main_arg3 (by decide),
    show V1 m ρ c main_arg2 = m ((c : Thread nD τ).loc main_arg2) from W1_args m ρ c main_arg2 (by decide),
    show V1 m ρ c main_arg0 = m ((c : Thread nD τ).loc main_arg0) from W1_args m ρ c main_arg0 (by decide)]

set_option backward.isDefEq.respectTransparency.types false in
/-- The run with the results read: the launch is entered as the generated frame enters it, and the last thread state is
    read at the results as well as at the arguments. -/
theorem run : θ_run defs (onTc (τ := τ) (main (F := F))) ⟨m, fun _ => 0, ρ⟩ (fun r => ∀ c : Dev nD,
      r.2.mem ((c.tc : Thread nD τ).loc main_v0_1) = k0_pay2 (m ((c : Thread nD τ).loc main_arg0)) (m ((c : Thread nD τ).loc main_arg1)) (m ((c : Thread nD τ).loc main_arg2))
      ∧ r.2.mem ((c.tc : Thread nD τ).loc main_v1_0) = k1_pay2 (m ((c : Thread nD τ).loc main_arg3)) (k0_pay1 (m ((c : Thread nD τ).loc main_arg0)) (m ((c : Thread nD τ).loc main_arg1)))
      ∧ r.2.mem ((c.tc : Thread nD τ).loc main_v1_1) = k1_pay3 (m ((c : Thread nD τ).loc main_arg3)) (m ((c : Thread nD τ).loc main_arg2)) (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨(h c _ (mem_uc main_v0_1 (by decide))).trans (W2_mkv m ρ c),
       (h c _ (mem_uc main_v1_0 (by decide))).trans (W2_gw m ρ c),
       (h c _ (mem_uc main_v1_1 (by decide))).trans (W2_gg m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.MemKvIdeal.Hand

/-! ## The payloads are the reference's terms -/

namespace Cert.MemKvProof

open Cert.MemKvIdeal Cert.MemKvIdeal.Gen

/-- The run of the reference, as a frame. -/
theorem ref_frame (m : (ℓ : Loc Cert.MemKvRefIdeal.nD Cert.MemKvRefIdeal.τ Cert.MemKvRefIdeal.sig) → Buf (Elt Ideal) ℓ)
    (ρ : Dev Cert.MemKvRefIdeal.nD → PrngReg) (h : Cert.Pre_MemKvRefIdeal m) :
    θ_run (Cert.MemKvRefIdeal.defs (F := Ideal)) (onTc (τ := Cert.MemKvRefIdeal.τ) (Cert.MemKvRefIdeal.main (F := Ideal))) ⟨m, fun _ => 0, ρ⟩
      (fun r => (∀ c : Dev Cert.MemKvRefIdeal.nD,
        r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
        ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
        ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
        ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0) :=
  (θ_run Cert.MemKvRefIdeal.defs _ _).mono (fun r h => ⟨fun c => (h c).2.2.2, Idealize.ShloMosaic.sem_eq_zero_of_no_sems (by decide) r.2⟩)
    (Cert.MemKvRefIdeal.Value.run (F := Ideal) m ρ)

theorem value : Cert.algebraic_MemKvIdeal_MemKvRefIdeal (hMemKvIdeal := Cert.MemKvIdeal.Gen.facts) (hMemKvRefIdeal := Cert.MemKvRefIdeal.Gen.facts) := by
  intro m ρ m' ρ' _ hagree
  refine ⟨fun c => _, fun c => _, fun c => _, Cert.MemKvIdeal.Hand.run (F := Ideal) m ρ, ?_⟩
  refine (θ_run Cert.MemKvRefIdeal.defs _ _).mono (fun r h c => ?_) (Cert.MemKvRefIdeal.Value.run (F := Ideal) m' ρ')
  obtain ⟨h1, h2, h3, hargs⟩ := h c
  obtain ⟨a0, a1, a2, a3⟩ := hagree c
  refine ⟨h1.trans ?_, h2.trans ?_, h3.trans ?_, hargs⟩
  · rw [a0, a1, a2]
    funext j
    pointwise! [k0_pay1, k0_pay2]
  · rw [a0, a1, a3]
    funext j
    pointwise! [k0_pay1, k1_pay1, k1_pay2]
  · rw [a0, a2, a3]
    funext j
    pointwise [k1_pay1, k1_pay3]
    rw [Fin.sum_univ_one]
    exact Finset.sum_congr rfl fun k _ => mul_comm _ _

end Cert.MemKvProof

end
-- ==== Proof.Reals.lean ====
/- Extended reals that are real numbers: closed under the operations the gradients use, and what a precondition
   `|x| < ∞` says of every element of an array. -/
module

public import Idealize.ShloMosaic.Lib.IdealHost
public import Idealize.ShloMosaic.Lib.ReduceAll
public import Idealize.ShloMosaic.PureOps

@[expose] public section

noncomputable section

open Idealize.ShloMosaic

namespace Cert.Reals

/-- `x` is a real number, not an infinity. -/
def IsR (x : EReal) : Prop := ∃ r : ℝ, x = (r : EReal)

theorem isR_coe (r : ℝ) : IsR (r : EReal) := ⟨r, rfl⟩
theorem isR_zero : IsR 0 := ⟨0, rfl⟩
theorem isR_one : IsR 1 := ⟨1, rfl⟩

variable {x y : EReal}

theorem IsR.add (hx : IsR x) (hy : IsR y) : IsR (x + y) := by
  obtain ⟨a, rfl⟩ := hx; obtain ⟨b, rfl⟩ := hy; exact ⟨a + b, (EReal.coe_add a b).symm⟩
theorem IsR.mul (hx : IsR x) (hy : IsR y) : IsR (x * y) := by
  obtain ⟨a, rfl⟩ := hx; obtain ⟨b, rfl⟩ := hy; exact ⟨a * b, (EReal.coe_mul a b).symm⟩
theorem IsR.sub (hx : IsR x) (hy : IsR y) : IsR (x - y) := by
  obtain ⟨a, rfl⟩ := hx; obtain ⟨b, rfl⟩ := hy; exact ⟨a - b, (EReal.coe_sub a b).symm⟩
theorem IsR.neg (hx : IsR x) : IsR (-x) := by
  obtain ⟨a, rfl⟩ := hx; exact ⟨-a, (EReal.coe_neg a).symm⟩
theorem IsR.max (hx : IsR x) (hy : IsR y) : IsR (max x y) := by
  rcases max_choice x y with h | h <;> rw [h] <;> assumption
theorem IsR.exp (hx : IsR x) : IsR (Ideal.exp x) := by
  obtain ⟨a, rfl⟩ := hx; exact ⟨Real.exp a, rfl⟩
theorem IsR.sum {ι : Type} (s : Finset ι) (f : ι → EReal) (h : ∀ i ∈ s, IsR (f i)) : IsR (∑ i ∈ s, f i) := by
  classical
  induction s using Finset.induction_on with
  | empty => exact isR_zero
  | insert a s ha ih =>
    rw [Finset.sum_insert ha]
    exact (h a (Finset.mem_insert_self ..)).add (ih fun i hi => h i (Finset.mem_insert_of_mem hi))

/-- The logistic function of anything is a real number. -/
theorem isR_sig (z : EReal) : IsR (Ideal.div 1 (1 + Ideal.exp (-z))) := by
  change IsR (Ideal.logistic z)
  induction z using EReal.rec with
  | bot => exact ⟨0, Ideal.logistic_bot⟩
  | coe r => exact ⟨_, Ideal.logistic_coe r⟩
  | top => exact ⟨1, Ideal.logistic_top⟩

theorem IsR.mul_add {a b c : EReal} (ha : IsR a) (hb : IsR b) (hc : IsR c) : a * (b + c) = a * b + a * c := by
  obtain ⟨a, rfl⟩ := ha; obtain ⟨b, rfl⟩ := hb; obtain ⟨c, rfl⟩ := hc
  rw [← EReal.coe_add, ← EReal.coe_mul, ← EReal.coe_mul, ← EReal.coe_mul, ← EReal.coe_add, _root_.mul_add]

theorem isR_of_abs_lt (h : max x (-x) < ⊤) : IsR x := by
  induction x using EReal.rec with
  | bot => simp at h
  | coe r => exact ⟨r, rfl⟩
  | top => simp at h

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

theorem isR_of_cmp (h : Ideal.cmp .olt (max x (-x)) ⊤ = 1#1) : IsR x := by
  refine isR_of_abs_lt ?_
  by_contra hn
  simp [Ideal.cmp, hn] at h

/-- `(|x| < ∞).all()`: every element of the array is a real number. -/
theorem isR_all {s t u w : Shape} {φ : FTy} [Subsingleton t.Idx] {axes : List (Fin s.rank)} (x : FVec Ideal s φ) (b : BitVec φ.bits)
    (hb : Ideal.ofBits φ b = ⊤) (dims : Fin u.rank → Fin s.rank) (hd : u.BroadcastsInDim s dims) (init : w.Idx → BitVec 1)
    (h : s.ReducesTo axes t) (hu : 0 < w.numel) (j : t.Idx)
    (e : Host.reduce IntOp.andi (cmpf .olt (Host.absf x) (broadcastInDim s dims hd (constant (F := Ideal) u φ b))) init h hu j = 1#1) (i : s.Idx) : IsR (x i) := by
  have h1 := Host.reduce_andi_all _ _ h hu j e i
  have h2 : Ideal.cmp .olt (max (x i) (-(x i))) (Ideal.ofBits φ b) = 1#1 := h1
  rw [hb] at h2
  exact isR_of_cmp h2

theorem and_one {s : Shape} {a b : IVec s 1} {j : s.Idx} (h : andi a b j = 1#1) : a j = 1#1 ∧ b j = 1#1 :=
  IntOp.andi_eq_one.1 h

end Cert.Reals
-- ==== Proof.ConvSpec.lean ====
/- The gated convolution and its gradient, element by element: the formulas both programs compute. -/
module

public import Idealize.ShloMosaic.Lib.Pipeline.ValueKit
public import Idealize.ShloMosaic.Lib.Pointwise

@[expose] public section

set_option maxRecDepth 16384

noncomputable section

open Idealize.ShloMosaic

namespace Cert.ConvSpec

/-- A matrix read at two numbers, zero outside. -/
def rd {R L : Nat} (X : (⟨2, ![R, L]⟩ : Shape).Idx → EReal) (r l : Nat) : EReal :=
  if h : r < R ∧ l < L then X (ix2 ⟨r, h.1⟩ ⟨l, h.2⟩) else 0

theorem rd_at {R L : Nat} (X : (⟨2, ![R, L]⟩ : Shape).Idx → EReal) (r : Fin R) (l : Fin L) : X (ix2 r l) = rd X r.val l.val := by
  rw [rd, dif_pos ⟨r.isLt, l.isLt⟩]

theorem rd_of {R L : Nat} {X : (⟨2, ![R, L]⟩ : Shape).Idx → EReal} {r l : Nat} (hr : r < R) (hl : l < L) : rd X r l = X (ix2 ⟨r, hr⟩ ⟨l, hl⟩) := by
  rw [rd, dif_pos ⟨hr, hl⟩]

/-- The choice which both programs make by comparing two small numbers. -/
theorem sel {α : Type} (a b : Nat) (ha : a < 4096) (hb : b < 4096) (x y : α) :
    Scalar.select (IntOp.cmpi .eq (BitVec.ofNat 32 a) (BitVec.ofNat 32 b)) x y = if a = b then x else y := by
  have e : (BitVec.ofNat 32 a = BitVec.ofNat 32 b) ↔ a = b :=
    ⟨fun h => by have := congrArg BitVec.toNat h; simp only [BitVec.toNat_ofNat] at this; omega, fun h => by rw [h]⟩
  by_cases h : a = b
  · subst h; simp [Scalar.select, IntOp.cmpi]
  · have h' : (BitVec.ofNat 32 a == BitVec.ofNat 32 b) = false := by simpa using fun k => h (e.1 k)
    simp [Scalar.select, IntOp.cmpi, h, h']

theorem sel' {α : Type} (a b : Nat) (ha : a < 4096) (hb : b < 4096) (x y : α) :
    Scalar.select (Scalar.cmpi .eq (BitVec.ofNat 32 a) (BitVec.ofNat 32 b)) x y = if a = b then x else y := sel a b ha hb x y

variable (X D W : Nat → Nat → EReal)

/-- The gate times the input, and the same one row earlier and one row later (zero outside the sequence). -/
def cu (r l : Nat) : EReal := X r (512 + l) * X r (1024 + l)
def cuM (r l : Nat) : EReal := if r = 0 then 0 else cu X (r - 1) l
def cuP (r l : Nat) : EReal := if r = 4095 then 0 else cu X (r + 1) l
/-- The three-tap convolution. -/
def yv (r l : Nat) : EReal := cuM X r l * W 0 l + cu X r l * W 1 l + cuP X r l * W 2 l
/-- The logistic function of the output gate. -/
def sg (r l : Nat) : EReal := Ideal.div 1 (1 + Ideal.exp (-X r (1536 + l)))
/-- The cotangent of the convolution, and the same one row earlier and later. -/
def dy (r l : Nat) : EReal := D r l * X r l * (X r (1536 + l) * sg X r l)
def dyM (r l : Nat) : EReal := if r = 0 then 0 else dy X D (r - 1) l
def dyP (r l : Nat) : EReal := if r = 4095 then 0 else dy X D (r + 1) l
/-- The cotangent of the product of gate and input. -/
def dcu (r l : Nat) : EReal := dyP X D r l * W 0 l + dy X D r l * W 1 l + dyM X D r l * W 2 l
/-- The four parts of the gradient of the projected rows. -/
def o0 (r l : Nat) : EReal := D r l * yv X W r l * (X r (1536 + l) * sg X r l)
def o1 (r l : Nat) : EReal := dcu X D W r l * X r (1024 + l)
def o2 (r l : Nat) : EReal := dcu X D W r l * X r (512 + l)
def o3 (r l : Nat) : EReal :=
  D r l * X r l * yv X W r l * (sg X r l + X r (1536 + l) * sg X r l * (1 - sg X r l))
def da (r l : Nat) : EReal :=
  if l < 512 then o0 X D W r l else if l < 1024 then o1 X D W r (l - 512) else if l < 1536 then o2 X D W r (l - 1024) else o3 X D W r (l - 1536)
/-- The gradient of the convolution's weights, in three of eight rows. -/
def gw (k l : Nat) : EReal :=
  if k = 0 then ∑ r : Fin 4096, dy X D r l * cuM X r l else if k = 1 then ∑ r : Fin 4096, dy X D r l * cu X r l
  else if k = 2 then ∑ r : Fin 4096, dy X D r l * cuP X r l else 0

/-- The forward pass: the gate, the convolution and the output gate. -/
def ya (r l : Nat) : EReal := X r l * yv X W r l * (X r (1536 + l) * sg X r l)

end Cert.ConvSpec

end
-- ==== Proof.ConvRef.lean ====
/- The gated convolution's gradient, element by element: the formulas both programs compute, and the reference's two
   results read at an index as these formulas. -/
module

public import proofs.«01_k».proof.Defs
public import proofs.«01_k».proof.Proof.Reals
public import proofs.«01_k».proof.Proof.ConvSpec
public import proofs.«01_k».proof.Proof.Gen.ConvRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ConvRefIdeal.Hand

open Cert.ConvRefIdeal Cert.ConvRefIdeal.Gen Cert.ConvRefIdeal.Value Cert.ConvSpec Cert.Reals
variable (m : (ℓ : Loc nD τ sig) → Buf (Elt Ideal) ℓ)

abbrev A0 (c : Dev nD) : FVec Ideal S4096x2048 .bf16 := m ((c.tc : Thread nD τ).loc main_arg0)
abbrev A1 (c : Dev nD) : FVec Ideal S4096x512 .bf16 := m ((c.tc : Thread nD τ).loc main_arg1)
abbrev A2 (c : Dev nD) : FVec Ideal S3x512 .f32 := m ((c.tc : Thread nD τ).loc main_arg2)

set_option maxHeartbeats 1600000 in
theorem ref_da (c : Dev nD) (hX : ∀ i, IsR (A0 m c i)) (hD : ∀ i, IsR (A1 m c i)) (hW : ∀ i, IsR (A2 m c i)) (r : Fin 4096) (l : Fin 2048) :
    res_main_v76 (F := Ideal) m c (ix2 r l) = da (rd (A0 m c)) (rd (A1 m c)) (rd (A2 m c)) r l := by
  pointwise [res_main_v76]
  have e0 := rd_at (A0 m c)
  have e1 := rd_at (A1 m c)
  have e2 := rd_at (A2 m c)
  have hX' : ∀ r l, IsR (rd (A0 m c) r l) := fun r l => by unfold rd; split; exacts [hX _, isR_zero]
  have hD' : ∀ r l, IsR (rd (A1 m c) r l) := fun r l => by unfold rd; split; exacts [hD _, isR_zero]
  have hW' : ∀ r l, IsR (rd (A2 m c) r l) := fun r l => by unfold rd; split; exacts [hW _, isR_zero]
  simp only [A0, A1, A2] at e0 e1 e2 hX' hD' hW' ⊢
  simp only [e0, e1, e2]
  clear e0 e1 e2
  generalize rd (m (c.tc.loc main_arg0)) = X at *
  generalize rd (m (c.tc.loc main_arg1)) = D at *
  generalize rd (m (c.tc.loc main_arg2)) = W at *
  have hr := r.isLt
  have hl := l.isLt
  simp only [show ((0 : Fin 3) : Nat) = 0 from rfl, show ((1 : Fin 3) : Nat) = 1 from rfl, show ((2 : Fin 3) : Nat) = 2 from rfl]
  generalize (r : Nat) = n at *
  generalize (l : Nat) = k at *
  have q1 : 2 + n - 1 = n + 1 := by omega
  have q2 : 1 + n - 2 = n - 1 := by omega
  have q3 : k - 512 - 512 = k - 1024 := by omega
  have q4 : k - 1024 - 512 = k - 1536 := by omega
  have q5 : 1 + n = n + 1 := by omega
  simp only [q2, q1, q3, q4, q5, da]
  by_cases c1 : k < 512
  · simp only [c1, dif_pos, if_true]
    unfold o0 yv cuM cuP cu sg
    rcases Nat.eq_zero_or_pos n with h0 | h0
    · subst h0; simp; ac_rfl
    rcases Nat.lt_or_ge n 4095 with h1 | h1
    · simp (disch := omega) only [dif_pos, dif_neg, if_pos, if_neg]; ac_rfl
    · obtain rfl : n = 4095 := by omega
      simp; ac_rfl
  by_cases c2 : k < 1024
  · simp (disch := omega) only [dif_pos, dif_neg, if_pos, if_neg]
    have c4 : k - 512 < 512 := by omega
    unfold o1 dcu dyM dyP dy sg
    rcases Nat.eq_zero_or_pos n with h0 | h0
    · subst h0; simp [c4]; ac_rfl
    rcases Nat.lt_or_ge n 4095 with h1 | h1
    · simp (disch := omega) only [dif_pos, dif_neg, if_pos, if_neg]; ac_rfl
    · obtain rfl : n = 4095 := by omega
      simp [c4]; ac_rfl
  by_cases c3 : k < 1536
  · simp (disch := omega) only [dif_pos, dif_neg, if_pos, if_neg]
    have c4 : k - 1024 < 512 := by omega
    unfold o2 dcu dyM dyP dy sg
    rcases Nat.eq_zero_or_pos n with h0 | h0
    · subst h0; simp [c4]; ac_rfl
    rcases Nat.lt_or_ge n 4095 with h1 | h1
    · simp (disch := omega) only [dif_pos, dif_neg, if_pos, if_neg]; ac_rfl
    · obtain rfl : n = 4095 := by omega
      simp [c4]; ac_rfl
  · simp (disch := omega) only [dif_pos, dif_neg, if_pos, if_neg]
    have hcu : ∀ r l, IsR (cu X r l) := fun r l => (hX' _ _).mul (hX' _ _)
    have hcM : ∀ r l, IsR (cuM X r l) := fun r l => by unfold cuM; split; exacts [isR_zero, hcu _ _]
    have hcP : ∀ r l, IsR (cuP X r l) := fun r l => by unfold cuP; split; exacts [isR_zero, hcu _ _]
    have hy : ∀ r l, IsR (yv X W r l) := fun r l => (((hcM _ _).mul (hW' _ _)).add ((hcu _ _).mul (hW' _ _))).add ((hcP _ _).mul (hW' _ _))
    have hs : ∀ r l, IsR (sg X r l) := fun r l => isR_sig _
    have ey : ∀ j, ((if h : n < 1 then 0 else X (n - 1) (512 + j) * X (n - 1) (1024 + j)) * W 0 j +
        X n (512 + j) * X n (1024 + j) * W 1 j +
        (if h : n + 1 < 4096 then X (n + 1) (512 + j) * X (n + 1) (1024 + j) else 0) * W 2 j) = yv X W n j := by
      intro j
      unfold yv cuM cuP cu
      rcases Nat.eq_zero_or_pos n with h0 | h0
      · subst h0; simp
      rcases Nat.lt_or_ge n 4095 with h1 | h1
      · simp (disch := omega) only [dif_pos, dif_neg, if_pos, if_neg]
      · obtain rfl : n = 4095 := by omega
        simp
    rw [ey]
    unfold o3
    rw [((hD' _ _).mul (hX' _ _) |>.mul (hy _ _)).mul_add (hs _ _) (((hX' _ _).mul (hs _ _)).mul (isR_one.sub (hs _ _)))]
    unfold sg
    ac_rfl

set_option maxHeartbeats 1600000 in
theorem ref_gw (c : Dev nD) (r : Fin 8) (l : Fin 512) :
    res_main_v77 (F := Ideal) m c (ix2 r l) = gw (rd (A0 m c)) (rd (A1 m c)) r l := by
  pointwise [res_main_v77]
  have e0 := rd_at (A0 m c)
  have e1 := rd_at (A1 m c)
  simp only [A0, A1] at e0 e1 ⊢
  simp only [e0, e1]
  clear e0 e1
  generalize rd (m (c.tc.loc main_arg0)) = X at *
  generalize rd (m (c.tc.loc main_arg1)) = D at *
  have hr := r.isLt
  have hl := l.isLt
  generalize (r : Nat) = n at *
  generalize (l : Nat) = k at *
  simp only [Finset.univ_unique, Finset.sum_singleton, show ∀ x : Nat, 2 + x - 1 = x + 1 from fun x => by omega]
  unfold gw
  obtain rfl | rfl | rfl | h : n = 0 ∨ n = 1 ∨ n = 2 ∨ 3 ≤ n := by omega
  · simp only [Nat.reduceLT, Nat.reduceLeDiff, dif_pos, false_and, dif_neg, not_false_eq_true, zero_add, if_true]
    show (_ : EReal) = _
    refine Finset.sum_congr rfl fun x _ => ?_
    have hx := x.isLt
    unfold dy cuM cu sg
    rcases Nat.eq_zero_or_pos (x : Nat) with h0 | h0
    · simp [h0]
    · simp (disch := omega) only [dif_pos, dif_neg, if_neg]; ac_rfl
  · simp only [Nat.reduceLT, Nat.reduceLeDiff, Nat.reduceSub, dif_pos, false_and, and_self, dif_neg, not_false_eq_true, zero_add, add_zero, if_true, one_ne_zero, if_false, and_false, and_true]
    show (_ : EReal) = _
    refine Finset.sum_congr rfl fun x _ => ?_
    unfold dy cu sg
    ac_rfl
  · simp only [Nat.reduceLT, Nat.reduceLeDiff, Nat.reduceSub, dif_pos, false_and, and_self, dif_neg, not_false_eq_true, zero_add, add_zero, if_true, Nat.reduceEqDiff, OfNat.ofNat_ne_zero, if_false, and_false, and_true]
    show (_ : EReal) = _
    refine Finset.sum_congr rfl fun x _ => ?_
    have hx := x.isLt
    unfold dy cuP cu sg
    rcases Nat.lt_or_ge (x : Nat) 4095 with h1 | h1
    · simp (disch := omega) only [dif_pos, dif_neg, if_neg]; ac_rfl
    · have h2 : (x : Nat) = 4095 := by omega
      simp [h2]
  · simp (disch := omega) only [dif_neg, if_neg]
    show (((0#32 : BitVec 32).toInt : ℝ) : EReal) = 0
    simp

end Cert.ConvRefIdeal.Hand
-- ==== Proof.ConvTile.lean ====
/- One tile of the gated convolution's gradient, element by element: what the kernel's body computes from its blocks. -/
module

public import proofs.«01_k».proof.Proof.ConvRef
public import proofs.«01_k».proof.Proof.Gen.ConvIdeal.Value

@[expose] public section

set_option maxRecDepth 16384

noncomputable section

open Idealize.ShloMosaic Idealize.ShloMosaic.TcCoe Idealize.SL.Sem

namespace Cert.ConvIdeal.Hand

open Cert.ConvIdeal Cert.ConvIdeal.Gen Cert.ConvSpec

/-- What the blocks of tile `t` hold of the three arrays. -/
structure Tile (X D W : Nat → Nat → EReal) (t : Nat) (i : grid0.Coords) (x1 : Vec Ideal S512x2048 .bf16) (x2 x3 : Vec Ideal S16x2048 .bf16)
    (x4 : Vec Ideal S512x512 .bf16) (x5 x6 : Vec Ideal S16x512 .bf16) (w : Vec Ideal S3x512 .f32) : Prop where
  lt : t < 8
  co : (i 0).val = t
  h1 : ∀ r l, x1 (ix2 r l) = X (512 * t + r.val) l.val
  h2 : 0 < t → ∀ l, x2 (ix2 15 l) = X (512 * t - 1) l.val
  h3 : t < 7 → ∀ l, x3 (ix2 0 l) = X (512 * t + 512) l.val
  h4 : ∀ r l, x4 (ix2 r l) = D (512 * t + r.val) l.val
  h5 : 0 < t → ∀ l, x5 (ix2 15 l) = D (512 * t - 1) l.val
  h6 : t < 7 → ∀ l, x6 (ix2 0 l) = D (512 * t + 512) l.val
  h7 : ∀ k l, w (ix2 k l) = W k.val l.val

variable {X D W : Nat → Nat → EReal} {t : Nat} {i : grid0.Coords} {x1 : Vec Ideal S512x2048 .bf16} {x2 x3 : Vec Ideal S16x2048 .bf16}
    {x4 : Vec Ideal S512x512 .bf16} {x5 x6 : Vec Ideal S16x512 .bf16} {w : Vec Ideal S3x512 .f32}
    (T : Tile X D W t i x1 x2 x3 x4 x5 x6 w)
include T

theorem c13 (r l : Fin 512) : k0_pay13 x1 (ix2 r l) = cu X (512 * t + r.val) l.val := by
  pointwise [k0_pay13, k0_pay10, k0_pay11, k0_pay8]
  simp only [T.h1]
  rfl

theorem c14 (r l : Fin 512) : k0_pay14 i x2 x1 (ix2 r l) = cuM X (512 * t + r.val) l.val := by
  pointwise [k0_pay14, k0_pay13, k0_pay10, k0_pay11, k0_pay8, k0_pay6]
  have hr := r.isLt
  have ht := T.lt
  rw [T.co, sel' t 0 (by omega) (by omega), sel r.val 0 (by omega) (by omega)]
  simp only [T.h1]
  unfold cuM cu
  rcases Nat.eq_zero_or_pos (r : Nat) with h0 | h0
  · rcases Nat.eq_zero_or_pos t with h1 | h1
    · simp [h0, h1]
    · simp (disch := omega) only [h0, if_true, if_neg, T.h2 h1]
      rfl
  · have e : ((r : Nat) + 512 - 1) % 512 = r - 1 := by omega
    have e' : 512 * t + (r : Nat) - 1 = 512 * t + (r - 1) := by omega
    simp (disch := omega) only [if_neg, e, e']

theorem c15 (r l : Fin 512) : k0_pay15 i x3 x1 (ix2 r l) = cuP X (512 * t + r.val) l.val := by
  pointwise [k0_pay15, k0_pay13, k0_pay10, k0_pay11, k0_pay8, k0_pay7]
  have hr := r.isLt
  have ht := T.lt
  rw [T.co, sel' t 7 (by omega) (by omega), sel r.val 511 (by omega) (by omega)]
  simp only [T.h1]
  unfold cuP cu
  rcases Nat.lt_or_ge (r : Nat) 511 with h0 | h0
  · have e : ((r : Nat) + 512 - 511) % 512 = r + 1 := by omega
    simp (disch := omega) only [if_neg, e, ← Nat.add_assoc]
  · have h0 : (r : Nat) = 511 := by omega
    rcases Nat.lt_or_ge t 7 with h1 | h1
    · simp (disch := omega) only [h0, if_true, if_neg, T.h3 h1]
    · have h1 : t = 7 := by omega
      simp [h0, h1]

theorem c17 (r l : Fin 512) : k0_pay17 (k0_pay12 x1) (ix2 r l) = sg X (512 * t + r.val) l.val := by
  pointwise [k0_pay17, k0_pay12, k0_pay8]
  rw [T.h1, zero_sub]
  rfl

theorem c20 (r l : Fin 512) : k0_pay20 (k0_pay9 x1) (k0_pay12 x1) x4 (ix2 r l) = dy X D (512 * t + r.val) l.val := by
  pointwise [k0_pay20, k0_pay19, k0_pay18, k0_pay17, k0_pay9, k0_pay12, k0_pay8]
  rw [T.h1, T.h1, T.h4, zero_sub]
  rfl

theorem c16 (r l : Fin 512) : k0_pay16 w (k0_pay13 x1) (k0_pay14 i x2 x1) (k0_pay15 i x3 x1) (ix2 r l) = yv X W (512 * t + r.val) l.val := by
  pointwise [k0_pay16]
  rw [c13 T, c14 T, c15 T, T.h7, T.h7, T.h7]
  rfl

theorem c24 (z : Ideal .f32) (hz : z = 0) (r l : Fin 512) : k0_pay24 (Scalar.cmpi .eq (BitVec.ofNat 32 (i 0).val) 7#32) w (iota .tc S512x512 32 [0] iota_S512x512_d0_w32)
    (k0_pay20 (k0_pay9 x1) (k0_pay12 x1) x4) (k0_pay21 (Scalar.cmpi .eq (BitVec.ofNat 32 (i 0).val) 0#32) (k0_pay6 x2) x5) (k0_pay22 (k0_pay7 x3)) (k0_pay23 (k0_pay7 x3) x6)
    z (ix2 r l) = dcu X D W (512 * t + r.val) l.val := by
  subst hz
  pointwise [k0_pay24, k0_pay23, k0_pay22, k0_pay21, k0_pay7, k0_pay6]
  have hr := r.isLt
  have ht := T.lt
  rw [T.co, sel' t 7 (by omega) (by omega), sel' t 0 (by omega) (by omega), sel r.val 511 (by omega) (by omega), sel r.val 0 (by omega) (by omega)]
  simp only [c20 T, T.h7, zero_sub]
  unfold dcu dyM dyP
  congr 1
  · congr 1
    refine congrArg (· * _) ?_
    rcases Nat.lt_or_ge (r : Nat) 511 with h0 | h0
    · have e : ((r : Nat) + 512 - 511) % 512 = r + 1 := by omega
      simp (disch := omega) only [if_neg, e]
      rfl
    · have h0 : (r : Nat) = 511 := by omega
      rcases Nat.lt_or_ge t 7 with h1 | h1
      · simp (disch := omega) only [h0, if_true, if_neg, T.h3 h1, T.h6 h1]
        rfl
      · have h1 : t = 7 := by omega
        simp [h0, h1]
  · refine congrArg (· * _) ?_
    rcases Nat.eq_zero_or_pos (r : Nat) with h0 | h0
    · rcases Nat.eq_zero_or_pos t with h1 | h1
      · simp [h0, h1]
      · simp (disch := omega) only [h0, if_true, if_neg, T.h2 h1, T.h5 h1]
        rfl
    · have e : ((r : Nat) + 512 - 1) % 512 = r - 1 := by omega
      have e' : 512 * t + (r : Nat) - 1 = 512 * t + (r - 1) := by omega
      simp (disch := omega) only [if_neg, e, e']

theorem p25 (r l : Fin 512) : k0_pay25 (k0_pay16 w (k0_pay13 x1) (k0_pay14 i x2 x1) (k0_pay15 i x3 x1)) (k0_pay18 (k0_pay12 x1)) (k0_pay19 x4) (ix2 r l)
    = o0 X D W (512 * t + r.val) l.val := by
  pointwise [k0_pay25, k0_pay19, k0_pay18]
  rw [c16 T, c17 T, T.h4]
  pointwise [k0_pay12, k0_pay8]
  rw [T.h1]
  rfl

theorem p27 (r l : Fin 512) : k0_pay27 (Scalar.cmpi .eq (BitVec.ofNat 32 (i 0).val) 7#32) w (k0_pay10 x1) (iota .tc S512x512 32 [0] iota_S512x512_d0_w32)
    (k0_pay20 (k0_pay9 x1) (k0_pay12 x1) x4) (k0_pay21 (Scalar.cmpi .eq (BitVec.ofNat 32 (i 0).val) 0#32) (k0_pay6 x2) x5) (k0_pay22 (k0_pay7 x3)) (k0_pay23 (k0_pay7 x3) x6)
    (Scalar.ofBits .f32 0x00000000#32) (ix2 r l) = o2 X D W (512 * t + r.val) l.val := by
  pointwise [k0_pay27]
  rw [c24 T 0 rfl]
  pointwise [k0_pay10, k0_pay8]
  rw [T.h1]
  rfl

theorem p26 (r l : Fin 512) : k0_pay26 (Scalar.cmpi .eq (BitVec.ofNat 32 (i 0).val) 7#32) w (k0_pay11 x1) (iota .tc S512x512 32 [0] iota_S512x512_d0_w32)
    (k0_pay20 (k0_pay9 x1) (k0_pay12 x1) x4) (k0_pay21 (Scalar.cmpi .eq (BitVec.ofNat 32 (i 0).val) 0#32) (k0_pay6 x2) x5) (k0_pay22 (k0_pay7 x3)) (k0_pay23 (k0_pay7 x3) x6)
    (Scalar.ofBits .f32 0x00000000#32) (ix2 r l) = o1 X D W (512 * t + r.val) l.val := by
  pointwise [k0_pay26]
  rw [c24 T 0 rfl]
  pointwise [k0_pay11, k0_pay8]
  rw [T.h1]
  rfl

theorem p1 (r l : Fin 512) : k0_pay1 (k0_pay9 x1) (k0_pay16 w (k0_pay13 x1) (k0_pay14 i x2 x1) (k0_pay15 i x3 x1)) (k0_pay17 (k0_pay12 x1))
    (k0_pay18 (k0_pay12 x1)) (k0_pay19 x4) (ix2 r l) = o3 X D W (512 * t + r.val) l.val := by
  pointwise [k0_pay1, k0_pay19, k0_pay18]
  rw [c16 T, c17 T, T.h4]
  pointwise [k0_pay9, k0_pay12, k0_pay8]
  rw [T.h1, T.h1]
  rfl

/-- The three rows of the weights' gradient, each with this tile's rows added. -/
theorem p2 (v : Vec Ideal S1x512 .f32) (l : Fin 512) : k0_pay2 (k0_pay14 i x2 x1) (k0_pay20 (k0_pay9 x1) (k0_pay12 x1) x4) v (ix2 0 l)
    = v (ix2 0 l) + ∑ r : Fin 512, dy X D (512 * t + r.val) l.val * cuM X (512 * t + r.val) l.val := by
  pointwise [k0_pay2]
  simp only [c20 T, c14 T]

theorem p3 (v : Vec Ideal S1x512 .f32) (l : Fin 512) : k0_pay3 (k0_pay13 x1) (k0_pay20 (k0_pay9 x1) (k0_pay12 x1) x4) v (ix2 0 l)
    = v (ix2 0 l) + ∑ r : Fin 512, dy X D (512 * t + r.val) l.val * cu X (512 * t + r.val) l.val := by
  pointwise [k0_pay3]
  simp only [c20 T, c13 T]

theorem p4 (v : Vec Ideal S1x512 .f32) (l : Fin 512) : k0_pay4 (k0_pay15 i x3 x1) (k0_pay20 (k0_pay9 x1) (k0_pay12 x1) x4) v (ix2 0 l)
    = v (ix2 0 l) + ∑ r : Fin 512, dy X D (512 * t + r.val) l.val * cuP X (512 * t + r.val) l.val := by
  pointwise [k0_pay4]
  simp only [c20 T, c15 T]

end Cert.ConvIdeal.Hand
-- ==== Proof.Conv.lean ====
/- The gated convolution's gradient: the kernel's two results are the formulas of `ConvSpec`, and so are the reference's. -/
module

public import proofs.«01_k».proof.Proof.ConvTile
public import Idealize.ShloMosaic.Lib.WritesUnit
public import Idealize.ShloMosaic.Lib.Pipeline.RowLoads

@[expose] public section

set_option maxRecDepth 16384

noncomputable section

open Idealize.ShloMosaic Idealize.ShloMosaic.TcCoe Idealize.SL.Sem
open Idealize.ShloMosaic.Pipeline (Dat)

namespace Cert.ConvIdeal.Hand

open Cert.ConvIdeal Cert.ConvIdeal.Gen Cert.ConvSpec Cert.Reals
variable (m : (ℓ : Loc nD τ sig) → Buf (Elt Ideal) ℓ)

theorem idx_val : ∀ t : Fin cfg0.N, win0_1.index t = ![t.val, 0] ∧ win0_2.index t = ![t.val * 32 - 1, 0] ∧ win0_3.index t = ![min (t.val * 32 + 32) 255, 0]
    ∧ win0_4.index t = ![t.val, 0] ∧ win0_5.index t = ![t.val * 32 - 1, 0] ∧ win0_6.index t = ![min (t.val * 32 + 32) 255, 0] ∧ win0_7.index t = ![0, 0]
    ∧ win0_8.index t = ![t.val, 0] ∧ win0_9.index t = ![0, 0] ∧ (grid0.coords t 0).val = t.val :=
  (by decide +kernel : ∀ t : Fin grid0.N, _)

abbrev A0 (c : Dev nD) : FVec Ideal S4096x2048 .bf16 := m ((c.tc : Thread nD τ).loc main_arg0)
abbrev A1 (c : Dev nD) : FVec Ideal S4096x512 .bf16 := m ((c.tc : Thread nD τ).loc main_arg1)
abbrev A2 (c : Dev nD) : FVec Ideal S3x512 .f32 := m ((c.tc : Thread nD τ).loc main_arg2)

/-- The blocks of tile `t`, read from the arguments. -/
theorem tile (c : Dev nD) (t : Fin cfg0.N) : Tile (rd (A0 m c)) (rd (A1 m c)) (rd (A2 m c)) t.val (grid0.coords t)
    (iblk m c 1 t) (iblk m c 2 t) (iblk m c 3 t) (iblk m c 4 t) (iblk m c 5 t) (iblk m c 6 t) (iblk m c 7 t) := by
  have ht : t.val < 8 := lt_of_lt_of_eq t.isLt N_0
  obtain ⟨i1, i2, i3, i4, i5, i6, i7, -, -, ic⟩ := idx_val t
  refine ⟨ht, ic, fun r l => ?_, fun h l => ?_, fun h l => ?_, fun r l => ?_, fun h l => ?_, fun h l => ?_, fun r l => ?_⟩
  all_goals (try have := r.isLt)
  · rw [rd_of (by omega) l.isLt]
    blk_point [iblk, V, i1]
  · rw [rd_of (by omega) l.isLt]
    blk_point [iblk, V, i2]
  · rw [rd_of (by omega) l.isLt]
    blk_point [iblk, V, i3]
  · rw [rd_of (by omega) l.isLt]
    blk_point [iblk, V, i4]
  · rw [rd_of (by omega) l.isLt]
    blk_point [iblk, V, i5]
  · rw [rd_of (by omega) l.isLt]
    blk_point [iblk, V, i6]
  · rw [rd_of (by omega) l.isLt]
    blk_point [iblk, V, i7]

/-- The gradient of the projected rows, of the arguments. -/
def G8 (c : Dev nD) : S4096x2048.Idx → EReal := fun j => da (rd (A0 m c)) (rd (A1 m c)) (rd (A2 m c)) (j 0).val (j 1).val

theorem ix2_eta {a b : Nat} (x : (⟨2, ![a, b]⟩ : Shape).Idx) : x = ix2 (x 0) (x 1) := by
  funext k; fin_cases k <;> rfl

/-- A piece of the first result: the formula of its block of columns. -/
theorem da_0 {X D W : Nat → Nat → EReal} {r l : Nat} (h : l < 512) : da X D W r l = o0 X D W r l := if_pos h
theorem da_1 {X D W : Nat → Nat → EReal} {r l : Nat} (h : l < 512) : da X D W r (512 + l) = o1 X D W r l := by
  unfold da; rw [if_neg (by omega), if_pos (by omega), Nat.add_sub_cancel_left]
theorem da_2 {X D W : Nat → Nat → EReal} {r l : Nat} (h : l < 512) : da X D W r (1024 + l) = o2 X D W r l := by
  unfold da; rw [if_neg (by omega), if_neg (by omega), if_pos (by omega), Nat.add_sub_cancel_left]
theorem da_3 {X D W : Nat → Nat → EReal} {r l : Nat} : da X D W r (1536 + l) = o3 X D W r l := by
  unfold da; rw [if_neg (by omega), if_neg (by omega), if_neg (by omega), Nat.add_sub_cancel_left]

theorem end8 (c : Dev nD) : (dats m 0 c).arrAt 8 cfg0.N = G8 m c := by
  refine (dats m 0 c).arrAt_eq_of_covers 8 _ (by decide +kernel) fun t hf y => ?_
  blk_simp
  have T := tile m c t
  obtain ⟨-, -, -, -, -, -, -, i8, -, -⟩ := idx_val t
  rw [after0_8]
  have e0 : ((((View.whole main_v1_0).slice (win0_8.rect t)).emb y) 0).val = 512 * t.val + (y 0).val := by blk_simp [i8] <;> try omega
  have e1 : ((((View.whole main_v1_0).slice (win0_8.rect t)).emb y) 1).val = (y 1).val := by blk_simp [i8] <;> try omega
  show _ = da _ _ _ _ _
  rw [e0, e1]
  clear e0 e1 i8
  by_cases hc : t.val % 8 = 0
  · rw [outsAt0_A m c t hc]; frame_out
    canon_tiles x h
    all_goals rw [h0, h1, ix2_eta x]
    · exact (p1 T _ _).trans da_3.symm
    · exact (p27 T _ _).trans (da_2 x1_lt).symm
    · exact (p26 T _ _).trans (da_1 x1_lt).symm
    · exact (p25 T _ _).trans (da_0 x1_lt).symm
  · rw [outsAt0_B m c t hc]; frame_out
    canon_tiles x h
    all_goals rw [h0, h1, ix2_eta x]
    · exact (p1 T _ _).trans da_3.symm
    · exact (p27 T _ _).trans (da_2 x1_lt).symm
    · exact (p26 T _ _).trans (da_1 x1_lt).symm
    · exact (p25 T _ _).trans (da_0 x1_lt).symm

/-- What tile `t` adds to row `k` of the weights' gradient. -/
def part (X D : Nat → Nat → EReal) (t k l : Nat) : EReal :=
  if k = 0 then ∑ r : Fin 512, dy X D (512 * t + r.val) l * cuM X (512 * t + r.val) l
  else if k = 1 then ∑ r : Fin 512, dy X D (512 * t + r.val) l * cu X (512 * t + r.val) l
  else if k = 2 then ∑ r : Fin 512, dy X D (512 * t + r.val) l * cuP X (512 * t + r.val) l else 0

section Rows
variable {κ : Kind} {sp : Space} (v : View sig κ sp S8x512 .f32) (f : v.ty.Contents (Elt Ideal)) {o o' : Nat}
    (inb : ∀ a, (![o, 0] : Fin 2 → Nat) a + (![1, 512] : Fin 2 → Nat) a ≤ S8x512.size a)
    (inb' : ∀ a, (![o', 0] : Fin 2 → Nat) a + (![1, 512] : Fin 2 → Nat) a ≤ S8x512.size a)
    (w : Vec Ideal S1x512 .f32) (L : List (View.Piece (Elt Ideal) S8x512 .f32))

/-- A stored row read back, and the rows a store leaves alone. -/
theorem row_emb (k : Fin 8) (l : Fin 512) (h : k.val = o) : (Rect.unit (s := S8x512) ![o, 0] ![1, 512] inb).emb (ix2 0 l) = ix2 k l := by
  funext a
  apply Fin.ext
  fin_cases a
  · show o + 1 * 0 = k.val; omega
  · show 0 + 1 * l.val = l.val; omega

theorem row_not (k : Fin 8) (l : Fin 512) (h : k.val ≠ o) : ix2 k l ∉ (Rect.unit (s := S8x512) ![o, 0] ![1, 512] inb).set := by
  rw [Rect.mem_set_unit]
  intro hall
  have h0 : o ≤ k.val ∧ k.val < o + 1 := hall 0
  omega

theorem canon_row (k : Fin 8) (l : Fin 512) : View.canon ((⟨Rect.unit (s := S8x512) ![o, 0] ![1, 512] inb, w⟩ : View.Piece (Elt Ideal) S8x512 .f32) :: L) (ix2 k l)
    = if k.val = o then w (ix2 0 l) else View.canon L (ix2 k l) := by
  split
  · rename_i h
    rw [← row_emb inb k l h]
    exact View.canon_cons_emb _ _ _ _
  · rename_i h
    exact View.canon_cons_of_not_mem _ _ (row_not inb k l h)

theorem read_row (k : Fin 8) (l : Fin 512) :
    v.read (Elt Ideal) (v.writes (Elt Ideal) f ((⟨Rect.unit (s := S8x512) ![o, 0] ![1, 512] inb, w⟩ : View.Piece (Elt Ideal) S8x512 .f32) :: L)) (ix2 k l)
    = if k.val = o then w (ix2 0 l) else v.read (Elt Ideal) (v.writes (Elt Ideal) f L) (ix2 k l) := by
  split
  · rename_i h
    refine View.read_writes_cons_unit_of_mem v f inb w L _ (ix2 0 l) rfl fun a => ?_
    fin_cases a
    · exact h
    · exact (Nat.zero_add _).symm
  · rename_i h
    refine View.read_writes_cons_unit_of_not_mem v f inb w L _ rfl 0 ?_
    show k.val < o ∨ o + 1 ≤ k.val
    omega

theorem cov_row (h : o ≠ o') : v.readCov ((⟨Rect.unit (s := S8x512) ![o, 0] ![1, 512] inb, w⟩ : View.Piece (Elt Ideal) S8x512 .f32) :: L)
    (Rect.unit (s := S8x512) ![o', 0] ![1, 512] inb').toLoadRect = v.readCov L (Rect.unit (s := S8x512) ![o', 0] ![1, 512] inb').toLoadRect :=
  View.readCov_cons_of_rows_disjoint (k := 1) (k' := 1) v o o' (by omega) w L inb inb'

theorem whole_mem (y : S8x512.Idx) : y ∈ (Rect.unit (s := S8x512) ![0, 0] ![8, 512] inb_S8x512_S8x512_0_0).set := by
  rw [Rect.mem_set_unit]
  intro a
  fin_cases a
  · exact ⟨Nat.zero_le _, lt_of_lt_of_eq (y 0).isLt (Nat.zero_add _).symm⟩
  · exact ⟨Nat.zero_le _, lt_of_lt_of_eq (y 1).isLt (Nat.zero_add _).symm⟩

/-- The store of zeros. -/
abbrev zeros : View.Piece (Elt Ideal) S8x512 .f32 := ⟨Rect.unit (s := S8x512) ![0, 0] ![8, 512] inb_S8x512_S8x512_0_0, k0_pay5 (F := Ideal)⟩

theorem canon_zero (y : S8x512.Idx) : View.canon [zeros] y = 0 := by
  have e : (Rect.unit (s := S8x512) ![0, 0] ![8, 512] inb_S8x512_S8x512_0_0).emb y = y := by
    funext a
    apply Fin.ext
    fin_cases a
    · show 0 + 1 * (y 0).val = (y 0).val; omega
    · show 0 + 1 * (y 1).val = (y 1).val; omega
  refine (congrArg _ e.symm).trans ((View.canon_cons_emb _ _ _ _).trans ?_)
  rw [ix2_eta y]
  pointwise [k0_pay5]

theorem cov_zero (B : LoadRect S8x512) (j : B.shape.Idx) : v.readCov [zeros] B j = 0 :=
  (View.read_writes_apply_eq_canon v v.junk (B.idx j) [zeros] ⟨zeros, List.mem_singleton_self _, whole_mem _⟩).trans (canon_zero _)

end Rows

theorem step9 (c : Dev nD) (t : Fin cfg0.N) (hc : ¬ t.val % 8 = 0) (k : Fin 8) (l : Fin 512) : (outsAt0 m c t.val t.isLt).2 (ix2 k l)
    = (outsAt0 m c (t.val - 1) (lt_of_le_of_lt (Nat.sub_le _ _) t.isLt)).2 (ix2 k l) + part (rd (A0 m c)) (rd (A1 m c)) t.val k.val l.val := by
  have T := tile m c t
  rw [outsAt0_B m c t hc]; frame_out
  generalize (outsAt0 m c (t.val - 1) (lt_of_le_of_lt (Nat.sub_le _ _) t.isLt)).2 = P
  rw [read_row, read_row, read_row, p4 T, p3 T, p2 T]
  unfold part
  have hk := k.isLt
  obtain h | h | h | h : k.val = 0 ∨ k.val = 1 ∨ k.val = 2 ∨ 3 ≤ k.val := by omega
  · simp (disch := omega) only [h, if_pos, if_neg, if_true]
    congr 1
    refine congrArg P ?_
    exact row_emb _ k l h
  · simp (disch := omega) only [h, if_pos, if_neg, if_true]
    congr 1
    refine congrArg P ?_
    exact row_emb _ k l h
  · simp (disch := omega) only [h, if_pos, if_neg, if_true]
    congr 1
    refine congrArg P ?_
    exact row_emb _ k l h
  · simp (disch := omega) only [if_pos, if_neg]
    rw [add_zero]
    exact congrFun (Memref.IsWhole.read_unread _ P) _

theorem init9 (c : Dev nD) (t : Fin cfg0.N) (hc : t.val % 8 = 0) (k : Fin 8) (l : Fin 512) : (outsAt0 m c t.val t.isLt).2 (ix2 k l)
    = 0 + part (rd (A0 m c)) (rd (A1 m c)) t.val k.val l.val := by
  have T := tile m c t
  rw [outsAt0_A m c t hc]; frame_out
  rw [canon_row, canon_row, canon_row, canon_zero, p4 T, p3 T, p2 T, cov_row _ _ _ _ _ (by decide), cov_row _ _ _ _ _ (by decide), cov_row _ _ _ _ _ (by decide),
    cov_zero, cov_zero, cov_zero]
  unfold part
  have hk := k.isLt
  obtain h | h | h | h : k.val = 0 ∨ k.val = 1 ∨ k.val = 2 ∨ 3 ≤ k.val := by omega
  all_goals simp (disch := omega) only [h, if_pos, if_neg, if_true, zero_add]

/-- The weights' gradient, of the arguments. -/
def G9 (c : Dev nD) : S8x512.Idx → EReal := fun j => gw (rd (A0 m c)) (rd (A1 m c)) (j 0).val (j 1).val

theorem part_sum (X D : Nat → Nat → EReal) (k l : Nat) : ∑ t : Fin 8, part X D t.val k l = gw X D k l := by
  have e : ∀ f : Nat → EReal, ∑ t : Fin 8, ∑ r : Fin 512, f (512 * t.val + r.val) = ∑ r : Fin 4096, f r.val := fun f => by
    rw [Fin.sum_univ_tiles 8 512 rfl fun r : Fin 4096 => f r.val]
    simp only [Nat.mul_comm 512]
  unfold gw part
  obtain h | h | h | h : k = 0 ∨ k = 1 ∨ k = 2 ∨ 3 ≤ k := by omega
  · subst h; simp only [if_true]; exact e fun r => dy X D r l * cuM X r l
  · subst h; simp only [if_true, one_ne_zero, if_false]; exact e fun r => dy X D r l * cu X r l
  · subst h; simp (disch := omega) only [if_pos, if_neg]; exact e fun r => dy X D r l * cuP X r l
  · simp (disch := omega) only [if_neg, Finset.sum_const_zero]

theorem end9 (c : Dev nD) : (dats m 0 c).arrAt 9 cfg0.N = G9 m c := by
  refine (dats m 0 c).arrAt_eq_of_after_last 9 t0_7 (by decide +kernel) _ fun j => ?_
  blk_simp
  rw [after0_9]
  rw [Pipeline.eq_sum_fin_of_reset_step_apply_last (fun n h => (outsAt0 m c n h).2) 8 (fun _ => 0) (fun p j => part (rd (A0 m c)) (rd (A1 m c)) p.val (j 0).val (j 1).val)
    (fun t h j => by rw [ix2_eta j]; exact init9 m c t h _ _) (fun t h j => by rw [ix2_eta j]; exact step9 m c t h _ _) (le_of_eq N_0) t0_7 rfl j, zero_add]
  exact part_sum _ _ _ _

end Cert.ConvIdeal.Hand

namespace Cert.ConvProof

open Cert.ConvSpec Cert.Reals

/-- The side conditions of the precondition's text. -/
theorem pre_facts : Cert.Pre_finite_conv.Facts where
  bcast_S_S4096x2048 := by decide
  reducesTo_S4096x2048_S_d0_1 := by decide
  h_S_ := by decide
  bcast_S_S4096x512 := by decide
  reducesTo_S4096x512_S_d0_1 := by decide
  bcast_S_S3x512 := by decide
  reducesTo_S3x512_S_d0_1 := by decide

/-- The run of the reference, as a frame. -/
theorem ref_frame : Cert.quiescent_ConvRefIdeal (hConvRefIdeal := Cert.ConvRefIdeal.Gen.facts) := fun m ρ _ =>
  (θ_run Cert.ConvRefIdeal.defs _ _).mono (fun r h => ⟨fun c => (h c).2.2, Idealize.ShloMosaic.sem_eq_zero_of_no_sems (by decide) r.2⟩)
    (Cert.ConvRefIdeal.Value.run (F := Ideal) m ρ)

instance : Subsingleton Cert.Pre_finite_conv.S_.Idx := ⟨fun a b => funext fun k => k.elim0⟩

/-- The precondition says that every element of the three arguments is a real number. -/
theorem reals (x : FVec Ideal Cert.Pre_finite_conv.S4096x2048 .bf16) (d : FVec Ideal Cert.Pre_finite_conv.S4096x512 .bf16) (w : FVec Ideal Cert.Pre_finite_conv.S3x512 .f32)
    (h : @Cert.Pre_finite_conv.fn pre_facts Ideal _ x d w = fun _ => 1#1) : (∀ i, IsR (x i)) ∧ (∀ i, IsR (d i)) ∧ ∀ i, IsR (w i) := by
  have h0 := congrFun h (fun k => k.elim0)
  unfold Cert.Pre_finite_conv.fn at h0
  obtain ⟨h1, h2⟩ := and_one h0
  obtain ⟨h3, h4⟩ := and_one h1
  exact ⟨fun i => isR_all _ _ inf_bf16 _ _ _ _ _ _ h3 i, fun i => isR_all _ _ inf_bf16 _ _ _ _ _ _ h4 i, fun i => isR_all _ _ inf_f32 _ _ _ _ _ _ h2 i⟩

theorem value : Cert.algebraic_ConvIdeal_ConvRefIdeal_pre_finite_conv (hConvIdeal := Cert.ConvIdeal.Gen.facts) (hConvRefIdeal := Cert.ConvRefIdeal.Gen.facts)
    (hPre_finite_conv := pre_facts) := by
  intro m ρ m' ρ' hpre hagree
  refine ⟨fun c => _, fun c => _, Cert.ConvIdeal.Value.run_blocks (F := Ideal) m ρ, ?_⟩
  refine (θ_run Cert.ConvRefIdeal.defs _ _).mono (fun r h c => ?_) (Cert.ConvRefIdeal.Value.run (F := Ideal) m' ρ')
  obtain ⟨h1, h2, hargs⟩ := h c
  obtain ⟨a0, a1, a2⟩ := hagree c
  obtain ⟨r0, r1, r2⟩ := reals _ _ _ (hpre c)
  have e0 : Cert.ConvRefIdeal.Hand.A0 m' c = Cert.ConvIdeal.Hand.A0 m c := a0
  have e1 : Cert.ConvRefIdeal.Hand.A1 m' c = Cert.ConvIdeal.Hand.A1 m c := a1
  have e2 : Cert.ConvRefIdeal.Hand.A2 m' c = Cert.ConvIdeal.Hand.A2 m c := a2
  refine ⟨h1.trans ?_, h2.trans ?_, hargs⟩
  · refine Eq.trans ?_ (Cert.ConvIdeal.Hand.end8 m c).symm
    funext j
    rw [Cert.ConvIdeal.Hand.ix2_eta j]
    refine (Cert.ConvRefIdeal.Hand.ref_da m' c ?_ ?_ ?_ _ _).trans ?_
    · rw [e0]; exact r0
    · rw [e1]; exact r1
    · rw [e2]; exact r2
    · rw [e0, e1, e2]; rfl
  · refine Eq.trans ?_ (Cert.ConvIdeal.Hand.end9 m c).symm
    funext j
    rw [Cert.ConvIdeal.Hand.ix2_eta j]
    refine (Cert.ConvRefIdeal.Hand.ref_gw m' c _ _).trans ?_
    rw [e0, e1]; rfl

end Cert.ConvProof

end
-- ==== Proof.MemSpec.lean ====
/- The gradient of the memory's cross-attention, element by element. `Q`, `Z`, `D` are the rows' queries, gates and the gradient coming in,
   `K` the memory's keys (columns 0 to 511) and values (columns 512 to 1023); `c` is the first column of a head. -/
module

public import proofs.«01_k».proof.Proof.Reals
public import Idealize.ShloMosaic.Lib.Pointwise

@[expose] public section

noncomputable section

open Idealize.ShloMosaic

namespace Cert.MemSpec

/-- `X` at row `a`, column `b`. -/
def rd {R L : Nat} (X : (⟨2, ![R, L]⟩ : Shape).Idx → EReal) (a b : Nat) : EReal :=
  if h : a < R ∧ b < L then X (ix2 ⟨a, h.1⟩ ⟨b, h.2⟩) else 0

theorem rd_of {R L : Nat} {X : (⟨2, ![R, L]⟩ : Shape).Idx → EReal} {r l : Nat} (hr : r < R) (hl : l < L) : rd X r l = X (ix2 ⟨r, hr⟩ ⟨l, hl⟩) := by
  rw [rd, dif_pos ⟨hr, hl⟩]

theorem rd_real {R L : Nat} {X : (⟨2, ![R, L]⟩ : Shape).Idx → EReal} (h : ∀ i, Cert.Reals.IsR (X i)) (a b : Nat) : Cert.Reals.IsR (rd X a b) := by
  unfold rd; split
  · exact h _
  · exact Cert.Reals.isR_zero

abbrev κ : EReal := Ideal.ofBits .f32 0x3DB504F3#32
abbrev ninf : EReal := Ideal.ofBits .f32 0xFF800000#32

abbrev sg (z : EReal) : EReal := Ideal.div 1 (1 + Ideal.exp (-z))

variable (Q Z D K : Nat → Nat → EReal)

/-- The score of row `r` against memory `k`, its exponential, and the softmax. -/
def sc (c r k : Nat) : EReal := (∑ d : Fin 128, K k (c + d.val) * Q r (c + d.val)) * κ
def ex (c r k : Nat) : EReal := Ideal.exp (sc Q K c r k - Finset.fold max ninf (fun j : Fin 256 => sc Q K c r j.val) Finset.univ)
def se (c r : Nat) : EReal := ∑ k : Fin 256, ex Q K c r k.val
def pr (c r k : Nat) : EReal := ex Q K c r k * Ideal.div 1 (se Q K c r)
/-- The gradient of the attention's output, of the softmax, and of the scores. -/
def dO (r l : Nat) : EReal := D r l * (Z r l * sg (Z r l))
def dp (c r k : Nat) : EReal := ∑ d : Fin 128, K k (512 + (c + d.val)) * dO Z D r (c + d.val)
def ds (c r k : Nat) : EReal := pr Q K c r k * (dp Z D K c r k - ∑ j : Fin 256, pr Q K c r j.val * dp Z D K c r j.val)
/-- The attention's output. -/
def ou (c r l : Nat) : EReal := ∑ k : Fin 256, pr Q K c r k.val * K k.val (512 + l)

/-- The three gradients, in the head that starts at column `c`. -/
def dq (c r l : Nat) : EReal := (∑ k : Fin 256, ds Q Z D K c r k.val * K k.val l) * κ
def dz (c r l : Nat) : EReal := D r l * ou Q K c r l * (sg (Z r l) * (1 + Z r l * (1 - sg (Z r l))))
def dkt (c t k l : Nat) : EReal := (∑ s : Fin 512, ds Q Z D K c (512 * t + s.val) k * Q (512 * t + s.val) l) * κ
def dvt (c t k l : Nat) : EReal := ∑ s : Fin 512, pr Q K c (512 * t + s.val) k * dO Z D (512 * t + s.val) l

/-- What tile `t` adds to the gradient of the memory's keys and values. -/
def part (t k l : Nat) : EReal := if l < 512 then dkt Q Z D K (128 * (l / 128)) t k l else dvt Q Z D K (128 * ((l - 512) / 128)) t k (l - 512)

end Cert.MemSpec

end
-- ==== Proof.MemAttnTile.lean ====
/- One tile of the memory attention's gradient, element by element: what the kernel's body computes from its blocks, one head at a time. -/
module

public import proofs.«01_k».proof.Proof.MemSpec
public import proofs.«01_k».proof.Proof.Gen.MemAttnIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MemAttnIdeal.Hand

open Cert.MemAttnIdeal Cert.MemAttnIdeal.Gen Cert.MemSpec

/-- What the blocks of tile `t` hold of the gates and of the gradient coming in, -/
structure Rows (Z D : Nat → Nat → EReal) (t : Nat) (z d : Vec Ideal S512x512 .bf16) : Prop where
  hz : ∀ r l, z (ix2 r l) = Z (512 * t + r.val) l.val
  hd : ∀ r l, d (ix2 r l) = D (512 * t + r.val) l.val

/-- … and of the head at column `c`: queries, keys and values. -/
structure Head (Q K : Nat → Nat → EReal) (t c : Nat) (q : Vec Ideal S512x128 .bf16) (k v : Vec Ideal S256x128 .bf16) : Prop where
  hq : ∀ r l, q (ix2 r l) = Q (512 * t + r.val) (c + l.val)
  hk : ∀ r l, k (ix2 r l) = K r.val (c + l.val)
  hv : ∀ r l, v (ix2 r l) = K r.val (512 + (c + l.val))

variable {Q Z D K : Nat → Nat → EReal} {t : Nat} {z d : Vec Ideal S512x512 .bf16} {q : Vec Ideal S512x128 .bf16} {k v : Vec Ideal S256x128 .bf16}

section
variable (R : Rows Z D t z d)
include R

theorem c7 (r l : Fin 512) : k0_pay7 z d (ix2 r l) = dO Z D (512 * t + r.val) l.val := by
  pointwise [k0_pay7, k0_pay6, k0_pay5, k0_pay4]
  rw [R.hz, R.hd, zero_sub]; rfl
theorem c6 (r l : Fin 512) : k0_pay6 d (ix2 r l) = D (512 * t + r.val) l.val := by
  pointwise [k0_pay6]
  rw [R.hd]
theorem c8 (r l : Fin 512) : k0_pay8 z (ix2 r l) = sg (Z (512 * t + r.val) l.val) * (1 + Z (512 * t + r.val) l.val * (1 - sg (Z (512 * t + r.val) l.val))) := by
  pointwise [k0_pay8, k0_pay5, k0_pay4]
  rw [R.hz, zero_sub]
end

variable (R : Rows Z D t z d)

section
variable (H : Head Q K t 0 q k v)
include R H

theorem dq0 (r : Fin 512) (l : Fin 128) : k0_pay16 (k0_pay7 z d) k v (k0_pay9 q k) (k0_pay10 q k) k0_pay11 (ix2 r l) = dq Q Z D K 0 (512 * t + r.val) (0 + l.val) := by
  pointwise [k0_pay16, k0_pay15, k0_pay14, k0_pay12, k0_pay11, k0_pay10, k0_pay9]
  simp only [H.hq, H.hk, H.hv, c7 R]
  simp only [dq, dz, dkt, dvt, ds, pr, ou, dp, se, ex, sc, zero_add]
theorem dz0 (r : Fin 512) (l : Fin 128) : k0_pay17 (k0_pay6 d) (k0_pay8 z) v (k0_pay9 q k) (k0_pay10 q k) k0_pay11 (ix2 r l) = dz Q Z D K 0 (512 * t + r.val) (0 + l.val) := by
  pointwise [k0_pay17, k0_pay13, k0_pay12, k0_pay11, k0_pay10, k0_pay9]
  simp only [H.hq, H.hk, H.hv, c6 R, c8 R]
  simp only [dq, dz, dkt, dvt, ds, pr, ou, dp, se, ex, sc, zero_add]
theorem dk0 (w : Vec Ideal S256x128 .f32) (j : Fin 256) (l : Fin 128) : k0_pay18 (k0_pay7 z d) q v (k0_pay9 q k) (k0_pay10 q k) k0_pay11 w (ix2 j l) = w (ix2 j l) + dkt Q Z D K 0 t j.val (0 + l.val) := by
  pointwise [k0_pay18, k0_pay15, k0_pay14, k0_pay12, k0_pay11, k0_pay10, k0_pay9]
  simp only [H.hq, H.hk, H.hv, c7 R]
  simp only [dq, dz, dkt, dvt, ds, pr, ou, dp, se, ex, sc, zero_add]
theorem dv0 (w : Vec Ideal S256x128 .f32) (j : Fin 256) (l : Fin 128) : k0_pay19 (k0_pay7 z d) (k0_pay9 q k) (k0_pay10 q k) k0_pay11 w (ix2 j l) = w (ix2 j l) + dvt Q Z D K 0 t j.val (0 + l.val) := by
  pointwise [k0_pay19, k0_pay14, k0_pay13, k0_pay12, k0_pay11, k0_pay10, k0_pay9]
  simp only [H.hq, H.hk, H.hv, c7 R]
  simp only [dq, dz, dkt, dvt, ds, pr, ou, dp, se, ex, sc, zero_add]

end

section
variable (H : Head Q K t 128 q k v)
include R H

theorem dq1 (r : Fin 512) (l : Fin 128) : k0_pay24 (k0_pay7 z d) q k v (ix2 r l) = dq Q Z D K 128 (512 * t + r.val) (128 + l.val) := by
  pointwise [k0_pay24, k0_pay23, k0_pay22, k0_pay20]
  simp only [H.hq, H.hk, H.hv, c7 R]
  rfl
theorem dz1 (r : Fin 512) (l : Fin 128) : k0_pay25 (k0_pay6 d) (k0_pay8 z) q k v (ix2 r l) = dz Q Z D K 128 (512 * t + r.val) (128 + l.val) := by
  pointwise [k0_pay25, k0_pay21, k0_pay20]
  simp only [H.hq, H.hk, H.hv, c6 R, c8 R]
  rfl
theorem dk1 (w : Vec Ideal S256x128 .f32) (j : Fin 256) (l : Fin 128) : k0_pay26 q (k0_pay23 (k0_pay7 z d) q k v) w (ix2 j l) = w (ix2 j l) + dkt Q Z D K 128 t j.val (128 + l.val) := by
  pointwise [k0_pay26, k0_pay23, k0_pay22, k0_pay20]
  simp only [H.hq, H.hk, H.hv, c7 R]
  rfl
theorem dv1 (w : Vec Ideal S256x128 .f32) (j : Fin 256) (l : Fin 128) : k0_pay27 (k0_pay21 q k) (k0_pay22 (k0_pay7 z d)) w (ix2 j l) = w (ix2 j l) + dvt Q Z D K 128 t j.val (128 + l.val) := by
  pointwise [k0_pay27, k0_pay21, k0_pay22, k0_pay20]
  simp only [H.hq, H.hk, H.hv, c7 R]
  rfl

end

section
variable (H : Head Q K t 256 q k v)
include R H

theorem dq2 (r : Fin 512) (l : Fin 128) : k0_pay33 (k0_pay7 z d) k v (k0_pay28 q k) (ix2 r l) = dq Q Z D K 256 (512 * t + r.val) (256 + l.val) := by
  pointwise [k0_pay33, k0_pay32, k0_pay31, k0_pay28]
  simp only [H.hq, H.hk, H.hv, c7 R]
  rfl
theorem dz2 (r : Fin 512) (l : Fin 128) : k0_pay34 (k0_pay6 d) (k0_pay8 z) (k0_pay30 q k v) (ix2 r l) = dz Q Z D K 256 (512 * t + r.val) (256 + l.val) := by
  pointwise [k0_pay34, k0_pay30, k0_pay29, k0_pay28]
  simp only [H.hq, H.hk, H.hv, c6 R, c8 R]
  rfl
theorem dk2 (w : Vec Ideal S256x128 .f32) (j : Fin 256) (l : Fin 128) : k0_pay35 (k0_pay7 z d) q v (k0_pay28 q k) w (ix2 j l) = w (ix2 j l) + dkt Q Z D K 256 t j.val (256 + l.val) := by
  pointwise [k0_pay35, k0_pay32, k0_pay31, k0_pay28]
  simp only [H.hq, H.hk, H.hv, c7 R]
  rfl
theorem dv2 (w : Vec Ideal S256x128 .f32) (j : Fin 256) (l : Fin 128) : k0_pay36 (k0_pay7 z d) (k0_pay29 q k) w (ix2 j l) = w (ix2 j l) + dvt Q Z D K 256 t j.val (256 + l.val) := by
  pointwise [k0_pay36, k0_pay31, k0_pay29, k0_pay28]
  simp only [H.hq, H.hk, H.hv, c7 R]
  rfl

end

section
variable (H : Head Q K t 384 q k v)
include R H

theorem dq3 (r : Fin 512) (l : Fin 128) : k0_pay41 (k0_pay7 z d) q k v (ix2 r l) = dq Q Z D K 384 (512 * t + r.val) (384 + l.val) := by
  pointwise [k0_pay41, k0_pay40, k0_pay39, k0_pay37]
  simp only [H.hq, H.hk, H.hv, c7 R]
  rfl
theorem dz3 (r : Fin 512) (l : Fin 128) : k0_pay42 (k0_pay6 d) (k0_pay8 z) q k v (ix2 r l) = dz Q Z D K 384 (512 * t + r.val) (384 + l.val) := by
  pointwise [k0_pay42, k0_pay38, k0_pay37]
  simp only [H.hq, H.hk, H.hv, c6 R, c8 R]
  rfl
theorem dk3 (w : Vec Ideal S256x128 .f32) (j : Fin 256) (l : Fin 128) : k0_pay1 q (k0_pay40 (k0_pay7 z d) q k v) w (ix2 j l) = w (ix2 j l) + dkt Q Z D K 384 t j.val (384 + l.val) := by
  pointwise [k0_pay1, k0_pay40, k0_pay39, k0_pay37]
  simp only [H.hq, H.hk, H.hv, c7 R]
  rfl
theorem dv3 (w : Vec Ideal S256x128 .f32) (j : Fin 256) (l : Fin 128) : k0_pay2 (k0_pay38 q k) (k0_pay39 (k0_pay7 z d)) w (ix2 j l) = w (ix2 j l) + dvt Q Z D K 384 t j.val (384 + l.val) := by
  pointwise [k0_pay2, k0_pay38, k0_pay39, k0_pay37]
  simp only [H.hq, H.hk, H.hv, c7 R]
  rfl

end

end Cert.MemAttnIdeal.Hand

end
-- ==== Proof.Soft.lean ====
/- The gradient of a softmax over real numbers, and how the two ways of writing it agree. -/
module

public import proofs.«01_k».proof.Proof.Reals
public import Idealize.ShloMosaic.Lib.Pointwise
public import Mathlib.Tactic.FieldSimp

@[expose] public section

noncomputable section

open Idealize.ShloMosaic

namespace Cert.Reals

variable {ι : Type} [Fintype ι]

theorem coe_sum (f : ι → ℝ) : ((∑ k, f k : ℝ) : EReal) = ∑ k, (f k : EReal) := by
  classical
  induction (Finset.univ : Finset ι) using Finset.induction_on with
  | empty => simp
  | insert a s ha ih => rw [Finset.sum_insert ha, Finset.sum_insert ha, EReal.coe_add, ih]

theorem lift {f : ι → EReal} (h : ∀ k, IsR (f k)) : ∃ g : ι → ℝ, f = fun k => (g k : EReal) :=
  ⟨fun k => (h k).choose, funext fun k => (h k).choose_spec⟩

/-- A real factor taken out of a sum. -/
theorem sum_mul_real {f : ι → EReal} (h : ∀ k, IsR (f k)) {c : EReal} (hc : IsR c) : ∑ k, f k * c = (∑ k, f k) * c := by
  obtain ⟨g, rfl⟩ := lift h
  obtain ⟨a, rfl⟩ := hc
  simp only [← EReal.coe_mul, ← coe_sum]
  rw [Finset.sum_mul]

theorem ninf_f32 : Ideal.ofBits .f32 0xFF800000#32 = ⊥ := by simp [Ideal.ofBits, Ideal.ieee]

/-- The maximum of finitely many real numbers, from −∞. -/
theorem isR_fold_max [Nonempty ι] {f : ι → EReal} (h : ∀ k, IsR (f k)) : IsR (Finset.fold max ⊥ f Finset.univ) := by
  have h1 : Finset.fold max ⊥ f Finset.univ < ⊤ := (Finset.fold_max_lt _).2 ⟨bot_lt_top, fun k _ => by
    obtain ⟨r, hr⟩ := h k; rw [hr]; exact EReal.coe_lt_top r⟩
  have h2 : ⊥ < Finset.fold max ⊥ f Finset.univ := (Finset.lt_fold_max _).2 (Or.inr ⟨Classical.arbitrary ι, Finset.mem_univ _, by
    obtain ⟨r, hr⟩ := h (Classical.arbitrary ι); rw [hr]; exact EReal.bot_lt_coe r⟩)
  revert h1 h2
  generalize Finset.fold max ⊥ f Finset.univ = x
  intro h1 h2
  induction x using EReal.rec with
  | bot => exact absurd h2 (lt_irrefl _)
  | coe r => exact ⟨r, rfl⟩
  | top => exact absurd h1 (lt_irrefl _)

theorem max_fold_max (b : EReal) (f : ι → EReal) : max b (Finset.fold max b f Finset.univ) = Finset.fold max b f Finset.univ :=
  max_eq_right ((Finset.le_fold_max _).2 (Or.inl le_rfl))

/-- A positive real number. -/
def IsP (x : EReal) : Prop := ∃ r : ℝ, 0 < r ∧ x = (r : EReal)

theorem IsP.isR {x : EReal} (h : IsP x) : IsR x := h.imp fun _ h => h.2
theorem isP_exp {x : EReal} (h : IsR x) : IsP (Ideal.exp x) := by
  obtain ⟨r, rfl⟩ := h; exact ⟨Real.exp r, Real.exp_pos r, rfl⟩
theorem liftP {f : ι → EReal} (h : ∀ k, IsP (f k)) : ∃ g : ι → ℝ, (∀ k, 0 < g k) ∧ f = fun k => (g k : EReal) :=
  ⟨fun k => (h k).choose, fun k => (h k).choose_spec.1, funext fun k => (h k).choose_spec.2⟩
theorem isP_sum [Nonempty ι] {f : ι → EReal} (h : ∀ k, IsP (f k)) : IsP (∑ k, f k) := by
  obtain ⟨g, hg, rfl⟩ := liftP h
  exact ⟨∑ k, g k, Finset.sum_pos (fun k _ => hg k) Finset.univ_nonempty, (coe_sum g).symm⟩
theorem IsP.mul {x y : EReal} (hx : IsP x) (hy : IsP y) : IsP (x * y) := by
  obtain ⟨a, ha, rfl⟩ := hx; obtain ⟨b, hb, rfl⟩ := hy
  exact ⟨a * b, mul_pos ha hb, (EReal.coe_mul a b).symm⟩
theorem IsP.div {x y : EReal} (hx : IsR x) (hy : IsP y) : IsR (Ideal.div x y) := by
  obtain ⟨b, hb, rfl⟩ := hy
  rw [Ideal.div_coe hb.ne']
  exact hx.mul (isR_coe _)

/-- Dividing is multiplying with the reciprocal. -/
theorem div_eq_mul {x y : EReal} (hy : IsP y) : Ideal.div x y = x * Ideal.div 1 y := by
  obtain ⟨b, hb, rfl⟩ := hy
  rw [Ideal.div_coe hb.ne', Ideal.div_coe hb.ne', one_mul]

/-- The gradient of a softmax of the weights `e`, whose results have the gradients `p`: the quotient rule, and the short form. -/
theorem soft [Nonempty ι] {e p : ι → EReal} (he : ∀ k, IsP (e k)) (hp : ∀ k, IsR (p k)) (k : ι) :
    (Ideal.div (p k) (∑ j, e j) + -∑ j, p j * Ideal.div 1 ((∑ j, e j) * ∑ j, e j) * e j) * e k
      = e k * Ideal.div 1 (∑ j, e j) * (p k - ∑ j, e j * Ideal.div 1 (∑ j, e j) * p j) := by
  obtain ⟨e, hpos, rfl⟩ := liftP he
  obtain ⟨p, rfl⟩ := lift hp
  have hS : 0 < ∑ j, e j := Finset.sum_pos (fun k _ => hpos k) Finset.univ_nonempty
  simp only [← coe_sum]
  generalize hs : ∑ j, e j = S at hS
  simp only [← EReal.coe_mul]
  simp only [Ideal.div_coe hS.ne', Ideal.div_coe (mul_pos hS hS).ne', one_mul, ← EReal.coe_mul, ← coe_sum, ← EReal.coe_neg, ← EReal.coe_add, ← EReal.coe_sub]
  congr 1
  have h : ∑ j, p j * (1 / (S * S)) * e j = (1 / S) * ∑ j, e j * (1 / S) * p j := by
    rw [Finset.mul_sum]
    refine Finset.sum_congr rfl fun j _ => ?_
    field_simp
  rw [h]
  ring

/-- The gradient of `z · σ(z)`, two ways. -/
theorem silu_grad {o d z s : EReal} (ho : IsR o) (hd : IsR d) (hz : IsR z) (hs : IsR s) :
    o * d * s + z * (o * d) * (s * (1 - s)) = d * o * (s * (1 + z * (1 - s))) := by
  obtain ⟨o, rfl⟩ := ho; obtain ⟨d, rfl⟩ := hd; obtain ⟨z, rfl⟩ := hz; obtain ⟨s, rfl⟩ := hs
  simp only [← EReal.coe_one, ← EReal.coe_mul, ← EReal.coe_add, ← EReal.coe_sub]
  congr 1
  ring

theorem isR_scale : IsR (Ideal.ofBits .f32 0x3DB504F3#32) := by
  simp [Ideal.ofBits, Ideal.ieee]
  exact isR_coe _

/-- The host's maximum along the last of three axes. -/
theorem hmax {n0 n1 n2 : Nat} {u : Shape} (x : FVec Ideal ⟨3, ![n0, n1, n2]⟩ .f32) (init : FVec Ideal u .f32)
    (h : (⟨3, ![n0, n1, n2]⟩ : Shape).ReducesTo [2] ⟨2, ![n0, n1]⟩) (hu : 0 < u.numel) (p : Fin n0) (r : Fin n1) :
    Host.reduce FloatOps.maximumf x init h hu (ix2 p r) = Finset.univ.fold max (init (Shape.Idx.first hu)) fun k : Fin n2 => x (ix3 p r k) :=
  (Host.reduce_eq_fold (max : EReal → EReal → EReal) x init h hu (ix2 p r)).trans (h.fold_fiber_r3_a2 (ix2 p r) max _ x)

end Cert.Reals

end
-- ==== Proof.MemAttnRef.lean ====
/- The reference's three gradients of the memory's cross-attention, read at an index stage by stage. -/
module

public import proofs.«01_k».proof.Defs
public import proofs.«01_k».proof.Proof.MemSpec
public import proofs.«01_k».proof.Proof.Soft
public import proofs.«01_k».proof.Proof.Gen.MemAttnRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MemAttnRefIdeal.Hand

open Cert.MemSpec Cert.MemAttnRefIdeal Cert.MemAttnRefIdeal.Gen Cert.MemAttnRefIdeal.Value Cert.Reals

theorem rd_at {R L : Nat} (X : (⟨2, ![R, L]⟩ : Shape).Idx → EReal) (r : Fin R) (l : Fin L) : X (ix2 r l) = rd X r.val l.val :=
  (rd_of r.isLt l.isLt).symm

variable (q z d : FVec Ideal S4096x512 .bf16) (k : FVec Ideal S256x1024 .bf16)

/-- Queries, keys and values by head; the scores, their exponentials, the rows' sums and the softmax. -/
def Qh : FVec Ideal S4096x4x128 .f32 := shapeCast _ (extf .f32 q bitsLt_bf16_f32) shapeCasts_S4096x512_S4096x4x128
def Kh : FVec Ideal S256x4x128 .f32 := shapeCast _ (extractStridedSlice S256x512 ![0, 0] (extf .f32 k bitsLt_bf16_f32) slices_S256x1024_S256x512_0_0) shapeCasts_S256x512_S256x4x128
def Vh : FVec Ideal S256x4x128 .f32 := shapeCast _ (extractStridedSlice S256x512 ![0, 512] (extf .f32 k bitsLt_bf16_f32) slices_S256x1024_S256x512_0_512) shapeCasts_S256x512_S256x4x128
def SC : FVec Ideal S4x4096x256 .f32 := mulf (Host.dotGeneral dot_S4096x4x128_S256x4x128_S4x4096x256_2_2_0_0_1_1 none (Qh q) (Kh k))
  (broadcastInDim S4x4096x256 ![] bcast_S_S4x4096x256 (constant S_ .f32 0x3DB504F3#32))
def RX : FVec Ideal S4x4096 .f32 := Host.reduce FloatOps.maximumf (SC q k) (constant S_ .f32 0xFF800000#32) reducesTo_S4x4096x256_S4x4096_d2 h_S_
def MX : FVec Ideal S4x4096 .f32 := maximumf (broadcastInDim S4x4096 ![] bcast_S_S4x4096 (constant S_ .f32 0xFF800000#32)) (RX q k)
def EX : FVec Ideal S4x4096x256 .f32 := Host.exp (subf (SC q k) (broadcastInDim S4x4096x256 ![0, 1, 2] bcast_S4x4096x1_S4x4096x256_0_1_2
  (broadcastInDim S4x4096x1 ![0, 1] bcast_S4x4096_S4x4096x1_0_1 (MX q k))))
def SE : FVec Ideal S4x4096x1 .f32 := broadcastInDim S4x4096x1 ![0, 1] bcast_S4x4096_S4x4096x1_0_1
  (Host.reduceAdd (EX q k) (constant S_ .f32 0x00000000#32) reducesTo_S4x4096x256_S4x4096_d2 h_S_)
def PR : FVec Ideal S4x4096x256 .f32 := Host.divf (EX q k) (broadcastInDim S4x4096x256 ![0, 1, 2] bcast_S4x4096x1_S4x4096x256_0_1_2 (SE q k))
/-- The gate's logistic, the gradient of the attention's output, of the softmax and of the scores. -/
def ON : FVec Ideal S4096x512 .f32 := broadcastInDim S4096x512 ![] bcast_S_S4096x512 (constant S_ .f32 0x3F800000#32)
def SG : FVec Ideal S4096x512 .f32 := Host.divf ON (addf ON (Host.exp (Host.negf (extf .f32 z bitsLt_bf16_f32))))
def DO : FVec Ideal S4x128x4096 .f32 := transpose S4x128x4096 [1, 2, 0] (shapeCast _ (mulf (extf .f32 d bitsLt_bf16_f32) (mulf (extf .f32 z bitsLt_bf16_f32) (SG z)))
  shapeCasts_S4096x512_S4096x4x128) transposes_S4096x4x128_S4x128x4096_1_2_0
def DP : FVec Ideal S4x4096x256 .f32 := Host.dotGeneral dot_S4x128x4096_S256x4x128_S4x4096x256_1_2_2_0_0_1 none (DO z d) (Vh k)
def NE : FVec Ideal S4x4096 .f32 := Host.reduceAdd (Host.negf (shapeCast _ (Host.reduceAdd (mulf (mulf (DP z d k)
  (broadcastInDim S4x4096x256 ![0, 1, 2] bcast_S4x4096x1_S4x4096x256_0_1_2 (Host.divf (broadcastInDim S4x4096x1 ![] bcast_S_S4x4096x1 (constant S_ .f32 0x3F800000#32))
    (mulf (SE q k) (SE q k))))) (EX q k)) (constant S_ .f32 0x00000000#32) reducesTo_S4x4096x256_S4x4096_d2 h_S_) shapeCasts_S4x4096_S4x4096x1))
  (constant S_ .f32 0x00000000#32) reducesTo_S4x4096x1_S4x4096_d2 h_S_
def DS : FVec Ideal S4x4096x256 .f32 := mulf (mulf (addf (Host.divf (DP z d k) (broadcastInDim S4x4096x256 ![0, 1, 2] bcast_S4x4096x1_S4x4096x256_0_1_2 (SE q k)))
  (broadcastInDim S4x4096x256 ![0, 1] bcast_S4x4096_S4x4096x256_0_1 (NE q z d k))) (EX q k)) (broadcastInDim S4x4096x256 ![] bcast_S_S4x4096x256 (constant S_ .f32 0x3DB504F3#32))
/-- The output times the gradient coming in, and the three results. -/
def OD : FVec Ideal S4096x512 .f32 := mulf (shapeCast _ (transpose S4096x4x128 [2, 0, 1] (Host.dotGeneral dot_S256x4x128_S4x4096x256_S4x128x4096_0_2_2_1_1_0 none
  (Vh k) (PR q k)) transposes_S4x128x4096_S4096x4x128_2_0_1) shapeCasts_S4096x4x128_S4096x512) (extf .f32 d bitsLt_bf16_f32)
def DQ : FVec Ideal S4096x512 .bf16 := truncf .bf16 (shapeCast _ (transpose S4096x4x128 [1, 0, 2] (Host.dotGeneral dot_S4x4096x256_S256x4x128_S4x4096x128_2_0_1_2_0_1 none
  (DS q z d k) (Kh k)) transposes_S4x4096x128_S4096x4x128_1_0_2) shapeCasts_S4096x4x128_S4096x512) bitsLt_bf16_f32
def DZ : FVec Ideal S4096x512 .bf16 := truncf .bf16 (addf (mulf (OD q d k) (SG z)) (mulf (mulf (extf .f32 z bitsLt_bf16_f32) (OD q d k)) (mulf (SG z) (subf ON (SG z))))) bitsLt_bf16_f32
def DK : FVec Ideal S256x512 .f32 := shapeCast _ (transpose S256x4x128 [1, 0, 2] (Host.dotGeneral dot_S4x4096x256_S4096x4x128_S4x256x128_1_0_2_2_0_1 none (DS q z d k) (Qh q))
  transposes_S4x256x128_S256x4x128_1_0_2) shapeCasts_S256x4x128_S256x512
def DV : FVec Ideal S256x512 .f32 := shapeCast _ (transpose S256x4x128 [2, 0, 1] (Host.dotGeneral dot_S4x128x4096_S4x4096x256_S4x128x256_2_1_1_2_0_0 none (DO z d) (PR q k))
  transposes_S4x128x256_S256x4x128_2_0_1) shapeCasts_S256x4x128_S256x512
def DM : FVec Ideal S256x1024 .f32 := concatenate S256x1024 1 [⟨S256x512, DK q z d k⟩, ⟨S256x512, DV q z d k⟩] concatenates_S256x512_S256x512_S256x1024_d1

theorem Qh_at (r : Fin 4096) (h : Fin 4) (l : Fin 128) : Qh q (ix3 r h l) = rd q r.val (128 * h.val + l.val) := by
  pointwise [Qh]
  rw [Nat.mul_comm 128]
  exact rd_at q _ _
theorem Kh_at (r : Fin 256) (h : Fin 4) (l : Fin 128) : Kh k (ix3 r h l) = rd k r.val (128 * h.val + l.val) := by
  pointwise [Kh]
  rw [Nat.mul_comm 128]
  exact rd_at k _ _
theorem Vh_at (r : Fin 256) (h : Fin 4) (l : Fin 128) : Vh k (ix3 r h l) = rd k r.val (512 + (128 * h.val + l.val)) := by
  pointwise [Vh]
  rw [Nat.mul_comm 128]
  exact rd_at k _ _

theorem SC_at (h : Fin 4) (r : Fin 4096) (j : Fin 256) : SC q k (ix3 h r j) = sc (rd q) (rd k) (128 * h.val) r.val j.val := by
  pointwise [SC]
  simp only [Qh_at, Kh_at]
  unfold sc
  congr 1
  exact Finset.sum_congr rfl fun _ _ => mul_comm _ _

theorem RX_at (h : Fin 4) (r : Fin 4096) : RX q k (ix2 h r) = Finset.fold max ninf (fun j : Fin 256 => SC q k (ix3 h r j)) Finset.univ :=
  hmax (SC q k) (constant S_ .f32 0xFF800000#32) reducesTo_S4x4096x256_S4x4096_d2 h_S_ h r

theorem max_at (y : FVec Ideal S4x4096 .f32) (i : S4x4096.Idx) :
    maximumf (broadcastInDim S4x4096 ![] bcast_S_S4x4096 (constant S_ .f32 0xFF800000#32)) y i = max ninf (y i) := rfl

theorem MX_0 (h : Fin 4) (r : Fin 4096) : MX q k (ix2 h r) = max ninf (RX q k (ix2 h r)) := by
  unfold MX
  exact max_at (RX q k) (ix2 h r)

theorem RX_1 (h : Fin 4) (r : Fin 4096) : RX q k (ix2 h r) = Finset.fold max ninf (fun j : Fin 256 => sc (rd q) (rd k) (128 * h.val) r.val j.val) Finset.univ := by
  rw [RX_at]
  congr 1
  funext j
  exact SC_at q k h r j

theorem MX_at (h : Fin 4) (r : Fin 4096) : MX q k (ix2 h r) = Finset.fold max ninf (fun j : Fin 256 => sc (rd q) (rd k) (128 * h.val) r.val j.val) Finset.univ :=
  ((MX_0 q k h r).trans (congrArg (max ninf) (RX_1 q k h r))).trans (max_fold_max ninf _)

theorem EX_at (h : Fin 4) (r : Fin 4096) (j : Fin 256) : EX q k (ix3 h r j) = ex (rd q) (rd k) (128 * h.val) r.val j.val := by
  pointwise [EX]
  rw [SC_at, MX_at]
  rfl

theorem SE_at (h : Fin 4) (r : Fin 4096) (j : Fin 1) : SE q k (ix3 h r j) = se (rd q) (rd k) (128 * h.val) r.val := by
  pointwise [SE]
  simp only [EX_at]
  rfl

theorem DO_at (h : Fin 4) (r : Fin 4096) (j : Fin 128) : DO z d (ix3 h j r) = dO (rd z) (rd d) r.val (128 * h.val + j.val) := by
  pointwise [DO, SG, ON]
  rw [Nat.mul_comm 128]
  have e1 := rd_at z r ⟨h.val * 128 + j.val, by omega⟩
  have e2 := rd_at d r ⟨h.val * 128 + j.val, by omega⟩
  simp only [e1, e2]
  rfl

theorem DP_at (h : Fin 4) (r : Fin 4096) (j : Fin 256) : DP z d k (ix3 h r j) = dp (rd z) (rd d) (rd k) (128 * h.val) r.val j.val := by
  pointwise [DP]
  simp only [DO_at, Vh_at]
  exact Finset.sum_congr rfl fun _ _ => mul_comm _ _

theorem NE_at (h : Fin 4) (r : Fin 4096) : NE q z d k (ix2 h r) = -∑ j : Fin 256, dp (rd z) (rd d) (rd k) (128 * h.val) r.val j.val
    * Ideal.div 1 (se (rd q) (rd k) (128 * h.val) r.val * se (rd q) (rd k) (128 * h.val) r.val) * ex (rd q) (rd k) (128 * h.val) r.val j.val := by
  pointwise [NE]
  simp only [DP_at, SE_at, EX_at, Fin.sum_univ_one]

section Real
variable {q z d k} (hq : ∀ i, IsR (q i)) (hz : ∀ i, IsR (z i)) (hd : ∀ i, IsR (d i)) (hk : ∀ i, IsR (k i))

include hq hk in
theorem sc_real (c r j : Nat) : IsR (sc (rd q) (rd k) c r j) :=
  (IsR.sum _ _ fun _ _ => (rd_real hk _ _).mul (rd_real hq _ _)).mul isR_scale

include hq hk in
theorem ex_pos (c r j : Nat) : IsP (ex (rd q) (rd k) c r j) := by
  refine isP_exp ((sc_real hq hk c r j).sub ?_)
  rw [ninf, ninf_f32]
  exact isR_fold_max fun _ => sc_real hq hk _ _ _

include hq hk in
theorem pr_real (c r j : Nat) : IsR (pr (rd q) (rd k) c r j) :=
  (ex_pos hq hk c r j).isR.mul (IsP.div isR_one (isP_sum fun _ => ex_pos hq hk _ _ _))

include hz hd in
theorem dO_real (r l : Nat) : IsR (dO (rd z) (rd d) r l) := (rd_real hd _ _).mul ((rd_real hz _ _).mul (isR_sig _))

include hz hd hk in
theorem dp_real (c r j : Nat) : IsR (dp (rd z) (rd d) (rd k) c r j) := IsR.sum _ _ fun _ _ => (rd_real hk _ _).mul (dO_real hz hd _ _)

include hq hz hd hk in
theorem ds_real (c r j : Nat) : IsR (ds (rd q) (rd z) (rd d) (rd k) c r j) :=
  (pr_real hq hk _ _ _).mul ((dp_real hz hd hk _ _ _).sub (IsR.sum _ _ fun _ _ => (pr_real hq hk _ _ _).mul (dp_real hz hd hk _ _ _)))

include hq hk in
theorem ou_real (c r l : Nat) : IsR (ou (rd q) (rd k) c r l) := IsR.sum _ _ fun _ _ => (pr_real hq hk _ _ _).mul (rd_real hk _ _)

include hq hk in
theorem PR_at (h : Fin 4) (r : Fin 4096) (j : Fin 256) : PR q k (ix3 h r j) = pr (rd q) (rd k) (128 * h.val) r.val j.val := by
  pointwise [PR]
  rw [EX_at, SE_at]
  exact div_eq_mul (isP_sum fun _ => ex_pos hq hk _ _ _)

include hq hz hd hk in
theorem DS_at (h : Fin 4) (r : Fin 4096) (j : Fin 256) : DS q z d k (ix3 h r j) = ds (rd q) (rd z) (rd d) (rd k) (128 * h.val) r.val j.val * κ := by
  pointwise [DS]
  rw [DP_at, SE_at, NE_at, EX_at]
  congr 1
  exact soft (e := fun j : Fin 256 => ex (rd q) (rd k) (128 * h.val) r.val j.val) (p := fun j : Fin 256 => dp (rd z) (rd d) (rd k) (128 * h.val) r.val j.val)
    (fun _ => ex_pos hq hk _ _ _) (fun _ => dp_real hz hd hk _ _ _) j

theorem head_col (l : Nat) : 128 * (l / 128) + l % 128 = l := Nat.div_add_mod _ _

include hq hz hd hk in
theorem DQ_at (r : Fin 4096) (l : Fin 512) : DQ q z d k (ix2 r l) = dq (rd q) (rd z) (rd d) (rd k) (128 * (l.val / 128)) r.val l.val := by
  pointwise [DQ]
  simp only [DS_at hq hz hd hk, Kh_at, head_col]
  unfold dq
  rw [← sum_mul_real (fun _ => (ds_real hq hz hd hk _ _ _).mul (rd_real hk _ _)) isR_scale]
  exact Finset.sum_congr rfl fun _ _ => mul_right_comm _ _ _

include hq hz hd hk in
theorem DZ_at (r : Fin 4096) (l : Fin 512) : DZ q z d k (ix2 r l) = dz (rd q) (rd z) (rd d) (rd k) (128 * (l.val / 128)) r.val l.val := by
  pointwise [DZ, OD, ON, SG]
  simp only [PR_at hq hk, Vh_at, head_col]
  have e1 := rd_at z r l
  have e2 := rd_at d r l
  simp only [e1, e2]
  refine Eq.trans ?_ (silu_grad (ou_real hq hk _ _ _) (rd_real hd _ _) (rd_real hz _ _) (isR_sig _))
  have e : ∑ x : Fin 256, rd k x.val (512 + l.val) * pr (rd q) (rd k) (128 * (l.val / 128)) r.val x.val = ou (rd q) (rd k) (128 * (l.val / 128)) r.val l.val :=
    Finset.sum_congr rfl fun _ _ => mul_comm _ _
  rw [e]

theorem tiles (f : Nat → EReal) : ∑ r : Fin 4096, f r.val = ∑ t : Fin 8, ∑ s : Fin 512, f (512 * t.val + s.val) := by
  rw [Fin.sum_univ_tiles 8 512 rfl fun r : Fin 4096 => f r.val]
  simp only [Nat.mul_comm 512]

include hq hz hd hk in
theorem DK_at (j : Fin 256) (l : Fin 512) : DK q z d k (ix2 j l) = ∑ t : Fin 8, dkt (rd q) (rd z) (rd d) (rd k) (128 * (l.val / 128)) t.val j.val l.val := by
  pointwise [DK]
  simp only [DS_at hq hz hd hk, Qh_at, head_col]
  refine (tiles fun r => ds (rd q) (rd z) (rd d) (rd k) (128 * (l.val / 128)) r j.val * κ * rd q r l.val).trans ?_
  refine Finset.sum_congr rfl fun t _ => ?_
  unfold dkt
  rw [← sum_mul_real (fun _ => (ds_real hq hz hd hk _ _ _).mul (rd_real hq _ _)) isR_scale]
  exact Finset.sum_congr rfl fun _ _ => mul_right_comm _ _ _

include hq hk in
theorem DV_at (j : Fin 256) (l : Fin 512) : DV q z d k (ix2 j l) = ∑ t : Fin 8, dvt (rd q) (rd z) (rd d) (rd k) (128 * (l.val / 128)) t.val j.val l.val := by
  pointwise [DV]
  simp only [DO_at, PR_at hq hk, head_col]
  refine (tiles fun r => dO (rd z) (rd d) r l.val * pr (rd q) (rd k) (128 * (l.val / 128)) r j.val).trans ?_
  exact Finset.sum_congr rfl fun t _ => Finset.sum_congr rfl fun _ _ => mul_comm _ _

include hq hz hd hk in
theorem DM_at (j : Fin 256) (l : Fin 1024) : DM q z d k (ix2 j l) = ∑ t : Fin 8, part (rd q) (rd z) (rd d) (rd k) t.val j.val l.val := by
  pointwise [DM]
  unfold part
  by_cases h : l.val < 512
  · simp only [if_pos h]
    refine (dif_pos h).trans ?_
    exact DK_at hq hz hd hk j ⟨l.val, h⟩
  · simp only [if_neg h]
    refine (dif_neg h).trans ?_
    exact DV_at hq hk j ⟨l.val - 512, by omega⟩

end Real

variable (m : (ℓ : Loc nD τ sig) → Buf (Elt Ideal) ℓ)
abbrev A0 (c : Dev nD) : FVec Ideal S4096x512 .bf16 := m ((c.tc : Thread nD τ).loc main_arg0)
abbrev A1 (c : Dev nD) : FVec Ideal S4096x512 .bf16 := m ((c.tc : Thread nD τ).loc main_arg1)
abbrev A2 (c : Dev nD) : FVec Ideal S256x1024 .bf16 := m ((c.tc : Thread nD τ).loc main_arg2)
abbrev A3 (c : Dev nD) : FVec Ideal S4096x512 .bf16 := m ((c.tc : Thread nD τ).loc main_arg3)

theorem res_dq (c : Dev nD) : res_main_v75 (F := Ideal) m c = DQ (A0 m c) (A1 m c) (A3 m c) (A2 m c) := rfl
theorem res_dz (c : Dev nD) : res_main_v76 (F := Ideal) m c = DZ (A0 m c) (A1 m c) (A3 m c) (A2 m c) := rfl
theorem res_dm (c : Dev nD) : res_main_v74 (F := Ideal) m c = DM (A0 m c) (A1 m c) (A3 m c) (A2 m c) := rfl

end Cert.MemAttnRefIdeal.Hand

end
-- ==== Proof.MemAttn.lean ====
/- The memory attention's gradient: the kernel's three results are the formulas of `MemSpec`, and so are the reference's. -/
module

public import proofs.«01_k».proof.Proof.MemAttnTile
public import proofs.«01_k».proof.Proof.MemAttnRef
public import proofs.«01_k».proof.Defs
public import proofs.«01_k».proof.Proof.Reals
public import Idealize.ShloMosaic.Lib.WritesUnit
public import Idealize.ShloMosaic.Lib.Pipeline.RowLoads
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MemAttnIdeal.Hand

open Cert.MemAttnIdeal Cert.MemAttnIdeal.Gen Cert.MemSpec Cert.Reals
variable (m : (ℓ : Loc nD τ sig) → Buf (Elt Ideal) ℓ)

theorem idx_val : ∀ t : Fin cfg0.N, win0_0.index t = ![t.val, 0] ∧ win0_1.index t = ![t.val, 0] ∧ win0_2.index t = ![t.val, 0]
    ∧ win0_3.index t = ![0, 0] ∧ win0_4.index t = ![0, 1] ∧ win0_5.index t = ![t.val, 0] ∧ win0_6.index t = ![t.val, 0] ∧ win0_7.index t = ![0, 0] :=
  (by decide +kernel : ∀ t : Fin grid0.N, _)

abbrev A0 (c : Dev nD) : FVec Ideal S4096x512 .bf16 := m ((c.tc : Thread nD τ).loc main_arg0)
abbrev A1 (c : Dev nD) : FVec Ideal S4096x512 .bf16 := m ((c.tc : Thread nD τ).loc main_arg1)
abbrev A2 (c : Dev nD) : FVec Ideal S256x1024 .bf16 := m ((c.tc : Thread nD τ).loc main_arg2)
abbrev A3 (c : Dev nD) : FVec Ideal S4096x512 .bf16 := m ((c.tc : Thread nD τ).loc main_arg3)

abbrev Q (c : Dev nD) := rd (A0 m c)
abbrev Z (c : Dev nD) := rd (A1 m c)
abbrev K (c : Dev nD) := rd (A2 m c)
abbrev D (c : Dev nD) := rd (A3 m c)

/-- The blocks of tile `t`, read from the arguments. -/
theorem rows (c : Dev nD) (t : Fin cfg0.N) : Rows (Z m c) (D m c) t.val (iblk m c 1 t) (iblk m c 2 t) := by
  have ht : t.val < 8 := lt_of_lt_of_eq t.isLt N_0
  obtain ⟨i0, i1, i2, i3, i4, -⟩ := idx_val t
  refine ⟨fun r l => ?_, fun r l => ?_⟩
  all_goals have := r.isLt
  · show _ = rd (A1 m c) _ _; rw [rd_of (by omega) l.isLt]
    blk_point [iblk, V, i1]
  · show _ = rd (A3 m c) _ _; rw [rd_of (by omega) l.isLt]
    blk_point [iblk, V, i2]

theorem head (c : Dev nD) (t : Fin cfg0.N) (o : Nat) (ho : o + 128 ≤ 512)
    (iq : ∀ a, (![0, o] : Fin 2 → Nat) a + (![512, 128] : Fin 2 → Nat) a ≤ S512x512.size a)
    (ik iv : ∀ a, (![0, o] : Fin 2 → Nat) a + (![256, 128] : Fin 2 → Nat) a ≤ S256x512.size a) :
    Head (Q m c) (K m c) t.val o (View.ld (iblk m c 0 t : Vec Ideal S512x512 .bf16) (Rect.unit (s := S512x512) ![0, o] ![512, 128] iq))
      (View.ld (iblk m c 3 t : Vec Ideal S256x512 .bf16) (Rect.unit (s := S256x512) ![0, o] ![256, 128] ik))
      (View.ld (iblk m c 4 t : Vec Ideal S256x512 .bf16) (Rect.unit (s := S256x512) ![0, o] ![256, 128] iv)) := by
  have ht : t.val < 8 := lt_of_lt_of_eq t.isLt N_0
  obtain ⟨i0, i1, i2, i3, i4, -⟩ := idx_val t
  refine ⟨fun r l => ?_, fun r l => ?_, fun r l => ?_⟩
  all_goals (have := r.isLt; have := l.isLt)
  · show _ = rd (A0 m c) _ _; rw [rd_of (by omega) (by omega)]
    blk_point [iblk, V, i0]
  · show _ = rd (A2 m c) _ _; rw [rd_of (by omega) (by omega)]
    blk_point [iblk, V, i3]
  · show _ = rd (A2 m c) _ _; rw [rd_of (by omega) (by omega)]
    blk_point [iblk, V, i4]

theorem ix2_eta {a b : Nat} (x : (⟨2, ![a, b]⟩ : Shape).Idx) : x = ix2 (x 0) (x 1) := by
  funext k; fin_cases k <;> rfl

/-- The gradients of the queries and of the gates, of the arguments. -/
def G5 (c : Dev nD) : S4096x512.Idx → EReal := fun j => dq (Q m c) (Z m c) (D m c) (K m c) (128 * ((j 1).val / 128)) (j 0).val (j 1).val
def G6 (c : Dev nD) : S4096x512.Idx → EReal := fun j => dz (Q m c) (Z m c) (D m c) (K m c) (128 * ((j 1).val / 128)) (j 0).val (j 1).val
def G7 (c : Dev nD) : S256x1024.Idx → EReal := fun j => ∑ t : Fin 8, part (Q m c) (Z m c) (D m c) (K m c) t.val (j 0).val (j 1).val

theorem col_0 {l : Nat} (h : l < 128) : 128 * (l / 128) = 0 := by omega
theorem col_1 {l : Nat} (h : l < 128) : 128 * ((128 + l) / 128) = 128 := by omega
theorem col_2 {l : Nat} (h : l < 128) : 128 * ((256 + l) / 128) = 256 := by omega
theorem col_3 {l : Nat} (h : l < 128) : 128 * ((384 + l) / 128) = 384 := by omega

theorem end5 (c : Dev nD) : (dats m 0 c).arrAt 5 cfg0.N = G5 m c := by
  refine (dats m 0 c).arrAt_eq_of_covers 5 _ (by decide +kernel) fun t hf y => ?_
  blk_simp
  have R := rows m c t
  have H := head m c t
  obtain ⟨-, -, -, -, -, i5, -⟩ := idx_val t
  rw [after0_5]
  have e0 : ((((View.whole main_v0_0).slice (win0_5.rect t)).emb y) 0).val = 512 * t.val + (y 0).val := by blk_simp [i5] <;> try omega
  have e1 : ((((View.whole main_v0_0).slice (win0_5.rect t)).emb y) 1).val = (y 1).val := by blk_simp [i5] <;> try omega
  show _ = dq _ _ _ _ _ _ _
  rw [e0, e1]
  clear e0 e1 i5
  by_cases hc : t.val % 8 = 0
  · rw [outsAt0_A m c t hc]; frame_out
    canon_tiles x h
    all_goals rw [h0, h1]
    all_goals refine (congrArg _ (ix2_eta x)).trans ?_
    · rw [col_3 x1_lt]; exact dq3 R (H 384 (by decide) _ _ _) _ _
    · rw [col_2 x1_lt]; exact dq2 R (H 256 (by decide) _ _ _) _ _
    · rw [col_1 x1_lt]; exact dq1 R (H 128 (by decide) _ _ _) _ _
    · rw [col_0 x1_lt]; exact (dq0 R (H 0 (by decide) _ _ _) _ _).trans (by rw [Nat.zero_add])
  · rw [outsAt0_B m c t hc]; frame_out
    canon_tiles x h
    all_goals rw [h0, h1]
    all_goals refine (congrArg _ (ix2_eta x)).trans ?_
    · rw [col_3 x1_lt]; exact dq3 R (H 384 (by decide) _ _ _) _ _
    · rw [col_2 x1_lt]; exact dq2 R (H 256 (by decide) _ _ _) _ _
    · rw [col_1 x1_lt]; exact dq1 R (H 128 (by decide) _ _ _) _ _
    · rw [col_0 x1_lt]; exact (dq0 R (H 0 (by decide) _ _ _) _ _).trans (by rw [Nat.zero_add])

theorem end6 (c : Dev nD) : (dats m 0 c).arrAt 6 cfg0.N = G6 m c := by
  refine (dats m 0 c).arrAt_eq_of_covers 6 _ (by decide +kernel) fun t hf y => ?_
  blk_simp
  have R := rows m c t
  have H := head m c t
  obtain ⟨-, -, -, -, -, -, i6, -⟩ := idx_val t
  rw [after0_6]
  have e0 : ((((View.whole main_v0_1).slice (win0_6.rect t)).emb y) 0).val = 512 * t.val + (y 0).val := by blk_simp [i6] <;> try omega
  have e1 : ((((View.whole main_v0_1).slice (win0_6.rect t)).emb y) 1).val = (y 1).val := by blk_simp [i6] <;> try omega
  show _ = dz _ _ _ _ _ _ _
  rw [e0, e1]
  clear e0 e1 i6
  by_cases hc : t.val % 8 = 0
  · rw [outsAt0_A m c t hc]; frame_out
    canon_tiles x h
    all_goals rw [h0, h1]
    all_goals refine (congrArg _ (ix2_eta x)).trans ?_
    · rw [col_3 x1_lt]; exact dz3 R (H 384 (by decide) _ _ _) _ _
    · rw [col_2 x1_lt]; exact dz2 R (H 256 (by decide) _ _ _) _ _
    · rw [col_1 x1_lt]; exact dz1 R (H 128 (by decide) _ _ _) _ _
    · rw [col_0 x1_lt]; exact (dz0 R (H 0 (by decide) _ _ _) _ _).trans (by rw [Nat.zero_add])
  · rw [outsAt0_B m c t hc]; frame_out
    canon_tiles x h
    all_goals rw [h0, h1]
    all_goals refine (congrArg _ (ix2_eta x)).trans ?_
    · rw [col_3 x1_lt]; exact dz3 R (H 384 (by decide) _ _ _) _ _
    · rw [col_2 x1_lt]; exact dz2 R (H 256 (by decide) _ _ _) _ _
    · rw [col_1 x1_lt]; exact dz1 R (H 128 (by decide) _ _ _) _ _
    · rw [col_0 x1_lt]; exact (dz0 R (H 0 (by decide) _ _ _) _ _).trans (by rw [Nat.zero_add])

section Part
variable {Q Z D K : Nat → Nat → EReal} {t k l : Nat}
theorem part_k0 (h : l < 128) : part Q Z D K t k l = dkt Q Z D K 0 t k (0 + l) := by
  unfold part; rw [if_pos (by omega), col_0 h, Nat.zero_add]
theorem part_k1 (h : l < 128) : part Q Z D K t k (128 + l) = dkt Q Z D K 128 t k (128 + l) := by
  unfold part; rw [if_pos (by omega), col_1 h]
theorem part_k2 (h : l < 128) : part Q Z D K t k (256 + l) = dkt Q Z D K 256 t k (256 + l) := by
  unfold part; rw [if_pos (by omega), col_2 h]
theorem part_k3 (h : l < 128) : part Q Z D K t k (384 + l) = dkt Q Z D K 384 t k (384 + l) := by
  unfold part; rw [if_pos (by omega), col_3 h]
theorem part_v0 (h : l < 128) : part Q Z D K t k (512 + l) = dvt Q Z D K 0 t k (0 + l) := by
  unfold part; rw [if_neg (by omega), show 512 + l - 512 = l by omega, col_0 h, Nat.zero_add]
theorem part_v1 (h : l < 128) : part Q Z D K t k (640 + l) = dvt Q Z D K 128 t k (128 + l) := by
  unfold part; rw [if_neg (by omega), show 640 + l - 512 = 128 + l by omega, col_1 h]
theorem part_v2 (h : l < 128) : part Q Z D K t k (768 + l) = dvt Q Z D K 256 t k (256 + l) := by
  unfold part; rw [if_neg (by omega), show 768 + l - 512 = 256 + l by omega, col_2 h]
theorem part_v3 (h : l < 128) : part Q Z D K t k (896 + l) = dvt Q Z D K 384 t k (384 + l) := by
  unfold part; rw [if_neg (by omega), show 896 + l - 512 = 384 + l by omega, col_3 h]
end Part

theorem ld_col (P : Vec Ideal S256x1024 .f32) (o : Nat) (inb : ∀ a, (![0, o] : Fin 2 → Nat) a + (![256, 128] : Fin 2 → Nat) a ≤ S256x1024.size a)
    (y : S256x1024.Idx) (x : S256x128.Idx) (h0 : (y 0).val = (x 0).val) (h1 : (y 1).val = o + (x 1).val) :
    View.ld P (Rect.unit (s := S256x1024) ![0, o] ![256, 128] inb) x = P y := by
  refine congrArg P ?_
  funext a
  apply Fin.ext
  fin_cases a
  · show 0 + 1 * (x 0).val = (y 0).val; omega
  · show o + 1 * (x 1).val = (y 1).val; omega

theorem step7 (c : Dev nD) (t : Fin cfg0.N) (hc : ¬ t.val % 8 = 0) (y : S256x1024.Idx) : (outsAt0 m c t.val t.isLt).2.2 y
    = (outsAt0 m c (t.val - 1) (lt_of_le_of_lt (Nat.sub_le _ _) t.isLt)).2.2 y + part (Q m c) (Z m c) (D m c) (K m c) t.val (y 0).val (y 1).val := by
  have R := rows m c t
  have H := head m c t
  rw [outsAt0_B m c t hc]; frame_out
  generalize (outsAt0 m c (t.val - 1) (lt_of_le_of_lt (Nat.sub_le _ _) t.isLt)).2.2 = P
  canon_tiles x h
  all_goals rw [h0, h1]
  all_goals refine (congrArg _ (ix2_eta x)).trans ?_
  · rw [part_v3 x1_lt]; exact (dv3 R (H 384 (by decide) inb_S512x512_S512x128_0_384 inb_S256x512_S256x128_0_384 inb_S256x512_S256x128_0_384) _ _ _).trans (congrArg (· + _) (ld_col P 896 _ y _ h0 h1))
  · rw [part_k3 x1_lt]; exact (dk3 R (H 384 (by decide) inb_S512x512_S512x128_0_384 inb_S256x512_S256x128_0_384 inb_S256x512_S256x128_0_384) _ _ _).trans (congrArg (· + _) (ld_col P 384 _ y _ h0 h1))
  · rw [part_v2 x1_lt]; exact (dv2 R (H 256 (by decide) inb_S512x512_S512x128_0_256 inb_S256x512_S256x128_0_256 inb_S256x512_S256x128_0_256) _ _ _).trans (congrArg (· + _) (ld_col P 768 _ y _ h0 h1))
  · rw [part_k2 x1_lt]; exact (dk2 R (H 256 (by decide) inb_S512x512_S512x128_0_256 inb_S256x512_S256x128_0_256 inb_S256x512_S256x128_0_256) _ _ _).trans (congrArg (· + _) (ld_col P 256 _ y _ h0 h1))
  · rw [part_v1 x1_lt]; exact (dv1 R (H 128 (by decide) inb_S512x512_S512x128_0_128 inb_S256x512_S256x128_0_128 inb_S256x512_S256x128_0_128) _ _ _).trans (congrArg (· + _) (ld_col P 640 _ y _ h0 h1))
  · rw [part_k1 x1_lt]; exact (dk1 R (H 128 (by decide) inb_S512x512_S512x128_0_128 inb_S256x512_S256x128_0_128 inb_S256x512_S256x128_0_128) _ _ _).trans (congrArg (· + _) (ld_col P 128 _ y _ h0 h1))
  · rw [part_v0 x1_lt]; exact (dv0 R (H 0 (by decide) inb_S512x512_S512x128_0_0 inb_S256x512_S256x128_0_0 inb_S256x512_S256x128_0_0) _ _ _).trans (congrArg (· + _) (ld_col P 512 _ y _ h0 h1))
  · rw [part_k0 x1_lt]; exact (dk0 R (H 0 (by decide) inb_S512x512_S512x128_0_0 inb_S256x512_S256x128_0_0 inb_S256x512_S256x128_0_0) _ _ _).trans (congrArg (· + _) (ld_col P 0 _ y _ h0 (h1.trans (Nat.zero_add _).symm)))

theorem zero_at (y : S256x1024.Idx) : k0_pay3 (F := Ideal) y = 0 := by
  rw [ix2_eta y]
  pointwise [k0_pay3]

section Cols
variable {o : Nat} (inb : ∀ a, (![0, o] : Fin 2 → Nat) a + (![256, 128] : Fin 2 → Nat) a ≤ S256x1024.size a)
    (w : Vec Ideal S256x128 .f32) (L : List (View.Piece (Elt Ideal) S256x1024 .f32)) (y : S256x1024.Idx)

/-- A stored block of columns read back, and the columns a store leaves alone. -/
theorem canon_hit (x : S256x128.Idx) (h0 : (y 0).val = (x 0).val) (h1 : (y 1).val = o + (x 1).val) :
    View.canon ((⟨Rect.unit (s := S256x1024) ![0, o] ![256, 128] inb, w⟩ : View.Piece (Elt Ideal) S256x1024 .f32) :: L) y = w x := by
  have e : (Rect.unit (s := S256x1024) ![0, o] ![256, 128] inb).emb x = y := by
    funext a
    apply Fin.ext
    fin_cases a
    · show 0 + 1 * (x 0).val = (y 0).val; omega
    · show o + 1 * (x 1).val = (y 1).val; omega
  rw [← e]
  exact View.canon_cons_emb _ _ _ _

theorem canon_miss (h : (y 1).val < o ∨ o + 128 ≤ (y 1).val) :
    View.canon ((⟨Rect.unit (s := S256x1024) ![0, o] ![256, 128] inb, w⟩ : View.Piece (Elt Ideal) S256x1024 .f32) :: L) y = View.canon L y := by
  refine View.canon_cons_of_not_mem _ _ ?_
  rw [Rect.mem_set_unit]
  intro hall
  have h1 : o ≤ (y 1).val ∧ (y 1).val < o + 128 := hall 1
  omega
end Cols

theorem init7 (c : Dev nD) (t : Fin cfg0.N) (hc : t.val % 8 = 0) (y : S256x1024.Idx) : (outsAt0 m c t.val t.isLt).2.2 y
    = 0 + part (Q m c) (Z m c) (D m c) (K m c) t.val (y 0).val (y 1).val := by
  have R := rows m c t
  have H := head m c t
  have hy : (y 1).val < 1024 := (y 1).isLt
  rw [outsAt0_A m c t hc]; frame_out
  have hb : ∃ b : Fin 8, ∃ l : Fin 128, (y 1).val = 128 * b.val + l.val :=
    ⟨⟨(y 1).val / 128, by omega⟩, ⟨(y 1).val % 128, by omega⟩, (Nat.div_add_mod _ _).symm⟩
  obtain ⟨b, l, e⟩ := hb
  have x1_lt := l.isLt
  fin_cases b
  · have h1 : (y 1).val = 0 + l.val := e
    iterate 7 refine (canon_miss _ _ _ _ (by omega)).trans ?_
    refine (canon_hit _ _ _ y (ix2 (y 0) l) rfl h1).trans ?_
    rw [h1, Nat.zero_add, part_k0 x1_lt]
    refine (dk0 R (H 0 (by decide) inb_S512x512_S512x128_0_0 inb_S256x512_S256x128_0_0 inb_S256x512_S256x128_0_0) _ _ _).trans (congrArg (· + _) ?_)
    exact (congrFun (View.readCov_fill _ _ _ _ _ (by decide)) _).trans (zero_at _)
  · have h1 : (y 1).val = 128 + l.val := e
    iterate 5 refine (canon_miss _ _ _ _ (by omega)).trans ?_
    refine (canon_hit _ _ _ y (ix2 (y 0) l) rfl h1).trans ?_
    rw [h1, part_k1 x1_lt]
    refine (dk1 R (H 128 (by decide) inb_S512x512_S512x128_0_128 inb_S256x512_S256x128_0_128 inb_S256x512_S256x128_0_128) _ _ _).trans (congrArg (· + _) ?_)
    iterate 2 refine (congrFun (View.readCov_skip _ _ _ _ _ rfl) _).trans ?_
    exact (congrFun (View.readCov_fill _ _ _ _ _ (by decide)) _).trans (zero_at _)
  · have h1 : (y 1).val = 256 + l.val := e
    iterate 3 refine (canon_miss _ _ _ _ (by omega)).trans ?_
    refine (canon_hit _ _ _ y (ix2 (y 0) l) rfl h1).trans ?_
    rw [h1, part_k2 x1_lt]
    refine (dk2 R (H 256 (by decide) inb_S512x512_S512x128_0_256 inb_S256x512_S256x128_0_256 inb_S256x512_S256x128_0_256) _ _ _).trans (congrArg (· + _) ?_)
    iterate 4 refine (congrFun (View.readCov_skip _ _ _ _ _ rfl) _).trans ?_
    exact (congrFun (View.readCov_fill _ _ _ _ _ (by decide)) _).trans (zero_at _)
  · have h1 : (y 1).val = 384 + l.val := e
    iterate 1 refine (canon_miss _ _ _ _ (by omega)).trans ?_
    refine (canon_hit _ _ _ y (ix2 (y 0) l) rfl h1).trans ?_
    rw [h1, part_k3 x1_lt]
    refine (dk3 R (H 384 (by decide) inb_S512x512_S512x128_0_384 inb_S256x512_S256x128_0_384 inb_S256x512_S256x128_0_384) _ _ _).trans (congrArg (· + _) ?_)
    iterate 6 refine (congrFun (View.readCov_skip _ _ _ _ _ rfl) _).trans ?_
    exact (congrFun (View.readCov_fill _ _ _ _ _ (by decide)) _).trans (zero_at _)
  · have h1 : (y 1).val = 512 + l.val := e
    iterate 6 refine (canon_miss _ _ _ _ (by omega)).trans ?_
    refine (canon_hit _ _ _ y (ix2 (y 0) l) rfl h1).trans ?_
    rw [h1, part_v0 x1_lt]
    refine (dv0 R (H 0 (by decide) inb_S512x512_S512x128_0_0 inb_S256x512_S256x128_0_0 inb_S256x512_S256x128_0_0) _ _ _).trans (congrArg (· + _) ?_)
    iterate 1 refine (congrFun (View.readCov_skip _ _ _ _ _ rfl) _).trans ?_
    exact (congrFun (View.readCov_fill _ _ _ _ _ (by decide)) _).trans (zero_at _)
  · have h1 : (y 1).val = 640 + l.val := e
    iterate 4 refine (canon_miss _ _ _ _ (by omega)).trans ?_
    refine (canon_hit _ _ _ y (ix2 (y 0) l) rfl h1).trans ?_
    rw [h1, part_v1 x1_lt]
    refine (dv1 R (H 128 (by decide) inb_S512x512_S512x128_0_128 inb_S256x512_S256x128_0_128 inb_S256x512_S256x128_0_128) _ _ _).trans (congrArg (· + _) ?_)
    iterate 3 refine (congrFun (View.readCov_skip _ _ _ _ _ rfl) _).trans ?_
    exact (congrFun (View.readCov_fill _ _ _ _ _ (by decide)) _).trans (zero_at _)
  · have h1 : (y 1).val = 768 + l.val := e
    iterate 2 refine (canon_miss _ _ _ _ (by omega)).trans ?_
    refine (canon_hit _ _ _ y (ix2 (y 0) l) rfl h1).trans ?_
    rw [h1, part_v2 x1_lt]
    refine (dv2 R (H 256 (by decide) inb_S512x512_S512x128_0_256 inb_S256x512_S256x128_0_256 inb_S256x512_S256x128_0_256) _ _ _).trans (congrArg (· + _) ?_)
    iterate 5 refine (congrFun (View.readCov_skip _ _ _ _ _ rfl) _).trans ?_
    exact (congrFun (View.readCov_fill _ _ _ _ _ (by decide)) _).trans (zero_at _)
  · have h1 : (y 1).val = 896 + l.val := e
    refine (canon_hit _ _ _ y (ix2 (y 0) l) rfl h1).trans ?_
    rw [h1, part_v3 x1_lt]
    refine (dv3 R (H 384 (by decide) inb_S512x512_S512x128_0_384 inb_S256x512_S256x128_0_384 inb_S256x512_S256x128_0_384) _ _ _).trans (congrArg (· + _) ?_)
    iterate 7 refine (congrFun (View.readCov_skip _ _ _ _ _ rfl) _).trans ?_
    exact (congrFun (View.readCov_fill _ _ _ _ _ (by decide)) _).trans (zero_at _)

theorem end7 (c : Dev nD) : (dats m 0 c).arrAt 7 cfg0.N = G7 m c := by
  refine (dats m 0 c).arrAt_eq_of_after_last 7 t0_7 (by decide +kernel) _ fun j => ?_
  blk_simp
  rw [after0_7]
  rw [Pipeline.eq_sum_fin_of_reset_step_apply_last (fun n h => (outsAt0 m c n h).2.2) 8 (fun _ => 0) (fun p j => part (Q m c) (Z m c) (D m c) (K m c) p.val (j 0).val (j 1).val)
    (fun t h j => init7 m c t h _) (fun t h j => step7 m c t h _) (le_of_eq N_0) t0_7 rfl j, zero_add]
  rfl

end Cert.MemAttnIdeal.Hand

namespace Cert.MemAttnProof

open Cert.MemSpec Cert.Reals

/-- The side conditions of the precondition's text. -/
theorem pre_facts : Cert.Pre_finite_memattn.Facts where
  bcast_S_S4096x512 := by decide
  reducesTo_S4096x512_S_d0_1 := by decide
  h_S_ := by decide
  bcast_S_S256x1024 := by decide
  reducesTo_S256x1024_S_d0_1 := by decide

/-- The run of the reference, as a frame. -/
theorem ref_frame : Cert.quiescent_MemAttnRefIdeal (hMemAttnRefIdeal := Cert.MemAttnRefIdeal.Gen.facts) := fun m ρ _ =>
  (θ_run Cert.MemAttnRefIdeal.defs _ _).mono (fun r h => ⟨fun c => (h c).2.2.2, Idealize.ShloMosaic.sem_eq_zero_of_no_sems (by decide) r.2⟩)
    (Cert.MemAttnRefIdeal.Value.run (F := Ideal) m ρ)

instance : Subsingleton Cert.Pre_finite_memattn.S_.Idx := ⟨fun a b => funext fun k => k.elim0⟩

/-- The precondition says that every element of the four arguments is a real number. -/
theorem reals (q z : FVec Ideal Cert.Pre_finite_memattn.S4096x512 .bf16) (k : FVec Ideal Cert.Pre_finite_memattn.S256x1024 .bf16)
    (d : FVec Ideal Cert.Pre_finite_memattn.S4096x512 .bf16) (h : @Cert.Pre_finite_memattn.fn pre_facts Ideal _ q z k d = fun _ => 1#1) :
    (∀ i, IsR (q i)) ∧ (∀ i, IsR (z i)) ∧ (∀ i, IsR (k i)) ∧ ∀ i, IsR (d i) := by
  have h0 := congrFun h (fun k => k.elim0)
  unfold Cert.Pre_finite_memattn.fn Cert.Pre_finite_memattn.fn_part1 at h0
  obtain ⟨h1, hd⟩ := and_one h0
  obtain ⟨h2, hk⟩ := and_one h1
  obtain ⟨hq, hz⟩ := and_one h2
  exact ⟨fun i => isR_all _ _ inf_bf16 _ _ _ _ _ _ hq i, fun i => isR_all _ _ inf_bf16 _ _ _ _ _ _ hz i,
    fun i => isR_all _ _ inf_bf16 _ _ _ _ _ _ hk i, fun i => isR_all _ _ inf_bf16 _ _ _ _ _ _ hd i⟩

theorem value : Cert.algebraic_MemAttnIdeal_MemAttnRefIdeal_pre_finite_memattn (hMemAttnIdeal := Cert.MemAttnIdeal.Gen.facts)
    (hMemAttnRefIdeal := Cert.MemAttnRefIdeal.Gen.facts) (hPre_finite_memattn := pre_facts) := by
  intro m ρ m' ρ' hpre hagree
  refine ⟨fun c => _, fun c => _, fun c => _, Cert.MemAttnIdeal.Value.run_blocks (F := Ideal) m ρ, ?_⟩
  refine (θ_run Cert.MemAttnRefIdeal.defs _ _).mono (fun r h c => ?_) (Cert.MemAttnRefIdeal.Value.run (F := Ideal) m' ρ')
  obtain ⟨h1, h2, h3, hargs⟩ := h c
  obtain ⟨a0, a1, a2, a3⟩ := hagree c
  obtain ⟨rq, rz, rk, rd'⟩ := reals _ _ _ _ (hpre c)
  have e0 : Cert.MemAttnRefIdeal.Hand.A0 m' c = Cert.MemAttnIdeal.Hand.A0 m c := a0
  have e1 : Cert.MemAttnRefIdeal.Hand.A1 m' c = Cert.MemAttnIdeal.Hand.A1 m c := a1
  have e2 : Cert.MemAttnRefIdeal.Hand.A2 m' c = Cert.MemAttnIdeal.Hand.A2 m c := a2
  have e3 : Cert.MemAttnRefIdeal.Hand.A3 m' c = Cert.MemAttnIdeal.Hand.A3 m c := a3
  refine ⟨h1.trans ?_, h2.trans ?_, h3.trans ?_, hargs⟩
  · refine Eq.trans ?_ (Cert.MemAttnIdeal.Hand.end5 m c).symm
    refine (Cert.MemAttnRefIdeal.Hand.res_dq m' c).trans ?_
    rw [e0, e1, e2, e3]
    funext j
    rw [Cert.MemAttnIdeal.Hand.ix2_eta j]
    exact Cert.MemAttnRefIdeal.Hand.DQ_at rq rz rd' rk _ _
  · refine Eq.trans ?_ (Cert.MemAttnIdeal.Hand.end6 m c).symm
    refine (Cert.MemAttnRefIdeal.Hand.res_dz m' c).trans ?_
    rw [e0, e1, e2, e3]
    funext j
    rw [Cert.MemAttnIdeal.Hand.ix2_eta j]
    exact Cert.MemAttnRefIdeal.Hand.DZ_at rq rz rd' rk _ _
  · refine Eq.trans ?_ (Cert.MemAttnIdeal.Hand.end7 m c).symm
    refine (Cert.MemAttnRefIdeal.Hand.res_dm m' c).trans ?_
    rw [e0, e1, e2, e3]
    funext j
    rw [Cert.MemAttnIdeal.Hand.ix2_eta j]
    exact Cert.MemAttnRefIdeal.Hand.DM_at rq rz rd' rk _ _

end Cert.MemAttnProof

end
-- ==== Proof.MidRun.lean ====
module

public import proofs.«01_k».proof.Proof.Gen.MidIdeal.Frame.Runs

@[expose] public section

set_option maxRecDepth 16384

noncomputable section

/-! The body of the middle kernel run once, on any staging buffers. It loads the two weight matrices into its own buffers
at the first grid point only (nine transfers started together, eight of them column slabs of one array), so there are two
runs: `first`, with the transfers, and `later`, over the weights already loaded and the sums reached so far. -/

namespace Cert.MidIdeal.Hand

open Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A buffer on core `c` after the stores `L`, over whatever it held. -/
abbrev wrote (c : Dev nD) {S : Shape} {e : EltTy} (a : Memref sig .tc .vmem S e) (L : List (View.Piece (Elt F) S e)) : sProp 𝕄 :=
  iprop(∃ f, a.view.loc (c : Thread nD τ) ↦[a.view.set]{fullShare} a.view.writes (Elt F) f L)

/-- A buffer holding anything. -/
abbrev free (c : Dev nD) {S : Shape} {e : EltTy} (a : Memref sig .tc .vmem S e) : sProp 𝕄 :=
  iprop(∃ d, owns (c : Thread nD τ) a fullShare d)

/-- Stores which cover the buffer leave it at their values. -/
theorem wrote_owns (c : Dev nD) {S : Shape} {e : EltTy} (a : Memref sig .tc .vmem S e) (L : List (View.Piece (Elt F) S e))
    (h : ∀ y, ∃ p ∈ L, y ∈ p.1.set) : wrote c a L ⊢ owns (c : Thread nD τ) a fullShare (View.canon L) := by
  unfold owns
  iintro ⟨%f, H⟩
  iexists _; isplitr
  swap; · iexact H
  ipureintro; exact View.read_writes_eq_canon _ _ _ h

/-- The kernel's nine semaphores at rest. -/
def cells (c : Dev nD) : sProp 𝕄 :=
  iprop(semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0)

/-- The two weight arrays where the launch put them. -/
def arrays (c : Dev nD) (fu : HbBuf0 (F := F) c hbM0_0) (fo : HbBuf0 (F := F) c hbM0_1) : sProp 𝕄 :=
  iprop(hbPt0 c hbM0_0 fu ∗ hbPt0 c hbM0_1 fo)

section
variable (c : Dev nD) (i : grid0.Coords)
  (a1 : Memref sig .tc .vmem S256x512 .bf16) (h1 : a1.IsWhole)
  (a2 : Memref sig .tc .vmem S256x512 .bf16) (h2 : a2.IsWhole)
  (a3 : Memref sig .tc .vmem S256x512 .bf16) (h3 : a3.IsWhole)
  (a4 : Memref sig .tc .vmem S256x3072 .bf16) (h4 : a4.IsWhole)
  (a5 : Memref sig .tc .vmem S256x1024 .f32) (h5 : a5.IsWhole)
  (a6 : Memref sig .tc .vmem S256x1024 .f32) (h6 : a6.IsWhole)
  (a7 : Memref sig .tc .vmem S1x1024 .f32) (h7 : a7.IsWhole)
  (a10 : Memref sig .tc .vmem S256x3072 .bf16) (h10 : a10.IsWhole)
  (a11 : Memref sig .tc .vmem S256x512 .bf16) (h11 : a11.IsWhole)
  (a12 : Memref sig .tc .vmem S256x512 .bf16) (h12 : a12.IsWhole)
  (a13 : Memref sig .tc .vmem S256x512 .bf16) (h13 : a13.IsWhole)
  (a14 : Memref sig .tc .vmem S256x1024 .f32) (h14 : a14.IsWhole)
  (a15 : Memref sig .tc .vmem S8x128 .f32) (h15 : a15.IsWhole)
  (a16 : Memref sig .tc .vmem S1x1024 .f32) (h16 : a16.IsWhole)
  (a17 : Memref sig .tc .vmem S256x1024 .bf16) (h17 : a17.IsWhole)
  (a18 : Memref sig .tc .vmem S256x1024 .bf16) (h18 : a18.IsWhole)
  (a19 : Memref sig .tc .vmem S3x256x1024 .bf16) (h19 : a19.IsWhole)
  (a20 : Memref sig .tc .vmem S1536x1024 .bf16) (h20 : a20.IsWhole)
  (a21 : Memref sig .tc .vmem S1024x1024 .bf16) (h21 : a21.IsWhole)
  (x0 : Vec F S256x512 .bf16)
  (x1 : Vec F S256x512 .bf16)
  (x2 : Vec F S256x512 .bf16)
  (x3 : Vec F S256x3072 .bf16)
  (x4 : Vec F S256x1024 .f32)
  (x5 : Vec F S256x1024 .f32)
  (x6 : Vec F S1x1024 .f32)

/-- The seven inputs' buffers at their blocks. -/
def given : sProp 𝕄 :=
  iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6)

/-- The body's call. -/
abbrev body : Prog (TpuEff nD τ sig (Elt F) Λ₀ .tc) PUnit :=
  cc0_mid i a1 h1 a2 h2 a3 h3 a4 h4 a5 h5 a6 h6 a7 h7 (Memref.whole main_arg7) (Memref.isWhole_whole _) (Memref.whole main_arg8) (Memref.isWhole_whole _) a10 h10 a11 h11 a12 h12 a13 h13 a14 h14 a15 h15 a16 h16 a17 h17 a18 h18 a19 h19 a20 h20 a21 h21 cc0_scratch2

/-- What the buffers of the outputs hold after the stores. -/
abbrev stored (L7 : List (View.Piece (Elt F) S256x3072 .bf16)) (L8 : List (View.Piece (Elt F) S256x512 .bf16)) (L9 : List (View.Piece (Elt F) S256x512 .bf16)) (L10 : List (View.Piece (Elt F) S256x512 .bf16)) (L11 : List (View.Piece (Elt F) S256x1024 .f32)) (L12 : List (View.Piece (Elt F) S8x128 .f32)) (L13 : List (View.Piece (Elt F) S1x1024 .f32)) (L14 : List (View.Piece (Elt F) S256x1024 .bf16)) (L15 : List (View.Piece (Elt F) S256x1024 .bf16)) (L16 : List (View.Piece (Elt F) S3x256x1024 .bf16)) : sProp 𝕄 :=
  iprop(wrote c a10 L7 ∗ wrote c a11 L8 ∗ wrote c a12 L9 ∗ wrote c a13 L10 ∗ wrote c a14 L11 ∗ wrote c a15 L12 ∗ wrote c a16 L13 ∗ wrote c a17 L14 ∗ wrote c a18 L15 ∗ wrote c a19 L16)

set_option maxHeartbeats 2000000 in set_option sl_exec.dmaWindow true in set_option sl_exec.dmaWindowSet true in
/-- The first point: the transfers, then the tile; the stores left in each buffer are found by running it. -/
def first (hc : cond0_0 i) (hd : cond0_1 i) (fu : HbBuf0 (F := F) c hbM0_0) (fo : HbBuf0 (F := F) c hbM0_1) :
    Σ' (L7 : List (View.Piece (Elt F) S256x3072 .bf16)), Σ' (L8 : List (View.Piece (Elt F) S256x512 .bf16)), Σ' (L9 : List (View.Piece (Elt F) S256x512 .bf16)), Σ' (L10 : List (View.Piece (Elt F) S256x512 .bf16)), Σ' (L11 : List (View.Piece (Elt F) S256x1024 .f32)), Σ' (L12 : List (View.Piece (Elt F) S8x128 .f32)), Σ' (L13 : List (View.Piece (Elt F) S1x1024 .f32)), Σ' (L14 : List (View.Piece (Elt F) S256x1024 .bf16)), Σ' (L15 : List (View.Piece (Elt F) S256x1024 .bf16)), Σ' (L16 : List (View.Piece (Elt F) S3x256x1024 .bf16)), Σ' (LU : List (View.Piece (Elt F) S1536x1024 .bf16)), { LO : List (View.Piece (Elt F) S1024x1024 .bf16) //
      ∀ (W : Waits sig Unit) (K : PUnit → sProp 𝕄),
        iprop(given c a1 a2 a3 a4 a5 a6 a7 x0 x1 x2 x3 x4 x5 x6 ∗ free c a10 ∗ free c a11 ∗ free c a12 ∗ free c a13 ∗ free c a14 ∗ free c a15 ∗ free c a16 ∗ free c a17 ∗ free c a18 ∗ free c a19 ∗ free c a20 ∗ free c a21 ∗ cells c ∗ arrays c fu fo ∗ owes (c : Thread nD τ) 0 W
            ∗ (iprop(given c a1 a2 a3 a4 a5 a6 a7 x0 x1 x2 x3 x4 x5 x6 ∗ stored c a10 a11 a12 a13 a14 a15 a16 a17 a18 a19 L7 L8 L9 L10 L11 L12 L13 L14 L15 L16 ∗ wrote c a20 LU ∗ wrote c a21 LO ∗ cells c ∗ arrays c fu fo ∗ (∃ W, owes (c : Thread nD τ) 0 W)) -∗ K ⟨⟩))
          ⊢ wp frame (wpE (defs₀ (F := F)) Variants.none c none) Set.univ (body i a1 h1 a2 h2 a3 h3 a4 h4 a5 h5 a6 h6 a7 h7 a10 h10 a11 h11 a12 h12 a13 h13 a14 h14 a15 h15 a16 h16 a17 h17 a18 h18 a19 h19 a20 h20 a21 h21) K } := by
  refine ⟨?_, ?_, ?_, ?_, ?_, ?_, ?_, ?_, ?_, ?_, ?_, ?_, fun W K => ?run⟩
  case run =>
    unfold body given free stored wrote cells arrays
    simp only [cc0_mid_eq_skeleton]; unfold cc0_mid_skel
    simp only [k0_part4_eq_skeleton, k0_part1_eq_skeleton, k0_part2_eq_skeleton, k0_part3_eq_skeleton, k0_part5_eq_skeleton, k0_part6_eq_skeleton, k0_part7_eq_skeleton]
    unfold owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%du, %fu1, -, HU⟩, ⟨%dd, %fo1, -, HO⟩, ⟨Hq0, Hq1, Hq2, Hq3, Hq4, Hq5, Hq6, Hq7, Hq8⟩, ⟨Hh0, Hh1⟩, HW, Hk⟩
    obtain rfl := h1.eq_unread e0; obtain rfl := h2.eq_unread e1; obtain rfl := h3.eq_unread e2; obtain rfl := h4.eq_unread e3; obtain rfl := h5.eq_unread e4; obtain rfl := h6.eq_unread e5; obtain rfl := h7.eq_unread e6
    sl_exec (disch := first | sl_exact hc | sl_exact hd)
    sl_step
    iapply Hk
    isplitl [H0 H1 H2 H3 H4 H5 H6]
    · isplitl [H0]
      · iexists _; isplitr; · ipureintro; exact h1.read_unread _
        iexact H0
      isplitl [H1]
      · iexists _; isplitr; · ipureintro; exact h2.read_unread _
        iexact H1
      isplitl [H2]
      · iexists _; isplitr; · ipureintro; exact h3.read_unread _
        iexact H2
      isplitl [H3]
      · iexists _; isplitr; · ipureintro; exact h4.read_unread _
        iexact H3
      isplitl [H4]
      · iexists _; isplitr; · ipureintro; exact h5.read_unread _
        iexact H4
      isplitl [H5]
      · iexists _; isplitr; · ipureintro; exact h6.read_unread _
        iexact H5
      iexists _; isplitr; · ipureintro; exact h7.read_unread _
      iexact H6
    isplitl [H7 H8 H9 H10 H11 H12 H13 H14 H15 H16]
    · isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      iexists _; iexact H16
    isplitl [HU]; · iexists _; iexact HU
    isplitl [HO]; · iexists _; iexact HO
    isplitl [Hq0 Hq1 Hq2 Hq3 Hq4 Hq5 Hq6 Hq7 Hq8]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      iexact Hq8
    isplitl [Hh0 Hh1]
    · isplitl [Hh0]; · iexact Hh0
      iexact Hh1
    iexists _; iexact HW

set_option maxHeartbeats 2000000 in
/-- A later point: the tile over the loaded weights `wu`, `wo`, the loss `l` and the scale gradient `g` so far. -/
def later (hc : ¬cond0_0 i) (hd : ¬cond0_1 i) (l : Vec F S8x128 .f32) (g : Vec F S1x1024 .f32) (wu : Vec F S1536x1024 .bf16) (wo : Vec F S1024x1024 .bf16) :
    Σ' (L7 : List (View.Piece (Elt F) S256x3072 .bf16)), Σ' (L8 : List (View.Piece (Elt F) S256x512 .bf16)), Σ' (L9 : List (View.Piece (Elt F) S256x512 .bf16)), Σ' (L10 : List (View.Piece (Elt F) S256x512 .bf16)), Σ' (L11 : List (View.Piece (Elt F) S256x1024 .f32)), Σ' (L12 : List (View.Piece (Elt F) S8x128 .f32)), Σ' (L13 : List (View.Piece (Elt F) S1x1024 .f32)), Σ' (L14 : List (View.Piece (Elt F) S256x1024 .bf16)), Σ' (L15 : List (View.Piece (Elt F) S256x1024 .bf16)), { L16 : List (View.Piece (Elt F) S3x256x1024 .bf16) //
      ∀ (W : Waits sig Unit) (K : PUnit → sProp 𝕄),
        iprop(given c a1 a2 a3 a4 a5 a6 a7 x0 x1 x2 x3 x4 x5 x6 ∗ free c a10 ∗ free c a11 ∗ free c a12 ∗ free c a13 ∗ free c a14 ∗ owns (c : Thread nD τ) a15 fullShare l ∗ owns (c : Thread nD τ) a16 fullShare g ∗ free c a17 ∗ free c a18 ∗ free c a19 ∗ owns (c : Thread nD τ) a20 fullShare wu ∗ owns (c : Thread nD τ) a21 fullShare wo ∗ owes (c : Thread nD τ) 0 W
            ∗ (iprop(given c a1 a2 a3 a4 a5 a6 a7 x0 x1 x2 x3 x4 x5 x6 ∗ stored c a10 a11 a12 a13 a14 a15 a16 a17 a18 a19 L7 L8 L9 L10 L11 L12 L13 L14 L15 L16 ∗ owns (c : Thread nD τ) a20 fullShare wu ∗ owns (c : Thread nD τ) a21 fullShare wo ∗ (∃ W, owes (c : Thread nD τ) 0 W)) -∗ K ⟨⟩))
          ⊢ wp frame (wpE (defs₀ (F := F)) Variants.none c none) Set.univ (body i a1 h1 a2 h2 a3 h3 a4 h4 a5 h5 a6 h6 a7 h7 a10 h10 a11 h11 a12 h12 a13 h13 a14 h14 a15 h15 a16 h16 a17 h17 a18 h18 a19 h19 a20 h20 a21 h21) K } := by
  refine ⟨?_, ?_, ?_, ?_, ?_, ?_, ?_, ?_, ?_, ?_, fun W K => ?run⟩
  case run =>
    unfold body given free stored wrote
    simp only [cc0_mid_eq_skeleton]; unfold cc0_mid_skel
    simp only [k0_part4_eq_skeleton, k0_part5_eq_skeleton, k0_part6_eq_skeleton, k0_part7_eq_skeleton]
    unfold owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩, ⟨%d7, %f7, -, H7⟩, ⟨%d8, %f8, -, H8⟩, ⟨%d9, %f9, -, H9⟩, ⟨%d10, %f10, -, H10⟩, ⟨%d11, %f11, -, H11⟩, ⟨%f12, %e12, H12⟩, ⟨%f13, %e13, H13⟩, ⟨%d14, %f14, -, H14⟩, ⟨%d15, %f15, -, H15⟩, ⟨%d16, %f16, -, H16⟩, ⟨%fu, %eu, HU⟩, ⟨%fo, %eo, HO⟩, HW, Hk⟩
    obtain rfl := h1.eq_unread e0; obtain rfl := h2.eq_unread e1; obtain rfl := h3.eq_unread e2; obtain rfl := h4.eq_unread e3; obtain rfl := h5.eq_unread e4; obtain rfl := h6.eq_unread e5; obtain rfl := h7.eq_unread e6; obtain rfl := h15.eq_unread e12; obtain rfl := h16.eq_unread e13; obtain rfl := h20.eq_unread eu; obtain rfl := h21.eq_unread eo
    sl_exec (disch := first | sl_exact hc | sl_exact hd)
    sl_step
    iapply Hk
    isplitl [H0 H1 H2 H3 H4 H5 H6]
    · isplitl [H0]
      · iexists _; isplitr; · ipureintro; exact h1.read_unread _
        iexact H0
      isplitl [H1]
      · iexists _; isplitr; · ipureintro; exact h2.read_unread _
        iexact H1
      isplitl [H2]
      · iexists _; isplitr; · ipureintro; exact h3.read_unread _
        iexact H2
      isplitl [H3]
      · iexists _; isplitr; · ipureintro; exact h4.read_unread _
        iexact H3
      isplitl [H4]
      · iexists _; isplitr; · ipureintro; exact h5.read_unread _
        iexact H4
      isplitl [H5]
      · iexists _; isplitr; · ipureintro; exact h6.read_unread _
        iexact H5
      iexists _; isplitr; · ipureintro; exact h7.read_unread _
      iexact H6
    isplitl [H7 H8 H9 H10 H11 H12 H13 H14 H15 H16]
    · isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      iexists _; iexact H16
    isplitl [HU]
    · iexists _; isplitr; · ipureintro; exact h20.read_unread _
      iexact HU
    isplitl [HO]
    · iexists _; isplitr; · ipureintro; exact h21.read_unread _
      iexact HO
    iexists _; iexact HW

end

end Cert.MidIdeal.Hand

end
-- ==== Proof.MidFrame.lean ====
module

public import proofs.«01_k».proof.Proof.MidRun
public import Idealize.ShloMosaic.Lib.Claim
public import Idealize.ShloMosaic.Lib.Pipeline.Value

@[expose] public section

set_option maxRecDepth 16384

noncomputable section

/-! The frame of the middle kernel: what its run leaves in every buffer at every grid point, and the run of the whole
program from any memory. -/

namespace Cert.MidIdeal.Hand

open Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first point's run, on the pipeline's buffers. -/
def runFirst (c : Dev nD) (t : Fin cfg0.N) (h : t.val % 16 = 0) :=
  first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) ((hcond0_0 t).mpr h) ((hcond0_1 t).mpr h) (V m c main_arg7) (V m c main_arg8)

/-- A later point's run. -/
def runLater (c : Dev nD) (t : Fin cfg0.N) (h : ¬t.val % 16 = 0) (l : Vec F S8x128 .f32) (g : Vec F S1x1024 .f32)
    (wu : Vec F S1536x1024 .bf16) (wo : Vec F S1024x1024 .bf16) :=
  later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (fun e => h ((hcond0_0 t).mp e)) (fun e => h ((hcond0_1 t).mp e)) l g wu wo

/-- The stores of a first point cover every output. -/
theorem coverFirst (c : Dev nD) (t : Fin cfg0.N) (h : t.val % 16 = 0) :
    (∀ y, ∃ p ∈ (runFirst m c t h).1, y ∈ p.1.set)
    ∧ (∀ y, ∃ p ∈ (runFirst m c t h).2.1, y ∈ p.1.set)
    ∧ (∀ y, ∃ p ∈ (runFirst m c t h).2.2.1, y ∈ p.1.set)
    ∧ (∀ y, ∃ p ∈ (runFirst m c t h).2.2.2.1, y ∈ p.1.set)
    ∧ (∀ y, ∃ p ∈ (runFirst m c t h).2.2.2.2.1, y ∈ p.1.set)
    ∧ (∀ y, ∃ p ∈ (runFirst m c t h).2.2.2.2.2.1, y ∈ p.1.set)
    ∧ (∀ y, ∃ p ∈ (runFirst m c t h).2.2.2.2.2.2.1, y ∈ p.1.set)
    ∧ (∀ y, ∃ p ∈ (runFirst m c t h).2.2.2.2.2.2.2.1, y ∈ p.1.set)
    ∧ (∀ y, ∃ p ∈ (runFirst m c t h).2.2.2.2.2.2.2.2.1, y ∈ p.1.set)
    ∧ (∀ y, ∃ p ∈ (runFirst m c t h).2.2.2.2.2.2.2.2.2.1, y ∈ p.1.set)
    ∧ (∀ y, ∃ p ∈ (runFirst m c t h).2.2.2.2.2.2.2.2.2.2.1, y ∈ p.1.set)
    ∧ (∀ y, ∃ p ∈ (runFirst m c t h).2.2.2.2.2.2.2.2.2.2.2.1, y ∈ p.1.set) :=
  ⟨View.cover_of_tiledL _ S256x1024.size (by sl_kernel_rfl),
    View.cover_of_tiledL _ S256x512.size (by sl_kernel_rfl),
    View.cover_of_tiledL _ S256x512.size (by sl_kernel_rfl),
    View.cover_of_tiledL _ S256x512.size (by sl_kernel_rfl),
    View.cover_of_tiledL _ S256x1024.size (by sl_kernel_rfl),
    View.cover_of_tiledL _ S8x128.size (by sl_kernel_rfl),
    View.cover_of_tiledL _ S1x1024.size (by sl_kernel_rfl),
    View.cover_of_tiledL _ S256x1024.size (by sl_kernel_rfl),
    View.cover_of_tiledL _ S256x1024.size (by sl_kernel_rfl),
    View.cover_of_tiledL _ S1x256x1024.size (by sl_kernel_rfl),
    View.cover_of_tiledL _ S1536x128.size (by sl_kernel_rfl),
    View.cover_of_tiledL _ S1024x1024.size (by sl_kernel_rfl)⟩

/-- The stores of a later point cover every output. -/
theorem coverLater (c : Dev nD) (t : Fin cfg0.N) (h : ¬t.val % 16 = 0) (l : Vec F S8x128 .f32) (g : Vec F S1x1024 .f32)
    (wu : Vec F S1536x1024 .bf16) (wo : Vec F S1024x1024 .bf16) :
    (∀ y, ∃ p ∈ (runLater m c t h l g wu wo).1, y ∈ p.1.set)
    ∧ (∀ y, ∃ p ∈ (runLater m c t h l g wu wo).2.1, y ∈ p.1.set)
    ∧ (∀ y, ∃ p ∈ (runLater m c t h l g wu wo).2.2.1, y ∈ p.1.set)
    ∧ (∀ y, ∃ p ∈ (runLater m c t h l g wu wo).2.2.2.1, y ∈ p.1.set)
    ∧ (∀ y, ∃ p ∈ (runLater m c t h l g wu wo).2.2.2.2.1, y ∈ p.1.set)
    ∧ (∀ y, ∃ p ∈ (runLater m c t h l g wu wo).2.2.2.2.2.1, y ∈ p.1.set)
    ∧ (∀ y, ∃ p ∈ (runLater m c t h l g wu wo).2.2.2.2.2.2.1, y ∈ p.1.set)
    ∧ (∀ y, ∃ p ∈ (runLater m c t h l g wu wo).2.2.2.2.2.2.2.1, y ∈ p.1.set)
    ∧ (∀ y, ∃ p ∈ (runLater m c t h l g wu wo).2.2.2.2.2.2.2.2.1, y ∈ p.1.set)
    ∧ (∀ y, ∃ p ∈ (runLater m c t h l g wu wo).2.2.2.2.2.2.2.2.2.1, y ∈ p.1.set) :=
  ⟨View.cover_of_tiledL _ S256x1024.size (by sl_kernel_rfl),
    View.cover_of_tiledL _ S256x512.size (by sl_kernel_rfl),
    View.cover_of_tiledL _ S256x512.size (by sl_kernel_rfl),
    View.cover_of_tiledL _ S256x512.size (by sl_kernel_rfl),
    View.cover_of_tiledL _ S256x1024.size (by sl_kernel_rfl),
    View.cover_of_tiledL _ S8x128.size (by sl_kernel_rfl),
    View.cover_of_tiledL _ S1x1024.size (by sl_kernel_rfl),
    View.cover_of_tiledL _ S256x1024.size (by sl_kernel_rfl),
    View.cover_of_tiledL _ S256x1024.size (by sl_kernel_rfl),
    View.cover_of_tiledL _ S1x256x1024.size (by sl_kernel_rfl)⟩

attribute [local irreducible] runFirst runLater

/-- The contents of the ten outputs' buffers. -/
abbrev Outs (F : FTy → Type) : Type := Vec F S256x3072 .bf16 × Vec F S256x512 .bf16 × Vec F S256x512 .bf16 × Vec F S256x512 .bf16 × Vec F S256x1024 .f32 × Vec F S8x128 .f32 × Vec F S1x1024 .f32 × Vec F S256x1024 .bf16 × Vec F S256x1024 .bf16 × Vec F S3x256x1024 .bf16

/-- After the first point. -/
def outsFirst (c : Dev nD) (t : Fin cfg0.N) (h : t.val % 16 = 0) : Outs F :=
  (View.canon (runFirst m c t h).1,
   View.canon (runFirst m c t h).2.1,
   View.canon (runFirst m c t h).2.2.1,
   View.canon (runFirst m c t h).2.2.2.1,
   View.canon (runFirst m c t h).2.2.2.2.1,
   View.canon (runFirst m c t h).2.2.2.2.2.1,
   View.canon (runFirst m c t h).2.2.2.2.2.2.1,
   View.canon (runFirst m c t h).2.2.2.2.2.2.2.1,
   View.canon (runFirst m c t h).2.2.2.2.2.2.2.2.1,
   View.canon (runFirst m c t h).2.2.2.2.2.2.2.2.2.1)

/-- After a later point. -/
def outsLater (c : Dev nD) (t : Fin cfg0.N) (h : ¬t.val % 16 = 0) (l : Vec F S8x128 .f32) (g : Vec F S1x1024 .f32)
    (wu : Vec F S1536x1024 .bf16) (wo : Vec F S1024x1024 .bf16) : Outs F :=
  (View.canon (runLater m c t h l g wu wo).1,
   View.canon (runLater m c t h l g wu wo).2.1,
   View.canon (runLater m c t h l g wu wo).2.2.1,
   View.canon (runLater m c t h l g wu wo).2.2.2.1,
   View.canon (runLater m c t h l g wu wo).2.2.2.2.1,
   View.canon (runLater m c t h l g wu wo).2.2.2.2.2.1,
   View.canon (runLater m c t h l g wu wo).2.2.2.2.2.2.1,
   View.canon (runLater m c t h l g wu wo).2.2.2.2.2.2.2.1,
   View.canon (runLater m c t h l g wu wo).2.2.2.2.2.2.2.2.1,
   View.canon (runLater m c t h l g wu wo).2.2.2.2.2.2.2.2.2.1)

/-- The grid's first point. -/
def start : Fin cfg0.N := ⟨0, by rw [show cfg0.N = 16 from N_0]; omega⟩

/-- The weights as the first point loads them. -/
def loaded (c : Dev nD) (t : Fin cfg0.N) (h : t.val % 16 = 0) : Vec F S1536x1024 .bf16 × Vec F S1024x1024 .bf16 :=
  (View.canon (runFirst m c t h).2.2.2.2.2.2.2.2.2.2.1, View.canon (runFirst m c t h).2.2.2.2.2.2.2.2.2.2.2.1)
def wUp (c : Dev nD) : Vec F S1536x1024 .bf16 := (loaded m c start (Nat.zero_mod _)).1
def wOut (c : Dev nD) : Vec F S1024x1024 .bf16 := (loaded m c start (Nat.zero_mod _)).2

/-- The outputs after every point. -/
def outs (c : Dev nD) : (n : ℕ) → n < cfg0.N → Outs F
  | 0, hn => outsFirst m c ⟨0, hn⟩ (Nat.zero_mod _)
  | n + 1, hn => outsLater m c ⟨n + 1, hn⟩ (by have : n + 1 < 16 := lt_of_lt_of_eq hn (show cfg0.N = 16 from N_0); dsimp only; omega)
      (outs c n (Nat.lt_of_succ_lt hn)).2.2.2.2.2.1 (outs c n (Nat.lt_of_succ_lt hn)).2.2.2.2.2.2.1 (wUp m c) (wOut m c)

theorem zero_of (t : Fin cfg0.N) (h : t.val % 16 = 0) : t.val = 0 := by
  have : t.val < 16 := lt_of_lt_of_eq t.isLt (show cfg0.N = 16 from N_0)
  omega

theorem outs_first (c : Dev nD) (t : Fin cfg0.N) (h : t.val % 16 = 0) : outs m c t.val t.isLt = outsFirst m c t h := by
  obtain ⟨n, hn⟩ := t
  obtain rfl : n = 0 := zero_of ⟨n, hn⟩ h
  rfl

theorem loaded_first (c : Dev nD) (t : Fin cfg0.N) (h : t.val % 16 = 0) : loaded m c start (Nat.zero_mod _) = loaded m c t h := by
  obtain ⟨n, hn⟩ := t
  obtain rfl : n = 0 := zero_of ⟨n, hn⟩ h
  rfl

theorem wUp_first (c : Dev nD) (t : Fin cfg0.N) (h : t.val % 16 = 0) : wUp m c = (loaded m c t h).1 :=
  congrArg Prod.fst (loaded_first m c t h)

theorem wOut_first (c : Dev nD) (t : Fin cfg0.N) (h : t.val % 16 = 0) : wOut m c = (loaded m c t h).2 :=
  congrArg Prod.snd (loaded_first m c t h)

/-- The outputs the point before left. -/
abbrev prev (c : Dev nD) (t : Fin cfg0.N) : Outs F := outs m c (t.val - 1) (Nat.lt_of_le_of_lt (Nat.sub_le _ _) t.isLt)

theorem outs_later (c : Dev nD) (t : Fin cfg0.N) (h : ¬t.val % 16 = 0) :
    outs m c t.val t.isLt = outsLater m c t h (prev m c t).2.2.2.2.2.1 (prev m c t).2.2.2.2.2.2.1 (wUp m c) (wOut m c) := by
  obtain ⟨n, hn⟩ := t
  cases n with
  | zero => exact absurd (Nat.zero_mod _) h
  | succ n => rfl

/-- What holds between points: at the launch everything of the kernel's own at anything; afterwards the weights loaded, the
semaphores at rest and the weight arrays as they were. -/
def inv (c : Dev nD) : (n : ℕ) → sProp 𝕄
  | 0 => Pipeline.ΦD osem0 spec0 H0 (V m) c
  | _ + 1 => iprop((owns (c : Thread nD τ) scM0_0 fullShare (wUp m c) ∗ owns (c : Thread nD τ) scM0_1 fullShare (wOut m c))
      ∗ (∃ r, prngReg c r) ∗ cells c ∗ arrays c (V m c main_arg7) (V m c main_arg8))

theorem inv_zero (c : Dev nD) (n : ℕ) (h : n = 0) : inv m c n = Pipeline.ΦD osem0 spec0 H0 (V m) c := by
  subst h; rfl

theorem inv_pos (c : Dev nD) (n : ℕ) (h : n ≠ 0) : inv m c n = iprop((owns (c : Thread nD τ) scM0_0 fullShare (wUp m c)
      ∗ owns (c : Thread nD τ) scM0_1 fullShare (wOut m c)) ∗ (∃ r, prngReg c r) ∗ cells c ∗ arrays c (V m c main_arg7) (V m c main_arg8)) := by
  cases n with
  | zero => exact absurd rfl h
  | succ n => rfl

theorem launch_eq (c : Dev nD) : (Pipeline.ΦD osem0 spec0 H0 (V m) c : sProp 𝕄)
    = iprop((free c scM0_0 ∗ free c scM0_1) ∗ (∃ r, prngReg c r) ∗ cells c ∗ arrays c (V m c main_arg7) (V m c main_arg8)) := by
  rw [PhiD0_eq]; rfl

/-- What the pipeline's proof is told: each array at the launch, each buffer after each point, and the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outs m c t.val t.isLt).1
    | ⟨8, _⟩ => (outs m c t.val t.isLt).2.1
    | ⟨9, _⟩ => (outs m c t.val t.isLt).2.2.1
    | ⟨10, _⟩ => (outs m c t.val t.isLt).2.2.2.1
    | ⟨11, _⟩ => (outs m c t.val t.isLt).2.2.2.2.1
    | ⟨12, _⟩ => (outs m c t.val t.isLt).2.2.2.2.2.1
    | ⟨13, _⟩ => (outs m c t.val t.isLt).2.2.2.2.2.2.1
    | ⟨14, _⟩ => (outs m c t.val t.isLt).2.2.2.2.2.2.2.1
    | ⟨15, _⟩ => (outs m c t.val t.isLt).2.2.2.2.2.2.2.2.1
    | ⟨16, _⟩ => (outs m c t.val t.isLt).2.2.2.2.2.2.2.2.2
    | ⟨_ + 17, h⟩ => absurd h (Nat.not_lt.2 (Nat.le_add_left _ _))
  Φ t := inv m c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outs m c t.val t.isLt).1 := by dsimp only [dats]
theorem after0_8 (c : Dev nD) (t : Fin cfg0.N) : (dats m 0 c).after 8 t = (outs m c t.val t.isLt).2.1 := by dsimp only [dats]
theorem after0_9 (c : Dev nD) (t : Fin cfg0.N) : (dats m 0 c).after 9 t = (outs m c t.val t.isLt).2.2.1 := by dsimp only [dats]
theorem after0_10 (c : Dev nD) (t : Fin cfg0.N) : (dats m 0 c).after 10 t = (outs m c t.val t.isLt).2.2.2.1 := by dsimp only [dats]
theorem after0_11 (c : Dev nD) (t : Fin cfg0.N) : (dats m 0 c).after 11 t = (outs m c t.val t.isLt).2.2.2.2.1 := by dsimp only [dats]
theorem after0_12 (c : Dev nD) (t : Fin cfg0.N) : (dats m 0 c).after 12 t = (outs m c t.val t.isLt).2.2.2.2.2.1 := by dsimp only [dats]
theorem after0_13 (c : Dev nD) (t : Fin cfg0.N) : (dats m 0 c).after 13 t = (outs m c t.val t.isLt).2.2.2.2.2.2.1 := by dsimp only [dats]
theorem after0_14 (c : Dev nD) (t : Fin cfg0.N) : (dats m 0 c).after 14 t = (outs m c t.val t.isLt).2.2.2.2.2.2.2.1 := by dsimp only [dats]
theorem after0_15 (c : Dev nD) (t : Fin cfg0.N) : (dats m 0 c).after 15 t = (outs m c t.val t.isLt).2.2.2.2.2.2.2.2.1 := by dsimp only [dats]
theorem after0_16 (c : Dev nD) (t : Fin cfg0.N) : (dats m 0 c).after 16 t = (outs m c t.val t.isLt).2.2.2.2.2.2.2.2.2 := by dsimp only [dats]
theorem before0_0 (c : Dev nD) (t : Fin cfg0.N) (d) : (dats m 0 c).before 0 t d = iblk m c 0 t := before0_0_of m _ (A_eq m c 0) (after0_0 m c) t d
theorem before0_1 (c : Dev nD) (t : Fin cfg0.N) (d) : (dats m 0 c).before 1 t d = iblk m c 1 t := before0_1_of m _ (A_eq m c 1) (after0_1 m c) t d
theorem before0_2 (c : Dev nD) (t : Fin cfg0.N) (d) : (dats m 0 c).before 2 t d = iblk m c 2 t := before0_2_of m _ (A_eq m c 2) (after0_2 m c) t d
theorem before0_3 (c : Dev nD) (t : Fin cfg0.N) (d) : (dats m 0 c).before 3 t d = iblk m c 3 t := before0_3_of m _ (A_eq m c 3) (after0_3 m c) t d
theorem before0_4 (c : Dev nD) (t : Fin cfg0.N) (d) : (dats m 0 c).before 4 t d = iblk m c 4 t := before0_4_of m _ (A_eq m c 4) (after0_4 m c) t d
theorem before0_5 (c : Dev nD) (t : Fin cfg0.N) (d) : (dats m 0 c).before 5 t d = iblk m c 5 t := before0_5_of m _ (A_eq m c 5) (after0_5 m c) t d
theorem before0_6 (c : Dev nD) (t : Fin cfg0.N) (d) : (dats m 0 c).before 6 t d = iblk m c 6 t := before0_6_of m _ (A_eq m c 6) (after0_6 m c) t d

/-- At a later point the buffer of output 12 still holds what the point before left. -/
theorem before0_12 (c : Dev nD) (t : Fin cfg0.N) (h : ¬t.val % 16 = 0) (d) :
    (dats m 0 c).before 12 t d = (prev m c t).2.2.2.2.2.1 := by
  have hN : t.val < 16 := lt_of_lt_of_eq t.isLt (show cfg0.N = 16 from N_0)
  rw [Dat.before_out_kept _ 12 rfl t (by omega) (Bool.eq_false_iff.mpr fun h => by have := (flush0_12 _).mp h; dsimp only at this; omega)
    (fun _ => rfl) (fun _ _ => rfl)]
  dsimp only [dats]

/-- At a later point the buffer of output 13 still holds what the point before left. -/
theorem before0_13 (c : Dev nD) (t : Fin cfg0.N) (h : ¬t.val % 16 = 0) (d) :
    (dats m 0 c).before 13 t d = (prev m c t).2.2.2.2.2.2.1 := by
  have hN : t.val < 16 := lt_of_lt_of_eq t.isLt (show cfg0.N = 16 from N_0)
  rw [Dat.before_out_kept _ 13 rfl t (by omega) (Bool.eq_false_iff.mpr fun h => by have := (flush0_13 _).mp h; dsimp only at this; omega)
    (fun _ => rfl) (fun _ _ => rfl)]
  dsimp only [dats]

/-- What the pipeline hands the body at a point, and what it takes back. -/
def handed (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))
def returned (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 12800000 in
/-- The body at any point. -/
theorem sound (c : Dev nD) (t : Fin cfg0.N) :
    handed m c t ⊢ wp frame (wpE (defs₀ (F := F)) Variants.none c none) Set.univ (bodyAt0 t) (fun _ => returned m c t) := by
  unfold handed returned bodyAt0
  simp only [before0_0, before0_1, before0_2, before0_3, before0_4, before0_5, before0_6]
  rw [show (dats m 0 c).Φ t.succ = inv m c (t.val + 1) from rfl, inv_pos m c _ (Nat.succ_ne_zero _),
    show (dats m 0 c).Φ t.castSucc = inv m c t.val from rfl, after0_0, after0_1, after0_2, after0_3, after0_4, after0_5, after0_6, after0_7, after0_8, after0_9, after0_10, after0_11, after0_12, after0_13, after0_14, after0_15, after0_16]
  unfold Dat.owesAt Pipeline.owesWithin
  rw [show (dats m 0 c).owed t.castSucc = 0 from rfl, show (dats m 0 c).owed t.succ = 0 from rfl]
  by_cases h : t.val % 16 = 0
  · rw [inv_zero m c _ (zero_of t h), launch_eq, wUp_first m c t h, wOut_first m c t h, outs_first m c t h]
    unfold outsFirst loaded; dsimp only
    iintro ⟨⟨⟨HU, HO⟩, Hg, Hq, Ha⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((runFirst m c t h).2.2.2.2.2.2.2.2.2.2.2.2 W _)
    isplitl [H0 H1 H2 H3 H4 H5 H6]
    · unfold given
      isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HU]; · iexact HU
    isplitl [HO]; · iexact HO
    isplitl [Hq]; · iexact Hq
    isplitl [Ha]; · iexact Ha
    isplitl [HW]; · iexact HW
    unfold given
    iintro ⟨⟨H0, H1, H2, H3, H4, H5, H6⟩, ⟨H7, H8, H9, H10, H11, H12, H13, H14, H15, H16⟩, HU, HO, Hq, Ha, ⟨%W', HW⟩⟩
    have cv := coverFirst m c t h
    isplitl [HU HO Hg Hq Ha]
    · isplitl [HU HO]
      · isplitl [HU]
        · iapply (wrote_owns c _ _ cv.2.2.2.2.2.2.2.2.2.2.1); iexact HU
        iapply (wrote_owns c _ _ cv.2.2.2.2.2.2.2.2.2.2.2); iexact HO
      isplitl [Hg]; · iexact Hg
      isplitl [Hq]; · iexact Hq
      iexact Ha
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (wrote_owns c _ _ cv.1); iexact H7
    isplitl [H8]; · iapply (wrote_owns c _ _ cv.2.1); iexact H8
    isplitl [H9]; · iapply (wrote_owns c _ _ cv.2.2.1); iexact H9
    isplitl [H10]; · iapply (wrote_owns c _ _ cv.2.2.2.1); iexact H10
    isplitl [H11]; · iapply (wrote_owns c _ _ cv.2.2.2.2.1); iexact H11
    isplitl [H12]; · iapply (wrote_owns c _ _ cv.2.2.2.2.2.1); iexact H12
    isplitl [H13]; · iapply (wrote_owns c _ _ cv.2.2.2.2.2.2.1); iexact H13
    isplitl [H14]; · iapply (wrote_owns c _ _ cv.2.2.2.2.2.2.2.1); iexact H14
    isplitl [H15]; · iapply (wrote_owns c _ _ cv.2.2.2.2.2.2.2.2.1); iexact H15
    iapply (wrote_owns c _ _ cv.2.2.2.2.2.2.2.2.2.1); iexact H16
  · rw [inv_pos m c t.val (fun e => h (by rw [e])), outs_later m c t h]
    simp only [before0_12 m c t h, before0_13 m c t h]
    unfold outsLater; dsimp only
    iintro ⟨⟨⟨HU, HO⟩, Hg, Hq, Ha⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((runLater m c t h (prev m c t).2.2.2.2.2.1 (prev m c t).2.2.2.2.2.2.1 (wUp m c) (wOut m c)).2.2.2.2.2.2.2.2.2.2 W _)
    isplitl [H0 H1 H2 H3 H4 H5 H6]
    · unfold given
      isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexact H12
    isplitl [H13]; · iexact H13
    isplitl [H14]; · iexists _; iexact H14
    isplitl [H15]; · iexists _; iexact H15
    isplitl [H16]; · iexists _; iexact H16
    isplitl [HU]; · iexact HU
    isplitl [HO]; · iexact HO
    isplitl [HW]; · iexact HW
    unfold given
    iintro ⟨⟨H0, H1, H2, H3, H4, H5, H6⟩, ⟨H7, H8, H9, H10, H11, H12, H13, H14, H15, H16⟩, HU, HO, ⟨%W', HW⟩⟩
    have cv := coverLater m c t h (prev m c t).2.2.2.2.2.1 (prev m c t).2.2.2.2.2.2.1 (wUp m c) (wOut m c)
    isplitl [HU HO Hg Hq Ha]
    · isplitl [HU HO]
      · isplitl [HU]
        · iexact HU
        iexact HO
      isplitl [Hg]; · iexact Hg
      isplitl [Hq]; · iexact Hq
      iexact Ha
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (wrote_owns c _ _ cv.1); iexact H7
    isplitl [H8]; · iapply (wrote_owns c _ _ cv.2.1); iexact H8
    isplitl [H9]; · iapply (wrote_owns c _ _ cv.2.2.1); iexact H9
    isplitl [H10]; · iapply (wrote_owns c _ _ cv.2.2.2.1); iexact H10
    isplitl [H11]; · iapply (wrote_owns c _ _ cv.2.2.2.2.1); iexact H11
    isplitl [H12]; · iapply (wrote_owns c _ _ cv.2.2.2.2.2.1); iexact H12
    isplitl [H13]; · iapply (wrote_owns c _ _ cv.2.2.2.2.2.2.1); iexact H13
    isplitl [H14]; · iapply (wrote_owns c _ _ cv.2.2.2.2.2.2.2.1); iexact H14
    isplitl [H15]; · iapply (wrote_owns c _ _ cv.2.2.2.2.2.2.2.2.1); iexact H15
    iapply (wrote_owns c _ _ cv.2.2.2.2.2.2.2.2.2); iexact H16

/-! mark -/

theorem obliged (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound m c t) rfl .rfl fun _ => .rfl

theorem final (c : Dev nD) : (dats m 0 c).Φ (Fin.last cfg0.N) ⊢ Pipeline.ΦD osem0 spec0 H0 (V m) c := by
  rw [show (dats m 0 c).Φ (Fin.last cfg0.N) = inv m c cfg0.N from rfl,
    inv_pos m c _ (by rw [show cfg0.N = 16 from N_0]; omega), launch_eq]
  iintro ⟨⟨HU, HO⟩, Hg, Hq, Ha⟩
  isplitl [HU HO]
  · isplitl [HU]
    · iexists _; iexact HU
    iexists _; iexact HO
  isplitl [Hg]; · iexact Hg
  isplitl [Hq]; · iexact Hq
  iexact Ha

set_option backward.isDefEq.respectTransparency.types false in
/-- The whole program, from any memory with the semaphores at rest: every array ends at what the pipeline computes. -/
theorem run_rest : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obliged m c).loose) (hshare := fun c => (dats m 0 c).share_full fun _ => rfl)
    (howed := fun _ _ => rfl) (V := V m) (hmain := hmain m Variants.none) (hA := A_eq m)
    (hin := fun _ => Entails.refl _) (hout := final m)

theorem run_post : θ_run defs (onTc (τ := τ) (main (F := F))) (s₀ m ρ) (Pipeline.FramePost cfgs (dats m) 0 (V m)) :=
  (θ_run defs _ _).mono (fun _ h => h.1) (run_rest m ρ)

/-- The arguments end unchanged and the semaphores at rest. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_post m ρ)) ((θ_run defs _ _).mono (fun _ h => h.2) (run_rest m ρ))

end Cert.MidIdeal.Hand

end
-- ==== Proof.MidTile.lean ====
/- One tile of the middle of the backward pass: what the ten stores of a point leave, in the words of the body's own arithmetic, over the
   point's seven blocks, the three parts of the up projection, the output projection and the two sums carried along. -/
module

public import proofs.«01_k».proof.Proof.MidFrame
public import Idealize.ShloMosaic.Lib.Pipeline.ValueKit
public import Idealize.ShloMosaic.Lib.Pipeline.ReadBack

@[expose] public section

set_option maxRecDepth 16384

noncomputable section

namespace Cert.MidIdeal.Hand

open Cert.MidIdeal.Gen
open Idealize.ShloMosaic Idealize.ShloMosaic.TcCoe Idealize.SL.Sem

/-- The blocks of one point. -/
structure Blk where
  a0 : Vec Ideal S256x512 .bf16
  a1 : Vec Ideal S256x512 .bf16
  a2 : Vec Ideal S256x512 .bf16
  p : Vec Ideal S256x3072 .bf16
  x : Vec Ideal S256x1024 .f32
  t : Vec Ideal S256x1024 .f32
  g : Vec Ideal S1x1024 .f32
  u0 : Vec Ideal S512x1024 .bf16
  u1 : Vec Ideal S512x1024 .bf16
  u2 : Vec Ideal S512x1024 .bf16
  o : Vec Ideal S1024x1024 .bf16

namespace Blk
variable (b : Blk)

abbrev p0 : Vec Ideal S256x1024 .bf16 := View.ld b.p (Rect.unit ![0, 0] ![256, 1024] inb_S256x3072_S256x1024_0_0)
abbrev p1 : Vec Ideal S256x1024 .bf16 := View.ld b.p (Rect.unit ![0, 1024] ![256, 1024] inb_S256x3072_S256x1024_0_1024)
abbrev p2 : Vec Ideal S256x1024 .bf16 := View.ld b.p (Rect.unit ![0, 2048] ![256, 1024] inb_S256x3072_S256x1024_0_2048)
/-- The three products with the up projection, the root mean square's inverse, the normalised rows, and the gradient behind the norm. -/
abbrev m0 : FVec Ideal S256x1024 .f32 := k0_pay9 b.a0 b.u0
abbrev m1 : FVec Ideal S256x1024 .f32 := k0_pay10 b.a1 b.u1
abbrev m2 : FVec Ideal S256x1024 .f32 := k0_pay11 b.a2 b.u2
abbrev inv : FVec Ideal S256x1 .f32 := k0_pay17 b.m0 b.m1 b.m2 (k0_pay12 b.p0) b.p1 b.p2 b.o
abbrev nrm : FVec Ideal S256x1024 .f32 := k0_pay18 b.m0 b.m1 b.m2 (k0_pay12 b.p0) b.p1 b.p2 b.o
abbrev back : FVec Ideal S256x1024 .f32 := k0_pay23 b.nrm b.g b.x b.t
abbrev dm : FVec Ideal S256x1024 .f32 := k0_pay25 b.inv b.back b.o

/-- What the point leaves in the ten results' blocks. -/
def tile (l : Vec Ideal S8x128 .f32) (s : Vec Ideal S1x1024 .f32) : Outs Ideal :=
  (View.canon
    [⟨Rect.unit ![0, 2048] ![256, 1024] inb_S256x3072_S256x1024_0_2048, k0_pay3 (F := Ideal) b.m2 (k0_pay14 b.p2) b.dm⟩,
     ⟨Rect.unit ![0, 1024] ![256, 1024] inb_S256x3072_S256x1024_0_1024, k0_pay32 (F := Ideal) b.m1 (k0_pay13 b.p1) b.inv b.back b.o⟩,
     ⟨Rect.unit ![0, 0] ![256, 1024] inb_S256x3072_S256x1024_0_0, k0_pay27 (F := Ideal) b.m0 (k0_pay12 b.p0) b.inv b.back b.o⟩],
   k0_pay30 (F := Ideal) (k0_pay12 b.p0) b.inv b.back b.o b.u0,
   k0_pay1 (F := Ideal) (k0_pay33 (k0_pay13 b.p1) b.inv b.back b.o) b.u1,
   k0_pay6 (F := Ideal) (k0_pay14 b.p2) b.dm b.u2,
   k0_pay21 (F := Ideal) b.nrm b.g b.x b.t,
   k0_pay20 (F := Ideal) b.nrm b.g b.x b.t l,
   k0_pay22 (F := Ideal) b.nrm b.g b.x b.t s,
   k0_pay15 (F := Ideal) b.m0 b.m1 b.m2 (k0_pay12 b.p0) b.p1 b.p2,
   k0_pay24 (F := Ideal) b.inv b.back,
   View.canon
    [⟨Rect.unit ![2, 0, 0] ![1, 256, 1024] inb_S3x256x1024_S1x256x1024_2_0_0, k0_pay5 (F := Ideal) (k0_pay14 b.p2) b.dm⟩,
     ⟨Rect.unit ![1, 0, 0] ![1, 256, 1024] inb_S3x256x1024_S1x256x1024_1_0_0, k0_pay34 (F := Ideal) (k0_pay13 b.p1) b.inv b.back b.o⟩,
     ⟨Rect.unit ![0, 0, 0] ![1, 256, 1024] inb_S3x256x1024_S1x256x1024_0_0_0, k0_pay29 (F := Ideal) (k0_pay12 b.p0) b.inv b.back b.o⟩])

end Blk

variable (m : (ℓ : Loc nD τ sig) → Buf (Elt Ideal) ℓ)

/-- The blocks of point `t`, the projections as `wu` and `wo` hold them. -/
def blkOf (c : Dev nD) (t : Fin cfg0.N) (wu : Vec Ideal S1536x1024 .bf16) (wo : Vec Ideal S1024x1024 .bf16) : Blk where
  a0 := iblk m c 0 t
  a1 := iblk m c 1 t
  a2 := iblk m c 2 t
  p := iblk m c 3 t
  x := iblk m c 4 t
  t := iblk m c 5 t
  g := iblk m c 6 t
  u0 := View.ld wu (Rect.unit ![0, 0] ![512, 1024] inb_S1536x1024_S512x1024_0_0)
  u1 := View.ld wu (Rect.unit ![512, 0] ![512, 1024] inb_S1536x1024_S512x1024_512_0)
  u2 := View.ld wu (Rect.unit ![1024, 0] ![512, 1024] inb_S1536x1024_S512x1024_1024_0)
  o := wo

/-- A load of what was stored is the stored contents' rectangle; a load of everything is everything. -/
theorem cov_ld {κ : Kind} {sp : Space} {s : Shape} {e : EltTy} (v : View sig κ sp s e) (L : List (View.Piece (Elt Ideal) s e)) (r : Rect s) :
    v.readCov L r.toLoadRect = View.ld (View.canon L) r := View.readCov_eq_canon' v L _

theorem ld_all (X : Vec Ideal S1024x1024 .bf16) : View.ld X (Rect.unit ![0, 0] ![1024, 1024] inb_S1024x1024_S1024x1024_0_0) = X := by
  funext y
  refine congrArg X (funext fun a => Fin.ext ?_)
  fin_cases a
  · show 0 + 1 * (y 0).val = (y 0).val; omega
  · show 0 + 1 * (y 1).val = (y 1).val; omega

set_option maxHeartbeats 1000000 in
theorem later_tile (c : Dev nD) (t : Fin cfg0.N) (h : ¬t.val % 16 = 0) (l : Vec Ideal S8x128 .f32) (g : Vec Ideal S1x1024 .f32)
    (wu : Vec Ideal S1536x1024 .bf16) (wo : Vec Ideal S1024x1024 .bf16) :
    outsLater m c t h l g wu wo = (blkOf m c t wu wo).tile l g := by
  unfold outsLater runLater
  frame_out
  simp only [read_unread_whole]
  simp only [Blk.tile, blkOf, Blk.p0, Blk.p1, Blk.p2, Blk.m0, Blk.m1, Blk.m2, Blk.inv, Blk.nrm, Blk.back, Blk.dm]

set_option maxHeartbeats 1000000 in
theorem first_tile (c : Dev nD) (t : Fin cfg0.N) (h : t.val % 16 = 0) :
    outsFirst m c t h = (blkOf m c t (loaded m c t h).1 (loaded m c t h).2).tile (k0_pay7 (F := Ideal)) (k0_pay8 (F := Ideal)) := by
  unfold loaded outsFirst runFirst
  frame_out
  simp only [cov_ld, ld_all]
  simp only [Blk.tile, blkOf, Blk.p0, Blk.p1, Blk.p2, Blk.m0, Blk.m1, Blk.m2, Blk.inv, Blk.nrm, Blk.back, Blk.dm]

end Cert.MidIdeal.Hand

end
-- ==== Proof.MidSpec.lean ====
/- The middle of the backward pass, element by element: the gated sum of three projections, the output projection, the root-mean-square norm,
   the loss, and the gradients back to the gates and to the three inputs. `A`, `B`, `C` are the three inputs, `P` the gates before the logistic,
   `X` the residual, `T` the target, `G` the norm's scale, `U` the up projection and `O` the output projection, all read at two numbers. -/
module

public import proofs.«01_k».proof.Proof.MemSpec
public import proofs.«01_k».proof.Proof.Soft

@[expose] public section

noncomputable section

open Idealize.ShloMosaic
open Cert.MemSpec (sg rd rd_of rd_real)
open Cert.Reals

namespace Cert.MidSpec

abbrev half : EReal := Ideal.ofBits .f32 0x3F000000#32
abbrev mhalf : EReal := Ideal.ofBits .f32 0xBF000000#32
abbrev two : EReal := Ideal.ofBits .f32 0x40000000#32
abbrev wide : EReal := Ideal.ofBits .f32 0x44800000#32
abbrev tiny : EReal := Ideal.ofBits .f32 0x358637BD#32
abbrev inv : EReal := Ideal.ofBits .f32 0x3A800000#32

/-- The up projection, stored in eight slabs of 128 columns, at row `a`, column `b`. -/
def rw8 (X : (⟨3, ![8, 1536, 128]⟩ : Shape).Idx → EReal) (a b : Nat) : EReal :=
  if h : a < 1536 ∧ b < 1024 then X (ix3 ⟨b / 128, by omega⟩ ⟨a, h.1⟩ ⟨b % 128, by omega⟩) else 0

theorem rw8_of {X : (⟨3, ![8, 1536, 128]⟩ : Shape).Idx → EReal} {a b : Nat} (ha : a < 1536) (hb : b < 1024) :
    rw8 X a b = X (ix3 ⟨b / 128, by omega⟩ ⟨a, ha⟩ ⟨b % 128, by omega⟩) := by
  rw [rw8, dif_pos ⟨ha, hb⟩]

theorem rw8_real {X : (⟨3, ![8, 1536, 128]⟩ : Shape).Idx → EReal} (h : ∀ i, IsR (X i)) (a b : Nat) : IsR (rw8 X a b) := by
  unfold rw8; split
  · exact h _
  · exact isR_zero

variable (A B C P X T G U O : Nat → Nat → EReal)

/-- A gate, and one input times its 512 rows of the up projection. -/
def gt (r l : Nat) : EReal := sg (P r l)
def up (A : Nat → Nat → EReal) (o r l : Nat) : EReal := ∑ k : Fin 512, A r k.val * U (o + k.val) l
/-- The gated sum, its projection, the norm. -/
def mb (r l : Nat) : EReal := gt P r l * up U A 0 r l + gt P r (1024 + l) * up U B 512 r l + gt P r (2048 + l) * up U C 1024 r l
def ot (r l : Nat) : EReal := ∑ k : Fin 1024, mb A B C P U r k.val * O k.val l
def ms (r : Nat) : EReal := Ideal.div (∑ k : Fin 1024, ot A B C P U O r k.val * ot A B C P U O r k.val) wide + tiny
def rr (r : Nat) : EReal := Ideal.rsqrt (ms A B C P U O r)
def on (r l : Nat) : EReal := ot A B C P U O r l * rr A B C P U O r
/-- The residual's error, its gradient, and the gradient behind the norm. -/
def er (r l : Nat) : EReal := X r l + on A B C P U O r l * G 0 l - T r l
def dy (r l : Nat) : EReal := er A B C P X T G U O r l * inv
def dn (r l : Nat) : EReal := dy A B C P X T G U O r l * G 0 l
def ob (r l : Nat) : EReal := rr A B C P U O r * (dn A B C P X T G U O r l - on A B C P U O r l
  * Ideal.div (∑ k : Fin 1024, dn A B C P X T G U O r k.val * on A B C P U O r k.val) wide)
/-- The gradient of the gated sum, of one projection, of one gate, of one input. -/
def dm (r l : Nat) : EReal := ∑ k : Fin 1024, ob A B C P X T G U O r k.val * O l k.val
def du (j r l : Nat) : EReal := dm A B C P X T G U O r l * gt P r (1024 * j + l)
def dg (S : Nat → Nat → EReal) (j o r l : Nat) : EReal := du A B C P X T G U O j r l * up U S o r l * (1 - gt P r (1024 * j + l))
def dx (j o r k : Nat) : EReal := ∑ l : Fin 1024, du A B C P X T G U O j r l.val * U (o + k) l.val
/-- The gradient of the gate at column `l` of the 3072. -/
def dgAt (r l : Nat) : EReal :=
  if l < 1024 then dg A B C P X T G U O A 0 0 r l else if l < 2048 then dg A B C P X T G U O B 1 512 r (l - 1024) else dg A B C P X T G U O C 2 1024 r (l - 2048)
/-- What tile `t` of 256 rows adds to the loss and to the gradient of the norm's scale. -/
def lt (t : Nat) : EReal := half * (∑ r : Fin 256, ∑ l : Fin 1024, er A B C P X T G U O (256 * t + r.val) l.val * er A B C P X T G U O (256 * t + r.val) l.val) * inv
def gg (t l : Nat) : EReal := ∑ r : Fin 256, dy A B C P X T G U O (256 * t + r.val) l * on A B C P U O (256 * t + r.val) l

end Cert.MidSpec

end
-- ==== Proof.MidReal.lean ====
/- What the middle of the backward pass needs of real numbers: the norm's gradient written two ways, the loss gathered by row or by tile,
   and that every value on the way is a real number when the arguments are. -/
module

public import proofs.«01_k».proof.Proof.MidSpec
public import Idealize.ShloMosaic.Lib.Pipeline.ValueKit

@[expose] public section

noncomputable section

open Idealize.ShloMosaic
open Cert.MemSpec (sg rd rd_of rd_real)
open Cert.Reals

namespace Cert.MidSpec

theorem half_eq : half = ((1 / 2 : ℝ) : EReal) := by
  simp [half, Ideal.ofBits, Ideal.ieee]
  rw [← EReal.coe_mul]
  norm_num
theorem mhalf_eq : mhalf = ((-(1 / 2) : ℝ) : EReal) := by
  simp [mhalf, Ideal.ofBits, Ideal.ieee]
  rw [← EReal.coe_mul]
  norm_num
theorem two_eq : two = ((2 : ℝ) : EReal) := by
  simp [two, Ideal.ofBits, Ideal.ieee]
  rw [← EReal.coe_mul]
  norm_num
theorem wide_eq : wide = ((1024 : ℝ) : EReal) := by
  simp [wide, Ideal.ofBits, Ideal.ieee]
  rw [← EReal.coe_mul]
  norm_num
theorem inv_eq : inv = ((1 / 1024 : ℝ) : EReal) := by
  simp [inv, Ideal.ofBits, Ideal.ieee]
  rw [← EReal.coe_mul]
  norm_num
theorem tiny_pos : IsP tiny := by
  simp [tiny, Ideal.ofBits, Ideal.ieee]
  exact ⟨_, by positivity, rfl⟩

theorem div_wide (x : EReal) : Ideal.div x wide = x * inv := by
  rw [wide_eq, inv_eq, Ideal.div_coe (by norm_num)]

theorem rsqrt_pos {s : ℝ} (h : 0 < s) : Ideal.rsqrt (s : EReal) = (((Real.sqrt s)⁻¹ : ℝ) : EReal) := by
  rw [Ideal.rsqrt_coe, if_neg (not_lt.2 h.le), if_neg h.ne']

theorem isR_rsqrt {x : EReal} (h : IsP x) : IsR (Ideal.rsqrt x) := by
  obtain ⟨s, h, rfl⟩ := h
  exact ⟨_, rsqrt_pos h⟩

/-- The gradient of the root-mean-square norm: the derivative of the inverse root, summed over the row, against the projected form. -/
theorem norm_grad {ι : Type} [Fintype ι] {o a : ι → EReal} {s : EReal} (ho : ∀ k, IsR (o k)) (ha : ∀ k, IsR (a k)) (hs : IsP s) (l : ι) :
    a l * Ideal.rsqrt s + o l * Ideal.div ((∑ k, o k * a k) * (mhalf * Ideal.div (Ideal.rsqrt s) s)) wide
        + Ideal.div ((∑ k, o k * a k) * (mhalf * Ideal.div (Ideal.rsqrt s) s)) wide * o l
      = Ideal.rsqrt s * (a l - o l * Ideal.rsqrt s * Ideal.div (∑ k, a k * (o k * Ideal.rsqrt s)) wide) := by
  obtain ⟨o, rfl⟩ := lift ho
  obtain ⟨a, rfl⟩ := lift ha
  obtain ⟨s, h, rfl⟩ := hs
  have hq : (Real.sqrt s)⁻¹ * (Real.sqrt s)⁻¹ = 1 / s := by
    rw [← mul_inv, Real.mul_self_sqrt h.le, one_div]
  rw [rsqrt_pos h, Ideal.div_coe h.ne', mhalf_eq, div_wide, div_wide, inv_eq]
  generalize (Real.sqrt s)⁻¹ = q at hq ⊢
  simp only [← EReal.coe_mul, ← coe_sum, ← EReal.coe_add, ← EReal.coe_sub]
  congr 1
  have e : ∑ k, a k * (o k * q) = q * ∑ k, o k * a k := by
    rw [Finset.mul_sum]; exact Finset.sum_congr rfl fun k _ => by ring
  rw [e]
  linear_combination (o l * q * (∑ k, o k * a k) * (1 / 1024)) * hq

theorem dy_eq {e : EReal} (h : IsR e) : Ideal.div half wide * (two * e) = e * inv := by
  obtain ⟨e, rfl⟩ := h
  rw [div_wide, half_eq, inv_eq, two_eq]
  simp only [← EReal.coe_mul]
  congr 1
  ring

theorem loss_eq {f : Nat → EReal} (h : ∀ n, IsR (f n)) :
    half * ∑ r : Fin 4096, Ideal.div (f r.val) wide = ∑ t : Fin 16, half * (∑ r : Fin 256, f (256 * t.val + r.val)) * inv := by
  choose g hg using h
  obtain rfl : f = fun n => (g n : EReal) := funext hg
  rw [Fin.sum_univ_tiles 16 256 rfl fun r : Fin 4096 => Ideal.div ((g r.val : ℝ) : EReal) wide]
  simp only [div_wide, half_eq, inv_eq, ← EReal.coe_mul, ← coe_sum]
  congr 1
  rw [Finset.mul_sum]
  refine Finset.sum_congr rfl fun t _ => ?_
  rw [Finset.mul_sum, Finset.mul_sum, Finset.sum_mul]
  exact Finset.sum_congr rfl fun r _ => by rw [Nat.mul_comm 256]; ring

section Real
variable {A B C P X T G U O : Nat → Nat → EReal}
  (hA : ∀ a b, IsR (A a b)) (hB : ∀ a b, IsR (B a b)) (hC : ∀ a b, IsR (C a b)) (hX : ∀ a b, IsR (X a b)) (hT : ∀ a b, IsR (T a b))
  (hG : ∀ a b, IsR (G a b)) (hU : ∀ a b, IsR (U a b)) (hO : ∀ a b, IsR (O a b))

include hA hU in
theorem up_real (o r l : Nat) : IsR (up U A o r l) := IsR.sum _ _ fun _ _ => (hA _ _).mul (hU _ _)

include hA hB hC hU in
theorem mb_real (r l : Nat) : IsR (mb A B C P U r l) :=
  (((isR_sig _).mul (up_real hA hU _ _ _)).add ((isR_sig _).mul (up_real hB hU _ _ _))).add ((isR_sig _).mul (up_real hC hU _ _ _))

include hA hB hC hU hO in
theorem ot_real (r l : Nat) : IsR (ot A B C P U O r l) := IsR.sum _ _ fun _ _ => (mb_real hA hB hC hU _ _).mul (hO _ _)

include hA hB hC hU hO in
theorem ms_pos (r : Nat) : IsP (ms A B C P U O r) := by
  unfold ms
  obtain ⟨g, hg⟩ := lift fun k : Fin 1024 => ot_real (P := P) hA hB hC hU hO r k.val
  have hg' : ∀ k : Fin 1024, ot A B C P U O r k.val = (g k : EReal) := fun k => congrFun hg k
  simp only [hg', div_wide, inv_eq, ← EReal.coe_mul, ← coe_sum]
  obtain ⟨e, he, h⟩ := tiny_pos
  refine ⟨(∑ k, g k * g k) * (1 / 1024) + e, ?_, by rw [h, EReal.coe_add]⟩
  have : 0 ≤ ∑ k, g k * g k := Finset.sum_nonneg fun k _ => mul_self_nonneg _
  positivity

include hA hB hC hU hO in
theorem on_real (r l : Nat) : IsR (on A B C P U O r l) := (ot_real hA hB hC hU hO _ _).mul (isR_rsqrt (ms_pos hA hB hC hU hO _))

include hA hB hC hX hT hG hU hO in
theorem er_real (r l : Nat) : IsR (er A B C P X T G U O r l) := ((hX _ _).add ((on_real hA hB hC hU hO _ _).mul (hG _ _))).sub (hT _ _)

include hA hB hC hX hT hG hU hO in
theorem dn_real (r l : Nat) : IsR (dn A B C P X T G U O r l) :=
  ((er_real hA hB hC hX hT hG hU hO _ _).mul ⟨_, inv_eq⟩).mul (hG _ _)

end Real

end Cert.MidSpec

end
-- ==== Proof.MidPay.lean ====
/- The middle of the backward pass: what one tile computes is the formulas of `MidSpec` on its 256 rows. -/
module

public import proofs.«01_k».proof.Proof.MidTile
public import proofs.«01_k».proof.Proof.MidReal
public import Idealize.ShloMosaic.Lib.Pointwise

@[expose] public section

set_option maxRecDepth 16384

noncomputable section

open Idealize.ShloMosaic Idealize.ShloMosaic.TcCoe Idealize.SL.Sem

namespace Cert.MidIdeal.Hand

open Cert.MidIdeal Cert.MidIdeal.Gen Cert.MidSpec Cert.Reals
open Cert.MemSpec (sg rd rd_of rd_real)

variable {A B C P X T G U O : Nat → Nat → EReal} {n : Nat} {b : Blk}

/-- The blocks hold rows `n` to `n + 255` of the arguments, and the projections. -/
structure Rows (A B C P X T G U O : Nat → Nat → EReal) (n : Nat) (b : Blk) : Prop where
  h0 : ∀ (r : Fin 256) (k : Fin 512), b.a0 (ix2 r k) = A (n + r.val) k.val
  h1 : ∀ (r : Fin 256) (k : Fin 512), b.a1 (ix2 r k) = B (n + r.val) k.val
  h2 : ∀ (r : Fin 256) (k : Fin 512), b.a2 (ix2 r k) = C (n + r.val) k.val
  hp : ∀ (r : Fin 256) (l : Fin 3072), b.p (ix2 r l) = P (n + r.val) l.val
  hx : ∀ (r : Fin 256) (l : Fin 1024), b.x (ix2 r l) = X (n + r.val) l.val
  ht : ∀ (r : Fin 256) (l : Fin 1024), b.t (ix2 r l) = T (n + r.val) l.val
  hg : ∀ l : Fin 1024, b.g (ix2 0 l) = G 0 l.val
  u0 : ∀ (k : Fin 512) (l : Fin 1024), b.u0 (ix2 k l) = U (0 + k.val) l.val
  u1 : ∀ (k : Fin 512) (l : Fin 1024), b.u1 (ix2 k l) = U (512 + k.val) l.val
  u2 : ∀ (k : Fin 512) (l : Fin 1024), b.u2 (ix2 k l) = U (1024 + k.val) l.val
  ho : ∀ k l : Fin 1024, b.o (ix2 k l) = O k.val l.val

/-- A load of the columns from `o` on. -/
theorem col_at (R : Rows A B C P X T G U O n b) (o : Nat) (ho : o + 1024 ≤ 3072)
    (inb : ∀ a, (![0, o] : Fin 2 → Nat) a + (![256, 1024] : Fin 2 → Nat) a ≤ S256x3072.size a) (r : Fin 256) (l : Fin 1024) :
    View.ld b.p (Rect.unit (s := S256x3072) ![0, o] ![256, 1024] inb) (ix2 r l) = P (n + r.val) (o + l.val) := by
  refine Eq.trans (congrArg b.p (funext fun a => Fin.ext ?_)) (R.hp r ⟨o + l.val, by omega⟩)
  fin_cases a
  · show 0 + 1 * r.val = r.val; omega
  · show o + 1 * l.val = o + l.val; omega

theorem p0_at (R : Rows A B C P X T G U O n b) (r : Fin 256) (l : Fin 1024) : b.p0 (ix2 r l) = P (n + r.val) (0 + l.val) := col_at R 0 (by omega) _ r l
theorem p1_at (R : Rows A B C P X T G U O n b) (r : Fin 256) (l : Fin 1024) : b.p1 (ix2 r l) = P (n + r.val) (1024 + l.val) := col_at R 1024 (by omega) _ r l
theorem p2_at (R : Rows A B C P X T G U O n b) (r : Fin 256) (l : Fin 1024) : b.p2 (ix2 r l) = P (n + r.val) (2048 + l.val) := col_at R 2048 (by omega) _ r l

theorem sum_ext {ι : Type} [Fintype ι] {f g : ι → EReal} (h : ∀ k, f k = g k) : ∑ k, f k = ∑ k, g k := Finset.sum_congr rfl fun k _ => h k

theorem m0_at (R : Rows A B C P X T G U O n b) (r : Fin 256) (l : Fin 1024) : b.m0 (ix2 r l) = up U A 0 (n + r.val) l.val := by
  pointwise [k0_pay9]
  simp only [R.h0, R.u0]
  rfl
theorem m1_at (R : Rows A B C P X T G U O n b) (r : Fin 256) (l : Fin 1024) : b.m1 (ix2 r l) = up U B 512 (n + r.val) l.val := by
  pointwise [k0_pay10]
  simp only [R.h1, R.u1]
  rfl
theorem m2_at (R : Rows A B C P X T G U O n b) (r : Fin 256) (l : Fin 1024) : b.m2 (ix2 r l) = up U C 1024 (n + r.val) l.val := by
  pointwise [k0_pay11]
  simp only [R.h2, R.u2]
  rfl

theorem g0_at (R : Rows A B C P X T G U O n b) (r : Fin 256) (l : Fin 1024) : k0_pay12 (F := Ideal) b.p0 (ix2 r l) = gt P (n + r.val) l.val := by
  pointwise [k0_pay12]
  rw [p0_at R, zero_sub, Nat.zero_add]
  rfl
theorem g1_at (R : Rows A B C P X T G U O n b) (r : Fin 256) (l : Fin 1024) : k0_pay13 (F := Ideal) b.p1 (ix2 r l) = gt P (n + r.val) (1024 + l.val) := by
  pointwise [k0_pay13]
  rw [p1_at R, zero_sub]
  rfl
theorem g2_at (R : Rows A B C P X T G U O n b) (r : Fin 256) (l : Fin 1024) : k0_pay14 (F := Ideal) b.p2 (ix2 r l) = gt P (n + r.val) (2048 + l.val) := by
  pointwise [k0_pay14]
  rw [p2_at R, zero_sub]
  rfl

theorem mb_at (R : Rows A B C P X T G U O n b) (r : Fin 256) (l : Fin 1024) :
    k0_pay15 (F := Ideal) b.m0 b.m1 b.m2 (k0_pay12 b.p0) b.p1 b.p2 (ix2 r l) = mb A B C P U (n + r.val) l.val := by
  pointwise [k0_pay15]
  rw [m0_at R, m1_at R, m2_at R, g0_at R, g1_at R, g2_at R]
  rfl
theorem ot_at (R : Rows A B C P X T G U O n b) (r : Fin 256) (l : Fin 1024) :
    k0_pay16 (F := Ideal) b.m0 b.m1 b.m2 (k0_pay12 b.p0) b.p1 b.p2 b.o (ix2 r l) = ot A B C P U O (n + r.val) l.val := by
  pointwise [k0_pay16]
  simp only [mb_at R, R.ho]
  rfl
theorem inv_at (R : Rows A B C P X T G U O n b) (r : Fin 256) (j : Fin 1) : b.inv (ix2 r j) = rr A B C P U O (n + r.val) := by
  pointwise [k0_pay17]
  simp only [ot_at R]
  rfl
theorem inv_raw (R : Rows A B C P X T G U O n b) (r : Fin 256) (j : Fin 1) :
    k0_pay17 (F := Ideal) b.m0 b.m1 b.m2 (k0_pay12 b.p0) b.p1 b.p2 b.o (ix2 r j) = rr A B C P U O (n + r.val) := inv_at R r j
theorem nrm_at (R : Rows A B C P X T G U O n b) (r : Fin 256) (l : Fin 1024) : b.nrm (ix2 r l) = on A B C P U O (n + r.val) l.val := by
  pointwise [k0_pay18]
  rw [ot_at R, inv_raw R]
  rfl
theorem er_at (R : Rows A B C P X T G U O n b) (r : Fin 256) (l : Fin 1024) :
    k0_pay19 (F := Ideal) b.nrm b.g b.x b.t (ix2 r l) = er A B C P X T G U O (n + r.val) l.val := by
  pointwise [k0_pay19]
  rw [nrm_at R, R.hg, R.hx, R.ht]
  rfl
theorem dy_at (R : Rows A B C P X T G U O n b) (r : Fin 256) (l : Fin 1024) :
    k0_pay21 (F := Ideal) b.nrm b.g b.x b.t (ix2 r l) = dy A B C P X T G U O (n + r.val) l.val := by
  pointwise [k0_pay21]
  rw [er_at R]
  rfl
theorem loss_at (R : Rows A B C P X T G U O n b) (v : Vec Ideal S8x128 .f32) (p : Fin 8) (q : Fin 128) :
    k0_pay20 (F := Ideal) b.nrm b.g b.x b.t v (ix2 p q) = v (ix2 p q)
      + half * (∑ r : Fin 256, ∑ l : Fin 1024, er A B C P X T G U O (n + r.val) l.val * er A B C P X T G U O (n + r.val) l.val) * Cert.MidSpec.inv := by
  pointwise [k0_pay20]
  simp only [er_at R]
theorem scale_at (R : Rows A B C P X T G U O n b) (v : Vec Ideal S1x1024 .f32) (l : Fin 1024) :
    k0_pay22 (F := Ideal) b.nrm b.g b.x b.t v (ix2 0 l) = v (ix2 0 l)
      + ∑ r : Fin 256, dy A B C P X T G U O (n + r.val) l.val * on A B C P U O (n + r.val) l.val := by
  pointwise [k0_pay22]
  simp only [dy_at R, nrm_at R]
theorem back_at (R : Rows A B C P X T G U O n b) (r : Fin 256) (l : Fin 1024) : b.back (ix2 r l) = dn A B C P X T G U O (n + r.val) l.val
    - on A B C P U O (n + r.val) l.val * Ideal.div (∑ k : Fin 1024, dn A B C P X T G U O (n + r.val) k.val * on A B C P U O (n + r.val) k.val) wide := by
  pointwise [k0_pay23]
  simp only [dy_at R, nrm_at R, R.hg]
  rfl
theorem ob_at (R : Rows A B C P X T G U O n b) (r : Fin 256) (l : Fin 1024) :
    k0_pay24 (F := Ideal) b.inv b.back (ix2 r l) = ob A B C P X T G U O (n + r.val) l.val := by
  pointwise [k0_pay24]
  rw [inv_at R, back_at R]
  rfl
theorem dm_at (R : Rows A B C P X T G U O n b) (r : Fin 256) (l : Fin 1024) : b.dm (ix2 r l) = dm A B C P X T G U O (n + r.val) l.val := by
  pointwise [k0_pay25]
  simp only [ob_at R, R.ho]
  rfl

theorem dm_raw (R : Rows A B C P X T G U O n b) (r : Fin 256) (l : Fin 1024) :
    k0_pay25 (F := Ideal) b.inv b.back b.o (ix2 r l) = dm A B C P X T G U O (n + r.val) l.val := dm_at R r l

theorem d0_at (R : Rows A B C P X T G U O n b) (r : Fin 256) (l : Fin 1024) :
    k0_pay28 (F := Ideal) (k0_pay12 b.p0) b.inv b.back b.o (ix2 r l) = du A B C P X T G U O 0 (n + r.val) l.val := by
  pointwise [k0_pay28, k0_pay26]
  rw [dm_raw R, g0_at R, du, show 1024 * 0 + l.val = l.val by omega]
theorem d1_at (R : Rows A B C P X T G U O n b) (r : Fin 256) (l : Fin 1024) :
    k0_pay33 (F := Ideal) (k0_pay13 b.p1) b.inv b.back b.o (ix2 r l) = du A B C P X T G U O 1 (n + r.val) l.val := by
  pointwise [k0_pay33, k0_pay31]
  rw [dm_raw R, g1_at R, du]
theorem d2_at (R : Rows A B C P X T G U O n b) (r : Fin 256) (l : Fin 1024) :
    k0_pay4 (F := Ideal) (k0_pay14 b.p2) b.dm (ix2 r l) = du A B C P X T G U O 2 (n + r.val) l.val := by
  pointwise [k0_pay4, k0_pay2]
  rw [dm_at R, g2_at R, du]

theorem s0_at (R : Rows A B C P X T G U O n b) (r : Fin 256) (l : Fin 1024) :
    k0_pay29 (F := Ideal) (k0_pay12 b.p0) b.inv b.back b.o (ix3 0 r l) = du A B C P X T G U O 0 (n + r.val) l.val := by
  pointwise [k0_pay29]
  exact d0_at R r l
theorem s1_at (R : Rows A B C P X T G U O n b) (r : Fin 256) (l : Fin 1024) :
    k0_pay34 (F := Ideal) (k0_pay13 b.p1) b.inv b.back b.o (ix3 0 r l) = du A B C P X T G U O 1 (n + r.val) l.val := by
  pointwise [k0_pay34]
  exact d1_at R r l
theorem s2_at (R : Rows A B C P X T G U O n b) (r : Fin 256) (l : Fin 1024) :
    k0_pay5 (F := Ideal) (k0_pay14 b.p2) b.dm (ix3 0 r l) = du A B C P X T G U O 2 (n + r.val) l.val := by
  pointwise [k0_pay5]
  exact d2_at R r l

theorem x0_at (R : Rows A B C P X T G U O n b) (r : Fin 256) (k : Fin 512) :
    k0_pay30 (F := Ideal) (k0_pay12 b.p0) b.inv b.back b.o b.u0 (ix2 r k) = dx A B C P X T G U O 0 0 (n + r.val) k.val := by
  pointwise [k0_pay30]
  simp only [d0_at R, R.u0]
  rfl
theorem x1_at (R : Rows A B C P X T G U O n b) (r : Fin 256) (k : Fin 512) :
    k0_pay1 (F := Ideal) (k0_pay33 (k0_pay13 b.p1) b.inv b.back b.o) b.u1 (ix2 r k) = dx A B C P X T G U O 1 512 (n + r.val) k.val := by
  pointwise [k0_pay1]
  simp only [d1_at R, R.u1]
  rfl
theorem x2_at (R : Rows A B C P X T G U O n b) (r : Fin 256) (k : Fin 512) :
    k0_pay6 (F := Ideal) (k0_pay14 b.p2) b.dm b.u2 (ix2 r k) = dx A B C P X T G U O 2 1024 (n + r.val) k.val := by
  pointwise [k0_pay6]
  simp only [d2_at R, R.u2]
  rfl

theorem q0_at (R : Rows A B C P X T G U O n b) (r : Fin 256) (l : Fin 1024) :
    k0_pay27 (F := Ideal) b.m0 (k0_pay12 b.p0) b.inv b.back b.o (ix2 r l) = dg A B C P X T G U O A 0 0 (n + r.val) l.val := by
  pointwise [k0_pay27, k0_pay26]
  rw [dm_raw R, g0_at R, m0_at R, dg, du, show 1024 * 0 + l.val = l.val by omega]
theorem q1_at (R : Rows A B C P X T G U O n b) (r : Fin 256) (l : Fin 1024) :
    k0_pay32 (F := Ideal) b.m1 (k0_pay13 b.p1) b.inv b.back b.o (ix2 r l) = dg A B C P X T G U O B 1 512 (n + r.val) l.val := by
  pointwise [k0_pay32, k0_pay31]
  rw [dm_raw R, g1_at R, m1_at R, dg, du]
theorem q2_at (R : Rows A B C P X T G U O n b) (r : Fin 256) (l : Fin 1024) :
    k0_pay3 (F := Ideal) b.m2 (k0_pay14 b.p2) b.dm (ix2 r l) = dg A B C P X T G U O C 2 1024 (n + r.val) l.val := by
  pointwise [k0_pay3, k0_pay2]
  rw [dm_at R, g2_at R, m2_at R, dg, du]

end Cert.MidIdeal.Hand

end
-- ==== Proof.MidArr.lean ====
/- The middle of the backward pass: what the kernel's ten arrays hold at the end, as the formulas of `MidSpec` on its arguments. -/
module

public import proofs.«01_k».proof.Proof.MidPay
public import Idealize.ShloMosaic.Lib.WritesUnit
public import Idealize.ShloMosaic.Lib.ValueLayout

@[expose] public section

set_option maxRecDepth 16384

noncomputable section

open Idealize.ShloMosaic Idealize.ShloMosaic.TcCoe Idealize.SL.Sem
open Idealize.ShloMosaic.Pipeline (Dat)

namespace Cert.MidIdeal.Hand

open Cert.MidIdeal Cert.MidIdeal.Gen Cert.MidSpec Cert.Reals
open Cert.MemSpec (sg rd rd_of rd_real)

variable (m : (ℓ : Loc nD τ sig) → Buf (Elt Ideal) ℓ)

theorem idx_val : ∀ t : Fin cfg0.N, (win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0])
    ∧ win0_7.index t = ![t.val, 0] ∧ win0_8.index t = ![t.val, 0] ∧ win0_9.index t = ![t.val, 0] ∧ win0_10.index t = ![t.val, 0]
    ∧ win0_11.index t = ![t.val, 0] ∧ win0_14.index t = ![t.val, 0] ∧ win0_15.index t = ![t.val, 0] ∧ win0_16.index t = ![0, t.val, 0] :=
  (by decide +kernel : ∀ t : Fin grid0.N, _)

abbrev A0 (c : Dev nD) : FVec Ideal S4096x512 .bf16 := m ((c.tc : Thread nD τ).loc main_arg0)
abbrev A1 (c : Dev nD) : FVec Ideal S4096x512 .bf16 := m ((c.tc : Thread nD τ).loc main_arg1)
abbrev A2 (c : Dev nD) : FVec Ideal S4096x512 .bf16 := m ((c.tc : Thread nD τ).loc main_arg2)
abbrev A3 (c : Dev nD) : FVec Ideal S4096x3072 .bf16 := m ((c.tc : Thread nD τ).loc main_arg3)
abbrev A4 (c : Dev nD) : FVec Ideal S4096x1024 .f32 := m ((c.tc : Thread nD τ).loc main_arg4)
abbrev A5 (c : Dev nD) : FVec Ideal S4096x1024 .f32 := m ((c.tc : Thread nD τ).loc main_arg5)
abbrev A6 (c : Dev nD) : FVec Ideal S1x1024 .f32 := m ((c.tc : Thread nD τ).loc main_arg6)
abbrev A7 (c : Dev nD) : FVec Ideal S8x1536x128 .bf16 := m ((c.tc : Thread nD τ).loc main_arg7)
abbrev A8 (c : Dev nD) : FVec Ideal S1024x1024 .bf16 := m ((c.tc : Thread nD τ).loc main_arg8)

section Cols
variable {o : Nat} (inb : ∀ a, (![0, o] : Fin 2 → Nat) a + (![1536, 128] : Fin 2 → Nat) a ≤ S1536x1024.size a)
    (w : Vec Ideal S1536x128 .bf16) (L : List (View.Piece (Elt Ideal) S1536x1024 .bf16)) (y : S1536x1024.Idx)

/-- A slab of the up projection read back, and the columns another slab's copy leaves alone. -/
theorem slab_hit (x : S1536x128.Idx) (h0 : (y 0).val = (x 0).val) (h1 : (y 1).val = o + (x 1).val) :
    View.canon ((⟨Rect.unit (s := S1536x1024) ![0, o] ![1536, 128] inb, w⟩ : View.Piece (Elt Ideal) S1536x1024 .bf16) :: L) y = w x := by
  have e : (Rect.unit (s := S1536x1024) ![0, o] ![1536, 128] inb).emb x = y := by
    funext a
    apply Fin.ext
    fin_cases a
    · show 0 + 1 * (x 0).val = (y 0).val; omega
    · show o + 1 * (x 1).val = (y 1).val; omega
  rw [← e]
  exact View.canon_cons_emb _ _ _ _

theorem slab_miss (h : (y 1).val < o ∨ o + 128 ≤ (y 1).val) :
    View.canon ((⟨Rect.unit (s := S1536x1024) ![0, o] ![1536, 128] inb, w⟩ : View.Piece (Elt Ideal) S1536x1024 .bf16) :: L) y = View.canon L y := by
  refine View.canon_cons_of_not_mem _ _ ?_
  rw [Rect.mem_set_unit]
  intro hall
  have h1 : o ≤ (y 1).val ∧ (y 1).val < o + 128 := hall 1
  omega
end Cols

/-- One slab of the up projection as the copy reads it. -/
theorem slab_read (c : Dev nD) (j : Nat) (hj : j < 8) (inb : ∀ a, (![j, 0, 0] : Fin 3 → Nat) a + (![1, 1536, 128] : Fin 3 → Nat) a ≤ S8x1536x128.size a)
    (hc : (⟨3, ![1, 1536, 128]⟩ : Shape).ShapeCasts S1536x128) (a : Fin 1536) (x : Fin 128) :
    View.read (Elt Ideal) (((View.whole main_arg7).slice (Rect.unit (s := S8x1536x128) ![j, 0, 0] ![1, 1536, 128] inb)).reshape S1536x128 hc) (V m c main_arg7) (ix2 a x)
      = A7 m c (ix3 ⟨j, hj⟩ a x) := by
  show A7 m c ((Rect.unit (s := S8x1536x128) ![j, 0, 0] ![1, 1536, 128] inb).emb (Shape.reshapeEquiv _ (ix2 a x))) = _
  have e : Shape.reshapeEquiv hc (ix2 a x) = ix3 (0 : Fin 1) a x := Shape.reshapeEquiv_eq_of_rowMajor hc (by
    rw [Shape.rowMajor_val_three, Shape.rowMajor_val_two]
    show (0 * 1536 + a.val) * 128 + x.val = a.val * 128 + x.val
    omega)
  rw [e]
  refine congrArg (A7 m c) (funext fun k => Fin.ext ?_)
  fin_cases k
  · show j + 1 * 0 = j; omega
  · show 0 + 1 * a.val = a.val; omega
  · show 0 + 1 * x.val = x.val; omega

theorem wUp_at (c : Dev nD) (a : Fin 1536) (l : Fin 1024) : wUp m c (ix2 a l) = rw8 (A7 m c) a.val l.val := by
  rw [rw8_of a.isLt l.isLt]
  have hl := l.isLt
  unfold wUp loaded runFirst
  frame_out
  have hx : l.val % 128 < 128 := by omega
  have fin : ∀ (j : Nat) (hj : j < 8), l.val / 128 = j → A7 m c (ix3 ⟨j, hj⟩ a ⟨l.val % 128, hx⟩) = A7 m c (ix3 ⟨l.val / 128, by omega⟩ a ⟨l.val % 128, hx⟩) := by
    intro j hj h; subst h; rfl
  by_cases h0 : l.val / 128 = 0
  · iterate 7 refine (slab_miss _ _ _ _ (by show l.val < _ ∨ _ ≤ l.val; omega)).trans ?_
    refine (slab_hit _ _ _ _ (ix2 a ⟨l.val % 128, hx⟩) rfl (by show l.val = _ + l.val % 128; omega)).trans ?_
    exact (slab_read m c 0 (by omega) _ _ a ⟨l.val % 128, hx⟩).trans (fin 0 (by omega) h0)
  by_cases h1 : l.val / 128 = 1
  · iterate 6 refine (slab_miss _ _ _ _ (by show l.val < _ ∨ _ ≤ l.val; omega)).trans ?_
    refine (slab_hit _ _ _ _ (ix2 a ⟨l.val % 128, hx⟩) rfl (by show l.val = _ + l.val % 128; omega)).trans ?_
    exact (slab_read m c 1 (by omega) _ _ a ⟨l.val % 128, hx⟩).trans (fin 1 (by omega) h1)
  by_cases h2 : l.val / 128 = 2
  · iterate 5 refine (slab_miss _ _ _ _ (by show l.val < _ ∨ _ ≤ l.val; omega)).trans ?_
    refine (slab_hit _ _ _ _ (ix2 a ⟨l.val % 128, hx⟩) rfl (by show l.val = _ + l.val % 128; omega)).trans ?_
    exact (slab_read m c 2 (by omega) _ _ a ⟨l.val % 128, hx⟩).trans (fin 2 (by omega) h2)
  by_cases h3 : l.val / 128 = 3
  · iterate 4 refine (slab_miss _ _ _ _ (by show l.val < _ ∨ _ ≤ l.val; omega)).trans ?_
    refine (slab_hit _ _ _ _ (ix2 a ⟨l.val % 128, hx⟩) rfl (by show l.val = _ + l.val % 128; omega)).trans ?_
    exact (slab_read m c 3 (by omega) _ _ a ⟨l.val % 128, hx⟩).trans (fin 3 (by omega) h3)
  by_cases h4 : l.val / 128 = 4
  · iterate 3 refine (slab_miss _ _ _ _ (by show l.val < _ ∨ _ ≤ l.val; omega)).trans ?_
    refine (slab_hit _ _ _ _ (ix2 a ⟨l.val % 128, hx⟩) rfl (by show l.val = _ + l.val % 128; omega)).trans ?_
    exact (slab_read m c 4 (by omega) _ _ a ⟨l.val % 128, hx⟩).trans (fin 4 (by omega) h4)
  by_cases h5 : l.val / 128 = 5
  · iterate 2 refine (slab_miss _ _ _ _ (by show l.val < _ ∨ _ ≤ l.val; omega)).trans ?_
    refine (slab_hit _ _ _ _ (ix2 a ⟨l.val % 128, hx⟩) rfl (by show l.val = _ + l.val % 128; omega)).trans ?_
    exact (slab_read m c 5 (by omega) _ _ a ⟨l.val % 128, hx⟩).trans (fin 5 (by omega) h5)
  by_cases h6 : l.val / 128 = 6
  · iterate 1 refine (slab_miss _ _ _ _ (by show l.val < _ ∨ _ ≤ l.val; omega)).trans ?_
    refine (slab_hit _ _ _ _ (ix2 a ⟨l.val % 128, hx⟩) rfl (by show l.val = _ + l.val % 128; omega)).trans ?_
    exact (slab_read m c 6 (by omega) _ _ a ⟨l.val % 128, hx⟩).trans (fin 6 (by omega) h6)
  by_cases h7 : l.val / 128 = 7
  · refine (slab_hit _ _ _ _ (ix2 a ⟨l.val % 128, hx⟩) rfl (by show l.val = _ + l.val % 128; omega)).trans ?_
    exact (slab_read m c 7 (by omega) _ _ a ⟨l.val % 128, hx⟩).trans (fin 7 (by omega) h7)
  omega

theorem whole_at (w : Vec Ideal S1024x1024 .bf16) (y : S1024x1024.Idx) :
    View.canon [(⟨Rect.whole S1024x1024, w⟩ : View.Piece (Elt Ideal) S1024x1024 .bf16)] y = w y := by
  have h := View.canon_cons_emb (Rect.whole S1024x1024) w ([] : List (View.Piece (Elt Ideal) S1024x1024 .bf16)) y
  rwa [Rect.emb_whole_apply] at h

theorem up_ld (w : Vec Ideal S1536x1024 .bf16) (o : Nat) (ho : o + 512 ≤ 1536)
    (inb : ∀ a, (![o, 0] : Fin 2 → Nat) a + (![512, 1024] : Fin 2 → Nat) a ≤ S1536x1024.size a) (k : Fin 512) (l : Fin 1024) :
    View.ld w (Rect.unit (s := S1536x1024) ![o, 0] ![512, 1024] inb) (ix2 k l) = w (ix2 ⟨o + k.val, by omega⟩ l) := by
  refine congrArg w (funext fun a => Fin.ext ?_)
  fin_cases a
  · show o + 1 * k.val = o + k.val; omega
  · show 0 + 1 * l.val = l.val; omega

theorem wOut_at (c : Dev nD) (a l : Fin 1024) : wOut m c (ix2 a l) = rd (A8 m c) a.val l.val := by
  rw [rd_of a.isLt l.isLt]
  unfold wOut loaded runFirst
  frame_out
  exact whole_at _ _

/-- The blocks of point `t` hold rows `256 t` to `256 t + 255` of the arguments. -/
theorem rows_of (c : Dev nD) (t : Fin cfg0.N) (wu : Vec Ideal S1536x1024 .bf16) (wo : Vec Ideal S1024x1024 .bf16)
    (hu : ∀ (a : Fin 1536) (l : Fin 1024), wu (ix2 a l) = rw8 (A7 m c) a.val l.val)
    (ho : ∀ a l : Fin 1024, wo (ix2 a l) = rd (A8 m c) a.val l.val) : Rows (rd (A0 m c)) (rd (A1 m c)) (rd (A2 m c)) (rd (A3 m c)) (rd (A4 m c)) (rd (A5 m c)) (rd (A6 m c)) (rw8 (A7 m c)) (rd (A8 m c))
    (256 * t.val) (blkOf m c t wu wo) := by
  have ht : t.val < 16 := lt_of_lt_of_eq t.isLt N_0
  obtain ⟨⟨i0, i1, i2, i3, i4, i5, i6⟩, -⟩ := idx_val t
  refine ⟨fun r k => ?_, fun r k => ?_, fun r k => ?_, fun r l => ?_, fun r l => ?_, fun r l => ?_, fun l => ?_, fun k l => ?_, fun k l => ?_, fun k l => ?_, fun k l => ?_⟩
  · have := r.isLt
    show _ = rd (A0 m c) _ _; rw [rd_of (by omega) k.isLt]
    show (iblk m c 0 t : Vec Ideal S256x512 .bf16) _ = _
    blk_point [iblk, V, i0]
  · have := r.isLt
    show _ = rd (A1 m c) _ _; rw [rd_of (by omega) k.isLt]
    show (iblk m c 1 t : Vec Ideal S256x512 .bf16) _ = _
    blk_point [iblk, V, i1]
  · have := r.isLt
    show _ = rd (A2 m c) _ _; rw [rd_of (by omega) k.isLt]
    show (iblk m c 2 t : Vec Ideal S256x512 .bf16) _ = _
    blk_point [iblk, V, i2]
  · have := r.isLt
    show _ = rd (A3 m c) _ _; rw [rd_of (by omega) l.isLt]
    show (iblk m c 3 t : Vec Ideal S256x3072 .bf16) _ = _
    blk_point [iblk, V, i3]
  · have := r.isLt
    show _ = rd (A4 m c) _ _; rw [rd_of (by omega) l.isLt]
    show (iblk m c 4 t : Vec Ideal S256x1024 .f32) _ = _
    blk_point [iblk, V, i4]
  · have := r.isLt
    show _ = rd (A5 m c) _ _; rw [rd_of (by omega) l.isLt]
    show (iblk m c 5 t : Vec Ideal S256x1024 .f32) _ = _
    blk_point [iblk, V, i5]
  · show _ = rd (A6 m c) _ _; rw [rd_of (by omega) l.isLt]
    show (iblk m c 6 t : Vec Ideal S1x1024 .f32) _ = _
    blk_point [iblk, V, i6]
  · exact (up_ld wu 0 (by decide) _ k l).trans (hu _ l)
  · exact (up_ld wu 512 (by decide) _ k l).trans (hu _ l)
  · exact (up_ld wu 1024 (by decide) _ k l).trans (hu _ l)
  · exact ho k l

theorem rows (c : Dev nD) (t : Fin cfg0.N) : Rows (rd (A0 m c)) (rd (A1 m c)) (rd (A2 m c)) (rd (A3 m c)) (rd (A4 m c)) (rd (A5 m c)) (rd (A6 m c)) (rw8 (A7 m c)) (rd (A8 m c))
    (256 * t.val) (blkOf m c t (wUp m c) (wOut m c)) := rows_of m c t _ _ (wUp_at m c) (wOut_at m c)

/-- Every point's results are its tile's, over the sums carried to it. -/
theorem first_outs (c : Dev nD) (t : Fin cfg0.N) (h : t.val % 16 = 0) :
    outs m c t.val t.isLt = (blkOf m c t (wUp m c) (wOut m c)).tile (k0_pay7 (F := Ideal)) (k0_pay8 (F := Ideal)) := by
  rw [outs_first m c t h, first_tile m c t h, ← wUp_first m c t h, ← wOut_first m c t h]

theorem later_outs (c : Dev nD) (t : Fin cfg0.N) (h : ¬t.val % 16 = 0) : outs m c t.val t.isLt
    = (blkOf m c t (wUp m c) (wOut m c)).tile (prev m c t).2.2.2.2.2.1 (prev m c t).2.2.2.2.2.2.1 := by
  rw [outs_later m c t h, later_tile m c t h]

theorem outs_tile (c : Dev nD) (t : Fin cfg0.N) : ∃ (l : Vec Ideal S8x128 .f32) (s : Vec Ideal S1x1024 .f32),
    outs m c t.val t.isLt = (blkOf m c t (wUp m c) (wOut m c)).tile l s := by
  by_cases h : t.val % 16 = 0
  · exact ⟨_, _, first_outs m c t h⟩
  · exact ⟨_, _, later_outs m c t h⟩

theorem ix2_eta {a b : Nat} (x : (⟨2, ![a, b]⟩ : Shape).Idx) : x = ix2 (x 0) (x 1) := by
  funext k; fin_cases k <;> rfl

/-- The first branch's gradient. -/
def G8 (c : Dev nD) : S4096x512.Idx → EReal := fun j => dx (rd (A0 m c)) (rd (A1 m c)) (rd (A2 m c)) (rd (A3 m c)) (rd (A4 m c)) (rd (A5 m c)) (rd (A6 m c)) (rw8 (A7 m c)) (rd (A8 m c)) 0 0 (j 0).val (j 1).val
theorem end8 (c : Dev nD) : (dats m 0 c).arrAt 8 cfg0.N = G8 m c := by
  refine (dats m 0 c).arrAt_eq_of_covers 8 _ (by decide +kernel) fun t hf y => ?_
  blk_simp
  have i8 := (idx_val t).2
  rw [after0_8]
  obtain ⟨l, s, e⟩ := outs_tile m c t
  rw [e]
  have e0 : ((((View.whole main_v0_1).slice (win0_8.rect t)).emb y) 0).val = 256 * t.val + (y 0).val := by blk_simp [i8] <;> try omega
  have e1 : ((((View.whole main_v0_1).slice (win0_8.rect t)).emb y) 1).val = (y 1).val := by blk_simp [i8] <;> try omega
  show _ = dx _ _ _ _ _ _ _ _ _ _ _ _ _
  rw [e0, e1]
  exact (congrArg _ (ix2_eta y)).trans (x0_at (rows m c t) (y 0) (y 1))

/-- The second branch's gradient. -/
def G9 (c : Dev nD) : S4096x512.Idx → EReal := fun j => dx (rd (A0 m c)) (rd (A1 m c)) (rd (A2 m c)) (rd (A3 m c)) (rd (A4 m c)) (rd (A5 m c)) (rd (A6 m c)) (rw8 (A7 m c)) (rd (A8 m c)) 1 512 (j 0).val (j 1).val
theorem end9 (c : Dev nD) : (dats m 0 c).arrAt 9 cfg0.N = G9 m c := by
  refine (dats m 0 c).arrAt_eq_of_covers 9 _ (by decide +kernel) fun t hf y => ?_
  blk_simp
  have i9 := (idx_val t).2
  rw [after0_9]
  obtain ⟨l, s, e⟩ := outs_tile m c t
  rw [e]
  have e0 : ((((View.whole main_v0_2).slice (win0_9.rect t)).emb y) 0).val = 256 * t.val + (y 0).val := by blk_simp [i9] <;> try omega
  have e1 : ((((View.whole main_v0_2).slice (win0_9.rect t)).emb y) 1).val = (y 1).val := by blk_simp [i9] <;> try omega
  show _ = dx _ _ _ _ _ _ _ _ _ _ _ _ _
  rw [e0, e1]
  exact (congrArg _ (ix2_eta y)).trans (x1_at (rows m c t) (y 0) (y 1))

/-- The third branch's gradient. -/
def G10 (c : Dev nD) : S4096x512.Idx → EReal := fun j => dx (rd (A0 m c)) (rd (A1 m c)) (rd (A2 m c)) (rd (A3 m c)) (rd (A4 m c)) (rd (A5 m c)) (rd (A6 m c)) (rw8 (A7 m c)) (rd (A8 m c)) 2 1024 (j 0).val (j 1).val
theorem end10 (c : Dev nD) : (dats m 0 c).arrAt 10 cfg0.N = G10 m c := by
  refine (dats m 0 c).arrAt_eq_of_covers 10 _ (by decide +kernel) fun t hf y => ?_
  blk_simp
  have i10 := (idx_val t).2
  rw [after0_10]
  obtain ⟨l, s, e⟩ := outs_tile m c t
  rw [e]
  have e0 : ((((View.whole main_v0_3).slice (win0_10.rect t)).emb y) 0).val = 256 * t.val + (y 0).val := by blk_simp [i10] <;> try omega
  have e1 : ((((View.whole main_v0_3).slice (win0_10.rect t)).emb y) 1).val = (y 1).val := by blk_simp [i10] <;> try omega
  show _ = dx _ _ _ _ _ _ _ _ _ _ _ _ _
  rw [e0, e1]
  exact (congrArg _ (ix2_eta y)).trans (x2_at (rows m c t) (y 0) (y 1))

/-- The gradient of the output. -/
def G11 (c : Dev nD) : S4096x1024.Idx → EReal := fun j => dy (rd (A0 m c)) (rd (A1 m c)) (rd (A2 m c)) (rd (A3 m c)) (rd (A4 m c)) (rd (A5 m c)) (rd (A6 m c)) (rw8 (A7 m c)) (rd (A8 m c)) (j 0).val (j 1).val
theorem end11 (c : Dev nD) : (dats m 0 c).arrAt 11 cfg0.N = G11 m c := by
  refine (dats m 0 c).arrAt_eq_of_covers 11 _ (by decide +kernel) fun t hf y => ?_
  blk_simp
  have i11 := (idx_val t).2
  rw [after0_11]
  obtain ⟨l, s, e⟩ := outs_tile m c t
  rw [e]
  have e0 : ((((View.whole main_v0_4).slice (win0_11.rect t)).emb y) 0).val = 256 * t.val + (y 0).val := by blk_simp [i11] <;> try omega
  have e1 : ((((View.whole main_v0_4).slice (win0_11.rect t)).emb y) 1).val = (y 1).val := by blk_simp [i11] <;> try omega
  show _ = dy _ _ _ _ _ _ _ _ _ _ _
  rw [e0, e1]
  exact (congrArg _ (ix2_eta y)).trans (dy_at (rows m c t) (y 0) (y 1))

/-- The merged branches. -/
def G14 (c : Dev nD) : S4096x1024.Idx → EReal := fun j => mb (rd (A0 m c)) (rd (A1 m c)) (rd (A2 m c)) (rd (A3 m c)) (rw8 (A7 m c)) (j 0).val (j 1).val
theorem end14 (c : Dev nD) : (dats m 0 c).arrAt 14 cfg0.N = G14 m c := by
  refine (dats m 0 c).arrAt_eq_of_covers 14 _ (by decide +kernel) fun t hf y => ?_
  blk_simp
  have i14 := (idx_val t).2
  rw [after0_14]
  obtain ⟨l, s, e⟩ := outs_tile m c t
  rw [e]
  have e0 : ((((View.whole main_v0_7).slice (win0_14.rect t)).emb y) 0).val = 256 * t.val + (y 0).val := by blk_simp [i14] <;> try omega
  have e1 : ((((View.whole main_v0_7).slice (win0_14.rect t)).emb y) 1).val = (y 1).val := by blk_simp [i14] <;> try omega
  show _ = mb _ _ _ _ _ _ _
  rw [e0, e1]
  exact (congrArg _ (ix2_eta y)).trans (mb_at (rows m c t) (y 0) (y 1))

/-- The gradient behind the norm. -/
def G15 (c : Dev nD) : S4096x1024.Idx → EReal := fun j => ob (rd (A0 m c)) (rd (A1 m c)) (rd (A2 m c)) (rd (A3 m c)) (rd (A4 m c)) (rd (A5 m c)) (rd (A6 m c)) (rw8 (A7 m c)) (rd (A8 m c)) (j 0).val (j 1).val
theorem end15 (c : Dev nD) : (dats m 0 c).arrAt 15 cfg0.N = G15 m c := by
  refine (dats m 0 c).arrAt_eq_of_covers 15 _ (by decide +kernel) fun t hf y => ?_
  blk_simp
  have i15 := (idx_val t).2
  rw [after0_15]
  obtain ⟨l, s, e⟩ := outs_tile m c t
  rw [e]
  have e0 : ((((View.whole main_v0_8).slice (win0_15.rect t)).emb y) 0).val = 256 * t.val + (y 0).val := by blk_simp [i15] <;> try omega
  have e1 : ((((View.whole main_v0_8).slice (win0_15.rect t)).emb y) 1).val = (y 1).val := by blk_simp [i15] <;> try omega
  show _ = ob _ _ _ _ _ _ _ _ _ _ _
  rw [e0, e1]
  exact (congrArg _ (ix2_eta y)).trans (ob_at (rows m c t) (y 0) (y 1))

section Gates
variable {o : Nat} (inb : ∀ a, (![0, o] : Fin 2 → Nat) a + (![256, 1024] : Fin 2 → Nat) a ≤ S256x3072.size a)
    (w : Vec Ideal S256x1024 .bf16) (L : List (View.Piece (Elt Ideal) S256x3072 .bf16)) (y : S256x3072.Idx)

/-- The stored columns of one gate, and the columns another gate's store leaves alone. -/
theorem gate_hit (l : Fin 1024) (h1 : (y 1).val = o + l.val) :
    View.canon ((⟨Rect.unit (s := S256x3072) ![0, o] ![256, 1024] inb, w⟩ : View.Piece (Elt Ideal) S256x3072 .bf16) :: L) y = w (ix2 (y 0) l) := by
  have e : (Rect.unit (s := S256x3072) ![0, o] ![256, 1024] inb).emb (ix2 (y 0) l) = y := by
    funext a
    apply Fin.ext
    fin_cases a
    · show 0 + 1 * (y 0).val = (y 0).val; omega
    · show o + 1 * l.val = (y 1).val; omega
  refine Eq.trans ?_ (View.canon_cons_emb (Rect.unit (s := S256x3072) ![0, o] ![256, 1024] inb) w L (ix2 (y 0) l))
  rw [e]

theorem gate_miss (h : (y 1).val < o ∨ o + 1024 ≤ (y 1).val) :
    View.canon ((⟨Rect.unit (s := S256x3072) ![0, o] ![256, 1024] inb, w⟩ : View.Piece (Elt Ideal) S256x3072 .bf16) :: L) y = View.canon L y := by
  refine View.canon_cons_of_not_mem _ _ ?_
  rw [Rect.mem_set_unit]
  intro hall
  have h1 : o ≤ (y 1).val ∧ (y 1).val < o + 1024 := hall 1
  omega
end Gates

section Slabs
variable {o : Nat} (inb : ∀ a, (![o, 0, 0] : Fin 3 → Nat) a + (![1, 256, 1024] : Fin 3 → Nat) a ≤ S3x256x1024.size a)
    (w : Vec Ideal S1x256x1024 .bf16) (L : List (View.Piece (Elt Ideal) S3x256x1024 .bf16)) (y : S3x256x1024.Idx)

/-- The stored slab of one branch, and the slabs another branch's store leaves alone. -/
theorem branch_hit (h1 : (y 0).val = o) :
    View.canon ((⟨Rect.unit (s := S3x256x1024) ![o, 0, 0] ![1, 256, 1024] inb, w⟩ : View.Piece (Elt Ideal) S3x256x1024 .bf16) :: L) y = w (ix3 0 (y 1) (y 2)) := by
  have e : (Rect.unit (s := S3x256x1024) ![o, 0, 0] ![1, 256, 1024] inb).emb (ix3 0 (y 1) (y 2)) = y := by
    funext a
    apply Fin.ext
    fin_cases a
    · show o + 1 * 0 = (y 0).val; omega
    · show 0 + 1 * (y 1).val = (y 1).val; omega
    · show 0 + 1 * (y 2).val = (y 2).val; omega
  refine Eq.trans ?_ (View.canon_cons_emb (Rect.unit (s := S3x256x1024) ![o, 0, 0] ![1, 256, 1024] inb) w L (ix3 0 (y 1) (y 2)))
  rw [e]

theorem branch_miss (h : (y 0).val ≠ o) :
    View.canon ((⟨Rect.unit (s := S3x256x1024) ![o, 0, 0] ![1, 256, 1024] inb, w⟩ : View.Piece (Elt Ideal) S3x256x1024 .bf16) :: L) y = View.canon L y := by
  refine View.canon_cons_of_not_mem _ _ ?_
  rw [Rect.mem_set_unit]
  intro hall
  have h1 : o ≤ (y 0).val ∧ (y 0).val < o + 1 := hall 0
  omega
end Slabs

/-- The gates' gradient. -/
def G7 (c : Dev nD) : S4096x3072.Idx → EReal := fun j => dgAt (rd (A0 m c)) (rd (A1 m c)) (rd (A2 m c)) (rd (A3 m c)) (rd (A4 m c)) (rd (A5 m c)) (rd (A6 m c)) (rw8 (A7 m c)) (rd (A8 m c)) (j 0).val (j 1).val

theorem canon7 {A B C P X T G U O : Nat → Nat → EReal} {n : Nat} (w0 w1 w2 : Vec Ideal S256x1024 .bf16)
    (i0 : ∀ a, (![0, 0] : Fin 2 → Nat) a + (![256, 1024] : Fin 2 → Nat) a ≤ S256x3072.size a)
    (i1 : ∀ a, (![0, 1024] : Fin 2 → Nat) a + (![256, 1024] : Fin 2 → Nat) a ≤ S256x3072.size a)
    (i2 : ∀ a, (![0, 2048] : Fin 2 → Nat) a + (![256, 1024] : Fin 2 → Nat) a ≤ S256x3072.size a)
    (q0 : ∀ (r : Fin 256) (l : Fin 1024), w0 (ix2 r l) = dg A B C P X T G U O A 0 0 (n + r.val) l.val)
    (q1 : ∀ (r : Fin 256) (l : Fin 1024), w1 (ix2 r l) = dg A B C P X T G U O B 1 512 (n + r.val) l.val)
    (q2 : ∀ (r : Fin 256) (l : Fin 1024), w2 (ix2 r l) = dg A B C P X T G U O C 2 1024 (n + r.val) l.val) (y : S256x3072.Idx) :
    View.canon ([⟨Rect.unit (s := S256x3072) ![0, 2048] ![256, 1024] i2, w2⟩, ⟨Rect.unit (s := S256x3072) ![0, 1024] ![256, 1024] i1, w1⟩,
      ⟨Rect.unit (s := S256x3072) ![0, 0] ![256, 1024] i0, w0⟩] : List (View.Piece (Elt Ideal) S256x3072 .bf16)) y
      = dgAt A B C P X T G U O (n + (y 0).val) (y 1).val := by
  have hy : (y 1).val < 3072 := (y 1).isLt
  unfold dgAt
  by_cases h0 : (y 1).val < 1024
  · rw [if_pos h0, gate_miss _ _ _ _ (by omega), gate_miss _ _ _ _ (by omega), gate_hit _ _ _ y ⟨(y 1).val, h0⟩ (by show _ = 0 + (y 1).val; omega)]
    exact q0 (y 0) _
  · rw [if_neg h0]
    by_cases h1 : (y 1).val < 2048
    · rw [if_pos h1, gate_miss _ _ _ _ (by omega), gate_hit _ _ _ y ⟨(y 1).val - 1024, by omega⟩ (by show _ = 1024 + ((y 1).val - 1024); omega)]
      exact q1 (y 0) _
    · rw [if_neg h1, gate_hit _ _ _ y ⟨(y 1).val - 2048, by omega⟩ (by show _ = 2048 + ((y 1).val - 2048); omega)]
      exact q2 (y 0) _

theorem tile7 {A B C P X T G U O : Nat → Nat → EReal} {n : Nat} {b : Blk} (R : Rows A B C P X T G U O n b)
    (l : Vec Ideal S8x128 .f32) (s : Vec Ideal S1x1024 .f32) (y : S256x3072.Idx) :
    (b.tile l s).1 y = dgAt A B C P X T G U O (n + (y 0).val) (y 1).val := by
  dsimp only [Blk.tile]
  exact canon7 (k0_pay27 (F := Ideal) b.m0 (k0_pay12 b.p0) b.inv b.back b.o) (k0_pay32 (F := Ideal) b.m1 (k0_pay13 b.p1) b.inv b.back b.o)
    (k0_pay3 (F := Ideal) b.m2 (k0_pay14 b.p2) b.dm) inb_S256x3072_S256x1024_0_0 inb_S256x3072_S256x1024_0_1024 inb_S256x3072_S256x1024_0_2048
    (q0_at R) (q1_at R) (q2_at R) y

theorem end7 (c : Dev nD) : (dats m 0 c).arrAt 7 cfg0.N = G7 m c := by
  refine (dats m 0 c).arrAt_eq_of_covers 7 _ (by decide +kernel) fun t hf y => ?_
  blk_simp
  have i7 := (idx_val t).2
  rw [after0_7]
  obtain ⟨l, s, e⟩ := outs_tile m c t
  rw [e]
  have e0 : ((((View.whole main_v0_0).slice (win0_7.rect t)).emb y) 0).val = 256 * t.val + (y 0).val := by blk_simp [i7] <;> try omega
  have e1 : ((((View.whole main_v0_0).slice (win0_7.rect t)).emb y) 1).val = (y 1).val := by blk_simp [i7] <;> try omega
  show _ = dgAt _ _ _ _ _ _ _ _ _ _ _
  rw [e0, e1]
  exact tile7 (rows m c t) l s y

/-- The merged branches' three gradients, stacked. -/
def G16 (c : Dev nD) : S3x4096x1024.Idx → EReal := fun j => du (rd (A0 m c)) (rd (A1 m c)) (rd (A2 m c)) (rd (A3 m c)) (rd (A4 m c)) (rd (A5 m c)) (rd (A6 m c)) (rw8 (A7 m c)) (rd (A8 m c)) (j 0).val (j 1).val (j 2).val

theorem canon16 {A B C P X T G U O : Nat → Nat → EReal} {n : Nat} (w0 w1 w2 : Vec Ideal S1x256x1024 .bf16)
    (i0 : ∀ a, (![0, 0, 0] : Fin 3 → Nat) a + (![1, 256, 1024] : Fin 3 → Nat) a ≤ S3x256x1024.size a)
    (i1 : ∀ a, (![1, 0, 0] : Fin 3 → Nat) a + (![1, 256, 1024] : Fin 3 → Nat) a ≤ S3x256x1024.size a)
    (i2 : ∀ a, (![2, 0, 0] : Fin 3 → Nat) a + (![1, 256, 1024] : Fin 3 → Nat) a ≤ S3x256x1024.size a)
    (s0 : ∀ (r : Fin 256) (l : Fin 1024), w0 (ix3 0 r l) = du A B C P X T G U O 0 (n + r.val) l.val)
    (s1 : ∀ (r : Fin 256) (l : Fin 1024), w1 (ix3 0 r l) = du A B C P X T G U O 1 (n + r.val) l.val)
    (s2 : ∀ (r : Fin 256) (l : Fin 1024), w2 (ix3 0 r l) = du A B C P X T G U O 2 (n + r.val) l.val) (y : S3x256x1024.Idx) :
    View.canon ([⟨Rect.unit (s := S3x256x1024) ![2, 0, 0] ![1, 256, 1024] i2, w2⟩, ⟨Rect.unit (s := S3x256x1024) ![1, 0, 0] ![1, 256, 1024] i1, w1⟩,
      ⟨Rect.unit (s := S3x256x1024) ![0, 0, 0] ![1, 256, 1024] i0, w0⟩] : List (View.Piece (Elt Ideal) S3x256x1024 .bf16)) y
      = du A B C P X T G U O (y 0).val (n + (y 1).val) (y 2).val := by
  have hy : (y 0).val < 3 := (y 0).isLt
  by_cases h0 : (y 0).val = 0
  · rw [branch_miss _ _ _ _ (by omega), branch_miss _ _ _ _ (by omega), branch_hit _ _ _ y h0, h0]
    exact s0 (y 1) (y 2)
  · by_cases h1 : (y 0).val = 1
    · rw [branch_miss _ _ _ _ (by omega), branch_hit _ _ _ y h1, h1]
      exact s1 (y 1) (y 2)
    · have h2 : (y 0).val = 2 := by omega
      rw [branch_hit _ _ _ y h2, h2]
      exact s2 (y 1) (y 2)

theorem tile16 {A B C P X T G U O : Nat → Nat → EReal} {n : Nat} {b : Blk} (R : Rows A B C P X T G U O n b)
    (l : Vec Ideal S8x128 .f32) (s : Vec Ideal S1x1024 .f32) (y : S3x256x1024.Idx) :
    (b.tile l s).2.2.2.2.2.2.2.2.2 y = du A B C P X T G U O (y 0).val (n + (y 1).val) (y 2).val := by
  dsimp only [Blk.tile]
  exact canon16 (k0_pay29 (F := Ideal) (k0_pay12 b.p0) b.inv b.back b.o) (k0_pay34 (F := Ideal) (k0_pay13 b.p1) b.inv b.back b.o)
    (k0_pay5 (F := Ideal) (k0_pay14 b.p2) b.dm) inb_S3x256x1024_S1x256x1024_0_0_0 inb_S3x256x1024_S1x256x1024_1_0_0 inb_S3x256x1024_S1x256x1024_2_0_0
    (s0_at R) (s1_at R) (s2_at R) y

theorem end16 (c : Dev nD) : (dats m 0 c).arrAt 16 cfg0.N = G16 m c := by
  refine (dats m 0 c).arrAt_eq_of_covers 16 _ (by decide +kernel) fun t hf y => ?_
  blk_simp
  have i16 := (idx_val t).2
  rw [after0_16]
  obtain ⟨l, s, e⟩ := outs_tile m c t
  rw [e]
  have e0 : ((((View.whole main_v0_9).slice (win0_16.rect t)).emb y) 0).val = (y 0).val := by blk_simp [i16] <;> try omega
  have e1 : ((((View.whole main_v0_9).slice (win0_16.rect t)).emb y) 1).val = 256 * t.val + (y 1).val := by blk_simp [i16] <;> try omega
  have e2 : ((((View.whole main_v0_9).slice (win0_16.rect t)).emb y) 2).val = (y 2).val := by blk_simp [i16] <;> try omega
  show _ = du _ _ _ _ _ _ _ _ _ _ _ _
  rw [e0, e1, e2]
  exact tile16 (rows m c t) l s y

/-- The loss, in every element of its block, and the norm's scale gradient. -/
def G12 (c : Dev nD) : S8x128.Idx → EReal := fun _ => ∑ t : Fin 16, lt (rd (A0 m c)) (rd (A1 m c)) (rd (A2 m c)) (rd (A3 m c)) (rd (A4 m c)) (rd (A5 m c)) (rd (A6 m c)) (rw8 (A7 m c)) (rd (A8 m c)) t.val
def G13 (c : Dev nD) : S1x1024.Idx → EReal := fun j => ∑ t : Fin 16, gg (rd (A0 m c)) (rd (A1 m c)) (rd (A2 m c)) (rd (A3 m c)) (rd (A4 m c)) (rd (A5 m c)) (rd (A6 m c)) (rw8 (A7 m c)) (rd (A8 m c)) t.val (j 1).val

theorem zero7 (y : S8x128.Idx) : k0_pay7 (F := Ideal) y = 0 := by
  rw [ix2_eta y]
  pointwise [k0_pay7]
theorem zero8 (y : S1x1024.Idx) : k0_pay8 (F := Ideal) y = 0 := by
  rw [ix2_eta y]
  pointwise [k0_pay8]

theorem tile12 (c : Dev nD) (t : Fin cfg0.N) (l : Vec Ideal S8x128 .f32) (s : Vec Ideal S1x1024 .f32) (y : S8x128.Idx) :
    ((blkOf m c t (wUp m c) (wOut m c)).tile l s).2.2.2.2.2.1 y = l y + lt (rd (A0 m c)) (rd (A1 m c)) (rd (A2 m c)) (rd (A3 m c)) (rd (A4 m c)) (rd (A5 m c)) (rd (A6 m c)) (rw8 (A7 m c)) (rd (A8 m c)) t.val := by
  refine (congrArg _ (ix2_eta y)).trans ((loss_at (rows m c t) l (y 0) (y 1)).trans ?_)
  exact congrArg (· + _) (congrArg l (ix2_eta y).symm)

theorem tile13 (c : Dev nD) (t : Fin cfg0.N) (l : Vec Ideal S8x128 .f32) (s : Vec Ideal S1x1024 .f32) (y : S1x1024.Idx) :
    ((blkOf m c t (wUp m c) (wOut m c)).tile l s).2.2.2.2.2.2.1 y = s y + gg (rd (A0 m c)) (rd (A1 m c)) (rd (A2 m c)) (rd (A3 m c)) (rd (A4 m c)) (rd (A5 m c)) (rd (A6 m c)) (rw8 (A7 m c)) (rd (A8 m c)) t.val (y 1).val := by
  have e : y = ix2 0 (y 1) := by
    refine (ix2_eta y).trans (congrArg (fun k : Fin 1 => (ix2 k (y 1) : S1x1024.Idx)) ?_)
    exact Subsingleton.elim (α := Fin 1) _ _
  refine (congrArg _ e).trans ((scale_at (rows m c t) s (y 1)).trans ?_)
  exact congrArg (· + _) (congrArg s e.symm)

/-- The last point, whose store of the carried sums stands. -/
def final_point : Fin cfg0.N := ⟨15, by rw [show cfg0.N = 16 from N_0]; omega⟩

theorem end12 (c : Dev nD) : (dats m 0 c).arrAt 12 cfg0.N = G12 m c := by
  refine (dats m 0 c).arrAt_eq_of_after_last 12 final_point (by decide +kernel) _ fun j => ?_
  blk_simp
  rw [after0_12]
  rw [Pipeline.eq_sum_fin_of_reset_step_apply_last (fun n h => (outs m c n h).2.2.2.2.2.1) 16 (fun _ => 0) (fun p _ => lt (rd (A0 m c)) (rd (A1 m c)) (rd (A2 m c)) (rd (A3 m c)) (rd (A4 m c)) (rd (A5 m c)) (rd (A6 m c)) (rw8 (A7 m c)) (rd (A8 m c)) p.val)
    (fun t h j => by rw [first_outs m c t h, tile12 m c t, zero7]) (fun t h j => by rw [later_outs m c t h, tile12 m c t]) (le_of_eq N_0) final_point rfl j, zero_add]
  rfl

theorem end13 (c : Dev nD) : (dats m 0 c).arrAt 13 cfg0.N = G13 m c := by
  refine (dats m 0 c).arrAt_eq_of_after_last 13 final_point (by decide +kernel) _ fun j => ?_
  blk_simp
  rw [after0_13]
  rw [Pipeline.eq_sum_fin_of_reset_step_apply_last (fun n h => (outs m c n h).2.2.2.2.2.2.1) 16 (fun _ => 0) (fun p j => gg (rd (A0 m c)) (rd (A1 m c)) (rd (A2 m c)) (rd (A3 m c)) (rd (A4 m c)) (rd (A5 m c)) (rd (A6 m c)) (rw8 (A7 m c)) (rd (A8 m c)) p.val (j 1).val)
    (fun t h j => by rw [first_outs m c t h, tile13 m c t, zero8]) (fun t h j => by rw [later_outs m c t h, tile13 m c t]) (le_of_eq N_0) final_point rfl j, zero_add]
  rfl

end Cert.MidIdeal.Hand

end
-- ==== Proof.MidRef.lean ====
/- The reference's ten results of the middle of the backward pass, read at an index stage by stage. -/
module

public import proofs.«01_k».proof.Proof.MidReal
public import proofs.«01_k».proof.Proof.Gen.MidRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MidRefIdeal.Hand

open Cert.MidRefIdeal Cert.MidRefIdeal.Gen Cert.MidRefIdeal.Value Cert.Reals Cert.MidSpec
open Cert.MemSpec (sg rd rd_of rd_real)

theorem rd_at {R L : Nat} (X : (⟨2, ![R, L]⟩ : Shape).Idx → EReal) (r : Fin R) (l : Fin L) : X (ix2 r l) = rd X r.val l.val :=
  (rd_of r.isLt l.isLt).symm

theorem reorder (a b c d : EReal) : a * b * (c * d) = a * c * b * d := by rw [mul_mul_mul_comm, ← mul_assoc]

theorem sum_ext {ι : Type} [Fintype ι] {f g : ι → EReal} (h : ∀ k, f k = g k) : ∑ k, f k = ∑ k, g k := Finset.sum_congr rfl fun k _ => h k

variable (V : Valuation τ sig (Elt Ideal))

/-- The nine arguments. -/
abbrev a0 : FVec Ideal S4096x512 .bf16 := V (Proc.devRef .tc main_arg0)
abbrev a1 : FVec Ideal S4096x512 .bf16 := V (Proc.devRef .tc main_arg1)
abbrev a2 : FVec Ideal S4096x512 .bf16 := V (Proc.devRef .tc main_arg2)
abbrev a3 : FVec Ideal S4096x3072 .bf16 := V (Proc.devRef .tc main_arg3)
abbrev a4 : FVec Ideal S4096x1024 .f32 := V (Proc.devRef .tc main_arg4)
abbrev a5 : FVec Ideal S4096x1024 .f32 := V (Proc.devRef .tc main_arg5)
abbrev a6 : FVec Ideal S1x1024 .f32 := V (Proc.devRef .tc main_arg6)
abbrev a7 : FVec Ideal S8x1536x128 .bf16 := V (Proc.devRef .tc main_arg7)
abbrev a8 : FVec Ideal S1024x1024 .bf16 := V (Proc.devRef .tc main_arg8)

theorem v2_at (a : Fin 1536) (l : Fin 1024) : res_main_v2 V (ix2 a l) = rw8 (a7 V) a.val l.val := by
  pointwise [res_main_v2]
  exact (rw8_of a.isLt l.isLt).symm
theorem v3_at (a : Fin 512) (l : Fin 1024) : res_main_v3 V (ix2 a l) = rw8 (a7 V) (0 + a.val) l.val := by
  pointwise [res_main_v3]
  exact v2_at V _ l
theorem v4_at (a : Fin 512) (l : Fin 1024) : res_main_v4 V (ix2 a l) = rw8 (a7 V) (512 + a.val) l.val := by
  pointwise [res_main_v4]
  rw [v2_at]
theorem v5_at (a : Fin 512) (l : Fin 1024) : res_main_v5 V (ix2 a l) = rw8 (a7 V) (1024 + a.val) l.val := by
  pointwise [res_main_v5]
  rw [v2_at]
theorem v6_at (a l : Fin 1024) : res_main_v6 V (ix2 a l) = rd (a8 V) a.val l.val := by
  pointwise [res_main_v6]
  exact rd_at (a8 V) a l

theorem v10_at (r : Fin 4096) (l : Fin 1024) : res_main_v10 V (ix2 r l) = up (rw8 (a7 V)) (rd (a0 V)) 0 r.val l.val := by
  pointwise [res_main_v10]
  exact sum_ext fun k => congrArg₂ (· * ·) (rd_at (a0 V) r k) (v3_at V k l)
theorem v11_at (r : Fin 4096) (l : Fin 1024) : res_main_v11 V (ix2 r l) = up (rw8 (a7 V)) (rd (a1 V)) 512 r.val l.val := by
  pointwise [res_main_v11]
  exact sum_ext fun k => congrArg₂ (· * ·) (rd_at (a1 V) r k) (v4_at V k l)
theorem v12_at (r : Fin 4096) (l : Fin 1024) : res_main_v12 V (ix2 r l) = up (rw8 (a7 V)) (rd (a2 V)) 1024 r.val l.val := by
  pointwise [res_main_v12]
  exact sum_ext fun k => congrArg₂ (· * ·) (rd_at (a2 V) r k) (v5_at V k l)

theorem v19_at (r : Fin 4096) (g : Fin 3072) : res_main_v19 V (ix2 r g) = gt (rd (a3 V)) r.val g.val := by
  pointwise [res_main_v19]
  rw [show V (Proc.devRef .tc main_arg3) (ix2 r g) = rd (a3 V) r.val g.val from rd_at (a3 V) r g]
  rfl
theorem v25_at (r : Fin 4096) (l : Fin 1024) : res_main_v25 V (ix2 r l) = gt (rd (a3 V)) r.val l.val := by
  pointwise [res_main_v25, res_main_v23]
  rw [v19_at]
theorem v28_at (r : Fin 4096) (l : Fin 1024) : res_main_v28 V (ix2 r l) = gt (rd (a3 V)) r.val (1024 + l.val) := by
  pointwise [res_main_v28, res_main_v23]
  rw [v19_at]
theorem v32_at (r : Fin 4096) (l : Fin 1024) : res_main_v32 V (ix2 r l) = gt (rd (a3 V)) r.val (2048 + l.val) := by
  pointwise [res_main_v32, res_main_v23]
  rw [v19_at]

theorem v34_at (r : Fin 4096) (l : Fin 1024) : res_main_v34 V (ix2 r l) = mb (rd (a0 V)) (rd (a1 V)) (rd (a2 V)) (rd (a3 V)) (rw8 (a7 V)) r.val l.val := by
  pointwise [res_main_v34]
  rw [v25_at, v28_at, v32_at, v10_at, v11_at, v12_at]
  rfl
theorem v35_at (r : Fin 4096) (l : Fin 1024) :
    res_main_v35 V (ix2 r l) = ot (rd (a0 V)) (rd (a1 V)) (rd (a2 V)) (rd (a3 V)) (rw8 (a7 V)) (rd (a8 V)) r.val l.val := by
  pointwise [res_main_v35]
  exact sum_ext fun k => congrArg₂ (· * ·) (v34_at V r k) (v6_at V k l)
theorem v43_at (r : Fin 4096) (j : Fin 1) :
    res_main_v43 V (ix2 r j) = ms (rd (a0 V)) (rd (a1 V)) (rd (a2 V)) (rd (a3 V)) (rw8 (a7 V)) (rd (a8 V)) r.val := by
  pointwise [res_main_v43]
  simp only [v35_at]
  rfl
theorem v44_at (r : Fin 4096) (j : Fin 1) :
    res_main_v44 V (ix2 r j) = rr (rd (a0 V)) (rd (a1 V)) (rd (a2 V)) (rd (a3 V)) (rw8 (a7 V)) (rd (a8 V)) r.val := by
  pointwise [res_main_v44]
  exact congrArg Ideal.rsqrt (v43_at V r j)
theorem v49_at (r : Fin 4096) (l : Fin 1024) :
    res_main_v49 V (ix2 r l) = on (rd (a0 V)) (rd (a1 V)) (rd (a2 V)) (rd (a3 V)) (rw8 (a7 V)) (rd (a8 V)) r.val l.val := by
  pointwise [res_main_v49]
  exact congrArg₂ (· * ·) (v35_at V r l) (v44_at V r 0)
theorem v50_at (l : Fin 1024) : res_main_v50 V (ix2 0 l) = rd (a6 V) 0 l.val := by
  pointwise [res_main_v50]
  exact rd_at (a6 V) 0 l
theorem v54_at (r : Fin 4096) (l : Fin 1024) : res_main_v54 V (ix2 r l)
    = er (rd (a0 V)) (rd (a1 V)) (rd (a2 V)) (rd (a3 V)) (rd (a4 V)) (rd (a5 V)) (rd (a6 V)) (rw8 (a7 V)) (rd (a8 V)) r.val l.val := by
  pointwise [res_main_v54]
  rw [v49_at, v50_at]
  exact congrArg₂ (· - ·) (congrArg (· + _) (rd_at (a4 V) r l)) (rd_at (a5 V) r l)

section Real
variable {V} (h0 : ∀ i, IsR (a0 V i)) (h1 : ∀ i, IsR (a1 V i)) (h2 : ∀ i, IsR (a2 V i)) (h4 : ∀ i, IsR (a4 V i))
  (h5 : ∀ i, IsR (a5 V i)) (h6 : ∀ i, IsR (a6 V i)) (h7 : ∀ i, IsR (a7 V i)) (h8 : ∀ i, IsR (a8 V i))

include h0 h1 h2 h4 h5 h6 h7 h8

theorem v68_at (r : Fin 4096) (l : Fin 1024) : res_main_v68 V (ix2 r l)
    = dy (rd (a0 V)) (rd (a1 V)) (rd (a2 V)) (rd (a3 V)) (rd (a4 V)) (rd (a5 V)) (rd (a6 V)) (rw8 (a7 V)) (rd (a8 V)) r.val l.val := by
  pointwise [res_main_v68]
  rw [v54_at]
  exact dy_eq (er_real (rd_real h0) (rd_real h1) (rd_real h2) (rd_real h4) (rd_real h5) (rd_real h6) (rw8_real h7) (rd_real h8) _ _)

theorem v73_at (r : Fin 4096) (l : Fin 1024) : res_main_v73 V (ix2 r l)
    = dn (rd (a0 V)) (rd (a1 V)) (rd (a2 V)) (rd (a3 V)) (rd (a4 V)) (rd (a5 V)) (rd (a6 V)) (rw8 (a7 V)) (rd (a8 V)) r.val l.val := by
  pointwise [res_main_v73]
  rw [v68_at h0 h1 h2 h4 h5 h6 h7 h8, v50_at]
  rfl

theorem v88_at (r : Fin 4096) (l : Fin 1024) : res_main_v88 V (ix2 r l)
    = ob (rd (a0 V)) (rd (a1 V)) (rd (a2 V)) (rd (a3 V)) (rd (a4 V)) (rd (a5 V)) (rd (a6 V)) (rw8 (a7 V)) (rd (a8 V)) r.val l.val := by
  pointwise [res_main_v88, res_main_v84]
  simp only [v73_at h0 h1 h2 h4 h5 h6 h7 h8, v44_at, v43_at, v35_at, Fin.sum_univ_one]
  exact norm_grad (o := fun k : Fin 1024 => ot (rd (a0 V)) (rd (a1 V)) (rd (a2 V)) (rd (a3 V)) (rw8 (a7 V)) (rd (a8 V)) r.val k.val)
    (a := fun k : Fin 1024 => dn (rd (a0 V)) (rd (a1 V)) (rd (a2 V)) (rd (a3 V)) (rd (a4 V)) (rd (a5 V)) (rd (a6 V)) (rw8 (a7 V)) (rd (a8 V)) r.val k.val)
    (fun k => ot_real (rd_real h0) (rd_real h1) (rd_real h2) (rw8_real h7) (rd_real h8) _ _)
    (fun k => dn_real (rd_real h0) (rd_real h1) (rd_real h2) (rd_real h4) (rd_real h5) (rd_real h6) (rw8_real h7) (rd_real h8) _ _)
    (ms_pos (rd_real h0) (rd_real h1) (rd_real h2) (rw8_real h7) (rd_real h8) _) l

theorem v90_at (r : Fin 4096) (l : Fin 1024) : res_main_v90 V (ix2 r l)
    = dm (rd (a0 V)) (rd (a1 V)) (rd (a2 V)) (rd (a3 V)) (rd (a4 V)) (rd (a5 V)) (rd (a6 V)) (rw8 (a7 V)) (rd (a8 V)) r.val l.val := by
  pointwise [res_main_v90]
  exact sum_ext fun k => congrArg₂ (· * ·) (v88_at h0 h1 h2 h4 h5 h6 h7 h8 r k) (v6_at V l k)

theorem v100_at (r : Fin 4096) (l : Fin 1024) : res_main_v100 V (ix2 r l)
    = du (rd (a0 V)) (rd (a1 V)) (rd (a2 V)) (rd (a3 V)) (rd (a4 V)) (rd (a5 V)) (rd (a6 V)) (rw8 (a7 V)) (rd (a8 V)) 0 r.val l.val := by
  pointwise [res_main_v100]
  rw [v25_at, v90_at h0 h1 h2 h4 h5 h6 h7 h8, mul_comm, du, Nat.mul_zero, Nat.zero_add]
theorem v95_at (r : Fin 4096) (l : Fin 1024) : res_main_v95 V (ix2 r l)
    = du (rd (a0 V)) (rd (a1 V)) (rd (a2 V)) (rd (a3 V)) (rd (a4 V)) (rd (a5 V)) (rd (a6 V)) (rw8 (a7 V)) (rd (a8 V)) 1 r.val l.val := by
  pointwise [res_main_v95]
  rw [v28_at, v90_at h0 h1 h2 h4 h5 h6 h7 h8, mul_comm, du]
theorem v91_at (r : Fin 4096) (l : Fin 1024) : res_main_v91 V (ix2 r l)
    = du (rd (a0 V)) (rd (a1 V)) (rd (a2 V)) (rd (a3 V)) (rd (a4 V)) (rd (a5 V)) (rd (a6 V)) (rw8 (a7 V)) (rd (a8 V)) 2 r.val l.val := by
  pointwise [res_main_v91]
  rw [v32_at, v90_at h0 h1 h2 h4 h5 h6 h7 h8, mul_comm, du]

theorem dya_at (r : Fin 4096) (k : Fin 512) : (truncf .bf16 (Host.dotGeneral (φ₁ := .f32) (φ₂ := .f32) dot_S4096x1024_S512x1024_S4096x512_1_1_0_0_n_n none (res_main_v100 V) (res_main_v3 V)) bitsLt_bf16_f32 : FVec Ideal S4096x512 .bf16) (ix2 r k)
    = dx (rd (a0 V)) (rd (a1 V)) (rd (a2 V)) (rd (a3 V)) (rd (a4 V)) (rd (a5 V)) (rd (a6 V)) (rw8 (a7 V)) (rd (a8 V)) 0 0 r.val k.val := by
  pointwise
  exact sum_ext fun l => congrArg₂ (· * ·) (v100_at h0 h1 h2 h4 h5 h6 h7 h8 r l) (v3_at V k l)
theorem dyb_at (r : Fin 4096) (k : Fin 512) : (truncf .bf16 (Host.dotGeneral (φ₁ := .f32) (φ₂ := .f32) dot_S4096x1024_S512x1024_S4096x512_1_1_0_0_n_n none (res_main_v95 V) (res_main_v4 V)) bitsLt_bf16_f32 : FVec Ideal S4096x512 .bf16) (ix2 r k)
    = dx (rd (a0 V)) (rd (a1 V)) (rd (a2 V)) (rd (a3 V)) (rd (a4 V)) (rd (a5 V)) (rd (a6 V)) (rw8 (a7 V)) (rd (a8 V)) 1 512 r.val k.val := by
  pointwise
  exact sum_ext fun l => congrArg₂ (· * ·) (v95_at h0 h1 h2 h4 h5 h6 h7 h8 r l) (v4_at V k l)
theorem dym_at (r : Fin 4096) (k : Fin 512) : (truncf .bf16 (Host.dotGeneral (φ₁ := .f32) (φ₂ := .f32) dot_S4096x1024_S512x1024_S4096x512_1_1_0_0_n_n none (res_main_v91 V) (res_main_v5 V)) bitsLt_bf16_f32 : FVec Ideal S4096x512 .bf16) (ix2 r k)
    = dx (rd (a0 V)) (rd (a1 V)) (rd (a2 V)) (rd (a3 V)) (rd (a4 V)) (rd (a5 V)) (rd (a6 V)) (rw8 (a7 V)) (rd (a8 V)) 2 1024 r.val k.val := by
  pointwise
  exact sum_ext fun l => congrArg₂ (· * ·) (v91_at h0 h1 h2 h4 h5 h6 h7 h8 r l) (v5_at V k l)

theorem loss_at (a : Fin 8) (b : Fin 128) : (broadcastInDim S8x128 ![] bcast_S_S8x128 (mulf (constant S_ .f32 0x3F000000#32) (Host.reduceAdd (Host.divf (Host.reduceAdd (mulf (res_main_v54 V) (res_main_v54 V)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) : FVec Ideal S8x128 .f32) (ix2 a b)
    = ∑ t : Fin 16, lt (rd (a0 V)) (rd (a1 V)) (rd (a2 V)) (rd (a3 V)) (rd (a4 V)) (rd (a5 V)) (rd (a6 V)) (rw8 (a7 V)) (rd (a8 V)) t.val := by
  pointwise
  simp only [v54_at]
  exact loss_eq (f := fun n => ∑ l : Fin 1024, er (rd (a0 V)) (rd (a1 V)) (rd (a2 V)) (rd (a3 V)) (rd (a4 V)) (rd (a5 V)) (rd (a6 V)) (rw8 (a7 V)) (rd (a8 V)) n l.val
      * er (rd (a0 V)) (rd (a1 V)) (rd (a2 V)) (rd (a3 V)) (rd (a4 V)) (rd (a5 V)) (rd (a6 V)) (rw8 (a7 V)) (rd (a8 V)) n l.val)
    fun n => IsR.sum _ _ fun l _ => (er_real (rd_real h0) (rd_real h1) (rd_real h2) (rd_real h4) (rd_real h5) (rd_real h6) (rw8_real h7) (rd_real h8) n l.val).mul
      (er_real (rd_real h0) (rd_real h1) (rd_real h2) (rd_real h4) (rd_real h5) (rd_real h6) (rw8_real h7) (rd_real h8) n l.val)

theorem scale_at (l : Fin 1024) : (broadcastInDim S1x1024 ![1] bcast_S1024_S1x1024_1 (Host.reduceAdd (shapeCast _ (Host.reduceAdd (mulf (res_main_v49 V) (res_main_v68 V)) (constant S_ .f32 0x00000000#32) reducesTo_S4096x1024_S1024_d0 h_S_) shapeCasts_S1024_S1x1024) (constant S_ .f32 0x00000000#32) reducesTo_S1x1024_S1024_d0 h_S_) : FVec Ideal S1x1024 .f32) (ix2 0 l)
    = ∑ t : Fin 16, gg (rd (a0 V)) (rd (a1 V)) (rd (a2 V)) (rd (a3 V)) (rd (a4 V)) (rd (a5 V)) (rd (a6 V)) (rw8 (a7 V)) (rd (a8 V)) t.val l.val := by
  pointwise
  simp only [v49_at, v68_at h0 h1 h2 h4 h5 h6 h7 h8, Fin.sum_univ_one]
  refine (Fin.sum_univ_tiles 16 256 rfl fun r : Fin 4096 => on (rd (a0 V)) (rd (a1 V)) (rd (a2 V)) (rd (a3 V)) (rw8 (a7 V)) (rd (a8 V)) r.val l.val
    * dy (rd (a0 V)) (rd (a1 V)) (rd (a2 V)) (rd (a3 V)) (rd (a4 V)) (rd (a5 V)) (rd (a6 V)) (rw8 (a7 V)) (rd (a8 V)) r.val l.val).trans ?_
  refine sum_ext fun t => sum_ext fun r => ?_
  simp only [Nat.mul_comm t.val 256]
  exact mul_comm _ _

theorem merged_at (r : Fin 4096) (l : Fin 1024) : (truncf .bf16 (res_main_v34 V : FVec Ideal S4096x1024 .f32) bitsLt_bf16_f32 : FVec Ideal S4096x1024 .bf16) (ix2 r l)
    = mb (rd (a0 V)) (rd (a1 V)) (rd (a2 V)) (rd (a3 V)) (rw8 (a7 V)) r.val l.val := v34_at V r l
theorem back_at (r : Fin 4096) (l : Fin 1024) : (truncf .bf16 (res_main_v88 V : FVec Ideal S4096x1024 .f32) bitsLt_bf16_f32 : FVec Ideal S4096x1024 .bf16) (ix2 r l)
    = ob (rd (a0 V)) (rd (a1 V)) (rd (a2 V)) (rd (a3 V)) (rd (a4 V)) (rd (a5 V)) (rd (a6 V)) (rw8 (a7 V)) (rd (a8 V)) r.val l.val := v88_at h0 h1 h2 h4 h5 h6 h7 h8 r l

theorem stack_at (j : Fin 3) (r : Fin 4096) (l : Fin 1024) : (truncf .bf16 ((concatenate S3x4096x1024 0 [⟨S1x4096x1024, ((broadcastInDim S1x4096x1024 ![1, 2] bcast_S4096x1024_S1x4096x1024_1_2 (res_main_v100 V)) : (⟨S1x4096x1024, .f32⟩ : BufTy).Contents (Elt Ideal))⟩, ⟨S1x4096x1024, ((broadcastInDim S1x4096x1024 ![1, 2] bcast_S4096x1024_S1x4096x1024_1_2 (res_main_v95 V)) : (⟨S1x4096x1024, .f32⟩ : BufTy).Contents (Elt Ideal))⟩, ⟨S1x4096x1024, ((broadcastInDim S1x4096x1024 ![1, 2] bcast_S4096x1024_S1x4096x1024_1_2 (res_main_v91 V)) : (⟨S1x4096x1024, .f32⟩ : BufTy).Contents (Elt Ideal))⟩] concatenates_S1x4096x1024_S1x4096x1024_S1x4096x1024_S3x4096x1024_d0 : (⟨S3x4096x1024, .f32⟩ : BufTy).Contents (Elt Ideal))) bitsLt_bf16_f32 : FVec Ideal S3x4096x1024 .bf16) (ix3 j r l)
    = du (rd (a0 V)) (rd (a1 V)) (rd (a2 V)) (rd (a3 V)) (rd (a4 V)) (rd (a5 V)) (rd (a6 V)) (rw8 (a7 V)) (rd (a8 V)) j.val r.val l.val := by
  pointwise
  simp only [v100_at h0 h1 h2 h4 h5 h6 h7 h8, v95_at h0 h1 h2 h4 h5 h6 h7 h8, v91_at h0 h1 h2 h4 h5 h6 h7 h8]
  fin_cases j
  · rfl
  · rfl
  · rfl

theorem gates_at (r : Fin 4096) (g : Fin 3072) : (truncf .bf16 (mulf (shapeCast _ (addf (addf (pad S4096x3x1024 ![0, 2, 0] ![0, 0, 0] ![0, 0, 0] (broadcastInDim S4096x1x1024 ![0, 2] bcast_S4096x1024_S4096x1x1024_0_2 (mulf (res_main_v90 V) (res_main_v12 V))) (constant S_ .f32 0x00000000#32) pads_S4096x1x1024_S4096x3x1024_000_200_000 h_S_) (pad S4096x3x1024 ![0, 1, 0] ![0, 1, 0] ![0, 0, 0] (broadcastInDim S4096x1x1024 ![0, 2] bcast_S4096x1024_S4096x1x1024_0_2 (mulf (res_main_v90 V) (res_main_v11 V))) (constant S_ .f32 0x00000000#32) pads_S4096x1x1024_S4096x3x1024_000_110_000 h_S_)) (pad S4096x3x1024 ![0, 0, 0] ![0, 2, 0] ![0, 0, 0] (broadcastInDim S4096x1x1024 ![0, 2] bcast_S4096x1024_S4096x1x1024_0_2 (mulf (res_main_v90 V) (res_main_v10 V))) (constant S_ .f32 0x00000000#32) pads_S4096x1x1024_S4096x3x1024_000_020_000 h_S_)) shapeCasts_S4096x3x1024_S4096x3072) (mulf (res_main_v19 V) (subf (broadcastInDim S4096x3072 ![] bcast_S_S4096x3072 (constant S_ .f32 0x3F800000#32)) (res_main_v19 V)))) bitsLt_bf16_f32 : FVec Ideal S4096x3072 .bf16) (ix2 r g)
    = dgAt (rd (a0 V)) (rd (a1 V)) (rd (a2 V)) (rd (a3 V)) (rd (a4 V)) (rd (a5 V)) (rd (a6 V)) (rw8 (a7 V)) (rd (a8 V)) r.val g.val := by
  pointwise
  simp only [v90_at h0 h1 h2 h4 h5 h6 h7 h8, v10_at, v11_at, v12_at, v19_at]
  unfold dgAt
  have hg := g.isLt
  by_cases c0 : g.val < 1024
  · rw [dif_neg (by omega), dif_neg (by omega), dif_pos (by omega), if_pos c0, zero_add, zero_add, show g.val % 1024 = g.val by omega]
    unfold dg du
    rw [show 1024 * 0 + g.val = g.val by omega]
    exact reorder _ _ _ _
  · by_cases c1 : g.val < 2048
    · rw [dif_neg (by omega), dif_pos (by omega), dif_neg (by omega), if_neg c0, if_pos c1, zero_add, add_zero, show g.val % 1024 = g.val - 1024 by omega]
      unfold dg du
      rw [show 1024 * 1 + (g.val - 1024) = g.val by omega]
      exact reorder _ _ _ _
    · rw [dif_pos (by omega), dif_neg (by omega), dif_neg (by omega), if_neg c0, if_neg c1, add_zero, add_zero, show g.val % 1024 = g.val - 2048 by omega]
      unfold dg du
      rw [show 1024 * 2 + (g.val - 2048) = g.val by omega]
      exact reorder _ _ _ _

end Real

end Cert.MidRefIdeal.Hand

end
-- ==== Proof.Mid.lean ====
/- The middle of the backward pass: the kernel's ten results are the formulas of `MidSpec`, and so are the reference's. -/
module

public import proofs.«01_k».proof.Proof.MidArr
public import proofs.«01_k».proof.Proof.MidRef
public import proofs.«01_k».proof.Proof.Gen.Mid
public import proofs.«01_k».proof.Defs
public import Idealize.ShloMosaic.Lib.Tactic

@[expose] public section

set_option maxRecDepth 16384

noncomputable section

open Idealize.ShloMosaic Idealize.ShloMosaic.TcCoe Idealize.SL.Sem

namespace Cert.MidProof

open Cert.Reals Cert.MidSpec

/-- The kernel's frame over the idealized types, over the bits, and the reference's. -/
theorem frame : Cert.quiescent_MidIdeal (hMidIdeal := Cert.MidIdeal.Gen.facts) := fun m ρ _ => Cert.MidIdeal.Hand.frame_any m ρ

theorem frame_bits : Cert.quiescent_Mid (hMid := Cert.Mid.Gen.facts) := by
  intro m ρ _
  refine Eq.mp ?_ (Cert.MidIdeal.Hand.frame_any (F := Bits) m ρ)
  sl_kernel_rfl

theorem ref_frame : Cert.quiescent_MidRefIdeal (hMidRefIdeal := Cert.MidRefIdeal.Gen.facts) := fun m ρ _ =>
  (θ_run Cert.MidRefIdeal.defs _ _).mono (fun r h => ⟨fun c => (h c).2.2.2.2.2.2.2.2.2.2, Idealize.ShloMosaic.sem_eq_zero_of_no_sems (by decide) r.2⟩)
    (Cert.MidRefIdeal.Value.run (F := Ideal) m ρ)

/-- The side conditions of the precondition's text. -/
theorem pre_facts : Cert.Pre_finite_mid.Facts where
  bcast_S_S4096x512 := by decide
  reducesTo_S4096x512_S_d0_1 := by decide
  h_S_ := by decide
  bcast_S_S4096x1024 := by decide
  reducesTo_S4096x1024_S_d0_1 := by decide
  bcast_S_S1x1024 := by decide
  reducesTo_S1x1024_S_d0_1 := by decide
  bcast_S_S8x1536x128 := by decide
  reducesTo_S8x1536x128_S_d0_1_2 := by decide
  bcast_S_S1024x1024 := by decide
  reducesTo_S1024x1024_S_d0_1 := by decide

instance : Subsingleton Cert.Pre_finite_mid.S_.Idx := ⟨fun a b => funext fun k => k.elim0⟩

/-- The precondition says that every element of the eight arguments it tests is a real number. -/
theorem reals (ya yb ym : FVec Ideal Cert.Pre_finite_mid.S4096x512 .bf16) (pg : FVec Ideal Cert.Pre_finite_mid.S4096x3072 .bf16)
    (x t : FVec Ideal Cert.Pre_finite_mid.S4096x1024 .f32) (g : FVec Ideal Cert.Pre_finite_mid.S1x1024 .f32)
    (wu : FVec Ideal Cert.Pre_finite_mid.S8x1536x128 .bf16) (wo : FVec Ideal Cert.Pre_finite_mid.S1024x1024 .bf16)
    (h : @Cert.Pre_finite_mid.fn pre_facts Ideal _ ya yb ym pg x t g wu wo = fun _ => 1#1) :
    ((∀ i, IsR (ya i)) ∧ (∀ i, IsR (yb i)) ∧ ∀ i, IsR (ym i)) ∧ (∀ i, IsR (x i)) ∧ (∀ i, IsR (t i)) ∧ (∀ i, IsR (g i))
      ∧ (∀ i, IsR (wu i)) ∧ ∀ i, IsR (wo i) := by
  have h0 := congrFun h (fun k => k.elim0)
  unfold Cert.Pre_finite_mid.fn Cert.Pre_finite_mid.fn_part1 Cert.Pre_finite_mid.fn_part2 at h0
  obtain ⟨h0, hwo⟩ := and_one h0
  obtain ⟨h0, hwu⟩ := and_one h0
  obtain ⟨h0, hg⟩ := and_one h0
  obtain ⟨h0, ht⟩ := and_one h0
  obtain ⟨h0, hx⟩ := and_one h0
  obtain ⟨h0, hm⟩ := and_one h0
  obtain ⟨ha, hb⟩ := and_one h0
  exact ⟨⟨fun i => isR_all _ _ inf_bf16 _ _ _ _ _ _ ha i, fun i => isR_all _ _ inf_bf16 _ _ _ _ _ _ hb i, fun i => isR_all _ _ inf_bf16 _ _ _ _ _ _ hm i⟩,
    fun i => isR_all _ _ inf_f32 _ _ _ _ _ _ hx i, fun i => isR_all _ _ inf_f32 _ _ _ _ _ _ ht i, fun i => isR_all _ _ inf_f32 _ _ _ _ _ _ hg i,
    fun i => isR_all _ _ inf_bf16 _ _ _ _ _ _ hwu i, fun i => isR_all _ _ inf_bf16 _ _ _ _ _ _ hwo i⟩

theorem ix3_eta {a b c : Nat} (x : (⟨3, ![a, b, c]⟩ : Shape).Idx) : x = ix3 (x 0) (x 1) (x 2) := by
  funext k; fin_cases k <;> rfl

section Run
open Cert.MidIdeal Cert.MidIdeal.Hand
variable (m : (ℓ : Loc nD τ sig) → Buf (Elt Ideal) ℓ) (ρ : Dev nD → PrngReg)

/-- The kernel's run: its ten results as the formulas say, its arguments unchanged. -/
theorem run : θ_run defs (onTc (τ := τ) (main (F := Ideal))) ⟨m, fun _ => 0, ρ⟩ (fun r => ∀ c : Dev nD,
      r.2.mem ((c.tc : Thread nD τ).loc main_v0_0) = G7 m c
      ∧ r.2.mem ((c.tc : Thread nD τ).loc main_v0_1) = G8 m c
      ∧ r.2.mem ((c.tc : Thread nD τ).loc main_v0_2) = G9 m c
      ∧ r.2.mem ((c.tc : Thread nD τ).loc main_v0_3) = G10 m c
      ∧ r.2.mem ((c.tc : Thread nD τ).loc main_v0_4) = G11 m c
      ∧ r.2.mem ((c.tc : Thread nD τ).loc main_v0_5) = G12 m c
      ∧ r.2.mem ((c.tc : Thread nD τ).loc main_v0_6) = G13 m c
      ∧ r.2.mem ((c.tc : Thread nD τ).loc main_v0_7) = G14 m c
      ∧ r.2.mem ((c.tc : Thread nD τ).loc main_v0_8) = G15 m c
      ∧ r.2.mem ((c.tc : Thread nD τ).loc main_v0_9) = G16 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.1 c).1 7).trans (end7 m c),
    ((h.1 c).1 8).trans (end8 m c),
    ((h.1 c).1 9).trans (end9 m c),
    ((h.1 c).1 10).trans (end10 m c),
    ((h.1 c).1 11).trans (end11 m c),
    ((h.1 c).1 12).trans (end12 m c),
    ((h.1 c).1 13).trans (end13 m c),
    ((h.1 c).1 14).trans (end14 m c),
    ((h.1 c).1 15).trans (end15 m c),
    ((h.1 c).1 16).trans (end16 m c),
    h.2.1 c⟩) (θ_run_and (run_post m ρ) (frame_any m ρ))

end Run

/-- The reference's arguments on core `c`. -/
abbrev V (m' : (ℓ : Loc Cert.MidRefIdeal.nD Cert.MidRefIdeal.τ Cert.MidRefIdeal.sig) → Buf (Elt Ideal) ℓ) (c : Dev Cert.MidRefIdeal.nD) :=
  Idealize.ShloMosaic.StableHlo.launchContents m' c

set_option maxHeartbeats 800000 in
theorem value : Cert.algebraic_MidIdeal_MidRefIdeal_pre_finite_mid (hMidIdeal := Cert.MidIdeal.Gen.facts)
    (hMidRefIdeal := Cert.MidRefIdeal.Gen.facts) (hPre_finite_mid := pre_facts) := by
  intro m ρ m' ρ' hpre hagree
  refine ⟨fun c => _, fun c => _, fun c => _, fun c => _, fun c => _, fun c => _, fun c => _, fun c => _, fun c => _, fun c => _, run m ρ, ?_⟩
  refine (θ_run Cert.MidRefIdeal.defs _ _).mono (fun r h c => ?_) (Cert.MidRefIdeal.Value.run (F := Ideal) m' ρ')
  obtain ⟨r0, r1, r2, r3, r4, r5, r6, r7, r8, r9, hargs⟩ := h c
  obtain ⟨e0, e1, e2, e3, e4, e5, e6, e7, e8⟩ := hagree c
  obtain ⟨⟨h0, h1, h2⟩, h4, h5, h6, h7, h8⟩ := reals _ _ _ _ _ _ _ _ _ (hpre c)
  replace e0 : Cert.MidRefIdeal.Hand.a0 (V m' c) = Cert.MidIdeal.Hand.A0 m c := e0
  replace e1 : Cert.MidRefIdeal.Hand.a1 (V m' c) = Cert.MidIdeal.Hand.A1 m c := e1
  replace e2 : Cert.MidRefIdeal.Hand.a2 (V m' c) = Cert.MidIdeal.Hand.A2 m c := e2
  replace e3 : Cert.MidRefIdeal.Hand.a3 (V m' c) = Cert.MidIdeal.Hand.A3 m c := e3
  replace e4 : Cert.MidRefIdeal.Hand.a4 (V m' c) = Cert.MidIdeal.Hand.A4 m c := e4
  replace e5 : Cert.MidRefIdeal.Hand.a5 (V m' c) = Cert.MidIdeal.Hand.A5 m c := e5
  replace e6 : Cert.MidRefIdeal.Hand.a6 (V m' c) = Cert.MidIdeal.Hand.A6 m c := e6
  replace e7 : Cert.MidRefIdeal.Hand.a7 (V m' c) = Cert.MidIdeal.Hand.A7 m c := e7
  replace e8 : Cert.MidRefIdeal.Hand.a8 (V m' c) = Cert.MidIdeal.Hand.A8 m c := e8
  replace h0 : ∀ i, IsR (Cert.MidRefIdeal.Hand.a0 (V m' c) i) := fun i => by rw [e0]; exact h0 i
  replace h1 : ∀ i, IsR (Cert.MidRefIdeal.Hand.a1 (V m' c) i) := fun i => by rw [e1]; exact h1 i
  replace h2 : ∀ i, IsR (Cert.MidRefIdeal.Hand.a2 (V m' c) i) := fun i => by rw [e2]; exact h2 i
  replace h4 : ∀ i, IsR (Cert.MidRefIdeal.Hand.a4 (V m' c) i) := fun i => by rw [e4]; exact h4 i
  replace h5 : ∀ i, IsR (Cert.MidRefIdeal.Hand.a5 (V m' c) i) := fun i => by rw [e5]; exact h5 i
  replace h6 : ∀ i, IsR (Cert.MidRefIdeal.Hand.a6 (V m' c) i) := fun i => by rw [e6]; exact h6 i
  replace h7 : ∀ i, IsR (Cert.MidRefIdeal.Hand.a7 (V m' c) i) := fun i => by rw [e7]; exact h7 i
  replace h8 : ∀ i, IsR (Cert.MidRefIdeal.Hand.a8 (V m' c) i) := fun i => by rw [e8]; exact h8 i
  refine ⟨r0.trans ?_, r1.trans ?_, r2.trans ?_, r3.trans ?_, r4.trans ?_, r5.trans ?_, r6.trans ?_, r7.trans ?_, r8.trans ?_, r9.trans ?_, hargs⟩
  · funext j
    rw [Cert.MidIdeal.Hand.ix2_eta j]
    refine (Cert.MidRefIdeal.Hand.gates_at h0 h1 h2 h4 h5 h6 h7 h8 (j 0) (j 1)).trans ?_
    rw [e0, e1, e2, e3, e4, e5, e6, e7, e8]
    rfl
  · funext j
    rw [Cert.MidIdeal.Hand.ix2_eta j]
    refine (Cert.MidRefIdeal.Hand.dya_at h0 h1 h2 h4 h5 h6 h7 h8 (j 0) (j 1)).trans ?_
    rw [e0, e1, e2, e3, e4, e5, e6, e7, e8]
    rfl
  · funext j
    rw [Cert.MidIdeal.Hand.ix2_eta j]
    refine (Cert.MidRefIdeal.Hand.dyb_at h0 h1 h2 h4 h5 h6 h7 h8 (j 0) (j 1)).trans ?_
    rw [e0, e1, e2, e3, e4, e5, e6, e7, e8]
    rfl
  · funext j
    rw [Cert.MidIdeal.Hand.ix2_eta j]
    refine (Cert.MidRefIdeal.Hand.dym_at h0 h1 h2 h4 h5 h6 h7 h8 (j 0) (j 1)).trans ?_
    rw [e0, e1, e2, e3, e4, e5, e6, e7, e8]
    rfl
  · funext j
    rw [Cert.MidIdeal.Hand.ix2_eta j]
    refine (Cert.MidRefIdeal.Hand.v68_at h0 h1 h2 h4 h5 h6 h7 h8 (j 0) (j 1)).trans ?_
    rw [e0, e1, e2, e3, e4, e5, e6, e7, e8]
    rfl
  · funext j
    rw [Cert.MidIdeal.Hand.ix2_eta j]
    refine (Cert.MidRefIdeal.Hand.loss_at h0 h1 h2 h4 h5 h6 h7 h8 (j 0) (j 1)).trans ?_
    rw [e0, e1, e2, e3, e4, e5, e6, e7, e8]
    rfl
  · funext j
    rw [Cert.MidIdeal.Hand.ix2_eta j]
    rw [show j 0 = (0 : Fin 1) from Subsingleton.elim (α := Fin 1) _ _]
    refine (Cert.MidRefIdeal.Hand.scale_at h0 h1 h2 h4 h5 h6 h7 h8 (j 1)).trans ?_
    rw [e0, e1, e2, e3, e4, e5, e6, e7, e8]
    rfl
  · funext j
    rw [Cert.MidIdeal.Hand.ix2_eta j]
    refine (Cert.MidRefIdeal.Hand.merged_at h0 h1 h2 h4 h5 h6 h7 h8 (j 0) (j 1)).trans ?_
    rw [e0, e1, e2, e3, e7]
    rfl
  · funext j
    rw [Cert.MidIdeal.Hand.ix2_eta j]
    refine (Cert.MidRefIdeal.Hand.back_at h0 h1 h2 h4 h5 h6 h7 h8 (j 0) (j 1)).trans ?_
    rw [e0, e1, e2, e3, e4, e5, e6, e7, e8]
    rfl
  · funext j
    rw [ix3_eta j]
    refine (Cert.MidRefIdeal.Hand.stack_at h0 h1 h2 h4 h5 h6 h7 h8 (j 0) (j 1) (j 2)).trans ?_
    rw [e0, e1, e2, e3, e4, e5, e6, e7, e8]
    rfl

end Cert.MidProof

end
-- ==== Proof.MemFwd.lean ====
/- The memory attention's forward call: the kernel's result is the attention's formula of `MemSpec` times its gate, and so is the reference's. -/
module

public import proofs.«01_k».proof.Proof.MemSpec
public import proofs.«01_k».proof.Proof.MemAttnRef
public import proofs.«01_k».proof.Proof.Gen.MemFwdIdeal.Value
public import proofs.«01_k».proof.Proof.Gen.MemFwdRefIdeal.Run
public import proofs.«01_k».proof.Defs
public import Idealize.ShloMosaic.Lib.Pipeline.ValueKit
public import Idealize.ShloMosaic.Lib.Pointwise
public import Idealize.ShloMosaic.Lib.WritesUnit
public import Idealize.ShloMosaic.Lib.Pipeline.RowLoads
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MemFwdIdeal.Hand

open Cert.MemFwdIdeal Cert.MemFwdIdeal.Gen Cert.MemSpec Cert.Reals

/-- The attention's output times the gate, in the head that starts at column `c`. -/
def ym (Q Z K : Nat → Nat → EReal) (c r l : Nat) : EReal := ou Q K c r l * (Z r l * sg (Z r l))

section Tile
variable {Q Z K : Nat → Nat → EReal} {t : Nat} {z : Vec Ideal S512x512 .bf16} {q : Vec Ideal S512x128 .bf16} {k v : Vec Ideal S256x128 .bf16}

/-- What the blocks of tile `t` hold of the head at column `c`: queries, keys and values. -/
structure Cols (Q K : Nat → Nat → EReal) (t c : Nat) (q : Vec Ideal S512x128 .bf16) (k v : Vec Ideal S256x128 .bf16) : Prop where
  hq : ∀ r l, q (ix2 r l) = Q (512 * t + r.val) (c + l.val)
  hk : ∀ r l, k (ix2 r l) = K r.val (c + l.val)
  hv : ∀ r l, v (ix2 r l) = K r.val (512 + (c + l.val))

variable (hz : ∀ (r : Fin 512) (l : Fin 512), z (ix2 r l) = Z (512 * t + r.val) l.val)
include hz

theorem gate (r l : Fin 512) : k0_pay3 z (ix2 r l) = Z (512 * t + r.val) l.val * sg (Z (512 * t + r.val) l.val) := by
  pointwise [k0_pay3]
  rw [hz, zero_sub]

theorem head0 (H : Cols Q K t 0 q k v) (r : Fin 512) (l : Fin 128) : k0_pay4 z q k v (ix2 r l) = ym Q Z K 0 (512 * t + r.val) l.val := by
  pointwise [k0_pay4]
  simp only [H.hq, H.hk, H.hv, gate hz, hz]
  simp only [ym, ou, pr, se, ex, sc, zero_add, zero_sub]
omit hz
variable {w : FVec Ideal S512x512 .f32} (hw : ∀ (r l : Fin 512), w (ix2 r l) = Z (512 * t + r.val) l.val * sg (Z (512 * t + r.val) l.val))
include hw

theorem head1 (H : Cols Q K t 128 q k v) (r : Fin 512) (l : Fin 128) : k0_pay5 w q k v (ix2 r l) = ym Q Z K 128 (512 * t + r.val) (128 + l.val) := by
  pointwise [k0_pay5]
  simp only [H.hq, H.hk, H.hv, hw]
  rfl
theorem head2 (H : Cols Q K t 256 q k v) (r : Fin 512) (l : Fin 128) : k0_pay1 w (k0_pay6 q k) v (ix2 r l) = ym Q Z K 256 (512 * t + r.val) (256 + l.val) := by
  pointwise [k0_pay1, k0_pay6]
  simp only [H.hq, H.hk, H.hv, hw]
  rfl
theorem head3 (H : Cols Q K t 384 q k v) (r : Fin 512) (l : Fin 128) : k0_pay2 w q k v (ix2 r l) = ym Q Z K 384 (512 * t + r.val) (384 + l.val) := by
  pointwise [k0_pay2]
  simp only [H.hq, H.hk, H.hv, hw]
  rfl

end Tile

variable (m : (ℓ : Loc nD τ sig) → Buf (Elt Ideal) ℓ)

theorem idx_val : ∀ t : Fin cfg0.N, win0_0.index t = ![t.val, 0] ∧ win0_1.index t = ![t.val, 0]
    ∧ win0_2.index t = ![0, 0] ∧ win0_3.index t = ![0, 1] ∧ win0_4.index t = ![t.val, 0] :=
  (by decide +kernel : ∀ t : Fin grid0.N, _)

abbrev A0 (c : Dev nD) : FVec Ideal S4096x512 .bf16 := m ((c.tc : Thread nD τ).loc main_arg0)
abbrev A1 (c : Dev nD) : FVec Ideal S4096x512 .bf16 := m ((c.tc : Thread nD τ).loc main_arg1)
abbrev A2 (c : Dev nD) : FVec Ideal S256x1024 .bf16 := m ((c.tc : Thread nD τ).loc main_arg2)

theorem gates (c : Dev nD) (t : Fin cfg0.N) (r l : Fin 512) : (iblk m c 1 t : Vec Ideal S512x512 .bf16) (ix2 r l) = rd (A1 m c) (512 * t.val + r.val) l.val := by
  have ht : t.val < 8 := lt_of_lt_of_eq t.isLt N_0
  obtain ⟨-, i1, -⟩ := idx_val t
  have := r.isLt
  rw [rd_of (by omega) l.isLt]
  blk_point [iblk, V, i1]

/-- The gates are computed once, from the whole block. -/
theorem whole (c : Dev nD) (t : Fin cfg0.N) (r l : Fin 512) : k0_pay7 (iblk m c 0 t) (iblk m c 1 t) (iblk m c 2 t) (iblk m c 3 t) (ix2 r l)
    = rd (A1 m c) (512 * t.val + r.val) l.val * sg (rd (A1 m c) (512 * t.val + r.val) l.val) := by
  refine gate (t := t.val) (fun r l => ?_) r l
  refine Eq.trans ?_ (gates m c t r l)
  exact congrFun (View.ld_unit_zero (by funext a; fin_cases a <;> rfl) _ _) _

theorem cols (c : Dev nD) (t : Fin cfg0.N) (o : Nat) (ho : o + 128 ≤ 512)
    (iq : ∀ a, (![0, o] : Fin 2 → Nat) a + (![512, 128] : Fin 2 → Nat) a ≤ S512x512.size a)
    (ik iv : ∀ a, (![0, o] : Fin 2 → Nat) a + (![256, 128] : Fin 2 → Nat) a ≤ S256x512.size a) :
    Cols (rd (A0 m c)) (rd (A2 m c)) t.val o (View.ld (iblk m c 0 t : Vec Ideal S512x512 .bf16) (Rect.unit (s := S512x512) ![0, o] ![512, 128] iq))
      (View.ld (iblk m c 2 t : Vec Ideal S256x512 .bf16) (Rect.unit (s := S256x512) ![0, o] ![256, 128] ik))
      (View.ld (iblk m c 3 t : Vec Ideal S256x512 .bf16) (Rect.unit (s := S256x512) ![0, o] ![256, 128] iv)) := by
  have ht : t.val < 8 := lt_of_lt_of_eq t.isLt N_0
  obtain ⟨i0, -, i2, i3, -⟩ := idx_val t
  refine ⟨fun r l => ?_, fun r l => ?_, fun r l => ?_⟩
  all_goals (have := r.isLt; have := l.isLt)
  · rw [rd_of (by omega) (by omega)]
    blk_point [iblk, V, i0]
  · rw [rd_of (by omega) (by omega)]
    blk_point [iblk, V, i2]
  · rw [rd_of (by omega) (by omega)]
    blk_point [iblk, V, i3]

theorem ix2_eta {a b : Nat} (x : (⟨2, ![a, b]⟩ : Shape).Idx) : x = ix2 (x 0) (x 1) := by
  funext k; fin_cases k <;> rfl

/-- The result, of the arguments. -/
def G4 (c : Dev nD) : S4096x512.Idx → EReal := fun j => ym (rd (A0 m c)) (rd (A1 m c)) (rd (A2 m c)) (128 * ((j 1).val / 128)) (j 0).val (j 1).val

theorem col_0 {l : Nat} (h : l < 128) : 128 * (l / 128) = 0 := by omega
theorem col_1 {l : Nat} (h : l < 128) : 128 * ((128 + l) / 128) = 128 := by omega
theorem col_2 {l : Nat} (h : l < 128) : 128 * ((256 + l) / 128) = 256 := by omega
theorem col_3 {l : Nat} (h : l < 128) : 128 * ((384 + l) / 128) = 384 := by omega

theorem end4 (c : Dev nD) : (dats m 0 c).arrAt 4 cfg0.N = G4 m c := by
  refine (dats m 0 c).arrAt_eq_of_covers 4 _ (by decide +kernel) fun t hf y => ?_
  blk_simp
  have R := gates m c t
  have H := cols m c t
  have W := whole m c t
  obtain ⟨-, -, -, -, i4⟩ := idx_val t
  rw [after0_4]
  have e0 : ((((View.whole main_v0).slice (win0_4.rect t)).emb y) 0).val = 512 * t.val + (y 0).val := by blk_simp [i4] <;> try omega
  have e1 : ((((View.whole main_v0).slice (win0_4.rect t)).emb y) 1).val = (y 1).val := by blk_simp [i4] <;> try omega
  show _ = ym _ _ _ _ _ _
  rw [e0, e1]
  clear e0 e1 i4
  frame_out
  canon_tiles x h
  all_goals rw [h0, h1]
  all_goals refine (congrArg _ (ix2_eta x)).trans ?_
  · rw [col_3 x1_lt]; exact head3 W (H 384 (by decide) inb_S512x512_S512x128_0_384 inb_S256x512_S256x128_0_384 inb_S256x512_S256x128_0_384) _ _
  · rw [col_2 x1_lt]; exact head2 W (H 256 (by decide) inb_S512x512_S512x128_0_256 inb_S256x512_S256x128_0_256 inb_S256x512_S256x128_0_256) _ _
  · rw [col_1 x1_lt]; exact head1 W (H 128 (by decide) inb_S512x512_S512x128_0_128 inb_S256x512_S256x128_0_128 inb_S256x512_S256x128_0_128) _ _
  · rw [col_0 x1_lt]; exact head0 R (H 0 (by decide) inb_S512x512_S512x128_0_0 inb_S256x512_S256x128_0_0 inb_S256x512_S256x128_0_0) _ _

end Cert.MemFwdIdeal.Hand

namespace Cert.MemFwdProof

open Cert.MemSpec Cert.Reals

/-- The reference's result by its stages: the gated output of the softmax's weights. -/
def YM (q z : FVec Ideal Cert.MemAttnRefIdeal.S4096x512 .bf16) (k : FVec Ideal Cert.MemAttnRefIdeal.S256x1024 .bf16) : FVec Ideal Cert.MemAttnRefIdeal.S4096x512 .bf16 :=
  open Cert.MemAttnRefIdeal Cert.MemAttnRefIdeal.Gen Cert.MemAttnRefIdeal.Hand in
  truncf .bf16 (mulf (shapeCast _ (transpose S4096x4x128 [2, 0, 1] (Host.dotGeneral dot_S256x4x128_S4x4096x256_S4x128x4096_0_2_2_1_1_0 none
    (Vh k) (PR q k)) transposes_S4x128x4096_S4096x4x128_2_0_1) shapeCasts_S4096x4x128_S4096x512) (mulf (extf .f32 z bitsLt_bf16_f32) (SG z))) bitsLt_bf16_f32

theorem YM_at {q z : FVec Ideal Cert.MemAttnRefIdeal.S4096x512 .bf16} {k : FVec Ideal Cert.MemAttnRefIdeal.S256x1024 .bf16} (hq : ∀ i, IsR (q i)) (hk : ∀ i, IsR (k i))
    (r : Fin 4096) (l : Fin 512) : YM q z k (ix2 r l) = Cert.MemFwdIdeal.Hand.ym (rd q) (rd z) (rd k) (128 * (l.val / 128)) r.val l.val := by
  pointwise [YM, Cert.MemAttnRefIdeal.Hand.SG, Cert.MemAttnRefIdeal.Hand.ON]
  simp only [Cert.MemAttnRefIdeal.Hand.PR_at hq hk, Cert.MemAttnRefIdeal.Hand.Vh_at, Cert.MemAttnRefIdeal.Hand.head_col]
  have e1 := Cert.MemAttnRefIdeal.Hand.rd_at z r l
  simp only [e1]
  unfold Cert.MemFwdIdeal.Hand.ym ou
  congr 1
  exact Finset.sum_congr rfl fun _ _ => mul_comm _ _

/-- The side conditions of the precondition's text. -/
theorem pre_facts : Cert.Pre_finite_memfwd.Facts where
  bcast_S_S4096x512 := by decide
  reducesTo_S4096x512_S_d0_1 := by decide
  h_S_ := by decide
  bcast_S_S256x1024 := by decide
  reducesTo_S256x1024_S_d0_1 := by decide

/-- The run of the reference, as a frame. -/
theorem ref_frame : Cert.quiescent_MemFwdRefIdeal (hMemFwdRefIdeal := Cert.MemFwdRefIdeal.Gen.facts) := fun m ρ _ =>
  (θ_run Cert.MemFwdRefIdeal.defs _ _).mono (fun r h => ⟨fun c => (h c).2, Idealize.ShloMosaic.sem_eq_zero_of_no_sems (by decide) r.2⟩)
    (Cert.MemFwdRefIdeal.Value.run (F := Ideal) m ρ)

instance : Subsingleton Cert.Pre_finite_memfwd.S_.Idx := ⟨fun a b => funext fun k => k.elim0⟩

/-- The precondition says that the queries, the keys and the values are real numbers. -/
theorem reals (q z : FVec Ideal Cert.Pre_finite_memfwd.S4096x512 .bf16) (k : FVec Ideal Cert.Pre_finite_memfwd.S256x1024 .bf16)
    (h : @Cert.Pre_finite_memfwd.fn pre_facts Ideal _ q z k = fun _ => 1#1) : (∀ i, IsR (q i)) ∧ ∀ i, IsR (k i) := by
  have h0 := congrFun h (fun k => k.elim0)
  unfold Cert.Pre_finite_memfwd.fn at h0
  obtain ⟨hq, hk⟩ := and_one h0
  exact ⟨fun i => isR_all _ _ inf_bf16 _ _ _ _ _ _ hq i, fun i => isR_all _ _ inf_bf16 _ _ _ _ _ _ hk i⟩

theorem value : Cert.algebraic_MemFwdIdeal_MemFwdRefIdeal_pre_finite_memfwd (hMemFwdIdeal := Cert.MemFwdIdeal.Gen.facts)
    (hMemFwdRefIdeal := Cert.MemFwdRefIdeal.Gen.facts) (hPre_finite_memfwd := pre_facts) := by
  intro m ρ m' ρ' hpre hagree
  refine ⟨fun c => _, Cert.MemFwdIdeal.Value.run_blocks (F := Ideal) m ρ, ?_⟩
  refine (θ_run Cert.MemFwdRefIdeal.defs _ _).mono (fun r h c => ?_) (Cert.MemFwdRefIdeal.Value.run (F := Ideal) m' ρ')
  obtain ⟨h1, hargs⟩ := h c
  obtain ⟨a0, a1, a2⟩ := hagree c
  obtain ⟨rq, rk⟩ := reals _ _ _ (hpre c)
  refine ⟨h1.trans ?_, hargs⟩
  refine Eq.trans ?_ (Cert.MemFwdIdeal.Hand.end4 m c).symm
  rw [a0, a1, a2]
  refine Eq.trans (b := YM (Cert.MemFwdIdeal.Hand.A0 m c) (Cert.MemFwdIdeal.Hand.A1 m c) (Cert.MemFwdIdeal.Hand.A2 m c)) rfl ?_
  funext j
  rw [Cert.MemFwdIdeal.Hand.ix2_eta j]
  exact YM_at rq rk _ _

end Cert.MemFwdProof

end
-- ==== Proof.DhNames.lean ====
/- The names the proof of `_dh_bwd` uses for the pieces its copies move: block `b` of 256 rows of an operand,
   slot `s` of an operand's two buffers, the semaphore of a slot; and the equations by which the program's own
   slices, whose offsets are computed from the trip, are these. -/
module

public import proofs.«01_k».proof.Proof.Gen.DhIdeal.Launch
public import proofs.«01_k».proof.Proof.Gen.DhIdeal.Skeleton
public import proofs.«01_k».proof.Proof.Gen.DhIdeal.Loops
public import proofs.«01_k».proof.Proof.Gen.DhIdeal.Points
public import Idealize.ShloMosaic.Lib.Ring
public import Idealize.ShloMosaic.Lib.Ring.WriteBehind
public import Idealize.ShloMosaic.Lib.Tactic

@[expose] public section

noncomputable section

namespace Cert.DhIdeal.Hand

open Cert.DhIdeal Cert.DhIdeal.Gen
open Idealize.ShloMosaic
open Idealize.ShloMosaic.Ring (sl bk)

/-- A trip of the loop. -/
abbrev Trip := Fin k0_t1_loop.trips

theorem trip_lt (k : Trip) : k.val < 16 := k.isLt

/-- The first row of block `b`. -/
abbrev rowOff (b : Fin 16) : Fin 2 → Nat := ![256 * b.val, 0]
/-- The start of slot `s`. -/
abbrev slotOff (s : Fin 2) : Fin 3 → Nat := ![s.val, 0, 0]

theorem row_inb {n w : ℕ} (hn : n = 4096) (b : Fin 16) : ∀ a, rowOff b a + (⟨2, ![256, w]⟩ : Shape).size a ≤ (⟨2, ![n, w]⟩ : Shape).size a := by
  intro a; have := b.isLt; subst hn; fin_cases a
  · show 256 * b.val + 256 ≤ 4096; omega
  · show 0 + w ≤ w; omega
theorem slot_inb {w : ℕ} (s : Fin 2) : ∀ a, slotOff s a + (⟨3, ![1, 256, w]⟩ : Shape).size a ≤ (⟨3, ![2, 256, w]⟩ : Shape).size a := by
  intro a; have := s.isLt; fin_cases a
  · show s.val + 1 ≤ 2; omega
  · show 0 + 256 ≤ 256; omega
  · show 0 + w ≤ w; omega

instance (s : Fin 2) : ClosedOff (slotOff s) := ⟨slotOff s, rfl⟩
instance (b : Fin 16) : ClosedOff (rowOff b) := ⟨rowOff b, rfl⟩

/-! ## Blocks and slots, by width -/

/-- Block `b` of an operand 2048 wide. -/
def blk2048 (A : Memref sig .tc .hbm S4096x2048 .bf16) (b : Fin 16) : Memref sig .tc .hbm S256x2048 .bf16 :=
  A.slice (Rect.unit (s := S4096x2048) (rowOff b) S256x2048.size (row_inb rfl b)) (fun _ => rfl)
/-- Slot `s` of its buffers. -/
def slt2048 (B : Memref sig .tc .vmem S2x256x2048 .bf16) (s : Fin 2) : Memref sig .tc .vmem S256x2048 .bf16 :=
  (B.slice (Rect.unit (s := S2x256x2048) (slotOff s) S1x256x2048.size (slot_inb s)) (fun _ => rfl)).squeeze S256x2048 squeezes_S1x256x2048_S256x2048
theorem blk2048_congr (A : Memref sig .tc .hbm S4096x2048 .bf16) {off : Fin 2 → Nat} {b : Fin 16} (h : off = rowOff b) (hh hs) :
    A.slice (Rect.unit (s := S4096x2048) off S256x2048.size hh) hs = blk2048 A b := Memref.slice_unit_congr _ h _ _ _ (fun _ => rfl)
theorem slt2048_congr (B : Memref sig .tc .vmem S2x256x2048 .bf16) {off : Fin 3 → Nat} {s : Fin 2} (h : off = slotOff s) (hh hs) :
    (B.slice (Rect.unit (s := S2x256x2048) off S1x256x2048.size hh) hs).squeeze S256x2048 squeezes_S1x256x2048_S256x2048 = slt2048 B s :=
  congrArg (fun M : Memref sig .tc .vmem S1x256x2048 .bf16 => M.squeeze S256x2048 squeezes_S1x256x2048_S256x2048) (Memref.slice_unit_congr _ h _ _ _ _)

/-- Block `b` of an operand 512 wide. -/
def blk512 (A : Memref sig .tc .hbm S4096x512 .bf16) (b : Fin 16) : Memref sig .tc .hbm S256x512 .bf16 :=
  A.slice (Rect.unit (s := S4096x512) (rowOff b) S256x512.size (row_inb rfl b)) (fun _ => rfl)
/-- Slot `s` of its buffers. -/
def slt512 (B : Memref sig .tc .vmem S2x256x512 .bf16) (s : Fin 2) : Memref sig .tc .vmem S256x512 .bf16 :=
  (B.slice (Rect.unit (s := S2x256x512) (slotOff s) S1x256x512.size (slot_inb s)) (fun _ => rfl)).squeeze S256x512 squeezes_S1x256x512_S256x512
theorem blk512_congr (A : Memref sig .tc .hbm S4096x512 .bf16) {off : Fin 2 → Nat} {b : Fin 16} (h : off = rowOff b) (hh hs) :
    A.slice (Rect.unit (s := S4096x512) off S256x512.size hh) hs = blk512 A b := Memref.slice_unit_congr _ h _ _ _ (fun _ => rfl)
theorem slt512_congr (B : Memref sig .tc .vmem S2x256x512 .bf16) {off : Fin 3 → Nat} {s : Fin 2} (h : off = slotOff s) (hh hs) :
    (B.slice (Rect.unit (s := S2x256x512) off S1x256x512.size hh) hs).squeeze S256x512 squeezes_S1x256x512_S256x512 = slt512 B s :=
  congrArg (fun M : Memref sig .tc .vmem S1x256x512 .bf16 => M.squeeze S256x512 squeezes_S1x256x512_S256x512) (Memref.slice_unit_congr _ h _ _ _ _)

/-- Block `b` of an operand 256 wide. -/
def blk256 (A : Memref sig .tc .hbm S4096x256 .bf16) (b : Fin 16) : Memref sig .tc .hbm S256x256 .bf16 :=
  A.slice (Rect.unit (s := S4096x256) (rowOff b) S256x256.size (row_inb rfl b)) (fun _ => rfl)
/-- Slot `s` of its buffers. -/
def slt256 (B : Memref sig .tc .vmem S2x256x256 .bf16) (s : Fin 2) : Memref sig .tc .vmem S256x256 .bf16 :=
  (B.slice (Rect.unit (s := S2x256x256) (slotOff s) S1x256x256.size (slot_inb s)) (fun _ => rfl)).squeeze S256x256 squeezes_S1x256x256_S256x256
theorem blk256_congr (A : Memref sig .tc .hbm S4096x256 .bf16) {off : Fin 2 → Nat} {b : Fin 16} (h : off = rowOff b) (hh hs) :
    A.slice (Rect.unit (s := S4096x256) off S256x256.size hh) hs = blk256 A b := Memref.slice_unit_congr _ h _ _ _ (fun _ => rfl)
theorem slt256_congr (B : Memref sig .tc .vmem S2x256x256 .bf16) {off : Fin 3 → Nat} {s : Fin 2} (h : off = slotOff s) (hh hs) :
    (B.slice (Rect.unit (s := S2x256x256) off S1x256x256.size hh) hs).squeeze S256x256 squeezes_S1x256x256_S256x256 = slt256 B s :=
  congrArg (fun M : Memref sig .tc .vmem S1x256x256 .bf16 => M.squeeze S256x256 squeezes_S1x256x256_S256x256) (Memref.slice_unit_congr _ h _ _ _ _)

/-- Block `b` of an operand 3072 wide. -/
def blk3072 (A : Memref sig .tc .hbm S4096x3072 .bf16) (b : Fin 16) : Memref sig .tc .hbm S256x3072 .bf16 :=
  A.slice (Rect.unit (s := S4096x3072) (rowOff b) S256x3072.size (row_inb rfl b)) (fun _ => rfl)
/-- Slot `s` of its buffers. -/
def slt3072 (B : Memref sig .tc .vmem S2x256x3072 .bf16) (s : Fin 2) : Memref sig .tc .vmem S256x3072 .bf16 :=
  (B.slice (Rect.unit (s := S2x256x3072) (slotOff s) S1x256x3072.size (slot_inb s)) (fun _ => rfl)).squeeze S256x3072 squeezes_S1x256x3072_S256x3072
theorem blk3072_congr (A : Memref sig .tc .hbm S4096x3072 .bf16) {off : Fin 2 → Nat} {b : Fin 16} (h : off = rowOff b) (hh hs) :
    A.slice (Rect.unit (s := S4096x3072) off S256x3072.size hh) hs = blk3072 A b := Memref.slice_unit_congr _ h _ _ _ (fun _ => rfl)
theorem slt3072_congr (B : Memref sig .tc .vmem S2x256x3072 .bf16) {off : Fin 3 → Nat} {s : Fin 2} (h : off = slotOff s) (hh hs) :
    (B.slice (Rect.unit (s := S2x256x3072) off S1x256x3072.size hh) hs).squeeze S256x3072 squeezes_S1x256x3072_S256x3072 = slt3072 B s :=
  congrArg (fun M : Memref sig .tc .vmem S1x256x3072 .bf16 => M.squeeze S256x3072 squeezes_S1x256x3072_S256x3072) (Memref.slice_unit_congr _ h _ _ _ _)

/-- Block `b` of an operand 1024 wide. -/
def blk1024 (A : Memref sig .tc .hbm S4096x1024 .f32) (b : Fin 16) : Memref sig .tc .hbm S256x1024 .f32 :=
  A.slice (Rect.unit (s := S4096x1024) (rowOff b) S256x1024.size (row_inb rfl b)) (fun _ => rfl)
/-- Slot `s` of its buffers. -/
def slt1024 (B : Memref sig .tc .vmem S2x256x1024 .f32) (s : Fin 2) : Memref sig .tc .vmem S256x1024 .f32 :=
  (B.slice (Rect.unit (s := S2x256x1024) (slotOff s) S1x256x1024.size (slot_inb s)) (fun _ => rfl)).squeeze S256x1024 squeezes_S1x256x1024_S256x1024
theorem blk1024_congr (A : Memref sig .tc .hbm S4096x1024 .f32) {off : Fin 2 → Nat} {b : Fin 16} (h : off = rowOff b) (hh hs) :
    A.slice (Rect.unit (s := S4096x1024) off S256x1024.size hh) hs = blk1024 A b := Memref.slice_unit_congr _ h _ _ _ (fun _ => rfl)
theorem slt1024_congr (B : Memref sig .tc .vmem S2x256x1024 .f32) {off : Fin 3 → Nat} {s : Fin 2} (h : off = slotOff s) (hh hs) :
    (B.slice (Rect.unit (s := S2x256x1024) off S1x256x1024.size hh) hs).squeeze S256x1024 squeezes_S1x256x1024_S256x1024 = slt1024 B s :=
  congrArg (fun M : Memref sig .tc .vmem S1x256x1024 .f32 => M.squeeze S256x1024 squeezes_S1x256x1024_S256x1024) (Memref.slice_unit_congr _ h _ _ _ _)

/-! ## Semaphores -/

theorem isem_inb (s : Fin 2) (j : Fin 9) : ∀ a, (![s.val, j.val] : Fin 2 → Nat) a + S1x1.size a ≤ S2x9.size a := by
  intro a; have := s.isLt; have := j.isLt; fin_cases a
  · show s.val + 1 ≤ 2; omega
  · show j.val + 1 ≤ 9; omega
theorem osem_inb (s : Fin 2) : ∀ a, (![s.val] : Fin 1 → Nat) a + S1.size a ≤ S2.size a := by
  intro a; have := s.isLt; fin_cases a; show s.val + 1 ≤ 2; omega
/-- The semaphore of operand `j`'s slot `s`. -/
def isem (s : Fin 2) (j : Fin 9) : DmaSems sig S_ :=
  (cc0_scratch11.slice (Rect.unit (s := S2x9) ![s.val, j.val] S1x1.size (isem_inb s j))).squeeze S_ squeezes_S1x1_S_
/-- The semaphore of the result's slot `s`. -/
def osem (s : Fin 2) : DmaSems sig S_ :=
  (cc0_scratch12.slice (Rect.unit (s := S2) ![s.val] S1.size (osem_inb s))).squeeze S_ squeezes_S1_S_
theorem isem_congr {off : Fin 2 → Nat} {s : Fin 2} {j : Fin 9} (h : off = ![s.val, j.val]) (hh) :
    (cc0_scratch11.slice (Rect.unit (s := S2x9) off S1x1.size hh)).squeeze S_ squeezes_S1x1_S_ = isem s j :=
  congrArg (fun A : DmaSems sig S1x1 => A.squeeze S_ squeezes_S1x1_S_) (SemArray.slice_unit_congr _ h _ _)
theorem osem_congr {off : Fin 1 → Nat} {s : Fin 2} (h : off = ![s.val]) (hh) :
    (cc0_scratch12.slice (Rect.unit (s := S2) off S1.size hh)).squeeze S_ squeezes_S1_S_ = osem s :=
  congrArg (fun A : DmaSems sig S1 => A.squeeze S_ squeezes_S1_S_) (SemArray.slice_unit_congr _ h _ _)

/-! ## The program's slices are these: at the prologue, at a trip's issue of the next block, at a trip's wait -/

@[sl_canon] theorem semP0 (hh) : (cc0_scratch11.slice (Rect.unit (s := S2x9) ![0, 0] S1x1.size hh)).squeeze S_ squeezes_S1x1_S_ = isem 0 0 := isem_congr (by decide +kernel) _
@[sl_canon] theorem semI0 (k : Trip) (hk : k.val + 1 < 16) (hh) : (cc0_scratch11.slice (Rect.unit (s := S2x9) (k0_off1 k) S1x1.size hh)).squeeze S_ squeezes_S1x1_S_ = isem (sl 2 (k.val + 1)) 0 := isem_congr (by revert hk; revert k; decide +kernel) _
@[sl_canon] theorem semW0 (k : Trip) (hh) : (cc0_scratch11.slice (Rect.unit (s := S2x9) (k0_off20 k) S1x1.size hh)).squeeze S_ squeezes_S1x1_S_ = isem (sl 2 k.val) 0 := isem_congr (by revert k; decide +kernel) _
@[sl_canon] theorem semP1 (hh) : (cc0_scratch11.slice (Rect.unit (s := S2x9) ![0, 1] S1x1.size hh)).squeeze S_ squeezes_S1x1_S_ = isem 0 1 := isem_congr (by decide +kernel) _
@[sl_canon] theorem semI1 (k : Trip) (hk : k.val + 1 < 16) (hh) : (cc0_scratch11.slice (Rect.unit (s := S2x9) (k0_off4 k) S1x1.size hh)).squeeze S_ squeezes_S1x1_S_ = isem (sl 2 (k.val + 1)) 1 := isem_congr (by revert hk; revert k; decide +kernel) _
@[sl_canon] theorem semW1 (k : Trip) (hh) : (cc0_scratch11.slice (Rect.unit (s := S2x9) (k0_off23 k) S1x1.size hh)).squeeze S_ squeezes_S1x1_S_ = isem (sl 2 k.val) 1 := isem_congr (by revert k; decide +kernel) _
@[sl_canon] theorem semP2 (hh) : (cc0_scratch11.slice (Rect.unit (s := S2x9) ![0, 2] S1x1.size hh)).squeeze S_ squeezes_S1x1_S_ = isem 0 2 := isem_congr (by decide +kernel) _
@[sl_canon] theorem semI2 (k : Trip) (hk : k.val + 1 < 16) (hh) : (cc0_scratch11.slice (Rect.unit (s := S2x9) (k0_off7 k) S1x1.size hh)).squeeze S_ squeezes_S1x1_S_ = isem (sl 2 (k.val + 1)) 2 := isem_congr (by revert hk; revert k; decide +kernel) _
@[sl_canon] theorem semW2 (k : Trip) (hh) : (cc0_scratch11.slice (Rect.unit (s := S2x9) (k0_off26 k) S1x1.size hh)).squeeze S_ squeezes_S1x1_S_ = isem (sl 2 k.val) 2 := isem_congr (by revert k; decide +kernel) _
@[sl_canon] theorem semP3 (hh) : (cc0_scratch11.slice (Rect.unit (s := S2x9) ![0, 3] S1x1.size hh)).squeeze S_ squeezes_S1x1_S_ = isem 0 3 := isem_congr (by decide +kernel) _
@[sl_canon] theorem semI3 (k : Trip) (hk : k.val + 1 < 16) (hh) : (cc0_scratch11.slice (Rect.unit (s := S2x9) (k0_off10 k) S1x1.size hh)).squeeze S_ squeezes_S1x1_S_ = isem (sl 2 (k.val + 1)) 3 := isem_congr (by revert hk; revert k; decide +kernel) _
@[sl_canon] theorem semW3 (k : Trip) (hh) : (cc0_scratch11.slice (Rect.unit (s := S2x9) (k0_off29 k) S1x1.size hh)).squeeze S_ squeezes_S1x1_S_ = isem (sl 2 k.val) 3 := isem_congr (by revert k; decide +kernel) _
@[sl_canon] theorem semP4 (hh) : (cc0_scratch11.slice (Rect.unit (s := S2x9) ![0, 4] S1x1.size hh)).squeeze S_ squeezes_S1x1_S_ = isem 0 4 := isem_congr (by decide +kernel) _
@[sl_canon] theorem semI4 (k : Trip) (hk : k.val + 1 < 16) (hh) : (cc0_scratch11.slice (Rect.unit (s := S2x9) (k0_off11 k) S1x1.size hh)).squeeze S_ squeezes_S1x1_S_ = isem (sl 2 (k.val + 1)) 4 := isem_congr (by revert hk; revert k; decide +kernel) _
@[sl_canon] theorem semW4 (k : Trip) (hh) : (cc0_scratch11.slice (Rect.unit (s := S2x9) (k0_off30 k) S1x1.size hh)).squeeze S_ squeezes_S1x1_S_ = isem (sl 2 k.val) 4 := isem_congr (by revert k; decide +kernel) _
@[sl_canon] theorem semP5 (hh) : (cc0_scratch11.slice (Rect.unit (s := S2x9) ![0, 5] S1x1.size hh)).squeeze S_ squeezes_S1x1_S_ = isem 0 5 := isem_congr (by decide +kernel) _
@[sl_canon] theorem semI5 (k : Trip) (hk : k.val + 1 < 16) (hh) : (cc0_scratch11.slice (Rect.unit (s := S2x9) (k0_off12 k) S1x1.size hh)).squeeze S_ squeezes_S1x1_S_ = isem (sl 2 (k.val + 1)) 5 := isem_congr (by revert hk; revert k; decide +kernel) _
@[sl_canon] theorem semW5 (k : Trip) (hh) : (cc0_scratch11.slice (Rect.unit (s := S2x9) (k0_off31 k) S1x1.size hh)).squeeze S_ squeezes_S1x1_S_ = isem (sl 2 k.val) 5 := isem_congr (by revert k; decide +kernel) _
@[sl_canon] theorem semP6 (hh) : (cc0_scratch11.slice (Rect.unit (s := S2x9) ![0, 6] S1x1.size hh)).squeeze S_ squeezes_S1x1_S_ = isem 0 6 := isem_congr (by decide +kernel) _
@[sl_canon] theorem semI6 (k : Trip) (hk : k.val + 1 < 16) (hh) : (cc0_scratch11.slice (Rect.unit (s := S2x9) (k0_off13 k) S1x1.size hh)).squeeze S_ squeezes_S1x1_S_ = isem (sl 2 (k.val + 1)) 6 := isem_congr (by revert hk; revert k; decide +kernel) _
@[sl_canon] theorem semW6 (k : Trip) (hh) : (cc0_scratch11.slice (Rect.unit (s := S2x9) (k0_off32 k) S1x1.size hh)).squeeze S_ squeezes_S1x1_S_ = isem (sl 2 k.val) 6 := isem_congr (by revert k; decide +kernel) _
@[sl_canon] theorem semP7 (hh) : (cc0_scratch11.slice (Rect.unit (s := S2x9) ![0, 7] S1x1.size hh)).squeeze S_ squeezes_S1x1_S_ = isem 0 7 := isem_congr (by decide +kernel) _
@[sl_canon] theorem semI7 (k : Trip) (hk : k.val + 1 < 16) (hh) : (cc0_scratch11.slice (Rect.unit (s := S2x9) (k0_off16 k) S1x1.size hh)).squeeze S_ squeezes_S1x1_S_ = isem (sl 2 (k.val + 1)) 7 := isem_congr (by revert hk; revert k; decide +kernel) _
@[sl_canon] theorem semW7 (k : Trip) (hh) : (cc0_scratch11.slice (Rect.unit (s := S2x9) (k0_off35 k) S1x1.size hh)).squeeze S_ squeezes_S1x1_S_ = isem (sl 2 k.val) 7 := isem_congr (by revert k; decide +kernel) _
@[sl_canon] theorem semP8 (hh) : (cc0_scratch11.slice (Rect.unit (s := S2x9) ![0, 8] S1x1.size hh)).squeeze S_ squeezes_S1x1_S_ = isem 0 8 := isem_congr (by decide +kernel) _
@[sl_canon] theorem semI8 (k : Trip) (hk : k.val + 1 < 16) (hh) : (cc0_scratch11.slice (Rect.unit (s := S2x9) (k0_off19 k) S1x1.size hh)).squeeze S_ squeezes_S1x1_S_ = isem (sl 2 (k.val + 1)) 8 := isem_congr (by revert hk; revert k; decide +kernel) _
@[sl_canon] theorem semW8 (k : Trip) (hh) : (cc0_scratch11.slice (Rect.unit (s := S2x9) (k0_off38 k) S1x1.size hh)).squeeze S_ squeezes_S1x1_S_ = isem (sl 2 k.val) 8 := isem_congr (by revert k; decide +kernel) _
@[sl_canon] theorem sltP2048 (B : Memref sig .tc .vmem S2x256x2048 .bf16) (hh hs) : (B.slice (Rect.unit (s := S2x256x2048) ![0, 0, 0] S1x256x2048.size hh) hs).squeeze S256x2048 squeezes_S1x256x2048_S256x2048 = slt2048 B 0 := slt2048_congr B (by decide +kernel) _ _
@[sl_canon] theorem sltI2048 (B : Memref sig .tc .vmem S2x256x2048 .bf16) (k : Trip) (hk : k.val + 1 < 16) (hh hs) : (B.slice (Rect.unit (s := S2x256x2048) (k0_off2 k) S1x256x2048.size hh) hs).squeeze S256x2048 squeezes_S1x256x2048_S256x2048 = slt2048 B (sl 2 (k.val + 1)) := slt2048_congr B (by revert hk; revert k; decide +kernel) _ _
@[sl_canon] theorem sltW2048 (B : Memref sig .tc .vmem S2x256x2048 .bf16) (k : Trip) (hh hs) : (B.slice (Rect.unit (s := S2x256x2048) (k0_off21 k) S1x256x2048.size hh) hs).squeeze S256x2048 squeezes_S1x256x2048_S256x2048 = slt2048 B (sl 2 k.val) := slt2048_congr B (by revert k; decide +kernel) _ _
@[sl_canon] theorem blkP2048 (A : Memref sig .tc .hbm S4096x2048 .bf16) (hh hs) : A.slice (Rect.unit (s := S4096x2048) ![0, 0] S256x2048.size hh) hs = blk2048 A 0 := blk2048_congr A (by decide +kernel) _ _
@[sl_canon] theorem blkI2048 (A : Memref sig .tc .hbm S4096x2048 .bf16) (k : Trip) (hk : k.val + 1 < 16) (hh hs) : A.slice (Rect.unit (s := S4096x2048) (k0_off3 k) S256x2048.size hh) hs = blk2048 A (bk 16 (k.val + 1)) := blk2048_congr A (by revert hk; revert k; decide +kernel) _ _
@[sl_canon] theorem blkW2048 (A : Memref sig .tc .hbm S4096x2048 .bf16) (k : Trip) (hh hs) : A.slice (Rect.unit (s := S4096x2048) (k0_off22 k) S256x2048.size hh) hs = blk2048 A (bk 16 k.val) := blk2048_congr A (by revert k; decide +kernel) _ _
@[sl_canon] theorem sltP512 (B : Memref sig .tc .vmem S2x256x512 .bf16) (hh hs) : (B.slice (Rect.unit (s := S2x256x512) ![0, 0, 0] S1x256x512.size hh) hs).squeeze S256x512 squeezes_S1x256x512_S256x512 = slt512 B 0 := slt512_congr B (by decide +kernel) _ _
@[sl_canon] theorem sltI512 (B : Memref sig .tc .vmem S2x256x512 .bf16) (k : Trip) (hk : k.val + 1 < 16) (hh hs) : (B.slice (Rect.unit (s := S2x256x512) (k0_off5 k) S1x256x512.size hh) hs).squeeze S256x512 squeezes_S1x256x512_S256x512 = slt512 B (sl 2 (k.val + 1)) := slt512_congr B (by revert hk; revert k; decide +kernel) _ _
@[sl_canon] theorem sltW512 (B : Memref sig .tc .vmem S2x256x512 .bf16) (k : Trip) (hh hs) : (B.slice (Rect.unit (s := S2x256x512) (k0_off24 k) S1x256x512.size hh) hs).squeeze S256x512 squeezes_S1x256x512_S256x512 = slt512 B (sl 2 k.val) := slt512_congr B (by revert k; decide +kernel) _ _
@[sl_canon] theorem blkP512 (A : Memref sig .tc .hbm S4096x512 .bf16) (hh hs) : A.slice (Rect.unit (s := S4096x512) ![0, 0] S256x512.size hh) hs = blk512 A 0 := blk512_congr A (by decide +kernel) _ _
@[sl_canon] theorem blkI512 (A : Memref sig .tc .hbm S4096x512 .bf16) (k : Trip) (hk : k.val + 1 < 16) (hh hs) : A.slice (Rect.unit (s := S4096x512) (k0_off6 k) S256x512.size hh) hs = blk512 A (bk 16 (k.val + 1)) := blk512_congr A (by revert hk; revert k; decide +kernel) _ _
@[sl_canon] theorem blkW512 (A : Memref sig .tc .hbm S4096x512 .bf16) (k : Trip) (hh hs) : A.slice (Rect.unit (s := S4096x512) (k0_off25 k) S256x512.size hh) hs = blk512 A (bk 16 k.val) := blk512_congr A (by revert k; decide +kernel) _ _
@[sl_canon] theorem sltP256 (B : Memref sig .tc .vmem S2x256x256 .bf16) (hh hs) : (B.slice (Rect.unit (s := S2x256x256) ![0, 0, 0] S1x256x256.size hh) hs).squeeze S256x256 squeezes_S1x256x256_S256x256 = slt256 B 0 := slt256_congr B (by decide +kernel) _ _
@[sl_canon] theorem sltI256 (B : Memref sig .tc .vmem S2x256x256 .bf16) (k : Trip) (hk : k.val + 1 < 16) (hh hs) : (B.slice (Rect.unit (s := S2x256x256) (k0_off8 k) S1x256x256.size hh) hs).squeeze S256x256 squeezes_S1x256x256_S256x256 = slt256 B (sl 2 (k.val + 1)) := slt256_congr B (by revert hk; revert k; decide +kernel) _ _
@[sl_canon] theorem sltW256 (B : Memref sig .tc .vmem S2x256x256 .bf16) (k : Trip) (hh hs) : (B.slice (Rect.unit (s := S2x256x256) (k0_off27 k) S1x256x256.size hh) hs).squeeze S256x256 squeezes_S1x256x256_S256x256 = slt256 B (sl 2 k.val) := slt256_congr B (by revert k; decide +kernel) _ _
@[sl_canon] theorem blkP256 (A : Memref sig .tc .hbm S4096x256 .bf16) (hh hs) : A.slice (Rect.unit (s := S4096x256) ![0, 0] S256x256.size hh) hs = blk256 A 0 := blk256_congr A (by decide +kernel) _ _
@[sl_canon] theorem blkI256 (A : Memref sig .tc .hbm S4096x256 .bf16) (k : Trip) (hk : k.val + 1 < 16) (hh hs) : A.slice (Rect.unit (s := S4096x256) (k0_off9 k) S256x256.size hh) hs = blk256 A (bk 16 (k.val + 1)) := blk256_congr A (by revert hk; revert k; decide +kernel) _ _
@[sl_canon] theorem blkW256 (A : Memref sig .tc .hbm S4096x256 .bf16) (k : Trip) (hh hs) : A.slice (Rect.unit (s := S4096x256) (k0_off28 k) S256x256.size hh) hs = blk256 A (bk 16 k.val) := blk256_congr A (by revert k; decide +kernel) _ _
@[sl_canon] theorem sltP3072 (B : Memref sig .tc .vmem S2x256x3072 .bf16) (hh hs) : (B.slice (Rect.unit (s := S2x256x3072) ![0, 0, 0] S1x256x3072.size hh) hs).squeeze S256x3072 squeezes_S1x256x3072_S256x3072 = slt3072 B 0 := slt3072_congr B (by decide +kernel) _ _
@[sl_canon] theorem sltI3072 (B : Memref sig .tc .vmem S2x256x3072 .bf16) (k : Trip) (hk : k.val + 1 < 16) (hh hs) : (B.slice (Rect.unit (s := S2x256x3072) (k0_off14 k) S1x256x3072.size hh) hs).squeeze S256x3072 squeezes_S1x256x3072_S256x3072 = slt3072 B (sl 2 (k.val + 1)) := slt3072_congr B (by revert hk; revert k; decide +kernel) _ _
@[sl_canon] theorem sltW3072 (B : Memref sig .tc .vmem S2x256x3072 .bf16) (k : Trip) (hh hs) : (B.slice (Rect.unit (s := S2x256x3072) (k0_off33 k) S1x256x3072.size hh) hs).squeeze S256x3072 squeezes_S1x256x3072_S256x3072 = slt3072 B (sl 2 k.val) := slt3072_congr B (by revert k; decide +kernel) _ _
@[sl_canon] theorem blkP3072 (A : Memref sig .tc .hbm S4096x3072 .bf16) (hh hs) : A.slice (Rect.unit (s := S4096x3072) ![0, 0] S256x3072.size hh) hs = blk3072 A 0 := blk3072_congr A (by decide +kernel) _ _
@[sl_canon] theorem blkI3072 (A : Memref sig .tc .hbm S4096x3072 .bf16) (k : Trip) (hk : k.val + 1 < 16) (hh hs) : A.slice (Rect.unit (s := S4096x3072) (k0_off15 k) S256x3072.size hh) hs = blk3072 A (bk 16 (k.val + 1)) := blk3072_congr A (by revert hk; revert k; decide +kernel) _ _
@[sl_canon] theorem blkW3072 (A : Memref sig .tc .hbm S4096x3072 .bf16) (k : Trip) (hh hs) : A.slice (Rect.unit (s := S4096x3072) (k0_off34 k) S256x3072.size hh) hs = blk3072 A (bk 16 k.val) := blk3072_congr A (by revert k; decide +kernel) _ _
@[sl_canon] theorem sltP1024 (B : Memref sig .tc .vmem S2x256x1024 .f32) (hh hs) : (B.slice (Rect.unit (s := S2x256x1024) ![0, 0, 0] S1x256x1024.size hh) hs).squeeze S256x1024 squeezes_S1x256x1024_S256x1024 = slt1024 B 0 := slt1024_congr B (by decide +kernel) _ _
@[sl_canon] theorem sltI1024 (B : Memref sig .tc .vmem S2x256x1024 .f32) (k : Trip) (hk : k.val + 1 < 16) (hh hs) : (B.slice (Rect.unit (s := S2x256x1024) (k0_off17 k) S1x256x1024.size hh) hs).squeeze S256x1024 squeezes_S1x256x1024_S256x1024 = slt1024 B (sl 2 (k.val + 1)) := slt1024_congr B (by revert hk; revert k; decide +kernel) _ _
@[sl_canon] theorem sltW1024 (B : Memref sig .tc .vmem S2x256x1024 .f32) (k : Trip) (hh hs) : (B.slice (Rect.unit (s := S2x256x1024) (k0_off36 k) S1x256x1024.size hh) hs).squeeze S256x1024 squeezes_S1x256x1024_S256x1024 = slt1024 B (sl 2 k.val) := slt1024_congr B (by revert k; decide +kernel) _ _
@[sl_canon] theorem blkP1024 (A : Memref sig .tc .hbm S4096x1024 .f32) (hh hs) : A.slice (Rect.unit (s := S4096x1024) ![0, 0] S256x1024.size hh) hs = blk1024 A 0 := blk1024_congr A (by decide +kernel) _ _
@[sl_canon] theorem blkI1024 (A : Memref sig .tc .hbm S4096x1024 .f32) (k : Trip) (hk : k.val + 1 < 16) (hh hs) : A.slice (Rect.unit (s := S4096x1024) (k0_off18 k) S256x1024.size hh) hs = blk1024 A (bk 16 (k.val + 1)) := blk1024_congr A (by revert hk; revert k; decide +kernel) _ _
@[sl_canon] theorem blkW1024 (A : Memref sig .tc .hbm S4096x1024 .f32) (k : Trip) (hh hs) : A.slice (Rect.unit (s := S4096x1024) (k0_off37 k) S256x1024.size hh) hs = blk1024 A (bk 16 k.val) := blk1024_congr A (by revert k; decide +kernel) _ _

/-! The result's copies: waited two trips later, the last two after the loop. -/

@[sl_canon] theorem osemW (k : Trip) (hh) : (cc0_scratch12.slice (Rect.unit (s := S2) (k0_off39 k) S1.size hh)).squeeze S_ squeezes_S1_S_ = osem (sl 2 k.val) := osem_congr (by revert k; decide +kernel) _
@[sl_canon] theorem osemI (k : Trip) (hh) : (cc0_scratch12.slice (Rect.unit (s := S2) (k0_off43 k) S1.size hh)).squeeze S_ squeezes_S1_S_ = osem (sl 2 k.val) := osem_congr (by revert k; decide +kernel) _
@[sl_canon] theorem osemE0 (hh) : (cc0_scratch12.slice (Rect.unit (s := S2) ![0] S1.size hh)).squeeze S_ squeezes_S1_S_ = osem 0 := osem_congr (by decide +kernel) _
@[sl_canon] theorem osemE1 (hh) : (cc0_scratch12.slice (Rect.unit (s := S2) ![1] S1.size hh)).squeeze S_ squeezes_S1_S_ = osem 1 := osem_congr (by decide +kernel) _
@[sl_canon] theorem resW (A : Memref sig .tc .hbm S4096x1024 .f32) (k : Trip) (hk : 2 ≤ k.val) (hh hs) : A.slice (Rect.unit (s := S4096x1024) (k0_off40 k) S256x1024.size hh) hs = blk1024 A (bk 16 (k.val - 2)) := blk1024_congr A (by revert hk; revert k; decide +kernel) _ _
@[sl_canon] theorem resE0 (A : Memref sig .tc .hbm S4096x1024 .f32) (hh hs) : A.slice (Rect.unit (s := S4096x1024) ![3584, 0] S256x1024.size hh) hs = blk1024 A 14 := blk1024_congr A (by decide +kernel) _ _
@[sl_canon] theorem resE1 (A : Memref sig .tc .hbm S4096x1024 .f32) (hh hs) : A.slice (Rect.unit (s := S4096x1024) ![3840, 0] S256x1024.size hh) hs = blk1024 A 15 := blk1024_congr A (by decide +kernel) _ _
@[sl_canon] theorem gxW (B : Memref sig .tc .vmem S2x256x1024 .f32) (k : Trip) (hh hs) : (B.slice (Rect.unit (s := S2x256x1024) (k0_off41 k) S1x256x1024.size hh) hs).squeeze S256x1024 squeezes_S1x256x1024_S256x1024 = slt1024 B (sl 2 k.val) := slt1024_congr B (by revert k; decide +kernel) _ _
@[sl_canon] theorem gxE1 (B : Memref sig .tc .vmem S2x256x1024 .f32) (hh hs) : (B.slice (Rect.unit (s := S2x256x1024) ![1, 0, 0] S1x256x1024.size hh) hs).squeeze S256x1024 squeezes_S1x256x1024_S256x1024 = slt1024 B 1 := slt1024_congr B (by decide +kernel) _ _

theorem off42_eq (k : Trip) : k0_off42 k = slotOff (sl 2 k.val) := by revert k; decide +kernel
instance (k : Trip) : ClosedOff (k0_off42 k) := ⟨slotOff (sl 2 k.val), off42_eq k⟩

theorem cond1_pos (k : Trip) (hk : k.val + 1 < 16) : k0_cond1 k = 1#1 := by revert hk; revert k; decide +kernel
theorem cond1_neg (k : Trip) (hk : ¬ k.val + 1 < 16) : ¬ k0_cond1 k = 1#1 := by revert hk; revert k; decide +kernel
theorem cond2_pos (k : Trip) (hk : 2 ≤ k.val) : k0_cond2 k = 1#1 := by revert hk; revert k; decide +kernel
theorem cond2_neg (k : Trip) (hk : ¬ 2 ≤ k.val) : ¬ k0_cond2 k = 1#1 := by revert hk; revert k; decide +kernel

end Cert.DhIdeal.Hand

end
-- ==== Proof.DhRings.lean ====
/- `_dh_bwd`'s state between two trips of its loop: an operand's ring of two buffers (the block of the next trip on
   its way into one buffer, the other free, all other blocks at home), and the result's ring (the last two blocks on
   their way out). -/
module

public import proofs.«01_k».proof.Proof.DhNames
public import Idealize.ShloMosaic.Lib.Pipeline.KitQuiescent

@[expose] public section

noncomputable section

namespace Cert.DhIdeal.Hand

open Cert.DhIdeal Cert.DhIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

/-- The pipeline's resources beside the counters of the kernel's own copies. -/
abbrev UU (nD : Nat) (τ : Topo) : Type := UR sig nD τ × Counters
local notation "𝕄" => MT nD τ sig Unit (Elt F) ℕ (UU nD τ) ℕ

/-! ## Pieces -/

section Pieces
variable (c : Dev nD) {sh : Shape} {e : EltTy} {sp : Space}

/-- A piece held at contents `f`. -/
abbrev held (M : Memref sig .tc sp sh e) (f : Buf (Elt F) (M.view.loc (c : Thread nD τ))) : sProp 𝕄 :=
  M.view.loc (c : Thread nD τ) ↦[M.view.set]{fullShare} f
/-- A semaphore at zero. -/
abbrev cell (s : DmaSems sig S_) : sProp 𝕄 := semVal ((c : Thread nD τ), SemLoc.dma s.sem) 0
/-- What a copy of a whole piece of words `x` leaves in a piece. -/
abbrev landed (D : Memref sig .tc sp sh e) (x : sh.Idx → Elt F e) (f : Buf (Elt F) (D.view.loc (c : Thread nD τ))) :
    Buf (Elt F) (D.view.loc (c : Thread nD τ)) := D.view.writes (Elt F) f [⟨Rect.whole sh, x⟩]
/-- A piece's words. -/
abbrev words (G : Memref sig .tc sp sh e) (X : Buf (Elt F) (G.view.loc (c : Thread nD τ))) : sh.Idx → Elt F e :=
  ReadAs.same.apply (G.view.read (Elt F) X)
/-- A copy of piece `G` into `D` on its way. -/
abbrev fly {sp' : Space} (G : Memref sig .tc sp sh e) (D : Memref sig .tc sp' sh e) (s : DmaSems sig S_) (N : ℕ)
    (X : Buf (Elt F) (G.view.loc (c : Thread nD τ))) (f : Buf (Elt F) (D.view.loc (c : Thread nD τ))) : sProp 𝕄 :=
  Transfers.Flight countersEmb (c : Thread nD τ) (SemLoc.dma s.sem) () N iprop(held c D (landed c D (words c G X) f) ∗ held c G X)

end Pieces

/-! ## An operand's ring -/

section Ring
variable (c : Dev nD) {sh : Shape} {e : EltTy} (src : Fin 16 → Memref sig .tc .hbm sh e) (dst : Fin 2 → Memref sig .tc .vmem sh e)
  (sm : Fin 2 → DmaSems sig S_) (N : ℕ) (X : (b : Fin 16) → Buf (Elt F) ((src b).view.loc (c : Thread nD τ)))

abbrev home (b : Fin 16) : sProp 𝕄 := held c (src b) (X b)
abbrev free (s : Fin 2) : sProp 𝕄 := iprop(cell c (sm s) ∗ ∃ f, held (F := F) c (dst s) f)
abbrev inflight (s : Fin 2) (b : Fin 16) : sProp 𝕄 := iprop(∃ f, fly c (src b) (dst s) (sm s) N (X b) f)

/-- The ring before trip `k`. -/
def rd (k : ℕ) : sProp 𝕄 :=
  if k < 16 then iprop(bigSep (Ring.homeSet 1 k) (home c src X) ∗ inflight c src dst sm N X (sl 2 k) (bk 16 k) ∗ free c dst sm (sl 2 (k + 1)))
  else iprop(bigSep Finset.univ (home c src X) ∗ free (F := F) c dst sm (sl 2 k) ∗ free c dst sm (sl 2 (k + 1)))

theorem rd_here (k : ℕ) (hk : k + 1 < 16) : rd c src dst sm N X k
    = iprop((home c src X (bk 16 (k + 1)) ∗ bigSep ((Ring.homeSet 1 k).erase (bk 16 (k + 1))) (home c src X))
      ∗ inflight c src dst sm N X (sl 2 k) (bk 16 k) ∗ free c dst sm (sl 2 (k + 1))) := by
  unfold rd; rw [if_pos (by omega)]
  conv_lhs => rw [Ring.homeSet_out 1 k hk, bigSep_insert (Ring.bkL_not_mem_erase 1 k)]
  rfl
theorem rd_next (k : ℕ) (hk : k + 1 < 16) : rd c src dst sm N X (k + 1)
    = iprop((home c src X (bk 16 k) ∗ bigSep ((Ring.homeSet 1 k).erase (bk 16 (k + 1))) (home c src X))
      ∗ inflight c src dst sm N X (sl 2 (k + 1)) (bk 16 (k + 1)) ∗ free c dst sm (sl 2 k)) := by
  unfold rd; rw [if_pos hk, show sl 2 (k + 1 + 1) = sl 2 k from Ring.sl_add 2 k]
  conv_lhs => rw [Ring.homeSet_succ 1 k hk, bigSep_insert (Ring.bk_not_mem_erase 1 k (by omega) (by decide))]
  rfl
theorem rd_here_last (k : ℕ) (hk : k + 1 = 16) : rd c src dst sm N X k
    = iprop(bigSep (Ring.homeSet 1 k) (home c src X) ∗ inflight c src dst sm N X (sl 2 k) (bk 16 k) ∗ free c dst sm (sl 2 (k + 1))) := by
  unfold rd; rw [if_pos (by omega)]
theorem rd_next_last (k : ℕ) (hk : k + 1 = 16) : rd c src dst sm N X (k + 1)
    = iprop((home c src X (bk 16 k) ∗ bigSep (Ring.homeSet 1 k) (home c src X)) ∗ free (F := F) c dst sm (sl 2 (k + 1)) ∗ free c dst sm (sl 2 k)) := by
  unfold rd; rw [if_neg (by omega), show sl 2 (k + 1 + 1) = sl 2 k from Ring.sl_add 2 k]
  conv_lhs => rw [← Ring.homeSet_last (NB := 16) 1 (k + 1) (by omega), Ring.homeSet_succ_tail 1 k (by omega) (by omega),
    bigSep_insert (Ring.bk_not_mem_homeSet 1 k (by omega) (by decide))]
  rfl

end Ring

/-! ## The result's ring -/

section Out
variable (c : Dev nD) {sh : Shape} {e : EltTy} (res : Fin 16 → Memref sig .tc .hbm sh e) (buf : Fin 2 → Memref sig .tc .vmem sh e)
  (sm : Fin 2 → DmaSems sig S_) (N : ℕ) (val : Fin 16 → sh.Idx → Elt F e)

/-- Block `b` not yet written. -/
abbrev ahead (b : Fin 16) : sProp 𝕄 := iprop(∃ f, held (F := F) c (res b) f)
/-- Block `b` written: its words are `val b`. -/
abbrev behind (b : Fin 16) : sProp 𝕄 := iprop(∃ f, held (F := F) c (res b) f ∗ ⌜(res b).view.read (Elt F) f = val b⌝)
/-- Block `b` on its way out of slot `s`, whose words are `val b`. -/
abbrev outflight (s : Fin 2) (b : Fin 16) : sProp 𝕄 :=
  iprop(∃ g f, fly c (buf s) (res b) (sm s) N g f ∗ ⌜(buf s).view.read (Elt F) g = val b⌝)

/-- The slot of trip `k` before that trip. -/
def role0 (k : ℕ) : sProp 𝕄 := if 2 ≤ k then outflight c res buf sm N val (sl 2 k) (bk 16 (k - 2)) else free (F := F) c buf sm (sl 2 k)
/-- The other slot. -/
def role1 (k : ℕ) : sProp 𝕄 := if 1 ≤ k then outflight c res buf sm N val (sl 2 (k + 1)) (bk 16 (k - 1)) else free (F := F) c buf sm (sl 2 (k + 1))
/-- The ring before trip `k`. -/
def wr (k : ℕ) : sProp 𝕄 :=
  iprop(bigSep (Ring.aheadSet k) (ahead (F := F) c res) ∗ bigSep (Ring.behindSet 2 k) (behind c res val)
    ∗ role0 c res buf sm N val k ∗ role1 c res buf sm N val k)

theorem role_shift (k : ℕ) : role0 c res buf sm N val (k + 1) = role1 c res buf sm N val k := by
  unfold role0 role1
  by_cases h : 1 ≤ k
  · rw [if_pos h, if_pos (by omega), show k + 1 - 2 = k - 1 by omega]
  · rw [if_neg h, if_neg (by omega)]
theorem role1_succ (k : ℕ) : role1 c res buf sm N val (k + 1) = outflight c res buf sm N val (sl 2 k) (bk 16 k) := by
  unfold role1; rw [if_pos (by omega), show sl 2 (k + 1 + 1) = sl 2 k from Ring.sl_add 2 k, Nat.add_sub_cancel]

theorem wr_here (k : ℕ) (h2 : 2 ≤ k) (hk : k < 16) : wr c res buf sm N val k
    = iprop((ahead (F := F) c res (bk 16 k) ∗ bigSep (Ring.aheadSet (k + 1)) (ahead (F := F) c res)) ∗ bigSep (Ring.behindSet 2 k) (behind c res val)
      ∗ outflight c res buf sm N val (sl 2 k) (bk 16 (k - 2)) ∗ role1 c res buf sm N val k) := by
  unfold wr role0; rw [if_pos h2, Ring.aheadSet_open k hk, bigSep_insert (Ring.bk_not_mem_aheadSet_succ k hk)]; rfl
theorem wr_next (k : ℕ) (h2 : 2 ≤ k) (hk : k < 16) : wr c res buf sm N val (k + 1)
    = iprop(bigSep (Ring.aheadSet (k + 1)) (ahead (F := F) c res) ∗ (behind c res val (bk 16 (k - 2)) ∗ bigSep (Ring.behindSet 2 k) (behind c res val))
      ∗ role1 c res buf sm N val k ∗ outflight c res buf sm N val (sl 2 k) (bk 16 k)) := by
  unfold wr; rw [role_shift, role1_succ, Ring.behindSet_close 2 k h2 hk, bigSep_insert (Ring.bk_not_mem_behindSet 2 k h2 hk)]; rfl
theorem wr_here_first (k : ℕ) (h2 : ¬ 2 ≤ k) : wr c res buf sm N val k
    = iprop((ahead (F := F) c res (bk 16 k) ∗ bigSep (Ring.aheadSet (k + 1)) (ahead (F := F) c res)) ∗ bigSep (Ring.behindSet 2 k) (behind c res val)
      ∗ free (F := F) c buf sm (sl 2 k) ∗ role1 c res buf sm N val k) := by
  unfold wr role0; rw [if_neg h2, Ring.aheadSet_open k (by omega), bigSep_insert (Ring.bk_not_mem_aheadSet_succ k (by omega))]; rfl
theorem wr_next_first (k : ℕ) (h2 : ¬ 2 ≤ k) : wr c res buf sm N val (k + 1)
    = iprop(bigSep (Ring.aheadSet (k + 1)) (ahead (F := F) c res) ∗ bigSep (Ring.behindSet 2 k) (behind c res val)
      ∗ role1 c res buf sm N val k ∗ outflight c res buf sm N val (sl 2 k) (bk 16 k)) := by
  unfold wr; rw [role_shift, role1_succ, Ring.behindSet_boot 2 k (by omega), Ring.behindSet_boot 2 (k + 1) (by omega)]

end Out

end Cert.DhIdeal.Hand

end
-- ==== Proof.DhVals.lean ====
/- The values of one trip of `_dh_bwd`: the product of the seven blocks with the weight, chunk by chunk, the block of
   the input's gradient and the rows' contribution to the gain's gradient, over the words of the blocks. -/
module

public import proofs.«01_k».proof.Proof.DhRings
public import Idealize.ShloMosaic.Lib.Pipeline.FrameBody

@[expose] public section

noncomputable section

namespace Cert.DhIdeal.Hand

open Cert.DhIdeal Cert.DhIdeal.Gen
open Idealize.ShloMosaic
open Idealize.ShloMosaic.TcCoe Idealize.ShloMosaic.Tactic
open Idealize.ShloMosaic.Ring (sl bk)

variable {F : FTy → Type} [FloatOps F]

/-- The words of the nine operands' blocks of one trip. -/
structure Blk (F : FTy → Type) where
  x0 : S256x2048.Idx → Elt F .bf16
  x1 : S256x512.Idx → Elt F .bf16
  x2 : S256x256.Idx → Elt F .bf16
  x3 : S256x512.Idx → Elt F .bf16
  x4 : S256x512.Idx → Elt F .bf16
  x5 : S256x512.Idx → Elt F .bf16
  x6 : S256x3072.Idx → Elt F .bf16
  x7 : S256x1024.Idx → Elt F .f32
  x8 : S256x1024.Idx → Elt F .f32

/-- A block under a leading axis of one. -/
def cube (x : S256x1024.Idx → Elt F .f32) : S1x256x1024.Idx → Elt F .f32 :=
  fun i => x ((Shape.reshapeEquiv (s := S1x256x1024) (s' := S256x1024) shapeCasts_S1x256x1024_S256x1024).symm i)

/-- The product but for its last chunk. -/
def acc14 (B : Blk F) (w : S7424x1024.Idx → Elt F .bf16) : FVec F S256x1024 .f32 :=
  let ⟨x0, x1, x2, x3, x4, x5, x6, _, _⟩ := B
  k0_pay4 (k0_pay3 (k0_pay2 k0_pay1
      (View.ld x0 (Rect.unit (s := S256x2048) ![0, 0] S256x512.size inb_S256x2048_S256x512_0_0)) (View.ld w (Rect.unit (s := S7424x1024) ![0, 0] S512x1024.size inb_S7424x1024_S512x1024_0_0))
      (View.ld x0 (Rect.unit (s := S256x2048) ![0, 512] S256x512.size inb_S256x2048_S256x512_0_512)) (View.ld w (Rect.unit (s := S7424x1024) ![512, 0] S512x1024.size inb_S7424x1024_S512x1024_512_0))
      (View.ld x0 (Rect.unit (s := S256x2048) ![0, 1024] S256x512.size inb_S256x2048_S256x512_0_1024)) (View.ld w (Rect.unit (s := S7424x1024) ![1024, 0] S512x1024.size inb_S7424x1024_S512x1024_1024_0))
      (View.ld x0 (Rect.unit (s := S256x2048) ![0, 1536] S256x512.size inb_S256x2048_S256x512_0_1536)) (View.ld w (Rect.unit (s := S7424x1024) ![1536, 0] S512x1024.size inb_S7424x1024_S512x1024_1536_0))
      (View.ld x1 (Rect.unit (s := S256x512) ![0, 0] S256x512.size inb_S256x512_S256x512_0_0)) (View.ld w (Rect.unit (s := S7424x1024) ![2048, 0] S512x1024.size inb_S7424x1024_S512x1024_2048_0)))
    (View.ld x2 (Rect.unit (s := S256x256) ![0, 0] S256x256.size inb_S256x256_S256x256_0_0)) (View.ld w (Rect.unit (s := S7424x1024) ![2560, 0] S256x1024.size inb_S7424x1024_S256x1024_2560_0))
    (View.ld x3 (Rect.unit (s := S256x512) ![0, 0] S256x512.size inb_S256x512_S256x512_0_0)) (View.ld w (Rect.unit (s := S7424x1024) ![2816, 0] S512x1024.size inb_S7424x1024_S512x1024_2816_0)) (View.ld x4 (Rect.unit (s := S256x512) ![0, 0] S256x512.size inb_S256x512_S256x512_0_0)) (View.ld w (Rect.unit (s := S7424x1024) ![3328, 0] S512x1024.size inb_S7424x1024_S512x1024_3328_0)) (View.ld x5 (Rect.unit (s := S256x512) ![0, 0] S256x512.size inb_S256x512_S256x512_0_0)) (View.ld w (Rect.unit (s := S7424x1024) ![3840, 0] S512x1024.size inb_S7424x1024_S512x1024_3840_0)))
    (View.ld x6 (Rect.unit (s := S256x3072) ![0, 0] S256x512.size inb_S256x3072_S256x512_0_0)) (View.ld w (Rect.unit (s := S7424x1024) ![4352, 0] S512x1024.size inb_S7424x1024_S512x1024_4352_0)) (constant S256x1024 .f32 0x00000000#32) (View.ld x6 (Rect.unit (s := S256x3072) ![0, 512] S256x512.size inb_S256x3072_S256x512_0_512)) (View.ld w (Rect.unit (s := S7424x1024) ![4864, 0] S512x1024.size inb_S7424x1024_S512x1024_4864_0)) (View.ld x6 (Rect.unit (s := S256x3072) ![0, 1024] S256x512.size inb_S256x3072_S256x512_0_1024)) (View.ld w (Rect.unit (s := S7424x1024) ![5376, 0] S512x1024.size inb_S7424x1024_S512x1024_5376_0)) (View.ld x6 (Rect.unit (s := S256x3072) ![0, 1536] S256x512.size inb_S256x3072_S256x512_0_1536)) (View.ld w (Rect.unit (s := S7424x1024) ![5888, 0] S512x1024.size inb_S7424x1024_S512x1024_5888_0)) (View.ld x6 (Rect.unit (s := S256x3072) ![0, 2048] S256x512.size inb_S256x3072_S256x512_0_2048)) (View.ld w (Rect.unit (s := S7424x1024) ![6400, 0] S512x1024.size inb_S7424x1024_S512x1024_6400_0))
/-- The trip's product. -/
def accB (B : Blk F) (w : S7424x1024.Idx → Elt F .bf16) : FVec F S256x1024 .f32 :=
  k0_pay5 (acc14 B w) (View.ld B.x6 (Rect.unit (s := S256x3072) ![0, 2560] S256x512.size inb_S256x3072_S256x512_0_2560)) (View.ld w (Rect.unit (s := S7424x1024) ![6912, 0] S512x1024.size inb_S7424x1024_S512x1024_6912_0))
/-- The block of the input's gradient, under a leading axis of one. -/
def gxB (B : Blk F) (w : S7424x1024.Idx → Elt F .bf16) (g : S1x1024.Idx → Elt F .f32) : FVec F S1x256x1024 .f32 :=
  k0_pay9 (acc14 B w) (View.ld B.x6 (Rect.unit (s := S256x3072) ![0, 2560] S256x512.size inb_S256x3072_S256x512_0_2560)) (View.ld w (Rect.unit (s := S7424x1024) ![6912, 0] S512x1024.size inb_S7424x1024_S512x1024_6912_0)) (cube B.x7)
    (View.ld g (Rect.unit (s := S1x1024) ![0, 0] S1x1024.size inb_S1x1024_S1x1024_0_0)) (cube B.x8)
/-- The same as the block it is. -/
def gxV (B : Blk F) (w : S7424x1024.Idx → Elt F .bf16) (g : S1x1024.Idx → Elt F .f32) : S256x1024.Idx → Elt F .f32 :=
  fun i => gxB B w g (Shape.reshapeEquiv (s := S1x256x1024) (s' := S256x1024) shapeCasts_S1x256x1024_S256x1024 i)
/-- The gain's gradient after a trip. -/
def ggStep (acc : FVec F S1x1024 .f32) (B : Blk F) (w : S7424x1024.Idx → Elt F .bf16) : FVec F S1x1024 .f32 :=
  k0_pay11 acc (accB B w) (k0_pay8 (cube B.x7))
/-- The gain's gradient before trip `k`. -/
def ggAt (B : ℕ → Blk F) (w : S7424x1024.Idx → Elt F .bf16) : ℕ → FVec F S1x1024 .f32
  | 0 => k0_pay10
  | k + 1 => ggStep (ggAt B w k) (B k) w

/-! ## Reading the pieces -/

/-- A chunk of a piece a copy has filled is the chunk of what it carried. -/
theorem cov_ld {s : Shape} {e : EltTy} {κ : Kind} {sp : Space} (v : View sig κ sp s e) (x : s.Idx → Elt F e) (r : Rect s) :
    v.readCov [⟨Rect.whole s, x⟩] r.toLoadRect = View.ld x r := by
  funext i
  show v.read (Elt F) (v.writes (Elt F) v.junk [⟨Rect.whole s, x⟩]) (r.idx i) = x (r.idx i)
  rw [View.read_writes_whole]

section Cube
variable (M : Memref sig .tc .vmem S1x256x1024 .f32)

theorem read_squeeze (f : M.view.ty.Contents (Elt F)) (i : S256x1024.Idx) :
    (M.squeeze S256x1024 squeezes_S1x256x1024_S256x1024).view.read (Elt F) f i
      = M.view.read (Elt F) f (Shape.reshapeEquiv (s := S1x256x1024) (s' := S256x1024) shapeCasts_S1x256x1024_S256x1024 i) := rfl
/-- A slot read with its leading axis. -/
theorem cube_read (f : M.view.ty.Contents (Elt F)) :
    M.view.read (Elt F) f = cube ((M.squeeze S256x1024 squeezes_S1x256x1024_S256x1024).view.read (Elt F) f) := by
  funext i
  unfold cube
  rw [read_squeeze, Equiv.apply_symm_apply]
/-- What the trip stores with a leading axis, read from the slot. -/
theorem cube_write (f : M.view.ty.Contents (Elt F)) (x : S1x256x1024.Idx → Elt F .f32) :
    (M.squeeze S256x1024 squeezes_S1x256x1024_S256x1024).view.read (Elt F) (View.write (Elt F) M.view f x Finset.univ)
      = fun i => x (Shape.reshapeEquiv (s := S1x256x1024) (s' := S256x1024) shapeCasts_S1x256x1024_S256x1024 i) := by
  funext i
  rw [read_squeeze, View.read_write_univ]
end Cube

section Slot
variable (B : Memref sig .tc .vmem S2x256x1024 .f32) {s : Fin 2} {off : Fin 3 → Nat} (h : off = slotOff s)
  (hh : ∀ a, off a + S1x256x1024.size a ≤ S2x256x1024.size a)
include h
theorem slot_read (f : B.view.ty.Contents (Elt F)) :
    B.view.readAt (Elt F) (Rect.unit (s := S2x256x1024) off S1x256x1024.size hh).toLoadRect f = cube ((slt1024 B s).view.read (Elt F) f) := by
  subst h; exact cube_read (B.slice (Rect.unit (s := S2x256x1024) (slotOff s) S1x256x1024.size hh) (fun _ => rfl)) f
theorem slot_write (f : B.view.ty.Contents (Elt F)) (x : S1x256x1024.Idx → Elt F .f32) :
    (slt1024 B s).view.read (Elt F) (View.write (Elt F) (B.access (Rect.unit (s := S2x256x1024) off S1x256x1024.size hh)) f x Finset.univ)
      = fun i => x (Shape.reshapeEquiv (s := S1x256x1024) (s' := S256x1024) shapeCasts_S1x256x1024_S256x1024 i) := by
  subst h; exact cube_write (B.slice (Rect.unit (s := S2x256x1024) (slotOff s) S1x256x1024.size hh) (fun _ => rfl)) f x
end Slot

end Cert.DhIdeal.Hand
end
-- ==== Proof.DhTrip.lean ====
module

public import proofs.«01_k».proof.Proof.DhVals

@[expose] public section

noncomputable section

namespace Cert.DhIdeal.Hand

open Cert.DhIdeal Cert.DhIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]
local notation "𝕄" => MT nD τ sig Unit (Elt F) ℕ (UU nD τ) ℕ
abbrev 𝒱₀ : Variants := Variants.none
variable (c : Dev nD)
/-- Operand 0's ring. -/
abbrev rd0 (X : (b : Fin 16) → Buf (Elt F) ((blk2048 (Memref.whole main_arg0) b).view.loc (c : Thread nD τ))) (k : ℕ) : sProp 𝕄 :=
  rd c (blk2048 (Memref.whole main_arg0)) (slt2048 (Memref.whole cc0_scratch0)) (fun s => isem s 0) 32768 X k
/-- Operand 1's ring. -/
abbrev rd1 (X : (b : Fin 16) → Buf (Elt F) ((blk512 (Memref.whole main_arg1) b).view.loc (c : Thread nD τ))) (k : ℕ) : sProp 𝕄 :=
  rd c (blk512 (Memref.whole main_arg1)) (slt512 (Memref.whole cc0_scratch1)) (fun s => isem s 1) 8192 X k
/-- Operand 2's ring. -/
abbrev rd2 (X : (b : Fin 16) → Buf (Elt F) ((blk256 (Memref.whole main_arg2) b).view.loc (c : Thread nD τ))) (k : ℕ) : sProp 𝕄 :=
  rd c (blk256 (Memref.whole main_arg2)) (slt256 (Memref.whole cc0_scratch2)) (fun s => isem s 2) 4096 X k
/-- Operand 3's ring. -/
abbrev rd3 (X : (b : Fin 16) → Buf (Elt F) ((blk512 (Memref.whole main_arg3) b).view.loc (c : Thread nD τ))) (k : ℕ) : sProp 𝕄 :=
  rd c (blk512 (Memref.whole main_arg3)) (slt512 (Memref.whole cc0_scratch3)) (fun s => isem s 3) 8192 X k
/-- Operand 4's ring. -/
abbrev rd4 (X : (b : Fin 16) → Buf (Elt F) ((blk512 (Memref.whole main_arg4) b).view.loc (c : Thread nD τ))) (k : ℕ) : sProp 𝕄 :=
  rd c (blk512 (Memref.whole main_arg4)) (slt512 (Memref.whole cc0_scratch4)) (fun s => isem s 4) 8192 X k
/-- Operand 5's ring. -/
abbrev rd5 (X : (b : Fin 16) → Buf (Elt F) ((blk512 (Memref.whole main_arg5) b).view.loc (c : Thread nD τ))) (k : ℕ) : sProp 𝕄 :=
  rd c (blk512 (Memref.whole main_arg5)) (slt512 (Memref.whole cc0_scratch5)) (fun s => isem s 5) 8192 X k
/-- Operand 6's ring. -/
abbrev rd6 (X : (b : Fin 16) → Buf (Elt F) ((blk3072 (Memref.whole main_arg6) b).view.loc (c : Thread nD τ))) (k : ℕ) : sProp 𝕄 :=
  rd c (blk3072 (Memref.whole main_arg6)) (slt3072 (Memref.whole cc0_scratch6)) (fun s => isem s 6) 49152 X k
/-- Operand 7's ring. -/
abbrev rd7 (X : (b : Fin 16) → Buf (Elt F) ((blk1024 (Memref.whole main_arg7) b).view.loc (c : Thread nD τ))) (k : ℕ) : sProp 𝕄 :=
  rd c (blk1024 (Memref.whole main_arg7)) (slt1024 (Memref.whole cc0_scratch7)) (fun s => isem s 7) 32768 X k
/-- Operand 8's ring. -/
abbrev rd8 (X : (b : Fin 16) → Buf (Elt F) ((blk1024 (Memref.whole main_arg8) b).view.loc (c : Thread nD τ))) (k : ℕ) : sProp 𝕄 :=
  rd c (blk1024 (Memref.whole main_arg8)) (slt1024 (Memref.whole cc0_scratch8)) (fun s => isem s 8) 32768 X k

/-- The launch contents of the operands. -/
structure Ops where
  x0 : (b : Fin 16) → Buf (Elt F) ((blk2048 (Memref.whole main_arg0) b).view.loc (c : Thread nD τ))
  x1 : (b : Fin 16) → Buf (Elt F) ((blk512 (Memref.whole main_arg1) b).view.loc (c : Thread nD τ))
  x2 : (b : Fin 16) → Buf (Elt F) ((blk256 (Memref.whole main_arg2) b).view.loc (c : Thread nD τ))
  x3 : (b : Fin 16) → Buf (Elt F) ((blk512 (Memref.whole main_arg3) b).view.loc (c : Thread nD τ))
  x4 : (b : Fin 16) → Buf (Elt F) ((blk512 (Memref.whole main_arg4) b).view.loc (c : Thread nD τ))
  x5 : (b : Fin 16) → Buf (Elt F) ((blk512 (Memref.whole main_arg5) b).view.loc (c : Thread nD τ))
  x6 : (b : Fin 16) → Buf (Elt F) ((blk3072 (Memref.whole main_arg6) b).view.loc (c : Thread nD τ))
  x7 : (b : Fin 16) → Buf (Elt F) ((blk1024 (Memref.whole main_arg7) b).view.loc (c : Thread nD τ))
  x8 : (b : Fin 16) → Buf (Elt F) ((blk1024 (Memref.whole main_arg8) b).view.loc (c : Thread nD τ))

/-- All the operands' rings before trip `k`. -/
abbrev rds (X : Ops (F := F) c) (k : ℕ) : sProp 𝕄 :=
  iprop(rd0 c X.x0 k ∗ rd1 c X.x1 k ∗ rd2 c X.x2 k ∗ rd3 c X.x3 k ∗ rd4 c X.x4 k ∗ rd5 c X.x5 k ∗ rd6 c X.x6 k ∗ rd7 c X.x7 k ∗ rd8 c X.x8 k)

/-- The words of block `b` of the operands. -/
def blkOf (X : Ops (F := F) c) (b : Fin 16) : Blk F :=
  ⟨words c (blk2048 (Memref.whole main_arg0) b) (X.x0 b), words c (blk512 (Memref.whole main_arg1) b) (X.x1 b), words c (blk256 (Memref.whole main_arg2) b) (X.x2 b), words c (blk512 (Memref.whole main_arg3) b) (X.x3 b), words c (blk512 (Memref.whole main_arg4) b) (X.x4 b), words c (blk512 (Memref.whole main_arg5) b) (X.x5 b), words c (blk3072 (Memref.whole main_arg6) b) (X.x6 b), words c (blk1024 (Memref.whole main_arg7) b) (X.x7 b), words c (blk1024 (Memref.whole main_arg8) b) (X.x8 b)⟩

abbrev wrAt (val : Fin 16 → S256x1024.Idx → Elt F .f32) (k : ℕ) : sProp 𝕄 :=
  wr c (blk1024 (Memref.whole main_v1_0)) (slt1024 (Memref.whole cc0_scratch10)) osem 32768 val k

section Trip
variable (X : Ops (F := F) c)
  (arg10 : Memref sig .tc .vmem S1x1024 .f32) (harg10 : arg10.IsWhole)
  (arg13 : Memref sig .tc .vmem S1x1024 .f32) (harg13 : arg13.IsWhole)
  (g : Buf (Elt F) (arg10.view.loc (c : Thread nD τ))) (w : Buf (Elt F) ((Memref.whole (κ := .tc) cc0_scratch9).view.loc (c : Thread nD τ)))

/-- The words of the gain and of the weight. -/
abbrev gW : S1x1024.Idx → Elt F .f32 := arg10.view.read (Elt F) g
abbrev wW : S7424x1024.Idx → Elt F .bf16 := (Memref.whole (κ := .tc) cc0_scratch9).view.read (Elt F) w
/-- The block of the input's gradient of trip `b`. -/
def val (b : Fin 16) : S256x1024.Idx → Elt F .f32 := gxV (blkOf c X b) (wW c w) (gW c arg10 g)

/-- Everything the trip touches, before trip `k`. -/
def st (k : ℕ) : sProp 𝕄 :=
  iprop(held c arg10 g ∗ held c (Memref.whole cc0_scratch9) w ∗ (∃ W, owes (c : Thread nD τ) 0 W) ∗ rds c X k ∗ wrAt c (val c X arg10 g w) k)

abbrev tripG (k : Trip) (acc : FVec F S1x1024 .f32) : Prog (TpuEff nD τ sig (Elt F) Λ₀ .tc) (FVec F S1x1024 .f32) :=
  k0_t1_body (F := F) (Memref.whole main_v0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) arg10 harg10 (Memref.whole main_arg10) (Memref.isWhole_whole _) (Memref.whole main_v1_0) (Memref.isWhole_whole _) arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 k acc

set_option maxHeartbeats 1000000 in
/-- A trip between: the result of two trips before leaves its buffer first. -/
theorem trip_mid (k : Trip) (h2 : 2 ≤ k.val) (hk : k.val + 1 < 16) (acc : FVec F S1x1024 .f32) :
    st c X arg10 g w k ⊢ wp frame (wpE (defs₀ (F := F)) 𝒱₀ (c : Thread nD τ) none) Set.univ (tripG arg10 harg10 arg13 harg13 k acc)
      (fun r => iprop(⌜r = ggStep acc (blkOf c X (bk 16 k.val)) (wW c w)⌝ ∗ st c X arg10 g w (k.val + 1))) := by
  have hk16 : k.val < 16 := trip_lt k
  have hc1 := cond1_pos k hk
  have hc2 := cond2_pos k h2
  unfold st
  simp only [rds, rd0, rd1, rd2, rd3, rd4, rd5, rd6, rd7, rd8, wrAt, rd_here _ _ _ _ _ _ k.val hk, rd_next _ _ _ _ _ _ k.val hk, wr_here _ _ _ _ _ _ k.val h2 hk16, wr_next _ _ _ _ _ _ k.val h2 hk16]
  iintro ⟨Hg, Hw, ⟨%W, HW⟩, ⟨⟨⟨Hi0, Hr0⟩, ⟨%f0, Hf0⟩, ⟨Hc0, ⟨%e0, Hs0⟩⟩⟩, ⟨⟨Hi1, Hr1⟩, ⟨%f1, Hf1⟩, ⟨Hc1, ⟨%e1, Hs1⟩⟩⟩, ⟨⟨Hi2, Hr2⟩, ⟨%f2, Hf2⟩, ⟨Hc2, ⟨%e2, Hs2⟩⟩⟩, ⟨⟨Hi3, Hr3⟩, ⟨%f3, Hf3⟩, ⟨Hc3, ⟨%e3, Hs3⟩⟩⟩, ⟨⟨Hi4, Hr4⟩, ⟨%f4, Hf4⟩, ⟨Hc4, ⟨%e4, Hs4⟩⟩⟩, ⟨⟨Hi5, Hr5⟩, ⟨%f5, Hf5⟩, ⟨Hc5, ⟨%e5, Hs5⟩⟩⟩, ⟨⟨Hi6, Hr6⟩, ⟨%f6, Hf6⟩, ⟨Hc6, ⟨%e6, Hs6⟩⟩⟩, ⟨⟨Hi7, Hr7⟩, ⟨%f7, Hf7⟩, ⟨Hc7, ⟨%e7, Hs7⟩⟩⟩, ⟨⟨Hi8, Hr8⟩, ⟨%f8, Hf8⟩, ⟨Hc8, ⟨%e8, Hs8⟩⟩⟩⟩, ⟨⟨%o, Ho⟩, Hah⟩, Hbe, ⟨%og, %of, Hof, %hog⟩, Hro⟩
  dsimp only [tripG]
  sl_unfold [k0_t1_body]
  sl_exec
  sl_step
  have h209 : trip_mid.sl.v209 c X k = cube (blkOf c X (bk 16 k.val)).x7 :=
    (slot_read _ (off42_eq k) _ _).trans (congrArg cube (View.read_writes_whole _ _ _))
  have h235 : trip_mid.sl.v235 c X k = cube (blkOf c X (bk 16 k.val)).x8 :=
    (slot_read _ (off42_eq k) _ _).trans (congrArg cube (View.read_writes_whole _ _ _))
  have hacc : trip_mid.sl.r_3 c X w k = acc14 (blkOf c X (bk 16 k.val)) (wW c w) := by
    delta trip_mid.sl.r_3 trip_mid.sl.r_1 trip_mid.sl.r trip_mid.sl.r_2 trip_mid.sl.cst_163 trip_mid.sl.v120 trip_mid.sl.v126 trip_mid.sl.v132 trip_mid.sl.v138 trip_mid.sl.v144 trip_mid.sl.v150 trip_mid.sl.v156 trip_mid.sl.v162 trip_mid.sl.v168 trip_mid.sl.v174 trip_mid.sl.v180 trip_mid.sl.v186 trip_mid.sl.v192 trip_mid.sl.v198
    simp only [cov_ld]; rfl
  have h204 : trip_mid.sl.v204 c X k = View.ld (blkOf c X (bk 16 k.val)).x6 (Rect.unit (s := S256x3072) ![0, 2560] S256x512.size inb_S256x3072_S256x512_0_2560) :=
    cov_ld _ _ _
  have hst : (slt1024 (Memref.whole cc0_scratch10) (sl 2 k.val)).view.read (Elt F) (trip_mid.sl.Hof_src_w1 c X arg10 g w k og) = val c X arg10 g w (bk 16 k.val) := by
    unfold trip_mid.sl.Hof_src_w1; rw [hacc, h204, h209, h235]; exact slot_write _ (off42_eq k) _ _ _
  have hbe : (blk1024 (Memref.whole main_v1_0) (bk 16 (k.val - 2))).view.read (Elt F)
      (landed c (blk1024 (Memref.whole main_v1_0) (bk 16 (k.val - 2))) (words c (slt1024 (Memref.whole cc0_scratch10) (sl 2 k.val)) og) of)
      = val c X arg10 g w (bk 16 (k.val - 2)) := (View.read_writes_whole _ _ _).trans hog
  isplitr
  · ipureintro
    unfold trip_mid.sl.r_4 trip_mid.sl.r_5; rw [hacc, h204, h209]; rfl
  iframe
  isplitl [HW]; · iexists _; iexact HW
  isplitl [Hc0 Hf0 Hf0_dst Hc1 Hf1 Hf1_dst Hc2 Hf2 Hf2_dst Hc3 Hf3 Hf3_dst Hc4 Hf4 Hf4_dst Hc5 Hf5 Hf5_dst Hc6 Hf6 Hf6_dst Hc7 Hf7 Hf7_dst Hc8 Hf8 Hf8_dst]
  · isplitl [Hc0 Hf0 Hf0_dst]
    · isplitl [Hc0]; · iexists e0; iexact Hc0
      isplitl [Hf0]; · iexact Hf0
      iexists _; iexact Hf0_dst
    isplitl [Hc1 Hf1 Hf1_dst]
    · isplitl [Hc1]; · iexists e1; iexact Hc1
      isplitl [Hf1]; · iexact Hf1
      iexists _; iexact Hf1_dst
    isplitl [Hc2 Hf2 Hf2_dst]
    · isplitl [Hc2]; · iexists e2; iexact Hc2
      isplitl [Hf2]; · iexact Hf2
      iexists _; iexact Hf2_dst
    isplitl [Hc3 Hf3 Hf3_dst]
    · isplitl [Hc3]; · iexists e3; iexact Hc3
      isplitl [Hf3]; · iexact Hf3
      iexists _; iexact Hf3_dst
    isplitl [Hc4 Hf4 Hf4_dst]
    · isplitl [Hc4]; · iexists e4; iexact Hc4
      isplitl [Hf4]; · iexact Hf4
      iexists _; iexact Hf4_dst
    isplitl [Hc5 Hf5 Hf5_dst]
    · isplitl [Hc5]; · iexists e5; iexact Hc5
      isplitl [Hf5]; · iexact Hf5
      iexists _; iexact Hf5_dst
    isplitl [Hc6 Hf6 Hf6_dst]
    · isplitl [Hc6]; · iexists e6; iexact Hc6
      isplitl [Hf6]; · iexact Hf6
      iexists _; iexact Hf6_dst
    isplitl [Hc7 Hf7 Hf7_dst]
    · isplitl [Hc7]; · iexists e7; iexact Hc7
      isplitl [Hf7]; · iexact Hf7
      iexists _; iexact Hf7_dst
    isplitl [Hc8]; · iexists e8; iexact Hc8
    isplitl [Hf8]; · iexact Hf8
    iexists _; iexact Hf8_dst
  isplitl [Hof_dst]
  · iexists _; isplitl [Hof_dst]; · iexact Hof_dst
    ipureintro; exact hbe
  iexists _, o; isplitl [Hof]; · iexact Hof
  ipureintro; exact hst

set_option maxHeartbeats 1000000 in
/-- A trip whose result buffer is still free. -/
theorem trip_first (k : Trip) (h2 : ¬ 2 ≤ k.val) (hk : k.val + 1 < 16) (acc : FVec F S1x1024 .f32) :
    st c X arg10 g w k ⊢ wp frame (wpE (defs₀ (F := F)) 𝒱₀ (c : Thread nD τ) none) Set.univ (tripG arg10 harg10 arg13 harg13 k acc)
      (fun r => iprop(⌜r = ggStep acc (blkOf c X (bk 16 k.val)) (wW c w)⌝ ∗ st c X arg10 g w (k.val + 1))) := by
  have hk16 : k.val < 16 := trip_lt k
  have hc1 := cond1_pos k hk
  have hc2 := cond2_neg k h2
  unfold st
  simp only [rds, rd0, rd1, rd2, rd3, rd4, rd5, rd6, rd7, rd8, wrAt, rd_here _ _ _ _ _ _ k.val hk, rd_next _ _ _ _ _ _ k.val hk, wr_here_first _ _ _ _ _ _ k.val h2, wr_next_first _ _ _ _ _ _ k.val h2]
  iintro ⟨Hg, Hw, ⟨%W, HW⟩, ⟨⟨⟨Hi0, Hr0⟩, ⟨%f0, Hf0⟩, ⟨Hc0, ⟨%e0, Hs0⟩⟩⟩, ⟨⟨Hi1, Hr1⟩, ⟨%f1, Hf1⟩, ⟨Hc1, ⟨%e1, Hs1⟩⟩⟩, ⟨⟨Hi2, Hr2⟩, ⟨%f2, Hf2⟩, ⟨Hc2, ⟨%e2, Hs2⟩⟩⟩, ⟨⟨Hi3, Hr3⟩, ⟨%f3, Hf3⟩, ⟨Hc3, ⟨%e3, Hs3⟩⟩⟩, ⟨⟨Hi4, Hr4⟩, ⟨%f4, Hf4⟩, ⟨Hc4, ⟨%e4, Hs4⟩⟩⟩, ⟨⟨Hi5, Hr5⟩, ⟨%f5, Hf5⟩, ⟨Hc5, ⟨%e5, Hs5⟩⟩⟩, ⟨⟨Hi6, Hr6⟩, ⟨%f6, Hf6⟩, ⟨Hc6, ⟨%e6, Hs6⟩⟩⟩, ⟨⟨Hi7, Hr7⟩, ⟨%f7, Hf7⟩, ⟨Hc7, ⟨%e7, Hs7⟩⟩⟩, ⟨⟨Hi8, Hr8⟩, ⟨%f8, Hf8⟩, ⟨Hc8, ⟨%e8, Hs8⟩⟩⟩⟩, ⟨⟨%o, Ho⟩, Hah⟩, Hbe, ⟨Hof, ⟨%og, Hog⟩⟩, Hro⟩
  dsimp only [tripG]
  sl_unfold [k0_t1_body]
  sl_exec
  sl_step
  have h209 : trip_first.sl.v209 c X k = cube (blkOf c X (bk 16 k.val)).x7 :=
    (slot_read _ (off42_eq k) _ _).trans (congrArg cube (View.read_writes_whole _ _ _))
  have h235 : trip_first.sl.v235 c X k = cube (blkOf c X (bk 16 k.val)).x8 :=
    (slot_read _ (off42_eq k) _ _).trans (congrArg cube (View.read_writes_whole _ _ _))
  have hacc : trip_first.sl.r_3 c X w k = acc14 (blkOf c X (bk 16 k.val)) (wW c w) := by
    delta trip_first.sl.r_3 trip_first.sl.r_1 trip_first.sl.r trip_first.sl.r_2 trip_first.sl.cst_163 trip_first.sl.v120 trip_first.sl.v126 trip_first.sl.v132 trip_first.sl.v138 trip_first.sl.v144 trip_first.sl.v150 trip_first.sl.v156 trip_first.sl.v162 trip_first.sl.v168 trip_first.sl.v174 trip_first.sl.v180 trip_first.sl.v186 trip_first.sl.v192 trip_first.sl.v198
    simp only [cov_ld]; rfl
  have h204 : trip_first.sl.v204 c X k = View.ld (blkOf c X (bk 16 k.val)).x6 (Rect.unit (s := S256x3072) ![0, 2560] S256x512.size inb_S256x3072_S256x512_0_2560) :=
    cov_ld _ _ _
  have hst : (slt1024 (Memref.whole cc0_scratch10) (sl 2 k.val)).view.read (Elt F) (trip_first.sl.Hog_w1 c X arg10 g w k og) = val c X arg10 g w (bk 16 k.val) := by
    unfold trip_first.sl.Hog_w1; rw [hacc, h204, h209, h235]; exact slot_write _ (off42_eq k) _ _ _
  isplitr
  · ipureintro
    unfold trip_first.sl.r_4 trip_first.sl.r_5; rw [hacc, h204, h209]; rfl
  iframe
  isplitl [HW]; · iexists _; iexact HW
  isplitl [Hc0 Hf0 Hf0_dst Hc1 Hf1 Hf1_dst Hc2 Hf2 Hf2_dst Hc3 Hf3 Hf3_dst Hc4 Hf4 Hf4_dst Hc5 Hf5 Hf5_dst Hc6 Hf6 Hf6_dst Hc7 Hf7 Hf7_dst Hc8 Hf8 Hf8_dst]
  · isplitl [Hc0 Hf0 Hf0_dst]
    · isplitl [Hc0]; · iexists e0; iexact Hc0
      isplitl [Hf0]; · iexact Hf0
      iexists _; iexact Hf0_dst
    isplitl [Hc1 Hf1 Hf1_dst]
    · isplitl [Hc1]; · iexists e1; iexact Hc1
      isplitl [Hf1]; · iexact Hf1
      iexists _; iexact Hf1_dst
    isplitl [Hc2 Hf2 Hf2_dst]
    · isplitl [Hc2]; · iexists e2; iexact Hc2
      isplitl [Hf2]; · iexact Hf2
      iexists _; iexact Hf2_dst
    isplitl [Hc3 Hf3 Hf3_dst]
    · isplitl [Hc3]; · iexists e3; iexact Hc3
      isplitl [Hf3]; · iexact Hf3
      iexists _; iexact Hf3_dst
    isplitl [Hc4 Hf4 Hf4_dst]
    · isplitl [Hc4]; · iexists e4; iexact Hc4
      isplitl [Hf4]; · iexact Hf4
      iexists _; iexact Hf4_dst
    isplitl [Hc5 Hf5 Hf5_dst]
    · isplitl [Hc5]; · iexists e5; iexact Hc5
      isplitl [Hf5]; · iexact Hf5
      iexists _; iexact Hf5_dst
    isplitl [Hc6 Hf6 Hf6_dst]
    · isplitl [Hc6]; · iexists e6; iexact Hc6
      isplitl [Hf6]; · iexact Hf6
      iexists _; iexact Hf6_dst
    isplitl [Hc7 Hf7 Hf7_dst]
    · isplitl [Hc7]; · iexists e7; iexact Hc7
      isplitl [Hf7]; · iexact Hf7
      iexists _; iexact Hf7_dst
    isplitl [Hc8]; · iexists e8; iexact Hc8
    isplitl [Hf8]; · iexact Hf8
    iexists _; iexact Hf8_dst
  iexists _, o; isplitl [Hof]; · iexact Hof
  ipureintro; exact hst

set_option maxHeartbeats 1000000 in
/-- The last trip: no next block is fetched. -/
theorem trip_last (k : Trip) (h2 : 2 ≤ k.val) (hk : k.val + 1 = 16) (acc : FVec F S1x1024 .f32) :
    st c X arg10 g w k ⊢ wp frame (wpE (defs₀ (F := F)) 𝒱₀ (c : Thread nD τ) none) Set.univ (tripG arg10 harg10 arg13 harg13 k acc)
      (fun r => iprop(⌜r = ggStep acc (blkOf c X (bk 16 k.val)) (wW c w)⌝ ∗ st c X arg10 g w (k.val + 1))) := by
  have hk16 : k.val < 16 := trip_lt k
  have hc1 := cond1_neg k (by omega)
  have hc2 := cond2_pos k h2
  unfold st
  simp only [rds, rd0, rd1, rd2, rd3, rd4, rd5, rd6, rd7, rd8, wrAt, rd_here_last _ _ _ _ _ _ k.val hk, rd_next_last _ _ _ _ _ _ k.val hk, wr_here _ _ _ _ _ _ k.val h2 hk16, wr_next _ _ _ _ _ _ k.val h2 hk16]
  iintro ⟨Hg, Hw, ⟨%W, HW⟩, ⟨⟨Hr0, ⟨%f0, Hf0⟩, ⟨Hc0, ⟨%e0, Hs0⟩⟩⟩, ⟨Hr1, ⟨%f1, Hf1⟩, ⟨Hc1, ⟨%e1, Hs1⟩⟩⟩, ⟨Hr2, ⟨%f2, Hf2⟩, ⟨Hc2, ⟨%e2, Hs2⟩⟩⟩, ⟨Hr3, ⟨%f3, Hf3⟩, ⟨Hc3, ⟨%e3, Hs3⟩⟩⟩, ⟨Hr4, ⟨%f4, Hf4⟩, ⟨Hc4, ⟨%e4, Hs4⟩⟩⟩, ⟨Hr5, ⟨%f5, Hf5⟩, ⟨Hc5, ⟨%e5, Hs5⟩⟩⟩, ⟨Hr6, ⟨%f6, Hf6⟩, ⟨Hc6, ⟨%e6, Hs6⟩⟩⟩, ⟨Hr7, ⟨%f7, Hf7⟩, ⟨Hc7, ⟨%e7, Hs7⟩⟩⟩, ⟨Hr8, ⟨%f8, Hf8⟩, ⟨Hc8, ⟨%e8, Hs8⟩⟩⟩⟩, ⟨⟨%o, Ho⟩, Hah⟩, Hbe, ⟨%og, %of, Hof, %hog⟩, Hro⟩
  dsimp only [tripG]
  sl_unfold [k0_t1_body]
  sl_exec
  sl_step
  have h209 : trip_last.sl.v209 c X k = cube (blkOf c X (bk 16 k.val)).x7 :=
    (slot_read _ (off42_eq k) _ _).trans (congrArg cube (View.read_writes_whole _ _ _))
  have h235 : trip_last.sl.v235 c X k = cube (blkOf c X (bk 16 k.val)).x8 :=
    (slot_read _ (off42_eq k) _ _).trans (congrArg cube (View.read_writes_whole _ _ _))
  have hacc : trip_last.sl.r_3 c X w k = acc14 (blkOf c X (bk 16 k.val)) (wW c w) := by
    delta trip_last.sl.r_3 trip_last.sl.r_1 trip_last.sl.r trip_last.sl.r_2 trip_last.sl.cst_163 trip_last.sl.v120 trip_last.sl.v126 trip_last.sl.v132 trip_last.sl.v138 trip_last.sl.v144 trip_last.sl.v150 trip_last.sl.v156 trip_last.sl.v162 trip_last.sl.v168 trip_last.sl.v174 trip_last.sl.v180 trip_last.sl.v186 trip_last.sl.v192 trip_last.sl.v198
    simp only [cov_ld]; rfl
  have h204 : trip_last.sl.v204 c X k = View.ld (blkOf c X (bk 16 k.val)).x6 (Rect.unit (s := S256x3072) ![0, 2560] S256x512.size inb_S256x3072_S256x512_0_2560) :=
    cov_ld _ _ _
  have hst : (slt1024 (Memref.whole cc0_scratch10) (sl 2 k.val)).view.read (Elt F) (trip_last.sl.Hof_src_w1 c X arg10 g w k og) = val c X arg10 g w (bk 16 k.val) := by
    unfold trip_last.sl.Hof_src_w1; rw [hacc, h204, h209, h235]; exact slot_write _ (off42_eq k) _ _ _
  have hbe : (blk1024 (Memref.whole main_v1_0) (bk 16 (k.val - 2))).view.read (Elt F)
      (landed c (blk1024 (Memref.whole main_v1_0) (bk 16 (k.val - 2))) (words c (slt1024 (Memref.whole cc0_scratch10) (sl 2 k.val)) og) of)
      = val c X arg10 g w (bk 16 (k.val - 2)) := (View.read_writes_whole _ _ _).trans hog
  isplitr
  · ipureintro
    unfold trip_last.sl.r_4 trip_last.sl.r_5; rw [hacc, h204, h209]; rfl
  iframe
  isplitl [HW]; · iexists _; iexact HW
  isplitl [Hc0 Hs0 Hf0 Hf0_dst Hc1 Hs1 Hf1 Hf1_dst Hc2 Hs2 Hf2 Hf2_dst Hc3 Hs3 Hf3 Hf3_dst Hc4 Hs4 Hf4 Hf4_dst Hc5 Hs5 Hf5 Hf5_dst Hc6 Hs6 Hf6 Hf6_dst Hc7 Hs7 Hf7 Hf7_dst Hc8 Hs8 Hf8 Hf8_dst]
  · isplitl [Hc0 Hs0 Hf0 Hf0_dst]
    · isplitl [Hc0 Hs0]
      · isplitl [Hc0]; · iexact Hc0
        iexists e0; iexact Hs0
      isplitl [Hf0]; · iexact Hf0
      iexists _; iexact Hf0_dst
    isplitl [Hc1 Hs1 Hf1 Hf1_dst]
    · isplitl [Hc1 Hs1]
      · isplitl [Hc1]; · iexact Hc1
        iexists e1; iexact Hs1
      isplitl [Hf1]; · iexact Hf1
      iexists _; iexact Hf1_dst
    isplitl [Hc2 Hs2 Hf2 Hf2_dst]
    · isplitl [Hc2 Hs2]
      · isplitl [Hc2]; · iexact Hc2
        iexists e2; iexact Hs2
      isplitl [Hf2]; · iexact Hf2
      iexists _; iexact Hf2_dst
    isplitl [Hc3 Hs3 Hf3 Hf3_dst]
    · isplitl [Hc3 Hs3]
      · isplitl [Hc3]; · iexact Hc3
        iexists e3; iexact Hs3
      isplitl [Hf3]; · iexact Hf3
      iexists _; iexact Hf3_dst
    isplitl [Hc4 Hs4 Hf4 Hf4_dst]
    · isplitl [Hc4 Hs4]
      · isplitl [Hc4]; · iexact Hc4
        iexists e4; iexact Hs4
      isplitl [Hf4]; · iexact Hf4
      iexists _; iexact Hf4_dst
    isplitl [Hc5 Hs5 Hf5 Hf5_dst]
    · isplitl [Hc5 Hs5]
      · isplitl [Hc5]; · iexact Hc5
        iexists e5; iexact Hs5
      isplitl [Hf5]; · iexact Hf5
      iexists _; iexact Hf5_dst
    isplitl [Hc6 Hs6 Hf6 Hf6_dst]
    · isplitl [Hc6 Hs6]
      · isplitl [Hc6]; · iexact Hc6
        iexists e6; iexact Hs6
      isplitl [Hf6]; · iexact Hf6
      iexists _; iexact Hf6_dst
    isplitl [Hc7 Hs7 Hf7 Hf7_dst]
    · isplitl [Hc7 Hs7]
      · isplitl [Hc7]; · iexact Hc7
        iexists e7; iexact Hs7
      isplitl [Hf7]; · iexact Hf7
      iexists _; iexact Hf7_dst
    isplitl [Hc8 Hs8]
    · isplitl [Hc8]; · iexact Hc8
      iexists e8; iexact Hs8
    isplitl [Hf8]; · iexact Hf8
    iexists _; iexact Hf8_dst
  isplitl [Hof_dst]
  · iexists _; isplitl [Hof_dst]; · iexact Hof_dst
    ipureintro; exact hbe
  iexists _, o; isplitl [Hof]; · iexact Hof
  ipureintro; exact hst
end Trip
end Cert.DhIdeal.Hand
end
-- ==== Proof.DhBody.lean ====
module

public import proofs.«01_k».proof.Proof.DhTrip
public import Idealize.ShloMosaic.Lib.WritesUnit

@[expose] public section

noncomputable section

namespace Cert.DhIdeal.Hand

open Cert.DhIdeal Cert.DhIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]
local notation "𝕄" => MT nD τ sig Unit (Elt F) ℕ (UU nD τ) ℕ

/-! ## The rings at the two ends -/

section Ends
variable (c : Dev nD) {sh : Shape} {e : EltTy} (src : Fin 16 → Memref sig .tc .hbm sh e) (dst : Fin 2 → Memref sig .tc .vmem sh e)
  (sm : Fin 2 → DmaSems sig S_) (N : ℕ) (X : (b : Fin 16) → Buf (Elt F) ((src b).view.loc (c : Thread nD τ)))
  (res : Fin 16 → Memref sig .tc .hbm sh e) (val : Fin 16 → sh.Idx → Elt F e)

theorem sl2_0 : sl 2 0 = 0 := Fin.ext (by rfl)
theorem sl2_1 : sl 2 (0 + 1) = 1 := Fin.ext (by rfl)
theorem sl2_16 : sl 2 16 = 0 := Fin.ext (by rfl)
theorem sl2_17 : sl 2 (16 + 1) = 1 := Fin.ext (by rfl)
theorem bk16_0 : bk 16 0 = 0 := Fin.ext (by rfl)
theorem bk16_14 : bk 16 (16 - 2) = 14 := Fin.ext (by rfl)
theorem bk16_15 : bk 16 (16 - 1) = 15 := Fin.ext (by rfl)

/-- The ring as the first trip finds it, block 0 already on its way. -/
theorem rd_enter : iprop(bigSep (Ring.homeSet 1 0) (home c src X) ∗ inflight c src dst sm N X 0 0 ∗ free (F := F) c dst sm 1)
    ⊢ rd c src dst sm N X 0 := by
  unfold rd; rw [if_pos (by omega), sl2_0, sl2_1, bk16_0]
/-- The ring after the last trip: everything is home. -/
theorem rd_leave : rd c src dst sm N X 16
    ⊢ iprop(bigSep Finset.univ (home c src X) ∗ free (F := F) c dst sm 0 ∗ free (F := F) c dst sm 1) := by
  unfold rd; rw [if_neg (by omega), sl2_16, sl2_17]
/-- The result's ring as the first trip finds it: nothing written, both buffers free. -/
theorem wr_enter : iprop(bigSep Finset.univ (ahead (F := F) c res) ∗ free (F := F) c dst sm 0 ∗ free (F := F) c dst sm 1)
    ⊢ wr c res dst sm N val 0 := by
  have e0 : (Ring.aheadSet 0 : Finset (Fin 16)) = Finset.univ := by decide
  have e1 : (Ring.behindSet 2 0 : Finset (Fin 16)) = ∅ := by decide
  unfold wr role0 role1; rw [if_neg (by omega), if_neg (by omega), sl2_0, sl2_1, e0, e1, bigSep_empty]
  iintro ⟨HA, H0, H1⟩
  isplitl [HA]; · iexact HA
  isplitr; · iempintro
  isplitl [H0]; · iexact H0
  iexact H1
/-- The result's ring after the last trip: the last two blocks on their way, the others written. -/
theorem wr_leave : wr c res dst sm N val 16
    ⊢ iprop(bigSep (Ring.behindSet 2 16) (behind c res val) ∗ outflight c res dst sm N val 0 14 ∗ outflight c res dst sm N val 1 15) := by
  unfold wr role0 role1; rw [if_pos (by omega), if_pos (by omega), sl2_16, sl2_17, bk16_14, bk16_15]
  iintro ⟨-, HB, H0, H1⟩
  isplitl [HB]; · iexact HB
  isplitl [H0]; · iexact H0
  iexact H1
/-- The last two blocks beside the others are all the blocks. -/
theorem behind_all : iprop(behind c res val 14 ∗ behind c res val 15 ∗ bigSep (Ring.behindSet 2 16) (behind c res val))
    ⊢ bigSep Finset.univ (behind c res val) := by
  have e : (Finset.univ : Finset (Fin 16)) = insert 14 (insert 15 (Ring.behindSet 2 16)) := by decide
  rw [e, bigSep_insert (by decide), bigSep_insert (by decide)]; exact .rfl

end Ends

section Body
variable (c : Dev nD) (X : Ops (F := F) c)
  (arg10 : Memref sig .tc .vmem S1x1024 .f32) (harg10 : arg10.IsWhole)
  (arg13 : Memref sig .tc .vmem S1x1024 .f32) (harg13 : arg13.IsWhole)
  (g : Buf (Elt F) (arg10.view.loc (c : Thread nD τ)))
  (XW : Buf (Elt F) ((Memref.whole (κ := .tc) main_arg10).view.loc (c : Thread nD τ)))

/-- The weights' words. -/
abbrev wX : S7424x1024.Idx → Elt F .bf16 := words c (Memref.whole main_arg10) XW
/-- Block `b` of the input's gradient, from the weights where they lie. -/
def gxB' (b : Fin 16) : S256x1024.Idx → Elt F .f32 := gxV (blkOf c X b) (wX c XW) (gW c arg10 g)
/-- The gain's gradient. -/
def ggF : FVec F S1x1024 .f32 := ggAt (fun b => blkOf c X (bk 16 b)) (wX c XW) 16

/-- What the loop keeps. -/
def inv (w : Buf (Elt F) ((Memref.whole (κ := .tc) cc0_scratch9).view.loc (c : Thread nD τ))) (k : ℕ) (acc : FVec F S1x1024 .f32) : sProp 𝕄 :=
  iprop(⌜acc = ggAt (fun b => blkOf c X (bk 16 b)) (wW c w) k⌝ ∗ st c X arg10 g w k)

theorem inv_step (w : Buf (Elt F) ((Memref.whole (κ := .tc) cc0_scratch9).view.loc (c : Thread nD τ))) (k : Trip) (acc : FVec F S1x1024 .f32) :
    inv c X arg10 g w k.val acc ⊢ wp frame (wpE (defs₀ (F := F)) 𝒱₀ (c : Thread nD τ) none) Set.univ (tripG arg10 harg10 arg13 harg13 k acc)
      (fun r => inv c X arg10 g w (k.val + 1) r) := by
  have hlt := trip_lt k
  have H : st c X arg10 g w k ⊢ wp frame (wpE (defs₀ (F := F)) 𝒱₀ (c : Thread nD τ) none) Set.univ (tripG arg10 harg10 arg13 harg13 k acc)
      (fun r => iprop(⌜r = ggStep acc (blkOf c X (bk 16 k.val)) (wW c w)⌝ ∗ st c X arg10 g w (k.val + 1))) := by
    by_cases h2 : 2 ≤ k.val
    · by_cases hk : k.val + 1 < 16
      · exact trip_mid c X arg10 harg10 arg13 harg13 g w k h2 hk acc
      · exact trip_last c X arg10 harg10 arg13 harg13 g w k h2 (by omega) acc
    · exact trip_first c X arg10 harg10 arg13 harg13 g w k h2 (by omega) acc
  unfold inv
  iintro ⟨%ha, HS⟩
  iapply (wp_wand_r frame (wpE (defs₀ (F := F)) 𝒱₀ (c : Thread nD τ) none) Set.univ)
  isplitl [HS]
  · iapply H; iexact HS
  · iintro %r ⟨%hr, H'⟩
    isplitr
    · ipureintro; rw [hr, ha]; rfl
    iexact H'

/-- The kernel body on the given windows. -/
abbrev bodyG : Prog (TpuEff nD τ sig (Elt F) Λ₀ .tc) PUnit :=
  cc0_dh_bwd (Memref.whole main_v0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) arg10 harg10 (Memref.whole main_arg10) (Memref.isWhole_whole _) (Memref.whole main_v1_0) (Memref.isWhole_whole _) arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13

/-- An operand's ring before the launch and after it. -/
abbrev rest {sh : Shape} {e : EltTy} (src : Fin 16 → Memref sig .tc .hbm sh e) (dst : Fin 2 → Memref sig .tc .vmem sh e)
    (sm : Fin 2 → DmaSems sig S_) (X : (b : Fin 16) → Buf (Elt F) ((src b).view.loc (c : Thread nD τ))) : sProp 𝕄 :=
  iprop(bigSep Finset.univ (home c src X) ∗ free (F := F) c dst sm 0 ∗ free (F := F) c dst sm 1)

/-- Block 0 apart from the others. -/
theorem rest_open {sh : Shape} {e : EltTy} (src : Fin 16 → Memref sig .tc .hbm sh e) (dst : Fin 2 → Memref sig .tc .vmem sh e)
    (sm : Fin 2 → DmaSems sig S_) (X : (b : Fin 16) → Buf (Elt F) ((src b).view.loc (c : Thread nD τ))) :
    rest c src dst sm X = iprop((held c (src 0) (X 0) ∗ bigSep (Ring.homeSet 1 0) (home c src X)) ∗ free (F := F) c dst sm 0 ∗ free (F := F) c dst sm 1) := by
  have e : (Finset.univ : Finset (Fin 16)) = insert 0 (Ring.homeSet 1 0) := by decide
  unfold rest; rw [e, bigSep_insert (by decide)]; rfl

/-- Every operand's ring at rest. -/
def rests : sProp 𝕄 :=
  iprop(rest c (blk2048 (Memref.whole main_arg0)) (slt2048 (Memref.whole cc0_scratch0)) (fun s => isem s 0) X.x0 ∗ rest c (blk512 (Memref.whole main_arg1)) (slt512 (Memref.whole cc0_scratch1)) (fun s => isem s 1) X.x1 ∗ rest c (blk256 (Memref.whole main_arg2)) (slt256 (Memref.whole cc0_scratch2)) (fun s => isem s 2) X.x2 ∗ rest c (blk512 (Memref.whole main_arg3)) (slt512 (Memref.whole cc0_scratch3)) (fun s => isem s 3) X.x3 ∗ rest c (blk512 (Memref.whole main_arg4)) (slt512 (Memref.whole cc0_scratch4)) (fun s => isem s 4) X.x4 ∗ rest c (blk512 (Memref.whole main_arg5)) (slt512 (Memref.whole cc0_scratch5)) (fun s => isem s 5) X.x5 ∗ rest c (blk3072 (Memref.whole main_arg6)) (slt3072 (Memref.whole cc0_scratch6)) (fun s => isem s 6) X.x6 ∗ rest c (blk1024 (Memref.whole main_arg7)) (slt1024 (Memref.whole cc0_scratch7)) (fun s => isem s 7) X.x7 ∗ rest c (blk1024 (Memref.whole main_arg8)) (slt1024 (Memref.whole cc0_scratch8)) (fun s => isem s 8) X.x8)

/-- What the body is handed besides the two windows. -/
def own0 : sProp 𝕄 :=
  iprop(held c (Memref.whole main_arg10) XW ∗ (∃ f, held (F := F) c (Memref.whole cc0_scratch9) f) ∗ cell c cc0_scratch13 ∗ rests c X
    ∗ bigSep Finset.univ (ahead (F := F) c (blk1024 (Memref.whole main_v1_0)))
    ∗ free (F := F) c (slt1024 (Memref.whole cc0_scratch10)) osem 0 ∗ free (F := F) c (slt1024 (Memref.whole cc0_scratch10)) osem 1)
/-- What it hands back besides the two windows. -/
def own1 : sProp 𝕄 :=
  iprop(held c (Memref.whole main_arg10) XW ∗ (∃ f, held (F := F) c (Memref.whole cc0_scratch9) f) ∗ cell c cc0_scratch13 ∗ rests c X
    ∗ bigSep Finset.univ (behind c (blk1024 (Memref.whole main_v1_0)) (gxB' c X arg10 g XW))
    ∗ free (F := F) c (slt1024 (Memref.whole cc0_scratch10)) osem 0 ∗ free (F := F) c (slt1024 (Memref.whole cc0_scratch10)) osem 1)

set_option maxHeartbeats 1000000 in
/-- The body: the weights and block 0 of every operand fetched, the sixteen trips, the gain's gradient stored, the
    last two blocks of the result awaited. -/
theorem bodyRun (o W) (Q : PUnit → sProp 𝕄) :
    iprop((held c arg10 g ∗ held c arg13 o ∗ own0 c X XW ∗ owes (c : Thread nD τ) 0 W)
        ∗ ((held c arg10 g ∗ (∃ o', held (F := F) c arg13 o' ∗ ⌜arg13.view.read (Elt F) o' = ggF c X XW⌝) ∗ own1 c X arg10 g XW ∗ (∃ W, owes (c : Thread nD τ) 0 W)) -∗ Q ⟨⟩))
      ⊢ wp frame (wpE (defs₀ (F := F)) 𝒱₀ (c : Thread nD τ) none) Set.univ (bodyG (F := F) arg10 harg10 arg13 harg13) Q := by
  unfold own0 rests
  simp only [rest_open]
  iintro ⟨⟨Hg, Ho, ⟨HXW, ⟨%fw, Hw⟩, Hcw, ⟨⟨⟨Ha0, Hr0⟩, ⟨Hc0, ⟨%f0, Hs0⟩⟩, Hf0⟩, ⟨⟨Ha1, Hr1⟩, ⟨Hc1, ⟨%f1, Hs1⟩⟩, Hf1⟩, ⟨⟨Ha2, Hr2⟩, ⟨Hc2, ⟨%f2, Hs2⟩⟩, Hf2⟩, ⟨⟨Ha3, Hr3⟩, ⟨Hc3, ⟨%f3, Hs3⟩⟩, Hf3⟩, ⟨⟨Ha4, Hr4⟩, ⟨Hc4, ⟨%f4, Hs4⟩⟩, Hf4⟩, ⟨⟨Ha5, Hr5⟩, ⟨Hc5, ⟨%f5, Hs5⟩⟩, Hf5⟩, ⟨⟨Ha6, Hr6⟩, ⟨Hc6, ⟨%f6, Hs6⟩⟩, Hf6⟩, ⟨⟨Ha7, Hr7⟩, ⟨Hc7, ⟨%f7, Hs7⟩⟩, Hf7⟩, ⟨⟨Ha8, Hr8⟩, ⟨Hc8, ⟨%f8, Hs8⟩⟩, Hf8⟩⟩, HA, Hq0, Hq1⟩, HW⟩, Hk⟩
  sl_exec
  sl_for (inv c X arg10 g (landed c (Memref.whole cc0_scratch9) (wX c XW) (Memref.whole (κ := .tc) cc0_scratch9).view.junk)) $$ [Hg Hw HW HA Hq0 Hq1 Hr0 Hc0 Hf0 Hr1 Hc1 Hf1 Hr2 Hc2 Hf2 Hr3 Hc3 Hf3 Hr4 Hc4 Hf4 Hr5 Hc5 Hf5 Hr6 Hc6 Hf6 Hr7 Hc7 Hf7 Hr8 Hc8 Hf8]
  · intro k acc; exact inv_step c X arg10 harg10 arg13 harg13 g _ k acc
  · unfold inv st
    isplitr; · ipureintro; rfl
    isplitl [Hg]; · iexact Hg
    isplitl [Hw]; · iexact Hw
    isplitl [HW]; · iexists _; iexact HW
    isplitr [HA Hq0 Hq1]
    · isplitl [Hr0 Hc0 Hf0]
      · iapply rd_enter; isplitl [Hr0]; · iexact Hr0
        isplitl [Hc0]; · iexists f0; iexact Hc0
        iexact Hf0
      isplitl [Hr1 Hc1 Hf1]
      · iapply rd_enter; isplitl [Hr1]; · iexact Hr1
        isplitl [Hc1]; · iexists f1; iexact Hc1
        iexact Hf1
      isplitl [Hr2 Hc2 Hf2]
      · iapply rd_enter; isplitl [Hr2]; · iexact Hr2
        isplitl [Hc2]; · iexists f2; iexact Hc2
        iexact Hf2
      isplitl [Hr3 Hc3 Hf3]
      · iapply rd_enter; isplitl [Hr3]; · iexact Hr3
        isplitl [Hc3]; · iexists f3; iexact Hc3
        iexact Hf3
      isplitl [Hr4 Hc4 Hf4]
      · iapply rd_enter; isplitl [Hr4]; · iexact Hr4
        isplitl [Hc4]; · iexists f4; iexact Hc4
        iexact Hf4
      isplitl [Hr5 Hc5 Hf5]
      · iapply rd_enter; isplitl [Hr5]; · iexact Hr5
        isplitl [Hc5]; · iexists f5; iexact Hc5
        iexact Hf5
      isplitl [Hr6 Hc6 Hf6]
      · iapply rd_enter; isplitl [Hr6]; · iexact Hr6
        isplitl [Hc6]; · iexists f6; iexact Hc6
        iexact Hf6
      isplitl [Hr7 Hc7 Hf7]
      · iapply rd_enter; isplitl [Hr7]; · iexact Hr7
        isplitl [Hc7]; · iexists f7; iexact Hc7
        iexact Hf7
      iapply rd_enter; isplitl [Hr8]; · iexact Hr8
      isplitl [Hc8]; · iexists f8; iexact Hc8
      iexact Hf8
    · iapply wr_enter
      isplitl [HA]; · iexact HA
      isplitl [Hq0]; · iexact Hq0
      iexact Hq1
  iintro %acc HI
  rw [show Scf.trips k0_t1_loop.lb k0_t1_loop.ub k0_t1_loop.st = 16 by decide +kernel]
  unfold inv st
  icases HI with ⟨%hacc, Hg, Hw, ⟨%W', HW⟩, ⟨R0, R1, R2, R3, R4, R5, R6, R7, R8⟩, HO⟩
  ihave HO' := (wr_leave c (slt1024 (Memref.whole cc0_scratch10)) osem 32768 (blk1024 (Memref.whole main_v1_0)) (val c X arg10 g (landed c (Memref.whole cc0_scratch9) (wX c XW) (Memref.whole (κ := .tc) cc0_scratch9).view.junk))) $$ [HO]
  · iexact HO
  icases HO' with ⟨HB, ⟨%g0, %d0, H0, %hg0⟩, ⟨%g1, %d1, H1, %hg1⟩⟩
  sl_exec
  sl_step
  have hw : wW c (landed c (Memref.whole cc0_scratch9) (wX c XW) (Memref.whole (κ := .tc) cc0_scratch9).view.junk) = wX c XW :=
    View.read_writes_whole _ _ _
  have hv : val c X arg10 g (landed c (Memref.whole cc0_scratch9) (wX c XW) (Memref.whole (κ := .tc) cc0_scratch9).view.junk) = gxB' c X arg10 g XW := by
    unfold val gxB'; rw [hw]
  rw [hw] at hacc
  rw [hv] at hg0 hg1
  rw [hv]
  have hgg : arg13.view.read (Elt F) (arg13.view.writes (Elt F) o [⟨Rect.unit (s := S1x1024) ![0, 0] S1x1024.size inb_S1x1024_S1x1024_0_0, acc⟩])
      = ggF c X XW := by
    funext i
    rw [View.read_writes_cons_unit_of_mem (off' := ![0, 0]) arg13.view o inb_S1x1024_S1x1024_0_0 acc [] i i rfl (fun a => by fin_cases a <;> simp), hacc]
    rfl
  iapply Hk
  isplitl [Hg]; · iexact Hg
  isplitl [Ho]
  · iexists _; isplitl [Ho]; · iexact Ho
    ipureintro; exact hgg
  isplitr [HW]
  · unfold own1 rests
    isplitl [HXW]; · iexact HXW
    isplitl [Hw]; · iexists _; iexact Hw
    isplitl [Hcw]; · iexact Hcw
    isplitl [R0 R1 R2 R3 R4 R5 R6 R7 R8]
    · isplitl [R0]; · iapply rd_leave; iexact R0
      isplitl [R1]; · iapply rd_leave; iexact R1
      isplitl [R2]; · iapply rd_leave; iexact R2
      isplitl [R3]; · iapply rd_leave; iexact R3
      isplitl [R4]; · iapply rd_leave; iexact R4
      isplitl [R5]; · iapply rd_leave; iexact R5
      isplitl [R6]; · iapply rd_leave; iexact R6
      isplitl [R7]; · iapply rd_leave; iexact R7
      iapply rd_leave; iexact R8
    isplitl [HB H0_dst H1_dst]
    · iapply behind_all
      isplitl [H0_dst]
      · iexists _; isplitl [H0_dst]; · iexact H0_dst
        ipureintro; exact (View.read_writes_whole _ _ _).trans hg0
      isplitl [H1_dst]
      · iexists _; isplitl [H1_dst]; · iexact H1_dst
        ipureintro; exact (View.read_writes_whole _ _ _).trans hg1
      iexact HB
    isplitl [H0 H0_src]
    · isplitl [H0]; · iexact H0
      iexists _; iexact H0_src
    isplitl [H1]; · iexact H1
    iexists _; iexact H1_src
  iexists _; iexact HW

end Body

end Cert.DhIdeal.Hand
-- ==== Proof.DhBlocks.lean ====
module

public import proofs.«01_k».proof.Proof.DhBody

@[expose] public section

noncomputable section

namespace Cert.DhIdeal.Hand

open Cert.DhIdeal Cert.DhIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]
local notation "𝕄" => MT nD τ sig Unit (Elt F) ℕ (UU nD τ) ℕ

/-! ## A buffer whole and piece by piece -/

section Pieces
variable (c : Dev nD) {e : EltTy} {sp : Space}

theorem swap_pure (P : sProp 𝕄) (φ : Prop) : iprop(P ∗ ⌜φ⌝) ⊢ iprop(⌜φ⌝ ∗ P) := by
  iintro ⟨H, %h⟩
  isplitr; · ipureintro; exact h
  iexact H

/-- A whole buffer. -/
theorem whole_held (b : Ref sig .tc) (f : Buf (Elt F) ((c : Thread nD τ).loc b)) :
    (((c : Thread nD τ).loc b) ↦{fullShare} f : sProp 𝕄) = held c (Memref.whole b) f := by
  unfold held
  rw [show (Memref.whole (κ := .tc) b).view.set = Finset.univ from View.set_whole b]

section Gen
variable {s : Shape} {n : ℕ} (A : Memref sig .tc sp s e) (off : Fin n → Fin s.rank → ℕ) (size : Fin s.rank → ℕ) (inb : ∀ b a, off b a + size a ≤ s.size a)
  (hd : ∀ b b', b ≠ b' → Disjoint (Rect.unit (off b) size (inb b)).set (Rect.unit (off b') size (inb b')).set)
  (hc : Finset.univ.biUnion (fun b => (Rect.unit (off b) size (inb b)).set) = Finset.univ)

/-- Piece `b` of a memref. -/
abbrev piece (b : Fin n) := A.slice (Rect.unit (off b) size (inb b)) (fun _ => rfl)

omit [FloatOps F] in
include hd in
theorem piece_disjoint (b b' : Fin n) (h : b ≠ b') : Disjoint (piece A off size inb b).view.set (piece A off size inb b').view.set := by
  show Disjoint (A.view.slice (Rect.unit (off b) size (inb b))).set (A.view.slice (Rect.unit (off b') size (inb b'))).set
  rw [View.set_slice, View.set_slice]
  exact (Finset.disjoint_map _).mpr (hd b b' h)
omit [FloatOps F] in
include hc in
theorem piece_cover : Finset.univ.biUnion (fun b => (piece A off size inb b).view.set) = A.view.set := by
  show Finset.univ.biUnion (fun b => (A.view.slice (Rect.unit (off b) size (inb b))).set) = A.view.set
  simp only [View.set_slice]
  unfold View.set
  rw [← hc]
  ext i
  simp only [Finset.mem_biUnion, Finset.mem_map, Finset.mem_univ, true_and]
  constructor
  · rintro ⟨b, x, hx, rfl⟩; exact ⟨x, ⟨b, hx⟩, rfl⟩
  · rintro ⟨x, ⟨b, hx⟩, rfl⟩; exact ⟨b, x, hx, rfl⟩

include hd hc in
theorem held_pieces (f : Buf (Elt F) (A.view.loc (c : Thread nD τ))) :
    (held c A f : sProp 𝕄) = bigSep Finset.univ fun b => held c (piece A off size inb b) f :=
  Ring.pointsTo_sub_blocks (ℓ := A.view.loc (c : Thread nD τ)) (fun b => (piece A off size inb b).view.set) (piece_disjoint A off size inb hd) _ (piece_cover A off size inb hc) f

include hd hc in
/-- Pieces at contents of their own, each with known words, are the whole with those words on each piece. -/
theorem held_join (val : (b : Fin n) → (piece A off size inb b).view.ty.Contents (Elt F) → Prop)
    (hval : ∀ b f g, (∀ i ∈ (piece A off size inb b).view.set, f i = g i) → val b f → val b g) (f₀ : Buf (Elt F) (A.view.loc (c : Thread nD τ))) :
    (bigSep Finset.univ (fun b => iprop(∃ f, held c (piece A off size inb b) f ∗ ⌜val b f⌝)) : sProp 𝕄)
      ⊢ iprop(∃ f, held c A f ∗ ⌜∀ b, val b f⌝) := by
  have : Nonempty (Buf (Elt F) (A.view.loc (c : Thread nD τ))) := ⟨f₀⟩
  refine (Idealize.SL.BI.bigSep_exists_pi Finset.univ (fun b (f : Buf (Elt F) (A.view.loc (c : Thread nD τ))) =>
    iprop(held c (piece A off size inb b) f ∗ ⌜val b f⌝))).trans ?_
  iintro ⟨%fs, H⟩
  ihave H' := (show (bigSep Finset.univ (fun b => iprop(held c (piece A off size inb b) (fs b) ∗ ⌜val b (fs b)⌝)) : sProp 𝕄)
      ⊢ iprop(⌜∀ b ∈ Finset.univ, val b (fs b)⌝ ∗ bigSep Finset.univ (fun b => held c (piece A off size inb b) (fs b))) from
    (bigSep_mono fun b _ => swap_pure _ _).trans (bigSep_pure_sep Finset.univ _ _)) $$ H
  icases H' with ⟨%hv, H⟩
  ihave H2 := (pointsTo_biUnion_join (ℓ := A.view.loc (c : Thread nD τ)) Finset.univ (fun b => (piece A off size inb b).view.set) fs f₀
    (fun b _ b' _ h => piece_disjoint A off size inb hd b b' h)) $$ H
  rw [piece_cover A off size inb hc]
  icases H2 with ⟨%g, %hg, H⟩
  iexists g
  isplitl [H]; · iexact H
  ipureintro
  exact fun b => hval b _ _ (fun i hi => (hg b (Finset.mem_univ b) i hi).symm) (hv b (Finset.mem_univ b))

end Gen

theorem rows_disjoint (w : ℕ) (b b' : Fin 16) (h : b ≠ b') :
    Disjoint (Rect.unit (s := ⟨2, ![4096, w]⟩) (rowOff b) ![256, w] (row_inb rfl b)).set (Rect.unit (s := ⟨2, ![4096, w]⟩) (rowOff b') ![256, w] (row_inb rfl b')).set :=
  Ring.lead_disjoint (s := ⟨2, ![4096, w]⟩) (0 : Fin 2) 256 rowOff ![256, w] (row_inb rfl) (fun _ => rfl) rfl b b' h
theorem rows_cover (w : ℕ) :
    Finset.univ.biUnion (fun b : Fin 16 => (Rect.unit (s := ⟨2, ![4096, w]⟩) (rowOff b) ![256, w] (row_inb rfl b)).set) = Finset.univ :=
  Ring.lead_cover (s := ⟨2, ![4096, w]⟩) (0 : Fin 2) 256 rowOff ![256, w] (row_inb rfl) (fun _ => rfl)
    (fun b a ha => by fin_cases a; · exact absurd rfl ha
                      · rfl) rfl
    (fun a ha => by fin_cases a; · exact absurd rfl ha
                    · rfl) rfl
theorem slots_disjoint (w : ℕ) (b b' : Fin 2) (h : b ≠ b') :
    Disjoint (Rect.unit (s := ⟨3, ![2, 256, w]⟩) (slotOff b) ![1, 256, w] (slot_inb b)).set (Rect.unit (s := ⟨3, ![2, 256, w]⟩) (slotOff b') ![1, 256, w] (slot_inb b')).set :=
  Ring.lead_disjoint (s := ⟨3, ![2, 256, w]⟩) (0 : Fin 3) 1 slotOff ![1, 256, w] slot_inb (fun b => (one_mul _).symm) rfl b b' h
theorem slots_cover (w : ℕ) :
    Finset.univ.biUnion (fun b : Fin 2 => (Rect.unit (s := ⟨3, ![2, 256, w]⟩) (slotOff b) ![1, 256, w] (slot_inb b)).set) = Finset.univ :=
  Ring.lead_cover (s := ⟨3, ![2, 256, w]⟩) (0 : Fin 3) 1 slotOff ![1, 256, w] slot_inb (fun b => (one_mul _).symm)
    (fun b a ha => by fin_cases a; · exact absurd rfl ha
                      · rfl
                      · rfl) rfl
    (fun a ha => by fin_cases a; · exact absurd rfl ha
                    · rfl
                    · rfl) rfl

theorem bigSep_two (Φ : Fin 2 → sProp 𝕄) : bigSep Finset.univ Φ = iprop(Φ 0 ∗ Φ 1) :=
  bigSep_univ_eq_bigSepL [(0 : Fin 2), (1 : Fin 2)] (by decide) (by decide) Φ

section Rows
variable {w : ℕ} (A : Memref sig .tc sp ⟨2, ![4096, w]⟩ e)
/-- An array is its sixteen blocks. -/
theorem rows_held (f : Buf (Elt F) (A.view.loc (c : Thread nD τ))) :
    (held c A f : sProp 𝕄) = bigSep Finset.univ fun b : Fin 16 => held c (piece A rowOff ![256, w] (row_inb rfl) b) f :=
  held_pieces c A rowOff ![256, w] (row_inb rfl) (rows_disjoint w) (rows_cover w) f
end Rows

section Slots
variable {w : ℕ} (B : Memref sig .tc sp ⟨3, ![2, 256, w]⟩ e) {s' : Shape} (hs : (⟨3, ![1, 256, w]⟩ : Shape).Squeezes s')
/-- Slot `s` without its leading axis. -/
abbrev slot (s : Fin 2) := (piece B slotOff ![1, 256, w] slot_inb s).squeeze s' hs
theorem slot_held (s : Fin 2) (f : Buf (Elt F) (B.view.loc (c : Thread nD τ))) :
    (held c (slot B hs s) f : sProp 𝕄) = held c (piece B slotOff ![1, 256, w] slot_inb s) f := by
  unfold held
  rw [show (slot B hs s).view.set = (piece B slotOff ![1, 256, w] slot_inb s).view.set from View.set_reshape _ _]
/-- A buffer at anything is its two slots at anything, -/
theorem slots_split : iprop(∃ f, held c B f) ⊢ (iprop((∃ f, held c (slot B hs 0) f) ∗ ∃ f, held c (slot B hs 1) f) : sProp 𝕄) := by
  iintro ⟨%f, H⟩
  ihave H2 := (Entails.of_eq ((held_pieces c B slotOff ![1, 256, w] slot_inb (slots_disjoint w) (slots_cover w) f).trans (bigSep_two _))) $$ H
  icases H2 with ⟨H0, H1⟩
  isplitl [H0]
  · iexists f; iapply (Entails.of_eq (slot_held c B hs 0 f).symm); iexact H0
  · iexists f; iapply (Entails.of_eq (slot_held c B hs 1 f).symm); iexact H1
/-- and back. -/
theorem slots_join : iprop((∃ f, held c (slot B hs 0) f) ∗ ∃ f, held c (slot B hs 1) f) ⊢ (iprop(∃ f, held c B f) : sProp 𝕄) := by
  iintro ⟨⟨%f0, H0⟩, ⟨%f1, H1⟩⟩
  ihave H := (held_join c B slotOff ![1, 256, w] slot_inb (slots_disjoint w) (slots_cover w) (fun _ _ => True) (fun _ _ _ _ _ => trivial) f0) $$ [H0 H1]
  · rw [bigSep_two]
    isplitl [H0]
    · iexists f0; isplitl [H0]; · iapply (Entails.of_eq (slot_held c B hs 0 f0)); iexact H0
      ipureintro; trivial
    · iexists f1; isplitl [H1]; · iapply (Entails.of_eq (slot_held c B hs 1 f1)); iexact H1
      ipureintro; trivial
  icases H with ⟨%g, H, -⟩
  iexists g; iexact H
end Slots

end Pieces

end Cert.DhIdeal.Hand
-- ==== Proof.DhLaunch.lean ====
module

public import proofs.«01_k».proof.Proof.DhBlocks
public import proofs.«01_k».proof.Proof.Gen.DhIdeal.Frame
public import Idealize.ShloMosaic.Lib.Pipeline.KitQuiescent
public import proofs.«01_k».proof.Defs

@[expose] public section

noncomputable section

namespace Cert.DhIdeal.Hand

open Cert.DhIdeal Cert.DhIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

section Ends
variable (c : Dev nD) {w : ℕ} {e : EltTy} (A : Memref sig .tc .hbm ⟨2, ![4096, w]⟩ e) (B : Memref sig .tc .vmem ⟨3, ![2, 256, w]⟩ e)
  (hs : (⟨3, ![1, 256, w]⟩ : Shape).Squeezes ⟨2, ![256, w]⟩) (sm : Fin 2 → DmaSems sig S_) (f : Buf (Elt F) (A.view.loc (c : Thread nD τ)))

/-- An operand whole, its two buffers and their semaphores are its ring before the launch, -/
theorem rest_of : iprop(held c A f ∗ (∃ f, held (F := F) c B f) ∗ cell c (sm 0) ∗ cell c (sm 1))
    ⊢ (rest c (piece A rowOff ![256, w] (row_inb rfl)) (slot B hs) sm (fun _ => f) : sProp 𝕄) := by
  iintro ⟨HA, HB, H0, H1⟩
  ihave HA' := (Entails.of_eq (rows_held c A f)) $$ HA
  ihave HB' := (slots_split c B hs) $$ HB
  icases HB' with ⟨HB0, HB1⟩
  isplitl [HA']; · iexact HA'
  isplitl [H0 HB0]
  · isplitl [H0]; · iexact H0
    iexact HB0
  isplitl [H1]; · iexact H1
  iexact HB1
/-- and back. -/
theorem of_rest : (rest c (piece A rowOff ![256, w] (row_inb rfl)) (slot B hs) sm (fun _ => f) : sProp 𝕄)
    ⊢ iprop(held c A f ∗ (∃ f, held (F := F) c B f) ∗ cell c (sm 0) ∗ cell c (sm 1)) := by
  iintro ⟨HA, ⟨H0, HB0⟩, ⟨H1, HB1⟩⟩
  isplitl [HA]; · iapply (Entails.of_eq (rows_held c A f).symm); iexact HA
  isplitl [HB0 HB1]
  · iapply (slots_join c B hs)
    isplitl [HB0]; · iexact HB0
    iexact HB1
  isplitl [H0]; · iexact H0
  iexact H1
end Ends

/-- The operands' blocks at the launch. -/
abbrev XO (c : Dev nD) : Ops (F := F) c := ⟨fun _ => V m c main_arg0, fun _ => V m c main_arg1, fun _ => V m c main_arg2, fun _ => V m c main_arg3, fun _ => V m c main_arg4, fun _ => V m c main_arg5, fun _ => V m c main_arg6, fun _ => V m c main_arg7, fun _ => V m c main_arg8⟩

/-- The kernel's own semaphores. -/
def osems : Fin 21 → SemLoc sig := ![
  .dma (isem 0 0).sem, .dma (isem 1 0).sem, .dma (isem 0 1).sem, .dma (isem 1 1).sem, .dma (isem 0 2).sem, .dma (isem 1 2).sem, .dma (isem 0 3).sem, .dma (isem 1 3).sem, .dma (isem 0 4).sem, .dma (isem 1 4).sem, .dma (isem 0 5).sem, .dma (isem 1 5).sem, .dma (isem 0 6).sem, .dma (isem 1 6).sem, .dma (isem 0 7).sem, .dma (isem 1 7).sem, .dma (isem 0 8).sem, .dma (isem 1 8).sem, .dma (osem 0).sem, .dma (osem 1).sem, .dma cc0_scratch13.sem]
theorem ownSemFacts : Pipeline.OwnSemFacts spec0 osems := by decide +kernel

theorem ownSems_eq (c : Dev nD) : (Pipeline.ownSems0 (Ix := Unit) (Name := ℕ) (U := UU nD τ) (Lvl := ℕ) (Val := Elt F) (τ := τ) osems c : sProp 𝕄)
    = iprop(cell c (isem 0 0) ∗ cell c (isem 1 0) ∗ cell c (isem 0 1) ∗ cell c (isem 1 1) ∗ cell c (isem 0 2) ∗ cell c (isem 1 2) ∗ cell c (isem 0 3) ∗ cell c (isem 1 3) ∗ cell c (isem 0 4) ∗ cell c (isem 1 4) ∗ cell c (isem 0 5) ∗ cell c (isem 1 5) ∗ cell c (isem 0 6) ∗ cell c (isem 1 6) ∗ cell c (isem 0 7) ∗ cell c (isem 1 7) ∗ cell c (isem 0 8) ∗ cell c (isem 1 8) ∗ cell c (osem 0) ∗ cell c (osem 1) ∗ cell c cc0_scratch13) :=
  bigSep_univ_eq_bigSepL [(0 : Fin 21), (1 : Fin 21), (2 : Fin 21), (3 : Fin 21), (4 : Fin 21), (5 : Fin 21), (6 : Fin 21), (7 : Fin 21), (8 : Fin 21), (9 : Fin 21), (10 : Fin 21), (11 : Fin 21), (12 : Fin 21), (13 : Fin 21), (14 : Fin 21), (15 : Fin 21), (16 : Fin 21), (17 : Fin 21), (18 : Fin 21), (19 : Fin 21), (20 : Fin 21)] (by decide) (by decide) _

/-- The operands as the kernel finds and leaves them. -/
def operands (c : Dev nD) : sProp 𝕄 :=
  iprop(held c (Memref.whole main_arg0) (V m c main_arg0) ∗ held c (Memref.whole main_arg1) (V m c main_arg1) ∗ held c (Memref.whole main_arg2) (V m c main_arg2) ∗ held c (Memref.whole main_arg3) (V m c main_arg3) ∗ held c (Memref.whole main_arg4) (V m c main_arg4) ∗ held c (Memref.whole main_arg5) (V m c main_arg5) ∗ held c (Memref.whole main_arg6) (V m c main_arg6) ∗ held c (Memref.whole main_arg7) (V m c main_arg7) ∗ held c (Memref.whole main_arg8) (V m c main_arg8) ∗ held c (Memref.whole main_arg10) (V m c main_arg10))
/-- What the launch hands the region. -/
def intoΦ (c : Dev nD) : sProp 𝕄 :=
  iprop(operands m c ∗ (∃ f, held (F := F) c (Memref.whole main_v1_0) f) ∗ Pipeline.ownSems0 osems c)

abbrev gS (t : Fin cfg0.N) : Memref sig .tc .vmem S1x1024 .f32 := st0_0 t
abbrev oS (t : Fin cfg0.N) : Memref sig .tc .vmem S1x1024 .f32 := st0_1 t
/-- The input's gradient, block by block. -/
def gxA (c : Dev nD) (t : Fin cfg0.N) (b : Fin 16) : S256x1024.Idx → Elt F .f32 :=
  gxB' c (XO m c) (gS t) ((gS t).view.rep (iblk m c 0 t)) (V m c main_arg10) b
/-- The gain's gradient. -/
def ggA (c : Dev nD) : (cfg0.win 1).block.Idx → Elt F (cfg0.win 1).elt := ggF c (XO m c) (V m c main_arg10)

/-- What it gives back. -/
def outOfΦ (c : Dev nD) : sProp 𝕄 :=
  iprop(operands m c ∗ ∃ f, held (F := F) c (Memref.whole main_v1_0) f
    ∗ ⌜∀ b, (blk1024 (Memref.whole main_v1_0) b).view.read (Elt F) f = gxA m c t0_0 b⌝)

/-- The region's state before and after its one point. -/
def Φ (c : Dev nD) (i : Fin (cfg0.N + 1)) : sProp 𝕄 :=
  if i.val = 0 then own0 c (XO m c) (V m c main_arg10)
  else own1 c (XO m c) (gS t0_0) ((gS t0_0).view.rep (iblk m c 0 t0_0)) (V m c main_arg10)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => ggA m c
  Φ i := Φ m c i
  q _ := fullShare
  owed _ := 0

theorem Φ_first (c : Dev nD) : (dats m 0 c).Φ 0 = own0 c (XO m c) (V m c main_arg10) := by
  show Φ m c 0 = _; unfold Φ; rw [if_pos (show (0 : Fin (cfg0.N + 1)).val = 0 from rfl)]
theorem Φ_last (c : Dev nD) : (dats m 0 c).Φ (Fin.last cfg0.N) = own1 c (XO m c) (gS t0_0) ((gS t0_0).view.rep (iblk m c 0 t0_0)) (V m c main_arg10) := by
  show Φ m c (Fin.last cfg0.N) = _; unfold Φ; rw [if_neg (by show ¬ grid0.N = 0; rw [N_0]; decide)]
theorem cast_first : (t0_0 : Fin cfg0.N).castSucc = 0 := Fin.ext rfl
theorem succ_last : (t0_0 : Fin cfg0.N).succ = Fin.last cfg0.N := Fin.ext (by show 0 + 1 = grid0.N; rw [N_0])

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = ggA m c := by dsimp only [dats]

theorem prog_eq (t : Fin cfg0.N) : (defs₀ (F := F)) .tc cfg0.body (cfg0.bodyArgs t (cfg0.slots t)) = bodyG (gS t) (hstage0_0 0) (oS t) (hstage0_1 0) :=
  (congrFun (show (defs₀ (F := F)) .tc cfg0.body
    = fun a => bodyG (win0_0.stage (a.2 0)) (hstage0_0 0) (win0_1.stage (a.2 1)) (hstage0_1 0) from rfl) _).trans rfl

set_option backward.isDefEq.respectTransparency.types false in
theorem body_obligation (c : Dev nD) : BodyObligation (dats (F := F) m 0 c) (defs₀ (F := F)) 𝒱₀ () Set.univ := fun t => by
  obtain rfl : t = t0_0 := fin_N0 t
  rw [bigSep_W0, bigSep_W0]
  dsimp only
  simp only [before_w0, after_w0, after_w1]
  rw [cast_first, succ_last, Φ_first, Φ_last]
  unfold Dat.owesAt Pipeline.owesWithin
  rw [show (dats m 0 c).owed 0 = 0 from rfl, show (dats m 0 c).owed (Fin.last cfg0.N) = 0 from rfl]
  unfold owns
  iintro ⟨HP, ⟨%W, -, HW⟩, ⟨%d0, %g0, %hg0, Hg⟩, ⟨%d1, %gO, -, HO⟩⟩
  ihave Hg' := (pointsTo_rep_entails (c : Thread nD τ) (gS t0_0) g0 fullShare) $$ Hg
  rw [hg0]
  sl_rw [prog_eq t0_0]
  iapply (bodyRun c (XO m c) (gS t0_0) (hstage0_0 0) (oS t0_0) (hstage0_1 0) _ (V m c main_arg10) gO W)
  isplitl [Hg' HO HP HW]
  · isplitl [Hg']; · iexact Hg'
    isplitl [HO]; · iexact HO
    isplitl [HP]; · iexact HP
    iexact HW
  · iintro ⟨Hg, ⟨%o', HO, %ho⟩, HP, ⟨%W', HW⟩⟩
    isplitl [HP]; · iexact HP
    isplitl [HW]
    · iexists W'; isplitr; · ipureintro; exact fun _ _ => Or.inl trivial
      iexact HW
    isplitl [Hg]
    · iexists _; isplitr; · ipureintro; exact View.read_rep _ _
      iexact Hg
    iexists _; isplitr; · ipureintro; exact ho
    iexact HO

/-! ## The run -/

theorem ahead_of (c : Dev nD) (b : Fin 16) (f : Buf (Elt F) ((c : Thread nD τ).loc main_v1_0)) :
    held c (piece (Memref.whole main_v1_0) rowOff ![256, 1024] (row_inb rfl) b) f ⊢ (ahead (F := F) c (blk1024 (Memref.whole main_v1_0)) b : sProp 𝕄) := by
  iintro H; iexists f; iexact H

/-- Entering the region: the operands and the buffers cut into pieces. -/
theorem region_in (c : Dev nD) : iprop(intoΦ m c ∗ Pipeline.scopedRest (Ix := Unit) (Name := ℕ) (U := UU nD τ) (Lvl := ℕ) (Val := Elt F) spec0 c)
    ⊢ (own0 c (XO m c) (V m c main_arg10) : sProp 𝕄) := by
  rw [scopedRest0_eq]
  simp only [whole_held]
  unfold intoΦ operands own0 rests; rw [ownSems_eq]
  iintro ⟨⟨⟨A0, A1, A2, A3, A4, A5, A6, A7, A8, A10⟩, ⟨%fr, HR⟩, S00, S10, S01, S11, S02, S12, S03, S13, S04, S14, S05, S15, S06, S16, S07, S17, S08, S18, O0, O1, SW⟩, B0, B1, B2, B3, B4, B5, B6, B7, B8, B9, B10⟩
  isplitl [A10]; · iexact A10
  isplitl [B9]; · iexact B9
  isplitl [SW]; · iexact SW
  isplitr [HR B10 O0 O1]
  · isplitl [A0 B0 S00 S10]
    · iapply (rest_of c (Memref.whole main_arg0) (Memref.whole cc0_scratch0) squeezes_S1x256x2048_S256x2048 (fun s => isem s 0) (V m c main_arg0))
      isplitl [A0]; · iexact A0
      isplitl [B0]; · iexact B0
      isplitl [S00]; · iexact S00
      iexact S10
    isplitl [A1 B1 S01 S11]
    · iapply (rest_of c (Memref.whole main_arg1) (Memref.whole cc0_scratch1) squeezes_S1x256x512_S256x512 (fun s => isem s 1) (V m c main_arg1))
      isplitl [A1]; · iexact A1
      isplitl [B1]; · iexact B1
      isplitl [S01]; · iexact S01
      iexact S11
    isplitl [A2 B2 S02 S12]
    · iapply (rest_of c (Memref.whole main_arg2) (Memref.whole cc0_scratch2) squeezes_S1x256x256_S256x256 (fun s => isem s 2) (V m c main_arg2))
      isplitl [A2]; · iexact A2
      isplitl [B2]; · iexact B2
      isplitl [S02]; · iexact S02
      iexact S12
    isplitl [A3 B3 S03 S13]
    · iapply (rest_of c (Memref.whole main_arg3) (Memref.whole cc0_scratch3) squeezes_S1x256x512_S256x512 (fun s => isem s 3) (V m c main_arg3))
      isplitl [A3]; · iexact A3
      isplitl [B3]; · iexact B3
      isplitl [S03]; · iexact S03
      iexact S13
    isplitl [A4 B4 S04 S14]
    · iapply (rest_of c (Memref.whole main_arg4) (Memref.whole cc0_scratch4) squeezes_S1x256x512_S256x512 (fun s => isem s 4) (V m c main_arg4))
      isplitl [A4]; · iexact A4
      isplitl [B4]; · iexact B4
      isplitl [S04]; · iexact S04
      iexact S14
    isplitl [A5 B5 S05 S15]
    · iapply (rest_of c (Memref.whole main_arg5) (Memref.whole cc0_scratch5) squeezes_S1x256x512_S256x512 (fun s => isem s 5) (V m c main_arg5))
      isplitl [A5]; · iexact A5
      isplitl [B5]; · iexact B5
      isplitl [S05]; · iexact S05
      iexact S15
    isplitl [A6 B6 S06 S16]
    · iapply (rest_of c (Memref.whole main_arg6) (Memref.whole cc0_scratch6) squeezes_S1x256x3072_S256x3072 (fun s => isem s 6) (V m c main_arg6))
      isplitl [A6]; · iexact A6
      isplitl [B6]; · iexact B6
      isplitl [S06]; · iexact S06
      iexact S16
    isplitl [A7 B7 S07 S17]
    · iapply (rest_of c (Memref.whole main_arg7) (Memref.whole cc0_scratch7) squeezes_S1x256x1024_S256x1024 (fun s => isem s 7) (V m c main_arg7))
      isplitl [A7]; · iexact A7
      isplitl [B7]; · iexact B7
      isplitl [S07]; · iexact S07
      iexact S17
    iapply (rest_of c (Memref.whole main_arg8) (Memref.whole cc0_scratch8) squeezes_S1x256x1024_S256x1024 (fun s => isem s 8) (V m c main_arg8))
    isplitl [A8]; · iexact A8
    isplitl [B8]; · iexact B8
    isplitl [S08]; · iexact S08
    iexact S18
  isplitl [HR]
  · ihave HR' := (Entails.of_eq (rows_held c (Memref.whole main_v1_0) fr)) $$ HR
    have hm : (bigSep Finset.univ fun b : Fin 16 => held c (piece (Memref.whole main_v1_0) rowOff ![256, 1024] (row_inb rfl) b) fr : sProp 𝕄)
        ⊢ bigSep Finset.univ (ahead (F := F) c (blk1024 (Memref.whole main_v1_0))) := bigSep_mono fun b _ => ahead_of c b fr
    iapply hm; iexact HR'
  ihave HB' := (slots_split c (Memref.whole cc0_scratch10) squeezes_S1x256x1024_S256x1024) $$ B10
  icases HB' with ⟨U0, U1⟩
  isplitl [O0 U0]
  · isplitl [O0]; · iexact O0
    iexact U0
  isplitl [O1]; · iexact O1
  iexact U1

/-- Leaving it: the operands whole as they were, the result whole with its blocks' words. -/
theorem region_out (c : Dev nD) : (own1 c (XO m c) (gS t0_0) ((gS t0_0).view.rep (iblk m c 0 t0_0)) (V m c main_arg10) : sProp 𝕄)
    ⊢ iprop(outOfΦ m c ∗ Pipeline.ownSems0 osems c ∗ Pipeline.scopedRest (Ix := Unit) (Name := ℕ) (U := UU nD τ) (Lvl := ℕ) (Val := Elt F) spec0 c) := by
  rw [scopedRest0_eq]
  simp only [whole_held]
  unfold outOfΦ operands own1 rests; rw [ownSems_eq]
  iintro ⟨A10, B9, SW, ⟨R0, R1, R2, R3, R4, R5, R6, R7, R8⟩, HR, ⟨O0, U0⟩, ⟨O1, U1⟩⟩
  ihave T0 := (of_rest c (Memref.whole main_arg0) (Memref.whole cc0_scratch0) squeezes_S1x256x2048_S256x2048 (fun s => isem s 0) (V m c main_arg0)) $$ [R0]
  · iexact R0
  icases T0 with ⟨A0, B0, S00, S10⟩
  ihave T1 := (of_rest c (Memref.whole main_arg1) (Memref.whole cc0_scratch1) squeezes_S1x256x512_S256x512 (fun s => isem s 1) (V m c main_arg1)) $$ [R1]
  · iexact R1
  icases T1 with ⟨A1, B1, S01, S11⟩
  ihave T2 := (of_rest c (Memref.whole main_arg2) (Memref.whole cc0_scratch2) squeezes_S1x256x256_S256x256 (fun s => isem s 2) (V m c main_arg2)) $$ [R2]
  · iexact R2
  icases T2 with ⟨A2, B2, S02, S12⟩
  ihave T3 := (of_rest c (Memref.whole main_arg3) (Memref.whole cc0_scratch3) squeezes_S1x256x512_S256x512 (fun s => isem s 3) (V m c main_arg3)) $$ [R3]
  · iexact R3
  icases T3 with ⟨A3, B3, S03, S13⟩
  ihave T4 := (of_rest c (Memref.whole main_arg4) (Memref.whole cc0_scratch4) squeezes_S1x256x512_S256x512 (fun s => isem s 4) (V m c main_arg4)) $$ [R4]
  · iexact R4
  icases T4 with ⟨A4, B4, S04, S14⟩
  ihave T5 := (of_rest c (Memref.whole main_arg5) (Memref.whole cc0_scratch5) squeezes_S1x256x512_S256x512 (fun s => isem s 5) (V m c main_arg5)) $$ [R5]
  · iexact R5
  icases T5 with ⟨A5, B5, S05, S15⟩
  ihave T6 := (of_rest c (Memref.whole main_arg6) (Memref.whole cc0_scratch6) squeezes_S1x256x3072_S256x3072 (fun s => isem s 6) (V m c main_arg6)) $$ [R6]
  · iexact R6
  icases T6 with ⟨A6, B6, S06, S16⟩
  ihave T7 := (of_rest c (Memref.whole main_arg7) (Memref.whole cc0_scratch7) squeezes_S1x256x1024_S256x1024 (fun s => isem s 7) (V m c main_arg7)) $$ [R7]
  · iexact R7
  icases T7 with ⟨A7, B7, S07, S17⟩
  ihave T8 := (of_rest c (Memref.whole main_arg8) (Memref.whole cc0_scratch8) squeezes_S1x256x1024_S256x1024 (fun s => isem s 8) (V m c main_arg8)) $$ [R8]
  · iexact R8
  icases T8 with ⟨A8, B8, S08, S18⟩
  ihave B10 := (slots_join c (Memref.whole cc0_scratch10) squeezes_S1x256x1024_S256x1024) $$ [U0 U1]
  · isplitl [U0]; · iexact U0
    iexact U1
  isplitl [A0 A1 A2 A3 A4 A5 A6 A7 A8 A10 HR]
  · isplitr [HR]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexact A10
    iapply (held_join c (Memref.whole main_v1_0) rowOff ![256, 1024] (row_inb rfl) (rows_disjoint 1024) (rows_cover 1024)
      (fun b f => (blk1024 (Memref.whole main_v1_0) b).view.read (Elt F) f = gxA m c t0_0 b)
      (fun b f g h hf => (View.read_congr (v := (blk1024 (Memref.whole main_v1_0) b).view) h).symm.trans hf) (V m c main_v1_0))
    iexact HR
  isplitl [S00 S10 S01 S11 S02 S12 S03 S13 S04 S14 S05 S15 S06 S16 S07 S17 S08 S18 O0 O1 SW]
  · isplitl [S00]; · iexact S00
    isplitl [S10]; · iexact S10
    isplitl [S01]; · iexact S01
    isplitl [S11]; · iexact S11
    isplitl [S02]; · iexact S02
    isplitl [S12]; · iexact S12
    isplitl [S03]; · iexact S03
    isplitl [S13]; · iexact S13
    isplitl [S04]; · iexact S04
    isplitl [S14]; · iexact S14
    isplitl [S05]; · iexact S05
    isplitl [S15]; · iexact S15
    isplitl [S06]; · iexact S06
    isplitl [S16]; · iexact S16
    isplitl [S07]; · iexact S07
    isplitl [S17]; · iexact S17
    isplitl [S08]; · iexact S08
    isplitl [S18]; · iexact S18
    isplitl [O0]; · iexact O0
    isplitl [O1]; · iexact O1
    iexact SW
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iexact B10

def u₀ : UU nD τ := (initOf (Pipeline.cells cfgs cellOf_inj) (Pipeline.launchToks cfgs cellOf_inj), 1)
abbrev EP : Emb (UR sig nD τ) (MT nD τ sig Unit (Elt F) ℕ (UU nD τ) ℕ) := embL
def finalA (c : Dev nD) (w : Fin cfg0.W) : Buf (Elt F) ((cfg0.win w).arr.view.loc (c : Thread nD τ)) := (dats m 0 c).arrAt w cfg0.N
/-- The operands as launched, the result's blocks at their words. -/
def QY (c : Dev nD) (s : MemSt nD τ sig (Elt F)) : Prop :=
  (s.mem ((c : Thread nD τ).loc main_arg0) = V m c main_arg0 ∧ s.mem ((c : Thread nD τ).loc main_arg1) = V m c main_arg1 ∧ s.mem ((c : Thread nD τ).loc main_arg2) = V m c main_arg2 ∧ s.mem ((c : Thread nD τ).loc main_arg3) = V m c main_arg3 ∧ s.mem ((c : Thread nD τ).loc main_arg4) = V m c main_arg4 ∧ s.mem ((c : Thread nD τ).loc main_arg5) = V m c main_arg5 ∧ s.mem ((c : Thread nD τ).loc main_arg6) = V m c main_arg6 ∧ s.mem ((c : Thread nD τ).loc main_arg7) = V m c main_arg7 ∧ s.mem ((c : Thread nD τ).loc main_arg8) = V m c main_arg8 ∧ s.mem ((c : Thread nD τ).loc main_arg10) = V m c main_arg10)
  ∧ ∀ b, (blk1024 (Memref.whole main_v1_0) b).view.read (Elt F) (s.mem ((c : Thread nD τ).loc main_v1_0)) = gxA m c t0_0 b
def QC : PUnit × MemSt nD τ sig (Elt F) → Prop := fun r =>
  ∀ c : Dev nD, (∀ w : Fin cfg0.W, r.2.mem ((cfg0.win w).arr.view.loc (c : Thread nD τ)) = finalA m c w) ∧ QY m c r.2

set_option backward.isDefEq.respectTransparency.types false in
set_option maxHeartbeats 1000000 in
/-- From any memory with zero counters: every fair execution ends, the operands as they were, the two results at the
    computed contents, every counter at zero. -/
theorem run_main : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := fun _ => iprop(emp))
    (hX := fun c => by
      rw [unscopedRest0_eq]
      simp only [whole_held]
      unfold intoΦ operands
      iintro ⟨⟨A0, A1, A2, A3, A4, A5, A6, A7, A8, A10, -, -, HR⟩, HS, -⟩; imodintro
      isplitl [A0 A1 A2 A3 A4 A5 A6 A7 A8 A10 HR HS]
      · isplitl [A0 A1 A2 A3 A4 A5 A6 A7 A8 A10]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          iexact A10
        isplitl [HR]; · iexists _; iexact HR
        iexact HS
      iempintro)
    (hin := fun c => by rw [Φ_first]; exact region_in m c)
    (hout := fun c => by rw [Φ_last]; exact region_out m c)
    (QY := QY m)
    (hY := fun c s' => by
      unfold outOfΦ operands
      iintro ⟨⟨⟨A0, A1, A2, A3, A4, A5, A6, A7, A8, A10⟩, ⟨%fr, HR, %hr⟩⟩, -, HSI⟩
      ihave C0 := (Entails.of_eq (whole_held c main_arg0 (V m c main_arg0)).symm) $$ A0
      icombine HSI C0 gives %h0
      ihave C1 := (Entails.of_eq (whole_held c main_arg1 (V m c main_arg1)).symm) $$ A1
      icombine HSI C1 gives %h1
      ihave C2 := (Entails.of_eq (whole_held c main_arg2 (V m c main_arg2)).symm) $$ A2
      icombine HSI C2 gives %h2
      ihave C3 := (Entails.of_eq (whole_held c main_arg3 (V m c main_arg3)).symm) $$ A3
      icombine HSI C3 gives %h3
      ihave C4 := (Entails.of_eq (whole_held c main_arg4 (V m c main_arg4)).symm) $$ A4
      icombine HSI C4 gives %h4
      ihave C5 := (Entails.of_eq (whole_held c main_arg5 (V m c main_arg5)).symm) $$ A5
      icombine HSI C5 gives %h5
      ihave C6 := (Entails.of_eq (whole_held c main_arg6 (V m c main_arg6)).symm) $$ A6
      icombine HSI C6 gives %h6
      ihave C7 := (Entails.of_eq (whole_held c main_arg7 (V m c main_arg7)).symm) $$ A7
      icombine HSI C7 gives %h7
      ihave C8 := (Entails.of_eq (whole_held c main_arg8 (V m c main_arg8)).symm) $$ A8
      icombine HSI C8 gives %h8
      ihave C10 := (Entails.of_eq (whole_held c main_arg10 (V m c main_arg10)).symm) $$ A10
      icombine HSI C10 gives %h10
      ihave HR2 := (Entails.of_eq (whole_held c main_v1_0 fr).symm) $$ HR
      icombine HSI HR2 gives %hR
      imodintro
      isplitr
      · ipureintro
        have e := Buf.eq_of_forall_mem_univ hR
        refine ⟨⟨Buf.eq_of_forall_mem_univ h0, Buf.eq_of_forall_mem_univ h1, Buf.eq_of_forall_mem_univ h2, Buf.eq_of_forall_mem_univ h3, Buf.eq_of_forall_mem_univ h4, Buf.eq_of_forall_mem_univ h5, Buf.eq_of_forall_mem_univ h6, Buf.eq_of_forall_mem_univ h7, Buf.eq_of_forall_mem_univ h8, Buf.eq_of_forall_mem_univ h10⟩, ?_⟩
        subst e; exact hr
      iexact HSI)
    (hQ := fun _ hh hz => ⟨hh, hz⟩)

theorem finalA_in (c : Dev nD) (w : Fin cfg0.W) (hw : (cfg0.win w).isOut = false) :
    finalA m c w = V m c (Pipeline.arrRef spec0 w) :=
  (dats (F := F) m 0 c).arrAt_in w hw _

/-- The operands end as they began, every semaphore at zero. -/
theorem frame_any : θ_run defs (onTc (τ := τ) (main (F := F))) ⟨m, fun _ => 0, ρ⟩ (fun r =>
    (∀ c : Dev nD, r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8) ∧ r.2.mem ((c : Thread nD τ).loc main_arg9) = m ((c : Thread nD τ).loc main_arg9) ∧ r.2.mem ((c : Thread nD τ).loc main_arg10) = m ((c : Thread nD τ).loc main_arg10))
    ∧ r.2.sem = fun _ => 0) :=
  (θ_run defs _ _).mono (fun _ hh => ⟨fun c => by
    obtain ⟨hw, ⟨h0, h1, h2, h3, h4, h5, h6, h7, h8, h10⟩, -⟩ := hh.1 c
    exact ⟨h0.trans (V_main_arg0 m c), h1.trans (V_main_arg1 m c), h2.trans (V_main_arg2 m c), h3.trans (V_main_arg3 m c), h4.trans (V_main_arg4 m c), h5.trans (V_main_arg5 m c), h6.trans (V_main_arg6 m c), h7.trans (V_main_arg7 m c), h8.trans (V_main_arg8 m c), ((hw 0).trans (finalA_in m c 0 rfl)).trans (V_main_arg9 m c), h10.trans (V_main_arg10 m c)⟩, hh.2⟩) (run_main m ρ)

end Cert.DhIdeal.Hand
-- ==== Proof.DhSpec.lean ====
/- The backward pass of the first norm and of the projections behind it, element by element: the product of the seven gradients, set side by
   side, with the weight; the gradient of the input; the gradient of the norm's scale. `A` to `H` are the seven gradients, `X` the input, `Y` the
   gradient that passes by, `G` the scale and `W` the weight, all read at two numbers. -/
module

public import proofs.«01_k».proof.Proof.MidReal

@[expose] public section

noncomputable section

open Idealize.ShloMosaic
open Cert.MemSpec (rd rd_of rd_real)
open Cert.MidSpec (wide tiny norm_grad isR_rsqrt)
open Cert.Reals

namespace Cert.DhSpec

variable (A B C D E H J X Y G W : Nat → Nat → EReal)

/-- The seven gradients side by side: column `k` of the 7424. -/
def dp (r k : Nat) : EReal :=
  if k < 2048 then A r k else if k < 2560 then B r (k - 2048) else if k < 2816 then C r (k - 2560) else if k < 3328 then D r (k - 2816)
  else if k < 3840 then E r (k - 3328) else if k < 4352 then H r (k - 3840) else J r (k - 4352)
/-- The first `n` terms of the product with the weight. -/
def part (P W : Nat → Nat → EReal) (n r l : Nat) : EReal := ∑ k ∈ Finset.range n, P r k * W k l
/-- The gradient behind the norm: all of the product. -/
def dh (P W : Nat → Nat → EReal) (r l : Nat) : EReal := part P W 7424 r l

/-- One more chunk of the product. -/
theorem part_add (P W : Nat → Nat → EReal) (n m r l : Nat) : part P W n r l + ∑ k : Fin m, P r (n + k.val) * W (n + k.val) l = part P W (n + m) r l := by
  unfold part
  rw [Finset.sum_range_add, Fin.sum_univ_eq_sum_range (fun k => P r (n + k) * W (n + k) l)]

theorem part_zero (P W : Nat → Nat → EReal) (r l : Nat) : part P W 0 r l = 0 := by unfold part; rw [Finset.range_zero, Finset.sum_empty]

theorem dh_all (P W : Nat → Nat → EReal) (r l : Nat) : ∑ k : Fin 7424, P r k.val * W k.val l = dh P W r l :=
  Fin.sum_univ_eq_sum_range (fun k => P r k * W k l) 7424

variable (P : Nat → Nat → EReal)

/-- The mean square, its inverse root, the normalised rows. -/
def ms (r : Nat) : EReal := Ideal.div (∑ k : Fin 1024, X r k.val * X r k.val) wide + tiny
def rr (r : Nat) : EReal := Ideal.rsqrt (ms X r)
def xn (r l : Nat) : EReal := X r l * rr X r
/-- The gradient behind the scale, of the input, and of the scale over the first `n` rows. -/
def dn (r l : Nat) : EReal := dh P W r l * G 0 l
def gx (r l : Nat) : EReal := rr X r * (dn G W P r l - xn X r l * Ideal.div (∑ k : Fin 1024, dn G W P r k.val * xn X r k.val) wide) + Y r l
def gg (n l : Nat) : EReal := ∑ r ∈ Finset.range n, dh P W r l * xn X r l

theorem gg_zero (l : Nat) : gg X W P 0 l = 0 := by unfold gg; rw [Finset.range_zero, Finset.sum_empty]
theorem gg_add (n m l : Nat) : gg X W P n l + ∑ r : Fin m, dh P W (n + r.val) l * xn X (n + r.val) l = gg X W P (n + m) l := by
  unfold gg
  rw [Finset.sum_range_add, Fin.sum_univ_eq_sum_range (fun r => dh P W (n + r) l * xn X (n + r) l)]
theorem gg_all (l : Nat) : ∑ r : Fin 4096, dh P W r.val l * xn X r.val l = gg X W P 4096 l :=
  Fin.sum_univ_eq_sum_range (fun r => dh P W r l * xn X r l) 4096

section Real
variable {A B C D E H J X Y G W P}

theorem dp_real (hA : ∀ a b, IsR (A a b)) (hB : ∀ a b, IsR (B a b)) (hC : ∀ a b, IsR (C a b)) (hD : ∀ a b, IsR (D a b)) (hE : ∀ a b, IsR (E a b))
    (hH : ∀ a b, IsR (H a b)) (hJ : ∀ a b, IsR (J a b)) (r k : Nat) : IsR (dp A B C D E H J r k) := by
  unfold dp
  split_ifs
  · exact hA _ _
  · exact hB _ _
  · exact hC _ _
  · exact hD _ _
  · exact hE _ _
  · exact hH _ _
  · exact hJ _ _

theorem dh_real (hP : ∀ a b, IsR (P a b)) (hW : ∀ a b, IsR (W a b)) (r l : Nat) : IsR (dh P W r l) := by
  rw [← dh_all]; exact IsR.sum _ _ fun _ _ => (hP _ _).mul (hW _ _)

theorem dn_real (hP : ∀ a b, IsR (P a b)) (hW : ∀ a b, IsR (W a b)) (hG : ∀ a b, IsR (G a b)) (r l : Nat) : IsR (dn G W P r l) :=
  (dh_real hP hW r l).mul (hG _ _)

theorem ms_pos (hX : ∀ a b, IsR (X a b)) (r : Nat) : IsP (ms X r) := by
  unfold ms
  obtain ⟨g, hg⟩ := lift fun k : Fin 1024 => hX r k.val
  have hg' : ∀ k : Fin 1024, X r k.val = (g k : EReal) := fun k => congrFun hg k
  simp only [hg', Cert.MidSpec.div_wide, Cert.MidSpec.inv_eq, ← EReal.coe_mul, ← coe_sum]
  obtain ⟨e, he, h⟩ := Cert.MidSpec.tiny_pos
  refine ⟨(∑ k, g k * g k) * (1 / 1024) + e, ?_, by rw [h, EReal.coe_add]⟩
  have : 0 ≤ ∑ k, g k * g k := Finset.sum_nonneg fun k _ => mul_self_nonneg _
  positivity

/-- The gradient of the input as the derivative of the norm writes it. -/
theorem gx_eq (hP : ∀ a b, IsR (P a b)) (hW : ∀ a b, IsR (W a b)) (hG : ∀ a b, IsR (G a b)) (hX : ∀ a b, IsR (X a b)) (r : Nat) (l : Fin 1024) :
    Y r l.val + dn G W P r l.val * Ideal.rsqrt (ms X r)
        + X r l.val * Ideal.div ((∑ k : Fin 1024, X r k.val * dn G W P r k.val) * (Cert.MidSpec.mhalf * Ideal.div (Ideal.rsqrt (ms X r)) (ms X r))) wide
        + Ideal.div ((∑ k : Fin 1024, X r k.val * dn G W P r k.val) * (Cert.MidSpec.mhalf * Ideal.div (Ideal.rsqrt (ms X r)) (ms X r))) wide * X r l.val
      = gx X Y G W P r l.val := by
  have h := norm_grad (o := fun k : Fin 1024 => X r k.val) (a := fun k : Fin 1024 => dn G W P r k.val) (fun k => hX _ _)
    (fun k => dn_real hP hW hG _ _) (ms_pos hX r) l
  unfold gx xn rr
  rw [add_assoc, add_assoc, add_comm, ← add_assoc]
  exact congrArg (· + Y r l.val) h

end Real

end Cert.DhSpec

end
-- ==== Proof.DhPay.lean ====
/- The backward pass of the first norm: what one trip computes is the formulas of `DhSpec` on its 256 rows. -/
module

public import proofs.«01_k».proof.Proof.DhVals
public import proofs.«01_k».proof.Proof.DhSpec
public import Idealize.ShloMosaic.Lib.Pipeline.ValueKit
public import Idealize.ShloMosaic.Lib.ValueLayout
public import Idealize.ShloMosaic.Lib.Pointwise

@[expose] public section

set_option maxRecDepth 16384

noncomputable section

open Idealize.ShloMosaic Idealize.ShloMosaic.TcCoe Idealize.SL.Sem
open Idealize.ShloMosaic.Ring (bk)

namespace Cert.DhIdeal.Hand

open Cert.DhIdeal Cert.DhIdeal.Gen Cert.DhSpec Cert.Reals
open Cert.MidSpec (wide tiny)

theorem sum_ext {ι : Type} [Fintype ι] {f g : ι → EReal} (h : ∀ k, f k = g k) : ∑ k, f k = ∑ k, g k := Finset.sum_congr rfl fun k _ => h k

/-! ## The product, chunk by chunk -/

/-- The words of 256 rows of seven gradients side by side, of the input and of the gradient that passes by, from row `n` on. -/
structure Rows (P X Y : Nat → Nat → EReal) (n : Nat) (B : Blk Ideal) : Prop where
  h0 : ∀ (r : Fin 256) (k : Fin 2048), B.x0 (ix2 r k) = P (n + r.val) (0 + k.val)
  h1 : ∀ (r : Fin 256) (k : Fin 512), B.x1 (ix2 r k) = P (n + r.val) (2048 + k.val)
  h2 : ∀ (r : Fin 256) (k : Fin 256), B.x2 (ix2 r k) = P (n + r.val) (2560 + k.val)
  h3 : ∀ (r : Fin 256) (k : Fin 512), B.x3 (ix2 r k) = P (n + r.val) (2816 + k.val)
  h4 : ∀ (r : Fin 256) (k : Fin 512), B.x4 (ix2 r k) = P (n + r.val) (3328 + k.val)
  h5 : ∀ (r : Fin 256) (k : Fin 512), B.x5 (ix2 r k) = P (n + r.val) (3840 + k.val)
  h6 : ∀ (r : Fin 256) (k : Fin 3072), B.x6 (ix2 r k) = P (n + r.val) (4352 + k.val)
  h7 : ∀ (r : Fin 256) (l : Fin 1024), B.x7 (ix2 r l) = X (n + r.val) l.val
  h8 : ∀ (r : Fin 256) (l : Fin 1024), B.x8 (ix2 r l) = Y (n + r.val) l.val

variable {P X Y G W : Nat → Nat → EReal} {n : Nat} {B : Blk Ideal} {w : S7424x1024.Idx → EReal} {g : S1x1024.Idx → EReal}

/-- A load at an offset reads the words that many rows and columns further on. -/
theorem ld_off {R L R' L' : Nat} (x : (⟨2, ![R, L]⟩ : Shape).Idx → EReal) (a b : Nat)
    (inb : ∀ i, (![a, b] : Fin 2 → Nat) i + (![R', L'] : Fin 2 → Nat) i ≤ (⟨2, ![R, L]⟩ : Shape).size i)
    (r : Fin R') (l : Fin L') (hr : a + r.val < R) (hl : b + l.val < L) :
    View.ld (Val := Elt Ideal) (e' := EltTy.f32) x (Rect.unit (s := ⟨2, ![R, L]⟩) ![a, b] ![R', L'] inb) (ix2 r l) = x (ix2 ⟨a + r.val, hr⟩ ⟨b + l.val, hl⟩) := by
  refine congrArg x (funext fun i => Fin.ext ?_)
  fin_cases i
  · show a + 1 * r.val = a + r.val; omega
  · show b + 1 * l.val = b + l.val; omega

/-- One chunk of the product: `M` columns of a piece from `q` on against the weight's rows from `N` on. -/
theorem chunk {L : Nat} {x : (⟨2, ![256, L]⟩ : Shape).Idx → EReal} {o : Nat} (hx : ∀ (r : Fin 256) (k : Fin L), x (ix2 r k) = P (n + r.val) (o + k.val))
    (hw : ∀ (k : Fin 7424) (l : Fin 1024), w (ix2 k l) = W k.val l.val) (q M N : Nat) (hq : q + M ≤ L) (hN : o + q = N) (hM : N + M ≤ 7424)
    (i1 : ∀ i, (![0, q] : Fin 2 → Nat) i + (![256, M] : Fin 2 → Nat) i ≤ (⟨2, ![256, L]⟩ : Shape).size i)
    (i2 : ∀ i, (![N, 0] : Fin 2 → Nat) i + (![M, 1024] : Fin 2 → Nat) i ≤ (⟨2, ![7424, 1024]⟩ : Shape).size i) (r : Fin 256) (l : Fin 1024) :
    ∑ k : Fin M, View.ld (Val := Elt Ideal) (e' := EltTy.bf16) x (Rect.unit (s := ⟨2, ![256, L]⟩) ![0, q] ![256, M] i1) (ix2 r k)
        * View.ld (Val := Elt Ideal) (e' := EltTy.bf16) w (Rect.unit (s := ⟨2, ![7424, 1024]⟩) ![N, 0] ![M, 1024] i2) (ix2 k l)
      = ∑ k : Fin M, P (n + r.val) (N + k.val) * W (N + k.val) l.val := by
  refine sum_ext fun k => congrArg₂ (· * ·) ?_ ?_
  · refine (ld_off x 0 q i1 r k (by omega) (by omega)).trans ((hx _ _).trans ?_)
    show P (n + (0 + r.val)) (o + (q + k.val)) = _
    rw [Nat.zero_add, ← Nat.add_assoc, hN]
  · refine (ld_off w N 0 i2 k l (by omega) (by omega)).trans ((hw _ _).trans ?_)
    show W (N + k.val) (0 + l.val) = _
    rw [Nat.zero_add]

/-- The product so far and one more chunk. -/
theorem step {v s : EReal} {N M N' r l : Nat} (h : v = part P W N r l) (hs : s = ∑ k : Fin M, P r (N + k.val) * W (N + k.val) l) (e : N + M = N') :
    v + s = part P W N' r l := by rw [h, hs, part_add, e]

section Pay
variable (v : FVec Ideal S256x1024 .f32) (r : Fin 256) (l : Fin 1024)
theorem pay1_at : k0_pay1 (F := Ideal) (ix2 r l) = 0 := by
  pointwise [k0_pay1]
theorem pay2_at (a0 : Vec Ideal S256x512 .bf16) (b0 : Vec Ideal S512x1024 .bf16) (a1 : Vec Ideal S256x512 .bf16) (b1 : Vec Ideal S512x1024 .bf16) (a2 : Vec Ideal S256x512 .bf16) (b2 : Vec Ideal S512x1024 .bf16) (a3 : Vec Ideal S256x512 .bf16) (b3 : Vec Ideal S512x1024 .bf16) (a4 : Vec Ideal S256x512 .bf16) (b4 : Vec Ideal S512x1024 .bf16) :
    k0_pay2 (F := Ideal) v a0 b0 a1 b1 a2 b2 a3 b3 a4 b4 (ix2 r l)
      = v (ix2 r l) + (∑ k : Fin 512, a0 (ix2 r k) * b0 (ix2 k l)) + (∑ k : Fin 512, a1 (ix2 r k) * b1 (ix2 k l)) + (∑ k : Fin 512, a2 (ix2 r k) * b2 (ix2 k l)) + (∑ k : Fin 512, a3 (ix2 r k) * b3 (ix2 k l)) + (∑ k : Fin 512, a4 (ix2 r k) * b4 (ix2 k l)) := by
  pointwise [k0_pay2]
theorem pay3_at (a0 : Vec Ideal S256x256 .bf16) (b0 : Vec Ideal S256x1024 .bf16) (a1 : Vec Ideal S256x512 .bf16) (b1 : Vec Ideal S512x1024 .bf16) (a2 : Vec Ideal S256x512 .bf16) (b2 : Vec Ideal S512x1024 .bf16) (a3 : Vec Ideal S256x512 .bf16) (b3 : Vec Ideal S512x1024 .bf16) :
    k0_pay3 (F := Ideal) v a0 b0 a1 b1 a2 b2 a3 b3 (ix2 r l)
      = v (ix2 r l) + (∑ k : Fin 256, a0 (ix2 r k) * b0 (ix2 k l)) + (∑ k : Fin 512, a1 (ix2 r k) * b1 (ix2 k l)) + (∑ k : Fin 512, a2 (ix2 r k) * b2 (ix2 k l)) + (∑ k : Fin 512, a3 (ix2 r k) * b3 (ix2 k l)) := by
  pointwise [k0_pay3]
theorem pay4_at (a0 : Vec Ideal S256x512 .bf16) (b0 : Vec Ideal S512x1024 .bf16) (a1 : Vec Ideal S256x512 .bf16) (b1 : Vec Ideal S512x1024 .bf16) (a2 : Vec Ideal S256x512 .bf16) (b2 : Vec Ideal S512x1024 .bf16) (a3 : Vec Ideal S256x512 .bf16) (b3 : Vec Ideal S512x1024 .bf16) (a4 : Vec Ideal S256x512 .bf16) (b4 : Vec Ideal S512x1024 .bf16) :
    k0_pay4 (F := Ideal) v a0 b0 (constant S256x1024 .f32 0x00000000#32) a1 b1 a2 b2 a3 b3 a4 b4 (ix2 r l)
      = v (ix2 r l) + (∑ k : Fin 512, a0 (ix2 r k) * b0 (ix2 k l)) + (∑ k : Fin 512, a1 (ix2 r k) * b1 (ix2 k l)) + (∑ k : Fin 512, a2 (ix2 r k) * b2 (ix2 k l)) + (∑ k : Fin 512, a3 (ix2 r k) * b3 (ix2 k l)) + (∑ k : Fin 512, a4 (ix2 r k) * b4 (ix2 k l)) := by
  pointwise [k0_pay4]
theorem pay5_at (a0 : Vec Ideal S256x512 .bf16) (b0 : Vec Ideal S512x1024 .bf16) :
    k0_pay5 (F := Ideal) v a0 b0 (ix2 r l)
      = v (ix2 r l) + (∑ k : Fin 512, a0 (ix2 r k) * b0 (ix2 k l)) := by
  pointwise [k0_pay5]
end Pay

/-- All of the product but its last chunk. -/
theorem acc14_at (R : Rows P X Y n B) (hw : ∀ (k : Fin 7424) (l : Fin 1024), w (ix2 k l) = W k.val l.val) (r : Fin 256) (l : Fin 1024) :
    acc14 (F := Ideal) B w (ix2 r l) = part P W 6912 (n + r.val) l.val := by
  obtain ⟨x0, x1, x2, x3, x4, x5, x6, x7, x8⟩ := B
  obtain ⟨h0, h1, h2, h3, h4, h5, h6, -, -⟩ := R
  unfold acc14
  dsimp only
  rw [pay4_at, pay3_at, pay2_at, pay1_at]
  have e0 := (part_zero P W (n + r.val) l.val).symm
  have e1 := step e0 (chunk (w := w) h0 hw 0 512 0 (by omega) rfl (by omega) inb_S256x2048_S256x512_0_0 inb_S7424x1024_S512x1024_0_0 r l) (N' := 512) rfl
  have e2 := step e1 (chunk (w := w) h0 hw 512 512 512 (by omega) rfl (by omega) inb_S256x2048_S256x512_0_512 inb_S7424x1024_S512x1024_512_0 r l) (N' := 1024) rfl
  have e3 := step e2 (chunk (w := w) h0 hw 1024 512 1024 (by omega) rfl (by omega) inb_S256x2048_S256x512_0_1024 inb_S7424x1024_S512x1024_1024_0 r l) (N' := 1536) rfl
  have e4 := step e3 (chunk (w := w) h0 hw 1536 512 1536 (by omega) rfl (by omega) inb_S256x2048_S256x512_0_1536 inb_S7424x1024_S512x1024_1536_0 r l) (N' := 2048) rfl
  have e5 := step e4 (chunk (w := w) h1 hw 0 512 2048 (by omega) rfl (by omega) inb_S256x512_S256x512_0_0 inb_S7424x1024_S512x1024_2048_0 r l) (N' := 2560) rfl
  have e6 := step e5 (chunk (w := w) h2 hw 0 256 2560 (by omega) rfl (by omega) inb_S256x256_S256x256_0_0 inb_S7424x1024_S256x1024_2560_0 r l) (N' := 2816) rfl
  have e7 := step e6 (chunk (w := w) h3 hw 0 512 2816 (by omega) rfl (by omega) inb_S256x512_S256x512_0_0 inb_S7424x1024_S512x1024_2816_0 r l) (N' := 3328) rfl
  have e8 := step e7 (chunk (w := w) h4 hw 0 512 3328 (by omega) rfl (by omega) inb_S256x512_S256x512_0_0 inb_S7424x1024_S512x1024_3328_0 r l) (N' := 3840) rfl
  have e9 := step e8 (chunk (w := w) h5 hw 0 512 3840 (by omega) rfl (by omega) inb_S256x512_S256x512_0_0 inb_S7424x1024_S512x1024_3840_0 r l) (N' := 4352) rfl
  have e10 := step e9 (chunk (w := w) h6 hw 0 512 4352 (by omega) rfl (by omega) inb_S256x3072_S256x512_0_0 inb_S7424x1024_S512x1024_4352_0 r l) (N' := 4864) rfl
  have e11 := step e10 (chunk (w := w) h6 hw 512 512 4864 (by omega) rfl (by omega) inb_S256x3072_S256x512_0_512 inb_S7424x1024_S512x1024_4864_0 r l) (N' := 5376) rfl
  have e12 := step e11 (chunk (w := w) h6 hw 1024 512 5376 (by omega) rfl (by omega) inb_S256x3072_S256x512_0_1024 inb_S7424x1024_S512x1024_5376_0 r l) (N' := 5888) rfl
  have e13 := step e12 (chunk (w := w) h6 hw 1536 512 5888 (by omega) rfl (by omega) inb_S256x3072_S256x512_0_1536 inb_S7424x1024_S512x1024_5888_0 r l) (N' := 6400) rfl
  have e14 := step e13 (chunk (w := w) h6 hw 2048 512 6400 (by omega) rfl (by omega) inb_S256x3072_S256x512_0_2048 inb_S7424x1024_S512x1024_6400_0 r l) (N' := 6912) rfl
  exact e14
/-- All of it. -/
theorem accB_at (R : Rows P X Y n B) (hw : ∀ (k : Fin 7424) (l : Fin 1024), w (ix2 k l) = W k.val l.val) (r : Fin 256) (l : Fin 1024) :
    accB (F := Ideal) B w (ix2 r l) = dh P W (n + r.val) l.val := by
  unfold accB
  rw [pay5_at]
  exact step (acc14_at R hw r l) (chunk (w := w) R.h6 hw 2560 512 6912 (by omega) rfl (by omega) inb_S256x3072_S256x512_0_2560 inb_S7424x1024_S512x1024_6912_0 r l) rfl

/-! ## The norm's gradient -/

theorem cast_cube (x : S256x1024.Idx → EReal) : k0_pay6 (F := Ideal) (cube (F := Ideal) x) = x := by
  funext i
  show x ((Shape.reshapeEquiv (s := S1x256x1024) (s' := S256x1024) shapeCasts_S1x256x1024_S256x1024).symm (Shape.reshapeEquiv (s := S1x256x1024) (s' := S256x1024) shapeCasts_S1x256x1024_S256x1024 i)) = x i
  rw [Equiv.symm_apply_apply]

section Norm
variable (v : Vec Ideal S1x256x1024 .f32) (r : Fin 256)
theorem pay7_at (j : Fin 1) : k0_pay7 (F := Ideal) v (ix2 r j)
    = Ideal.rsqrt (Ideal.div (∑ k : Fin 1024, k0_pay6 (F := Ideal) v (ix2 r k) * k0_pay6 (F := Ideal) v (ix2 r k)) wide + tiny) := by
  pointwise [k0_pay7]
theorem pay8_at (l : Fin 1024) : k0_pay8 (F := Ideal) v (ix2 r l) = k0_pay6 (F := Ideal) v (ix2 r l) * k0_pay7 (F := Ideal) v (ix2 r 0) := by
  pointwise [k0_pay8]
theorem pay11_at (a : FVec Ideal S1x1024 .f32) (d q : FVec Ideal S256x1024 .f32) (l : Fin 1024) :
    k0_pay11 (F := Ideal) a d q (ix2 0 l) = a (ix2 0 l) + ∑ r : Fin 256, d (ix2 r l) * q (ix2 r l) := by
  pointwise [k0_pay11]
theorem pay10_at (l : Fin 1024) : k0_pay10 (F := Ideal) (ix2 0 l) = 0 := by
  pointwise [k0_pay10]
theorem pay9_at (d : FVec Ideal S256x1024 .f32) (a : Vec Ideal S256x512 .bf16) (b : Vec Ideal S512x1024 .bf16) (q : Vec Ideal S1x1024 .f32)
    (y : Vec Ideal S1x256x1024 .f32) (l : Fin 1024) :
    k0_pay9 (F := Ideal) d a b v q y (Shape.reshapeEquiv (s := S1x256x1024) (s' := S256x1024) shapeCasts_S1x256x1024_S256x1024 (ix2 r l))
      = k0_pay7 (F := Ideal) v (ix2 r 0) * (k0_pay5 (F := Ideal) d a b (ix2 r l) * q (ix2 0 l)
          - k0_pay8 (F := Ideal) v (ix2 r l) * Ideal.div (∑ k : Fin 1024, k0_pay5 (F := Ideal) d a b (ix2 r k) * q (ix2 0 k) * k0_pay8 (F := Ideal) v (ix2 r k)) wide)
        + k0_pay6 (F := Ideal) y (ix2 r l) := by
  have e : Shape.reshapeEquiv (s := S1x256x1024) (s' := S256x1024) shapeCasts_S1x256x1024_S256x1024 (ix2 r l) = ix3 0 r l :=
    ValueIdx.reshapeEquiv_ix2_1ab (a := 256) (b := 1024) shapeCasts_S1x256x1024_S256x1024 r l
  rw [e]
  pointwise [k0_pay9, k0_pay6]
end Norm

theorem root_at (R : Rows P X Y n B) (r : Fin 256) (j : Fin 1) : k0_pay7 (F := Ideal) (cube (F := Ideal) B.x7) (ix2 r j) = rr X (n + r.val) := by
  rw [pay7_at, cast_cube]
  simp only [R.h7]
  rfl
theorem xn_at (R : Rows P X Y n B) (r : Fin 256) (l : Fin 1024) : k0_pay8 (F := Ideal) (cube (F := Ideal) B.x7) (ix2 r l) = xn X (n + r.val) l.val := by
  rw [pay8_at, cast_cube, R.h7, root_at R]
  rfl

/-- The block of the input's gradient. -/
theorem gxV_at (R : Rows P X Y n B) (hw : ∀ (k : Fin 7424) (l : Fin 1024), w (ix2 k l) = W k.val l.val) (hg : ∀ l : Fin 1024, g (ix2 0 l) = G 0 l.val)
    (r : Fin 256) (l : Fin 1024) : gxV (F := Ideal) B w g (ix2 r l) = gx X Y G W P (n + r.val) l.val := by
  have hg' : ∀ l : Fin 1024, View.ld (Val := Elt Ideal) (e' := EltTy.f32) g (Rect.unit (s := S1x1024) ![0, 0] S1x1024.size inb_S1x1024_S1x1024_0_0) (ix2 0 l) = G 0 l.val := fun l =>
    (ld_off g 0 0 inb_S1x1024_S1x1024_0_0 (0 : Fin 1) l (by decide) (by omega)).trans (by
      rw [show (⟨0 + ((0 : Fin 1)).val, by decide⟩ : Fin 1) = 0 from rfl, hg]
      show G 0 (0 + l.val) = _
      rw [Nat.zero_add])
  have hd : ∀ l : Fin 1024, k0_pay5 (F := Ideal) (acc14 B w) (View.ld B.x6 (Rect.unit (s := S256x3072) ![0, 2560] S256x512.size inb_S256x3072_S256x512_0_2560))
      (View.ld w (Rect.unit (s := S7424x1024) ![6912, 0] S512x1024.size inb_S7424x1024_S512x1024_6912_0)) (ix2 r l) = dh P W (n + r.val) l.val := fun l => accB_at R hw r l
  unfold gxV gxB
  rw [pay9_at]
  simp only [hd, hg', root_at R, xn_at R, cast_cube, R.h8]
  rfl

/-- The scale's gradient after `k` trips. -/
theorem ggAt_at {Bs : ℕ → Blk Ideal} (hw : ∀ (k : Fin 7424) (l : Fin 1024), w (ix2 k l) = W k.val l.val) (l : Fin 1024) (k : Nat)
    (R : ∀ j, j < k → Rows P X Y (256 * j) (Bs j)) :
    ggAt (F := Ideal) Bs w k (ix2 0 l) = gg X W P (256 * k) l.val := by
  induction k with
  | zero => rw [Nat.mul_zero, gg_zero]; exact pay10_at l
  | succ k ih =>
    show ggStep (F := Ideal) (ggAt Bs w k) (Bs k) w (ix2 0 l) = _
    unfold ggStep
    rw [pay11_at, ih fun j h => R j (by omega), show 256 * (k + 1) = 256 * k + 256 by omega, ← gg_add]
    exact congrArg (gg X W P (256 * k) l.val + ·) (sum_ext fun r => congrArg₂ (· * ·) (accB_at (R k (by omega)) hw r l) (xn_at (R k (by omega)) r l))

end Cert.DhIdeal.Hand

end
-- ==== Proof.DhArr.lean ====
/- The backward pass of the first norm: the kernel's two result arrays are the formulas of `DhSpec`. -/
module

public import proofs.«01_k».proof.Proof.DhLaunch
public import proofs.«01_k».proof.Proof.DhPay

@[expose] public section

set_option maxRecDepth 16384

noncomputable section

open Idealize.ShloMosaic Idealize.ShloMosaic.TcCoe Idealize.SL.Sem Idealize.ShloMosaic.Pipeline
open Idealize.ShloMosaic.Ring (bk)

namespace Cert.DhArr

open Cert.DhIdeal Cert.DhIdeal.Gen Cert.DhSpec Cert.Reals
open Cert.MemSpec (rd rd_of rd_real)
open Cert.DhIdeal.Hand hiding rd

theorem ix2_eta {a b : Nat} (x : (⟨2, ![a, b]⟩ : Shape).Idx) : x = ix2 (x 0) (x 1) := by
  funext k; fin_cases k <;> rfl

variable (m : (ℓ : Loc nD τ sig) → Buf (Elt Ideal) ℓ) (c : Dev nD)

/-- The eleven arguments. -/
abbrev A0 : FVec Ideal S4096x2048 .bf16 := m ((c.tc : Thread nD τ).loc main_arg0)
abbrev A1 : FVec Ideal S4096x512 .bf16 := m ((c.tc : Thread nD τ).loc main_arg1)
abbrev A2 : FVec Ideal S4096x256 .bf16 := m ((c.tc : Thread nD τ).loc main_arg2)
abbrev A3 : FVec Ideal S4096x512 .bf16 := m ((c.tc : Thread nD τ).loc main_arg3)
abbrev A4 : FVec Ideal S4096x512 .bf16 := m ((c.tc : Thread nD τ).loc main_arg4)
abbrev A5 : FVec Ideal S4096x512 .bf16 := m ((c.tc : Thread nD τ).loc main_arg5)
abbrev A6 : FVec Ideal S4096x3072 .bf16 := m ((c.tc : Thread nD τ).loc main_arg6)
abbrev A7 : FVec Ideal S4096x1024 .f32 := m ((c.tc : Thread nD τ).loc main_arg7)
abbrev A8 : FVec Ideal S4096x1024 .f32 := m ((c.tc : Thread nD τ).loc main_arg8)
abbrev A9 : FVec Ideal S1x1024 .f32 := m ((c.tc : Thread nD τ).loc main_arg9)
abbrev A10 : FVec Ideal S7424x1024 .bf16 := m ((c.tc : Thread nD τ).loc main_arg10)
/-- The seven gradients side by side. -/
abbrev dpA : Nat → Nat → EReal :=
  dp (rd (A0 m c)) (rd (A1 m c)) (rd (A2 m c)) (rd (A3 m c)) (rd (A4 m c)) (rd (A5 m c)) (rd (A6 m c))

/-- The two results. -/
def GX : FVec Ideal S4096x1024 .f32 := fun i => gx (rd (A7 m c)) (rd (A8 m c)) (rd (A9 m c)) (rd (A10 m c)) (dpA m c) (i 0).val (i 1).val
def GG : FVec Ideal S1x1024 .f32 := fun i => gg (rd (A7 m c)) (rd (A10 m c)) (dpA m c) 4096 (i 1).val

/-- A block's words are the operand's rows from `256 * b` on. -/
theorem row_at {L : Nat} (X : (⟨2, ![4096, L]⟩ : Shape).Idx → EReal) (b : Fin 16) (r : Fin 256) (l : Fin L)
    (inb : ∀ a, rowOff b a + (![256, L] : Fin 2 → Nat) a ≤ (⟨2, ![4096, L]⟩ : Shape).size a) :
    X ((Rect.unit (s := ⟨2, ![4096, L]⟩) (rowOff b) ![256, L] inb).idx (ix2 r l)) = rd X (256 * b.val + r.val) l.val := by
  have hb := b.isLt
  refine (congrArg X (funext fun i => Fin.ext ?_)).trans (rd_of (X := X) (r := 256 * b.val + r.val) (l := l.val) (by omega) l.isLt).symm
  fin_cases i
  · show 256 * b.val + 1 * r.val = 256 * b.val + r.val; omega
  · show 0 + 1 * l.val = l.val; omega

section Dp
variable (A B C D E H J : Nat → Nat → EReal) (r k : Nat)
theorem dp0 (h : k < 2048) : A r k = dp A B C D E H J r (0 + k) := by
  unfold dp; rw [Nat.zero_add, if_pos h]
theorem dp1 (h : k < 512) : B r k = dp A B C D E H J r (2048 + k) := by
  unfold dp; rw [if_neg (by omega), if_pos (by omega), Nat.add_sub_cancel_left]
theorem dp2 (h : k < 256) : C r k = dp A B C D E H J r (2560 + k) := by
  unfold dp; rw [if_neg (by omega), if_neg (by omega), if_pos (by omega), Nat.add_sub_cancel_left]
theorem dp3 (h : k < 512) : D r k = dp A B C D E H J r (2816 + k) := by
  unfold dp; rw [if_neg (by omega), if_neg (by omega), if_neg (by omega), if_pos (by omega), Nat.add_sub_cancel_left]
theorem dp4 (h : k < 512) : E r k = dp A B C D E H J r (3328 + k) := by
  unfold dp; rw [if_neg (by omega), if_neg (by omega), if_neg (by omega), if_neg (by omega), if_pos (by omega), Nat.add_sub_cancel_left]
theorem dp5 (h : k < 512) : H r k = dp A B C D E H J r (3840 + k) := by
  unfold dp; rw [if_neg (by omega), if_neg (by omega), if_neg (by omega), if_neg (by omega), if_neg (by omega), if_pos (by omega), Nat.add_sub_cancel_left]
theorem dp6 : J r k = dp A B C D E H J r (4352 + k) := by
  unfold dp
  rw [if_neg (by omega), if_neg (by omega), if_neg (by omega), if_neg (by omega), if_neg (by omega), if_neg (by omega), Nat.add_sub_cancel_left]
end Dp

theorem rows (b : Fin 16) : Rows (dpA m c) (rd (A7 m c)) (rd (A8 m c)) (256 * b.val) (blkOf c (XO m c) b) where
  h0 r k := by
    show V m c main_arg0 _ = _
    rw [V_main_arg0]; exact (row_at (A0 m c) b r k _).trans (dp0 _ _ _ _ _ _ _ _ _ k.isLt)
  h1 r k := by
    show V m c main_arg1 _ = _
    rw [V_main_arg1]; exact (row_at (A1 m c) b r k _).trans (dp1 _ _ _ _ _ _ _ _ _ k.isLt)
  h2 r k := by
    show V m c main_arg2 _ = _
    rw [V_main_arg2]; exact (row_at (A2 m c) b r k _).trans (dp2 _ _ _ _ _ _ _ _ _ k.isLt)
  h3 r k := by
    show V m c main_arg3 _ = _
    rw [V_main_arg3]; exact (row_at (A3 m c) b r k _).trans (dp3 _ _ _ _ _ _ _ _ _ k.isLt)
  h4 r k := by
    show V m c main_arg4 _ = _
    rw [V_main_arg4]; exact (row_at (A4 m c) b r k _).trans (dp4 _ _ _ _ _ _ _ _ _ k.isLt)
  h5 r k := by
    show V m c main_arg5 _ = _
    rw [V_main_arg5]; exact (row_at (A5 m c) b r k _).trans (dp5 _ _ _ _ _ _ _ _ _ k.isLt)
  h6 r k := by
    show V m c main_arg6 _ = _
    rw [V_main_arg6]; exact (row_at (A6 m c) b r k _).trans (dp6 _ _ _ _ _ _ _ _ _)
  h7 r k := by
    show V m c main_arg7 _ = _
    rw [V_main_arg7]; exact row_at (A7 m c) b r k _
  h8 r k := by
    show V m c main_arg8 _ = _
    rw [V_main_arg8]; exact row_at (A8 m c) b r k _

theorem weight_at (k : Fin 7424) (l : Fin 1024) : wX (F := Ideal) c (V m c main_arg10) (ix2 k l) = rd (A10 m c) k.val l.val := by
  show V m c main_arg10 (ix2 k l) = _
  rw [V_main_arg10]
  exact (rd_of k.isLt l.isLt).symm

theorem scale_at (l : Fin 1024) : gW (F := Ideal) c (gS t0_0) ((gS t0_0).view.rep (iblk m c 0 t0_0)) (ix2 0 l) = rd (A9 m c) 0 l.val := by
  show (gS t0_0).view.read (Elt Ideal) ((gS t0_0).view.rep (iblk m c 0 t0_0)) (ix2 0 l) = _
  rw [View.read_rep]
  show V m c main_arg9 _ = _
  rw [V_main_arg9]
  refine (congrArg (A9 m c) (funext fun a => Fin.ext ?_)).trans (rd_of (X := A9 m c) (r := 0) (l := l.val) (by omega) l.isLt).symm
  fin_cases a
  · rfl
  · show _ = l.val
    blk_simp
    exact (congrArg (· * 1024 + l.val) (show (win0_0.index t0_0 1 : Nat) = 0 by decide +kernel)).trans (by simp)

/-- The first result, block by block. -/
theorem gxA_at (b : Fin 16) (r : Fin 256) (l : Fin 1024) : gxA m c t0_0 b (ix2 r l)
    = gx (rd (A7 m c)) (rd (A8 m c)) (rd (A9 m c)) (rd (A10 m c)) (dpA m c) (256 * b.val + r.val) l.val :=
  gxV_at (rows m c b) (weight_at m c) (scale_at m c) r l

theorem end0 (f : Buf (Elt Ideal) ((c.tc : Thread nD τ).loc main_v1_0))
    (h : ∀ b, (blk1024 (Memref.whole main_v1_0) b).view.read (Elt Ideal) f = gxA m c t0_0 b) : f = GX m c := by
  funext i
  have hi : (i 0).val < 4096 := (i 0).isLt
  have hj : (i 1).val < 1024 := (i 1).isLt
  have e := congrFun (h ⟨(i 0).val / 256, by omega⟩) (ix2 ⟨(i 0).val % 256, by omega⟩ ⟨(i 1).val, hj⟩)
  rw [gxA_at] at e
  refine Eq.trans (congrArg f (funext fun a => Fin.ext ?_)) (e.trans ?_)
  · fin_cases a
    · show (i 0).val = 256 * ((i 0).val / 256) + 1 * ((i 0).val % 256); omega
    · show (i 1).val = 0 + 1 * (i 1).val; omega
  · show gx _ _ _ _ _ (256 * ((i 0).val / 256) + (i 0).val % 256) (i 1).val = gx _ _ _ _ _ (i 0).val (i 1).val
    rw [Nat.div_add_mod]

/-- The second. -/
theorem ggA_at (l : Fin 1024) : ggF (F := Ideal) c (XO m c) (V m c main_arg10) (ix2 0 l) = gg (rd (A7 m c)) (rd (A10 m c)) (dpA m c) 4096 l.val :=
  ggAt_at (Y := rd (A8 m c)) (weight_at m c) l 16 fun j hj => by
    have e : (bk 16 j).val = j := Nat.mod_eq_of_lt hj
    have h := rows m c (bk 16 j)
    rw [e] at h
    exact h

theorem end1 : finalA (F := Ideal) m c 1 = GG m c := by
  refine (dats m 0 c).arrAt_eq_of_after_last 1 t0_0 (by decide +kernel) _ fun j => ?_
  blk_simp
  rw [after_w1]
  have e : (j : S1x1024.Idx) = ix2 0 (j 1) := (ix2_eta j).trans (congrArg (fun z : Fin 1 => ix2 z (j 1)) (Subsingleton.elim (α := Fin 1) _ _))
  refine (congrArg (ggA m c) e).trans ?_
  exact ggA_at m c (j 1)

end Cert.DhArr

end
-- ==== Proof.DhRef.lean ====
/- The reference's two results of the backward pass of the first norm, read at an index stage by stage. -/
module

public import proofs.«01_k».proof.Proof.DhSpec
public import proofs.«01_k».proof.Proof.Gen.DhRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.DhRefIdeal.Hand

open Cert.DhRefIdeal Cert.DhRefIdeal.Gen Cert.DhRefIdeal.Value Cert.Reals Cert.DhSpec
open Cert.MemSpec (rd rd_of rd_real)

theorem rd_at {R L : Nat} (X : (⟨2, ![R, L]⟩ : Shape).Idx → EReal) (r : Fin R) (l : Fin L) : X (ix2 r l) = rd X r.val l.val :=
  (rd_of r.isLt l.isLt).symm

theorem sum_ext {ι : Type} [Fintype ι] {f g : ι → EReal} (h : ∀ k, f k = g k) : ∑ k, f k = ∑ k, g k := Finset.sum_congr rfl fun k _ => h k

variable (a0 : FVec Ideal S4096x2048 .bf16) (a1 : FVec Ideal S4096x512 .bf16) (a2 : FVec Ideal S4096x256 .bf16)
  (a3 a4 a5 : FVec Ideal S4096x512 .bf16) (a6 : FVec Ideal S4096x3072 .bf16) (x y : FVec Ideal S4096x1024 .f32)
  (g : FVec Ideal S1x1024 .f32) (w : FVec Ideal S7424x1024 .bf16)

/-- The seven gradients side by side, as functions of two numbers. -/
abbrev dpOf : Nat → Nat → EReal := dp (rd a0) (rd a1) (rd a2) (rd a3) (rd a4) (rd a5) (rd a6)

/-- The stages of the reference: the seven gradients side by side, -/
def cat : FVec Ideal S4096x7424 .f32 :=
  concatenate S4096x7424 1 [⟨S4096x2048, extf .f32 a0 bitsLt_bf16_f32⟩, ⟨S4096x512, extf .f32 a1 bitsLt_bf16_f32⟩,
    ⟨S4096x256, extf .f32 a2 bitsLt_bf16_f32⟩, ⟨S4096x512, extf .f32 a3 bitsLt_bf16_f32⟩, ⟨S4096x512, extf .f32 a4 bitsLt_bf16_f32⟩,
    ⟨S4096x512, extf .f32 a5 bitsLt_bf16_f32⟩, ⟨S4096x3072, extf .f32 a6 bitsLt_bf16_f32⟩]
    concatenates_S4096x2048_S4096x512_S4096x256_S4096x512_S4096x512_S4096x512_S4096x3072_S4096x7424_d1
/-- the weight, the product, -/
def wt : FVec Ideal S1024x7424 .f32 := transpose S1024x7424 [1, 0] (extf .f32 w bitsLt_bf16_f32) transposes_S7424x1024_S1024x7424_1_0
def prod (p : FVec Ideal S4096x7424 .f32) (v : FVec Ideal S1024x7424 .f32) : FVec Ideal S4096x1024 .f32 :=
  Host.dotGeneral dot_S4096x7424_S1024x7424_S4096x1024_1_1_0_0_n_n none p v
/-- the mean square and its inverse root, -/
def msq : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))
def root (q : FVec Ideal S4096x1 .f32) : FVec Ideal S4096x1 .f32 := Host.rsqrt q
/-- the gradient behind the scale, -/
def scaled (d : FVec Ideal S4096x1024 .f32) : FVec Ideal S4096x1024 .f32 :=
  mulf d (broadcastInDim S4096x1024 ![0, 1] bcast_S1x1024_S4096x1024_0_1 (broadcastInDim S1x1024 ![1] bcast_S1024_S1x1024_1 (shapeCast _ g shapeCasts_S1x1024_S1024)))
/-- the row's correction, -/
def corr (t : FVec Ideal S4096x1024 .f32) (q : FVec Ideal S4096x1 .f32) : FVec Ideal S4096x1024 .f32 :=
  broadcastInDim S4096x1024 ![0] bcast_S4096_S4096x1024_0 (Host.reduceAdd (Host.divf
    (mulf (shapeCast S4096x1 (Host.reduceAdd (mulf x t) (constant S_ .f32 0x00000000#32) reducesTo_S4096x1024_S4096_d1 h_S_) shapeCasts_S4096_S4096x1)
      (mulf (broadcastInDim S4096x1 ![] bcast_S_S4096x1 (constant S_ .f32 0xBF000000#32)) (Host.divf (root q) q)))
    (broadcastInDim S4096x1 ![] bcast_S_S4096x1 (constant S_ .f32 0x44800000#32))) (constant S_ .f32 0x00000000#32) reducesTo_S4096x1_S4096_d1 h_S_)
/-- the two results. -/
def resX (t : FVec Ideal S4096x1024 .f32) (q : FVec Ideal S4096x1 .f32) : FVec Ideal S4096x1024 .f32 :=
  addf (addf (addf y (mulf t (broadcastInDim S4096x1024 ![0, 1] bcast_S4096x1_S4096x1024_0_1 (root q)))) (mulf x (corr x t q))) (mulf (corr x t q) x)
def resG (d : FVec Ideal S4096x1024 .f32) (q : FVec Ideal S4096x1 .f32) : FVec Ideal S1x1024 .f32 :=
  broadcastInDim S1x1024 ![1] bcast_S1024_S1x1024_1 (Host.reduceAdd (shapeCast S1x1024 (Host.reduceAdd
    (mulf (mulf x (broadcastInDim S4096x1024 ![0, 1] bcast_S4096x1_S4096x1024_0_1 (root q))) d) (constant S_ .f32 0x00000000#32) reducesTo_S4096x1024_S1024_d0 h_S_)
    shapeCasts_S1024_S1x1024) (constant S_ .f32 0x00000000#32) reducesTo_S1x1024_S1024_d0 h_S_)

theorem cat_at (r : Fin 4096) (k : Fin 7424) : cat a0 a1 a2 a3 a4 a5 a6 (ix2 r k) = dpOf a0 a1 a2 a3 a4 a5 a6 r.val k.val := by
  pointwise [cat]
  have at' : ∀ {L : Nat} (X : (⟨2, ![4096, L]⟩ : Shape).Idx → EReal) (q p : Nat) (h : q < L), q = p → X (ix2 r ⟨q, h⟩) = rd X r.val p :=
    fun X q p h e => (rd_at X r ⟨q, h⟩).trans (congrArg (rd X r.val) e)
  unfold dpOf dp
  by_cases c0 : k.val < 2048
  · rw [dif_pos (by omega), if_pos c0]; exact at' a0 _ _ _ (by omega)
  rw [dif_neg (by omega), if_neg c0]
  by_cases c1 : k.val < 2560
  · rw [dif_pos (by omega), if_pos c1]; exact at' a1 _ _ _ (by omega)
  rw [dif_neg (by omega), if_neg c1]
  by_cases c2 : k.val < 2816
  · rw [dif_pos (by omega), if_pos c2]; exact at' a2 _ _ _ (by omega)
  rw [dif_neg (by omega), if_neg c2]
  by_cases c3 : k.val < 3328
  · rw [dif_pos (by omega), if_pos c3]; exact at' a3 _ _ _ (by omega)
  rw [dif_neg (by omega), if_neg c3]
  by_cases c4 : k.val < 3840
  · rw [dif_pos (by omega), if_pos c4]; exact at' a4 _ _ _ (by omega)
  rw [dif_neg (by omega), if_neg c4]
  by_cases c5 : k.val < 4352
  · rw [dif_pos (by omega), if_pos c5]; exact at' a5 _ _ _ (by omega)
  rw [dif_neg (by omega), if_neg c5]
  exact at' a6 _ _ _ (by omega)
theorem wt_at (l : Fin 1024) (k : Fin 7424) : wt w (ix2 l k) = rd w k.val l.val := by
  pointwise [wt]
  exact rd_at w k l
theorem prod_at (r : Fin 4096) (l : Fin 1024) :
    prod (cat a0 a1 a2 a3 a4 a5 a6) (wt w) (ix2 r l) = dh (dpOf a0 a1 a2 a3 a4 a5 a6) (rd w) r.val l.val := by
  pointwise [prod]
  rw [← dh_all]
  exact sum_ext fun k => congrArg₂ (· * ·) (cat_at a0 a1 a2 a3 a4 a5 a6 r k) (wt_at w l k)
theorem msq_at (r : Fin 4096) (j : Fin 1) : msq x (ix2 r j) = ms (rd x) r.val := by
  pointwise [msq]
  simp only [rd_at x]
  rfl
theorem root_at (q : FVec Ideal S4096x1 .f32) (r : Fin 4096) (j : Fin 1) : root q (ix2 r j) = Ideal.rsqrt (q (ix2 r j)) := by
  pointwise [root]
theorem scaled_at (d : FVec Ideal S4096x1024 .f32) (r : Fin 4096) (l : Fin 1024) : scaled g d (ix2 r l) = d (ix2 r l) * rd g 0 l.val := by
  pointwise [scaled]
  exact congrArg (d (ix2 r l) * ·) (rd_at g 0 l)
theorem corr_at (t : FVec Ideal S4096x1024 .f32) (q : FVec Ideal S4096x1 .f32) (r : Fin 4096) (l : Fin 1024) :
    corr x t q (ix2 r l) = Ideal.div ((∑ k : Fin 1024, rd x r.val k.val * t (ix2 r k))
      * (Cert.MidSpec.mhalf * Ideal.div (Ideal.rsqrt (q (ix2 r 0))) (q (ix2 r 0)))) Cert.MidSpec.wide := by
  pointwise [corr]
  simp only [root_at, Fin.sum_univ_one, rd_at x]
theorem resX_raw (t : FVec Ideal S4096x1024 .f32) (q : FVec Ideal S4096x1 .f32) (r : Fin 4096) (l : Fin 1024) :
    resX x y t q (ix2 r l) = rd y r.val l.val + t (ix2 r l) * Ideal.rsqrt (q (ix2 r 0)) + rd x r.val l.val * corr x t q (ix2 r l)
      + corr x t q (ix2 r l) * rd x r.val l.val := by
  pointwise [resX]
  simp only [root_at, rd_at x, rd_at y]
theorem resG_raw (d : FVec Ideal S4096x1024 .f32) (q : FVec Ideal S4096x1 .f32) (l : Fin 1024) :
    resG x d q (ix2 0 l) = ∑ r : Fin 4096, rd x r.val l.val * Ideal.rsqrt (q (ix2 r 0)) * d (ix2 r l) := by
  pointwise [resG]
  simp only [root_at, Fin.sum_univ_one, rd_at x]

/-- The gradient of the scale: the rows' sum. -/
theorem resG_at (l : Fin 1024) : resG x (prod (cat a0 a1 a2 a3 a4 a5 a6) (wt w)) (msq x) (ix2 0 l)
    = gg (rd x) (rd w) (dpOf a0 a1 a2 a3 a4 a5 a6) 4096 l.val := by
  rw [resG_raw, ← gg_all]
  refine sum_ext fun r => ?_
  rw [prod_at, msq_at, mul_comm]
  rfl

section Real
variable {a0 a1 a2 a3 a4 a5 a6 x g w} (h0 : ∀ i, IsR (a0 i)) (h1 : ∀ i, IsR (a1 i)) (h2 : ∀ i, IsR (a2 i)) (h3 : ∀ i, IsR (a3 i))
  (h4 : ∀ i, IsR (a4 i)) (h5 : ∀ i, IsR (a5 i)) (h6 : ∀ i, IsR (a6 i)) (hx : ∀ i, IsR (x i)) (hg : ∀ i, IsR (g i)) (hw : ∀ i, IsR (w i))

include h0 h1 h2 h3 h4 h5 h6 hx hg hw in
/-- The gradient of the input. -/
theorem resX_at (r : Fin 4096) (l : Fin 1024) : resX x y (scaled g (prod (cat a0 a1 a2 a3 a4 a5 a6) (wt w))) (msq x) (ix2 r l)
    = gx (rd x) (rd y) (rd g) (rd w) (dpOf a0 a1 a2 a3 a4 a5 a6) r.val l.val := by
  rw [resX_raw]
  simp only [corr_at, scaled_at, prod_at, msq_at]
  exact gx_eq (dp_real (rd_real h0) (rd_real h1) (rd_real h2) (rd_real h3) (rd_real h4) (rd_real h5) (rd_real h6)) (rd_real hw) (rd_real hg)
    (rd_real hx) r.val l
end Real

variable (m : (ℓ : Loc nD τ sig) → Buf (Elt Ideal) ℓ) (c : Dev nD)

/-- The eleven arguments. -/
abbrev A0 : FVec Ideal S4096x2048 .bf16 := m ((c.tc : Thread nD τ).loc main_arg0)
abbrev A1 : FVec Ideal S4096x512 .bf16 := m ((c.tc : Thread nD τ).loc main_arg1)
abbrev A2 : FVec Ideal S4096x256 .bf16 := m ((c.tc : Thread nD τ).loc main_arg2)
abbrev A3 : FVec Ideal S4096x512 .bf16 := m ((c.tc : Thread nD τ).loc main_arg3)
abbrev A4 : FVec Ideal S4096x512 .bf16 := m ((c.tc : Thread nD τ).loc main_arg4)
abbrev A5 : FVec Ideal S4096x512 .bf16 := m ((c.tc : Thread nD τ).loc main_arg5)
abbrev A6 : FVec Ideal S4096x3072 .bf16 := m ((c.tc : Thread nD τ).loc main_arg6)
abbrev A7 : FVec Ideal S4096x1024 .f32 := m ((c.tc : Thread nD τ).loc main_arg7)
abbrev A8 : FVec Ideal S4096x1024 .f32 := m ((c.tc : Thread nD τ).loc main_arg8)
abbrev A9 : FVec Ideal S1x1024 .f32 := m ((c.tc : Thread nD τ).loc main_arg9)
abbrev A10 : FVec Ideal S7424x1024 .bf16 := m ((c.tc : Thread nD τ).loc main_arg10)

theorem out0_eq : res_main_v49 m c = resX (A7 m c) (A8 m c) (scaled (A9 m c)
    (prod (cat (A0 m c) (A1 m c) (A2 m c) (A3 m c) (A4 m c) (A5 m c) (A6 m c)) (wt (A10 m c)))) (msq (A7 m c)) := rfl

/-- The reference's run, its results by stages. -/
theorem run_stages (ρ : Dev nD → PrngReg) :
    θ_run defs (onTc (τ := τ) (main (F := Ideal))) ⟨m, fun _ => 0, ρ⟩ fun r => ∀ c : Dev nD,
      r.2.mem ((c.tc : Thread nD τ).loc main_v49) = resX (A7 m c) (A8 m c) (scaled (A9 m c)
        (prod (cat (A0 m c) (A1 m c) (A2 m c) (A3 m c) (A4 m c) (A5 m c) (A6 m c)) (wt (A10 m c)))) (msq (A7 m c))
      ∧ r.2.mem ((c.tc : Thread nD τ).loc main_v50) = resG (A7 m c)
        (prod (cat (A0 m c) (A1 m c) (A2 m c) (A3 m c) (A4 m c) (A5 m c) (A6 m c)) (wt (A10 m c))) (msq (A7 m c)) :=
  (θ_run defs _ _).mono (fun _ h c => ⟨(h c).1.trans (out0_eq m c), (h c).2.1⟩) (run (F := Ideal) m ρ)

end Cert.DhRefIdeal.Hand

end
-- ==== Proof.DhProof.lean ====
/- The backward pass of the first norm: the kernel's two results are the formulas of `DhSpec`, and so are the reference's. -/
module

public import proofs.«01_k».proof.Proof.DhArr
public import proofs.«01_k».proof.Proof.DhRef
public import proofs.«01_k».proof.Proof.Gen.Dh
public import proofs.«01_k».proof.Defs
public import Idealize.ShloMosaic.Lib.Tactic

@[expose] public section

set_option maxRecDepth 16384

noncomputable section

open Idealize.ShloMosaic Idealize.ShloMosaic.TcCoe Idealize.SL.Sem

namespace Cert.DhProof

open Cert.Reals Cert.DhSpec

/-- The kernel's frame over the idealized types, over the bits, and the reference's. -/
theorem frame : Cert.quiescent_DhIdeal (hDhIdeal := Cert.DhIdeal.Gen.facts) := fun m ρ _ => Cert.DhIdeal.Hand.frame_any m ρ

theorem frame_bits : Cert.quiescent_Dh (hDh := Cert.Dh.Gen.facts) := by
  intro m ρ _
  refine Eq.mp ?_ (Cert.DhIdeal.Hand.frame_any (F := Bits) m ρ)
  sl_kernel_rfl

theorem ref_frame : Cert.quiescent_DhRefIdeal (hDhRefIdeal := Cert.DhRefIdeal.Gen.facts) := fun m ρ _ =>
  (θ_run Cert.DhRefIdeal.defs _ _).mono (fun r h => ⟨fun c => (h c).2.2, Idealize.ShloMosaic.sem_eq_zero_of_no_sems (by decide) r.2⟩)
    (Cert.DhRefIdeal.Value.run (F := Ideal) m ρ)

/-- The side conditions of the precondition's text. -/
theorem pre_facts : Cert.Pre_finite_dh.Facts where
  bcast_S_S4096x2048 := by decide
  reducesTo_S4096x2048_S_d0_1 := by decide
  h_S_ := by decide
  bcast_S_S4096x512 := by decide
  reducesTo_S4096x512_S_d0_1 := by decide
  bcast_S_S4096x256 := by decide
  reducesTo_S4096x256_S_d0_1 := by decide
  bcast_S_S4096x3072 := by decide
  reducesTo_S4096x3072_S_d0_1 := by decide
  bcast_S_S4096x1024 := by decide
  reducesTo_S4096x1024_S_d0_1 := by decide
  bcast_S_S1x1024 := by decide
  reducesTo_S1x1024_S_d0_1 := by decide
  bcast_S_S7424x1024 := by decide
  reducesTo_S7424x1024_S_d0_1 := by decide

instance : Subsingleton Cert.Pre_finite_dh.S_.Idx := ⟨fun a b => funext fun k => k.elim0⟩

/-- The precondition says that every element of the ten arguments it tests is a real number. -/
theorem reals (a0 : FVec Ideal Cert.Pre_finite_dh.S4096x2048 .bf16)
    (a1 : FVec Ideal Cert.Pre_finite_dh.S4096x512 .bf16)
    (a2 : FVec Ideal Cert.Pre_finite_dh.S4096x256 .bf16)
    (a3 : FVec Ideal Cert.Pre_finite_dh.S4096x512 .bf16)
    (a4 : FVec Ideal Cert.Pre_finite_dh.S4096x512 .bf16)
    (a5 : FVec Ideal Cert.Pre_finite_dh.S4096x512 .bf16)
    (a6 : FVec Ideal Cert.Pre_finite_dh.S4096x3072 .bf16)
    (a7 : FVec Ideal Cert.Pre_finite_dh.S4096x1024 .f32)
    (a8 : FVec Ideal Cert.Pre_finite_dh.S4096x1024 .f32)
    (a9 : FVec Ideal Cert.Pre_finite_dh.S1x1024 .f32)
    (a10 : FVec Ideal Cert.Pre_finite_dh.S7424x1024 .bf16)
    (h : @Cert.Pre_finite_dh.fn pre_facts Ideal _ a0 a1 a2 a3 a4 a5 a6 a7 a8 a9 a10 = fun _ => 1#1) :
    (∀ i, IsR (a0 i)) ∧ (∀ i, IsR (a1 i)) ∧ (∀ i, IsR (a2 i)) ∧ (∀ i, IsR (a3 i)) ∧ (∀ i, IsR (a4 i)) ∧ (∀ i, IsR (a5 i)) ∧ (∀ i, IsR (a6 i)) ∧ (∀ i, IsR (a7 i)) ∧ (∀ i, IsR (a9 i)) ∧ (∀ i, IsR (a10 i)) := by
  have h0 := congrFun h (fun k => k.elim0)
  unfold Cert.Pre_finite_dh.fn Cert.Pre_finite_dh.fn_part1 Cert.Pre_finite_dh.fn_part2 at h0
  obtain ⟨h0, h10⟩ := and_one h0
  obtain ⟨h0, h9⟩ := and_one h0
  obtain ⟨h0, h7⟩ := and_one h0
  obtain ⟨h0, h6⟩ := and_one h0
  obtain ⟨h0, h5⟩ := and_one h0
  obtain ⟨h0, h4⟩ := and_one h0
  obtain ⟨h0, h3⟩ := and_one h0
  obtain ⟨h0, h2⟩ := and_one h0
  obtain ⟨h0, h1⟩ := and_one h0
  exact ⟨fun i => isR_all _ _ inf_bf16 _ _ _ _ _ _ h0 i,
    fun i => isR_all _ _ inf_bf16 _ _ _ _ _ _ h1 i,
    fun i => isR_all _ _ inf_bf16 _ _ _ _ _ _ h2 i,
    fun i => isR_all _ _ inf_bf16 _ _ _ _ _ _ h3 i,
    fun i => isR_all _ _ inf_bf16 _ _ _ _ _ _ h4 i,
    fun i => isR_all _ _ inf_bf16 _ _ _ _ _ _ h5 i,
    fun i => isR_all _ _ inf_bf16 _ _ _ _ _ _ h6 i,
    fun i => isR_all _ _ inf_f32 _ _ _ _ _ _ h7 i,
    fun i => isR_all _ _ inf_f32 _ _ _ _ _ _ h9 i,
    fun i => isR_all _ _ inf_bf16 _ _ _ _ _ _ h10 i⟩

section Run
open Cert.DhIdeal Cert.DhIdeal.Hand
variable (m : (ℓ : Loc nD τ sig) → Buf (Elt Ideal) ℓ) (ρ : Dev nD → PrngReg)

/-- The kernel's run: its two results as the formulas say, its arguments unchanged. -/
theorem run : θ_run defs (onTc (τ := τ) (main (F := Ideal))) ⟨m, fun _ => 0, ρ⟩ (fun r => ∀ c : Dev nD,
      r.2.mem ((c.tc : Thread nD τ).loc main_v1_0) = Cert.DhArr.GX m c
      ∧ r.2.mem ((c.tc : Thread nD τ).loc main_v1_1) = Cert.DhArr.GG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨Cert.DhArr.end0 m c _ (h.1.1 c).2.2, ((h.1.1 c).1 1).trans (Cert.DhArr.end1 m c), h.2.1 c⟩)
    (θ_run_and (run_main m ρ) (frame_any m ρ))

end Run

theorem value : Cert.algebraic_DhIdeal_DhRefIdeal_pre_finite_dh (hDhIdeal := Cert.DhIdeal.Gen.facts)
    (hDhRefIdeal := Cert.DhRefIdeal.Gen.facts) (hPre_finite_dh := pre_facts) := by
  intro m ρ m' ρ' hpre hagree
  refine ⟨fun c => _, fun c => _, run m ρ, ?_⟩
  refine (θ_run Cert.DhRefIdeal.defs _ _).mono (fun r h c => ?_)
    (θ_run_and (Cert.DhRefIdeal.Hand.run_stages m' ρ') (Cert.DhRefIdeal.Value.run (F := Ideal) m' ρ'))
  obtain ⟨r0, r1⟩ := h.1 c
  obtain ⟨e0, e1, e2, e3, e4, e5, e6, e7, e8, e9, e10⟩ := hagree c
  obtain ⟨h0, h1, h2, h3, h4, h5, h6, h7, h9, h10⟩ := reals _ _ _ _ _ _ _ _ _ _ _ (hpre c)
  replace e0 : Cert.DhRefIdeal.Hand.A0 m' c = Cert.DhArr.A0 m c := e0
  replace e1 : Cert.DhRefIdeal.Hand.A1 m' c = Cert.DhArr.A1 m c := e1
  replace e2 : Cert.DhRefIdeal.Hand.A2 m' c = Cert.DhArr.A2 m c := e2
  replace e3 : Cert.DhRefIdeal.Hand.A3 m' c = Cert.DhArr.A3 m c := e3
  replace e4 : Cert.DhRefIdeal.Hand.A4 m' c = Cert.DhArr.A4 m c := e4
  replace e5 : Cert.DhRefIdeal.Hand.A5 m' c = Cert.DhArr.A5 m c := e5
  replace e6 : Cert.DhRefIdeal.Hand.A6 m' c = Cert.DhArr.A6 m c := e6
  replace e7 : Cert.DhRefIdeal.Hand.A7 m' c = Cert.DhArr.A7 m c := e7
  replace e8 : Cert.DhRefIdeal.Hand.A8 m' c = Cert.DhArr.A8 m c := e8
  replace e9 : Cert.DhRefIdeal.Hand.A9 m' c = Cert.DhArr.A9 m c := e9
  replace e10 : Cert.DhRefIdeal.Hand.A10 m' c = Cert.DhArr.A10 m c := e10
  replace h0 : ∀ i, IsR (Cert.DhRefIdeal.Hand.A0 m' c i) := fun i => by rw [e0]; exact h0 i
  replace h1 : ∀ i, IsR (Cert.DhRefIdeal.Hand.A1 m' c i) := fun i => by rw [e1]; exact h1 i
  replace h2 : ∀ i, IsR (Cert.DhRefIdeal.Hand.A2 m' c i) := fun i => by rw [e2]; exact h2 i
  replace h3 : ∀ i, IsR (Cert.DhRefIdeal.Hand.A3 m' c i) := fun i => by rw [e3]; exact h3 i
  replace h4 : ∀ i, IsR (Cert.DhRefIdeal.Hand.A4 m' c i) := fun i => by rw [e4]; exact h4 i
  replace h5 : ∀ i, IsR (Cert.DhRefIdeal.Hand.A5 m' c i) := fun i => by rw [e5]; exact h5 i
  replace h6 : ∀ i, IsR (Cert.DhRefIdeal.Hand.A6 m' c i) := fun i => by rw [e6]; exact h6 i
  replace h7 : ∀ i, IsR (Cert.DhRefIdeal.Hand.A7 m' c i) := fun i => by rw [e7]; exact h7 i
  replace h9 : ∀ i, IsR (Cert.DhRefIdeal.Hand.A9 m' c i) := fun i => by rw [e9]; exact h9 i
  replace h10 : ∀ i, IsR (Cert.DhRefIdeal.Hand.A10 m' c i) := fun i => by rw [e10]; exact h10 i
  refine ⟨r0.trans ?_, r1.trans ?_, (h.2 c).2.2⟩
  · funext j
    rw [Cert.DhArr.ix2_eta j]
    refine (Cert.DhRefIdeal.Hand.resX_at _ h0 h1 h2 h3 h4 h5 h6 h7 h9 h10 (j 0) (j 1)).trans ?_
    rw [e0, e1, e2, e3, e4, e5, e6, e7, e8, e9, e10]
    rfl
  · funext j
    have e : (j : Cert.DhIdeal.S1x1024.Idx) = ix2 0 (j 1) :=
      (Cert.DhArr.ix2_eta j).trans (congrArg (fun z : Fin 1 => ix2 z (j 1)) (Subsingleton.elim (α := Fin 1) _ _))
    rw [e]
    refine (Cert.DhRefIdeal.Hand.resG_at _ _ _ _ _ _ _ _ _ (j 1)).trans ?_
    rw [e0, e1, e2, e3, e4, e5, e6, e7, e10]
    rfl

end Cert.DhProof

end
-- ==== Proof.ConvFwd.lean ====
/- The gated convolution: the kernel's result is the formula `ya` of `ConvSpec`, and so is the reference's. -/
module

public import proofs.«01_k».proof.Defs
public import proofs.«01_k».proof.Proof.ConvSpec
public import proofs.«01_k».proof.Proof.Gen.ConvFwdRefIdeal.Run
public import proofs.«01_k».proof.Proof.Gen.ConvFwdIdeal.Value

@[expose] public section

set_option maxRecDepth 16384

noncomputable section

open Idealize.ShloMosaic Idealize.ShloMosaic.TcCoe Idealize.SL.Sem
open Idealize.ShloMosaic.Pipeline (Dat)

namespace Cert.ConvFwdIdeal.Hand

open Cert.ConvFwdIdeal Cert.ConvFwdIdeal.Gen Cert.ConvSpec

/-- What the blocks of tile `t` hold of the two arrays. -/
structure Tile (X W : Nat → Nat → EReal) (t : Nat) (i : grid0.Coords) (x0 : Vec Ideal S512x2048 .bf16) (x1 x2 : Vec Ideal S16x2048 .bf16)
    (w : Vec Ideal S3x512 .f32) : Prop where
  lt : t < 8
  co : (i 0).val = t
  h0 : ∀ r l, x0 (ix2 r l) = X (512 * t + r.val) l.val
  h1 : 0 < t → ∀ l, x1 (ix2 15 l) = X (512 * t - 1) l.val
  h2 : t < 7 → ∀ l, x2 (ix2 0 l) = X (512 * t + 512) l.val
  h3 : ∀ k l, w (ix2 k l) = W k.val l.val

section At
variable {X W : Nat → Nat → EReal} {t : Nat} {i : grid0.Coords} {x0 : Vec Ideal S512x2048 .bf16} {x1 x2 : Vec Ideal S16x2048 .bf16}
    {w : Vec Ideal S3x512 .f32} (T : Tile X W t i x0 x1 x2 w)
include T

theorem here (r l : Fin 512) : k0_pay5 x0 (ix2 r l) = cu X (512 * t + r.val) l.val := by
  pointwise [k0_pay5, k0_pay2]
  simp only [T.h0]
  rfl

theorem earlier (r l : Fin 512) : k0_pay7 i x1 x0 w (ix2 r l) = cuM X (512 * t + r.val) l.val * W 0 l.val := by
  pointwise [k0_pay7, k0_pay5, k0_pay2]
  have hr := r.isLt
  have ht := T.lt
  rw [T.co, sel' t 0 (by omega) (by omega), sel r.val 0 (by omega) (by omega)]
  simp only [T.h0, T.h3]
  refine congrArg (· * _) ?_
  unfold cuM cu
  rcases Nat.eq_zero_or_pos (r : Nat) with h0 | h0
  · rcases Nat.eq_zero_or_pos t with h1 | h1
    · simp [h0, h1]
    · simp (disch := omega) only [h0, if_true, if_neg, T.h1 h1]
      rfl
  · have e : ((r : Nat) + 512 - 1) % 512 = r - 1 := by omega
    have e' : 512 * t + (r : Nat) - 1 = 512 * t + (r - 1) := by omega
    simp (disch := omega) only [if_neg, e, e']

theorem later (r l : Fin 512) : k0_pay6 i x2 x0 (ix2 r l) = cuP X (512 * t + r.val) l.val := by
  pointwise [k0_pay6, k0_pay5, k0_pay2]
  have hr := r.isLt
  have ht := T.lt
  rw [T.co, sel' t 7 (by omega) (by omega), sel r.val 511 (by omega) (by omega)]
  simp only [T.h0]
  unfold cuP cu
  rcases Nat.lt_or_ge (r : Nat) 511 with h0 | h0
  · have e : ((r : Nat) + 512 - 511) % 512 = r + 1 := by omega
    simp (disch := omega) only [if_neg, e, ← Nat.add_assoc]
  · have h0 : (r : Nat) = 511 := by omega
    rcases Nat.lt_or_ge t 7 with h1 | h1
    · simp (disch := omega) only [h0, if_true, if_neg, T.h2 h1]
    · have h1 : t = 7 := by omega
      simp [h0, h1]

theorem ya_at (r l : Fin 512) : k0_pay1 w (k0_pay3 x0) (k0_pay4 x0) (k0_pay5 x0) (k0_pay6 i x2 x0) (k0_pay7 i x1 x0 w) (k0_pay8 w) (ix2 r l)
    = ya X W (512 * t + r.val) l.val := by
  pointwise [k0_pay1, k0_pay8, k0_pay3, k0_pay4, k0_pay2]
  rw [here T, earlier T, later T, T.h3, T.h3, T.h0, T.h0, zero_sub]
  rfl

end At

variable (m : (ℓ : Loc nD τ sig) → Buf (Elt Ideal) ℓ)

theorem idx_val : ∀ t : Fin cfg0.N, win0_0.index t = ![t.val, 0] ∧ win0_1.index t = ![t.val * 32 - 1, 0] ∧ win0_2.index t = ![min (t.val * 32 + 32) 255, 0]
    ∧ win0_3.index t = ![0, 0] ∧ win0_4.index t = ![t.val, 0] ∧ (grid0.coords t 0).val = t.val :=
  (by decide +kernel : ∀ t : Fin grid0.N, _)

abbrev A0 (c : Dev nD) : FVec Ideal S4096x2048 .bf16 := m ((c.tc : Thread nD τ).loc main_arg0)
abbrev A1 (c : Dev nD) : FVec Ideal S3x512 .f32 := m ((c.tc : Thread nD τ).loc main_arg1)

/-- The blocks of tile `t`, read from the arguments. -/
theorem tile (c : Dev nD) (t : Fin cfg0.N) : Tile (rd (A0 m c)) (rd (A1 m c)) t.val (grid0.coords t)
    (iblk m c 0 t) (iblk m c 1 t) (iblk m c 2 t) (iblk m c 3 t) := by
  have ht : t.val < 8 := lt_of_lt_of_eq t.isLt N_0
  obtain ⟨i0, i1, i2, i3, -, ic⟩ := idx_val t
  refine ⟨ht, ic, fun r l => ?_, fun h l => ?_, fun h l => ?_, fun r l => ?_⟩
  all_goals (try have := r.isLt)
  · rw [rd_of (by omega) l.isLt]
    blk_point [iblk, V, i0]
  · rw [rd_of (by omega) l.isLt]
    blk_point [iblk, V, i1]
  · rw [rd_of (by omega) l.isLt]
    blk_point [iblk, V, i2]
  · rw [rd_of (by omega) l.isLt]
    blk_point [iblk, V, i3]

/-- The result, of the arguments. -/
def G4 (c : Dev nD) : S4096x512.Idx → EReal := fun j => ya (rd (A0 m c)) (rd (A1 m c)) (j 0).val (j 1).val

theorem end4 (c : Dev nD) : (dats m 0 c).arrAt 4 cfg0.N = G4 m c := by
  refine (dats m 0 c).arrAt_eq_of_covers 4 _ (by decide +kernel) fun t hf y => ?_
  blk_simp
  have T := tile m c t
  obtain ⟨-, -, -, -, i4, -⟩ := idx_val t
  rw [after0_4]
  have e0 : ((((View.whole main_v0).slice (win0_4.rect t)).emb y) 0).val = 512 * t.val + (y 0).val := by blk_simp [i4] <;> try omega
  have e1 : ((((View.whole main_v0).slice (win0_4.rect t)).emb y) 1).val = (y 1).val := by blk_simp [i4] <;> try omega
  show _ = ya _ _ _ _
  rw [e0, e1]
  clear e0 e1 i4
  frame_out
  rw [(ix2_eta y).symm]
  exact ya_at T _ _

end Cert.ConvFwdIdeal.Hand

namespace Cert.ConvFwdRefIdeal.Hand

open Cert.ConvFwdRefIdeal Cert.ConvFwdRefIdeal.Gen Cert.ConvFwdRefIdeal.Value Cert.ConvSpec
variable (m : (ℓ : Loc nD τ sig) → Buf (Elt Ideal) ℓ)

abbrev A0 (c : Dev nD) : FVec Ideal S4096x2048 .bf16 := m ((c.tc : Thread nD τ).loc main_arg0)
abbrev A1 (c : Dev nD) : FVec Ideal S3x512 .f32 := m ((c.tc : Thread nD τ).loc main_arg1)

end Cert.ConvFwdRefIdeal.Hand

namespace Cert.ConvFwdProof

open Cert.ConvSpec

/-- The run of the reference, as a frame. -/
theorem ref_frame : Cert.quiescent_ConvFwdRefIdeal (hConvFwdRefIdeal := Cert.ConvFwdRefIdeal.Gen.facts) := fun m ρ _ =>
  (θ_run Cert.ConvFwdRefIdeal.defs _ _).mono (fun r h => ⟨fun c => (h c).2, Idealize.ShloMosaic.sem_eq_zero_of_no_sems (by decide) r.2⟩)
    (Cert.ConvFwdRefIdeal.Value.run (F := Ideal) m ρ)

set_option maxHeartbeats 800000 in
theorem value : Cert.algebraic_ConvFwdIdeal_ConvFwdRefIdeal (hConvFwdIdeal := Cert.ConvFwdIdeal.Gen.facts) (hConvFwdRefIdeal := Cert.ConvFwdRefIdeal.Gen.facts) := by
  intro m ρ m' ρ' _ hagree
  refine ⟨fun c => _, Cert.ConvFwdIdeal.Value.run_blocks (F := Ideal) m ρ, ?_⟩
  refine (θ_run Cert.ConvFwdRefIdeal.defs _ _).mono (fun r h c => ?_) (Cert.ConvFwdRefIdeal.Value.run (F := Ideal) m' ρ')
  obtain ⟨h1, hargs⟩ := h c
  obtain ⟨a0, a1⟩ := hagree c
  have e0 : Cert.ConvFwdRefIdeal.Hand.A0 m' c = Cert.ConvFwdIdeal.Hand.A0 m c := a0
  have e1 : Cert.ConvFwdRefIdeal.Hand.A1 m' c = Cert.ConvFwdIdeal.Hand.A1 m c := a1
  refine ⟨h1.trans ?_, hargs⟩
  refine Eq.trans ?_ (Cert.ConvFwdIdeal.Hand.end4 m c).symm
  unfold Cert.ConvFwdIdeal.Hand.G4
  rw [← e0, ← e1]
  clear e0 e1 a0 a1 hargs h1 h hagree
  funext j
  rw [(ix2_eta j).symm]
  obtain ⟨r, hr⟩ : ∃ r : Fin 4096, r = j 0 := ⟨_, rfl⟩
  obtain ⟨l, hl⟩ : ∃ l : Fin 512, l = j 1 := ⟨_, rfl⟩
  rw [← hr, ← hl]
  show _ = ya _ _ r.val l.val
  clear hr hl
  pointwise []
  have e0 := rd_at (Cert.ConvFwdRefIdeal.Hand.A0 m' c)
  have e1 := rd_at (Cert.ConvFwdRefIdeal.Hand.A1 m' c)
  simp only [Cert.ConvFwdRefIdeal.Hand.A0, Cert.ConvFwdRefIdeal.Hand.A1] at e0 e1 ⊢
  simp only [e0, e1]
  clear e0 e1
  generalize rd (m' (c.tc.loc Cert.ConvFwdRefIdeal.main_arg0)) = X
  generalize rd (m' (c.tc.loc Cert.ConvFwdRefIdeal.main_arg1)) = W
  have hn := r.isLt
  simp only [show ((0 : Fin 3) : Nat) = 0 from rfl, show ((1 : Fin 3) : Nat) = 1 from rfl, show ((2 : Fin 3) : Nat) = 2 from rfl]
  generalize (r : Nat) = n at *
  have q : 2 + n - 1 = n + 1 := by omega
  simp only [q]
  unfold ya yv cuM cuP cu sg
  rcases Nat.eq_zero_or_pos n with h0 | h0
  · subst h0; simp
  rcases Nat.lt_or_ge n 4095 with h1 | h1
  · simp (disch := omega) only [dif_pos, dif_neg, if_pos, if_neg]
  · obtain rfl : n = 4095 := by omega
    simp

end Cert.ConvFwdProof

end
-- ==== Proof.ProjSpec.lean ====
/- The pre-norm, the input projection and the rotary embedding, as formulas over the row and the column. -/
module

public import Idealize.ShloMosaic.Lib.Pipeline.ValueKit
public import Idealize.ShloMosaic.Lib.Pointwise

@[expose] public section

noncomputable section

open Idealize.ShloMosaic

namespace Cert.ProjSpec

/-- The normed row. -/
def hn (X G : Nat → Nat → EReal) (n k : Nat) : EReal :=
  X n k * Ideal.rsqrt (Ideal.div (∑ j : Fin 1024, X n j.val * X n j.val) (Ideal.ofBits FTy.f32 1149239296#32) + Ideal.ofBits FTy.f32 897988541#32) * G 0 k

/-- The projection of row `n` on row `o` of the weights. -/
def pr (X G W : Nat → Nat → EReal) (n o : Nat) : EReal := ∑ k : Fin 1024, hn X G n k.val * W o k.val

/-- The inverse frequency of number `d`, and the angle at position `n`. -/
def fq (d : Nat) : EReal := Ideal.pow (Ideal.ofBits FTy.f32 1223959552#32)
  (-FloatOps.sitofp (F := Ideal) FTy.f32 (BitVec.ofNat 32 d) * Ideal.ofBits FTy.f32 1040187392#32)
def ang (n d : Nat) : EReal := FloatOps.sitofp (F := Ideal) FTy.f32 (BitVec.ofNat 32 n) * fq d

/-- The rotary embedding of a row of heads of 64 lanes: the first sixteen lanes of a head turn, the others stay. -/
def rot (P : Nat → EReal) (n l : Nat) : EReal :=
  if l % 64 < 16 then
    if l % 64 < 8 then P l * Ideal.cos (ang n (l % 64)) - P (l + 8) * Ideal.sin (ang n (l % 64))
    else P l * Ideal.cos (ang n (l % 64 - 8)) + P (l - 8) * Ideal.sin (ang n (l % 64 - 8))
  else P l

/-- The queries, and the keys followed by the values. -/
def qo (X G W : Nat → Nat → EReal) (n l : Nat) : EReal := rot (fun j => pr X G W n (2048 + j)) n l
def kv (X G W : Nat → Nat → EReal) (n l : Nat) : EReal :=
  if l < 128 then rot (fun j => pr X G W n (2560 + j)) n l else pr X G W n (2560 + l)

/-- The three tables: what a lane keeps of itself, what it takes from eight lanes on, and from eight lanes back. -/
def cT (n l : Nat) : EReal := if l % 64 < 16 then (if l % 64 < 8 then Ideal.cos (ang n (l % 64)) else Ideal.cos (ang n (l % 64 - 8))) else 1
def mT (n l : Nat) : EReal := if l % 64 < 8 then -Ideal.sin (ang n (l % 64)) else 0
def pT (n l : Nat) : EReal := if l % 64 < 16 then (if l % 64 < 8 then 0 else Ideal.sin (ang n (l % 64 - 8))) else 0

/-- Turning a pair of heads by the tables, at lane `l` of the pair beginning at lane `o`. -/
theorem rot_eq (P : Nat → EReal) (n o l : Nat) (ho : o % 64 = 0) (hl : l < 128) :
    P (o + l) * cT n l + P (o + (l + 128 - 120) % 128) * mT n l + P (o + (l + 128 - 8) % 128) * pT n l = rot P n (o + l) := by
  have e : (o + l) % 64 = l % 64 := by omega
  unfold rot cT mT pT
  rw [e]
  by_cases h8 : l % 64 < 8
  · have h16 : l % 64 < 16 := by omega
    have a : o + (l + 128 - 120) % 128 = o + l + 8 := by omega
    simp only [h8, h16, if_true, mul_zero, add_zero, a, mul_neg, ← sub_eq_add_neg]
  · by_cases h16 : l % 64 < 16
    · have a : o + (l + 128 - 8) % 128 = o + l - 8 := by omega
      simp only [h8, h16, if_true, if_false, mul_zero, add_zero, a]
    · simp only [h8, h16, if_false, mul_zero, add_zero, mul_one]

end Cert.ProjSpec

end
-- ==== Proof.ProjTab.lean ====
/- The rotary tables which the host computes before the projection: what the buffer of the tables holds when the call begins. -/
module

public import proofs.«01_k».proof.Proof.Gen.ProjFwdIdeal.Frame.Runs
public import proofs.«01_k».proof.Proof.ProjSpec
public import Idealize.ShloMosaic.Lib.Pipeline.ValueKit

@[expose] public section

set_option maxRecDepth 16384

noncomputable section

open Idealize.ShloMosaic Idealize.ShloMosaic.TcCoe Idealize.SL.Sem

namespace Cert.ProjFwdIdeal.Hand

open Cert.ProjFwdIdeal Cert.ProjFwdIdeal.Gen Cert.ProjSpec

variable (m : (ℓ : Loc nD τ sig) → Buf (Elt Ideal) ℓ)

/-- The eight inverse frequencies. -/
def freq : FVec Ideal S8 .f32 := Host.powf (broadcastInDim S8 ![] bcast_S_S8 (constant (F := Ideal) S_ .f32 0x48F42400#32))
  (mulf (Host.negf (sitofp .f32 (iotaInDim S8 32 0))) (broadcastInDim S8 ![] bcast_S_S8 (constant (F := Ideal) S_ .f32 0x3E000000#32)))

/-- The frequency of each lane of two heads. -/
def frow : FVec Ideal S128 .f32 := shapeCast S128 (broadcastInDim S2x64 ![0, 1] bcast_S1x64_S2x64_0_1 (shapeCast S1x64
  (concatenate S64 0 [⟨S8, freq⟩, ⟨S8, freq⟩, ⟨S48, broadcastInDim S48 ![] bcast_S_S48 (constant (F := Ideal) S_ .f32 0x00000000#32)⟩] concatenates_S8_S8_S48_S64_d0)
  shapeCasts_S64_S1x64)) shapeCasts_S2x64_S128

/-- The angle of each position and lane. -/
def angT : FVec Ideal S4096x128 .f32 := mulf (sitofp .f32 (iotaInDim S4096x128 32 0))
  (broadcastInDim S4096x128 ![0, 1] bcast_S1x128_S4096x128_0_1 (broadcastInDim S1x128 ![1] bcast_S128_S1x128_1 frow))

/-- A constant in every element. -/
def allI (k : BitVec 32) : IVec S4096x128 32 := broadcastInDim S4096x128 ![] bcast_S_S4096x128 (constantI S_ 32 k)
def allF (k : BitVec 32) : FVec Ideal S4096x128 .f32 := broadcastInDim S4096x128 ![] bcast_S_S4096x128 (constant (F := Ideal) S_ .f32 k)

/-- The lane within its head; whether it lies in the first eight, and in the next eight. -/
def lane : IVec S4096x128 32 := andi (iotaInDim S4096x128 32 1) (allI 63#32)
def lo : IVec S4096x128 1 := cmpi .slt lane (allI 8#32)
def hi : IVec S4096x128 1 := andi (cmpi .sge lane (allI 8#32)) (cmpi .slt lane (allI 16#32))

def tabC : FVec Ideal S4096x128 .f32 := select (ori lo hi) (Host.cos angT) (allF 0x3F800000#32)
def tabM : FVec Ideal S4096x128 .f32 := select lo (Host.negf (Host.sin angT)) (allF 0x00000000#32)
def tabP : FVec Ideal S4096x128 .f32 := select hi (Host.sin angT) (allF 0x00000000#32)

def up (t : FVec Ideal S4096x128 .f32) : FVec Ideal S1x4096x128 .f32 := broadcastInDim S1x4096x128 ![1, 2] bcast_S4096x128_S1x4096x128_1_2 t

set_option maxHeartbeats 4000000 in
theorem tables (c : Dev nD) : V m c main_v37 = (concatenate S3x4096x128 0 [⟨S1x4096x128, up tabC⟩, ⟨S1x4096x128, up tabM⟩, ⟨S1x4096x128, up tabP⟩]
    concatenates_S1x4096x128_S1x4096x128_S1x4096x128_S3x4096x128_d0 : FVec Ideal S3x4096x128 .f32) := by
  rfl

theorem frow_at (l : Fin 128) : frow (ix1 l) = if l.val % 64 < 16 then (if l.val % 64 < 8 then fq (l.val % 64) else fq (l.val % 64 - 8)) else 0 := by
  pointwise [frow, freq]
  by_cases h8 : l.val % 64 < 8
  · have h16 : l.val % 64 < 16 := by omega
    simp only [h8, h16, dif_pos, if_true]
    rfl
  · by_cases h16 : l.val % 64 < 16
    · have h : l.val % 64 - 8 < 8 := by omega
      simp only [h8, h16, h, dif_pos, dif_neg, if_true, if_false, not_false_eq_true]
      rfl
    · have h : ¬ l.val % 64 - 8 < 8 := by omega
      simp only [h8, h16, h, dif_neg, if_false, not_false_eq_true]

theorem lo_at (n : Fin 4096) (l : Fin 128) : lo (ix2 n l) = if l.val % 64 < 8 then 1#1 else 0#1 := by
  pointwise [lo, lane, allI]
  revert l
  decide +kernel

theorem hi_at (n : Fin 4096) (l : Fin 128) : hi (ix2 n l) = if l.val % 64 < 16 then (if l.val % 64 < 8 then 0#1 else 1#1) else 0#1 := by
  pointwise [hi, lane, allI]
  revert l
  decide +kernel

theorem ang_at (n : Fin 4096) (l : Fin 128) : angT (ix2 n l) = FloatOps.sitofp (F := Ideal) FTy.f32 (BitVec.ofNat 32 n.val) * frow (ix1 l) := by
  pointwise [angT]

/-- The three tables, element by element. -/
theorem tabC_at (n : Fin 4096) (l : Fin 128) : tabC (ix2 n l) = cT n.val l.val := by
  pointwise [tabC, allF]
  rw [lo_at, hi_at, ang_at, frow_at]
  unfold cT ang
  by_cases h8 : l.val % 64 < 8
  · have h16 : l.val % 64 < 16 := by omega
    simp only [h8, h16, if_true]
    rfl
  · by_cases h16 : l.val % 64 < 16
    · simp only [h8, h16, if_true, if_false]
      rfl
    · simp only [h8, h16, if_false]
      rfl

theorem tabM_at (n : Fin 4096) (l : Fin 128) : tabM (ix2 n l) = mT n.val l.val := by
  pointwise [tabM, allF]
  rw [lo_at, ang_at, frow_at]
  unfold mT ang
  by_cases h8 : l.val % 64 < 8
  · have h16 : l.val % 64 < 16 := by omega
    simp only [h8, h16, if_true]
    rfl
  · simp only [h8, if_false]
    rfl

theorem tabP_at (n : Fin 4096) (l : Fin 128) : tabP (ix2 n l) = pT n.val l.val := by
  pointwise [tabP, allF]
  rw [hi_at, ang_at, frow_at]
  unfold pT ang
  by_cases h8 : l.val % 64 < 8
  · have h16 : l.val % 64 < 16 := by omega
    simp only [h8, h16, if_true]
    rfl
  · by_cases h16 : l.val % 64 < 16
    · simp only [h8, h16, if_true, if_false]
      rfl
    · simp only [h8, h16, if_false]
      rfl

/-- The buffer of the tables, when the call begins. -/
abbrev T3 (c : Dev nD) : FVec Ideal S3x4096x128 .f32 := V m c main_v37

theorem T3_0 (c : Dev nD) (n : Fin 4096) (l : Fin 128) : T3 m c (ix3 0 n l) = cT n.val l.val := by
  unfold T3
  rw [tables]
  pointwise [up]
  exact tabC_at n l

theorem T3_1 (c : Dev nD) (n : Fin 4096) (l : Fin 128) : T3 m c (ix3 1 n l) = mT n.val l.val := by
  unfold T3
  rw [tables]
  pointwise [up]
  exact tabM_at n l

theorem T3_2 (c : Dev nD) (n : Fin 4096) (l : Fin 128) : T3 m c (ix3 2 n l) = pT n.val l.val := by
  unfold T3
  rw [tables]
  pointwise [up]
  exact tabP_at n l

end Cert.ProjFwdIdeal.Hand

end
-- ==== Proof.ProjTile.lean ====
/- The pre-norm, the input projection and the rotary embedding: what one tile of the kernel leaves is the formulas of `ProjSpec`. -/
module

public import proofs.«01_k».proof.Proof.ConvSpec
public import proofs.«01_k».proof.Proof.ProjTab
public import proofs.«01_k».proof.Proof.Gen.ProjFwdIdeal.Value

@[expose] public section

set_option maxRecDepth 16384
set_option maxHeartbeats 4000000

noncomputable section

open Idealize.ShloMosaic Idealize.ShloMosaic.TcCoe Idealize.SL.Sem
open Idealize.ShloMosaic.Pipeline (Dat)

namespace Cert.ProjFwdIdeal.Hand

open Cert.ProjFwdIdeal Cert.ProjFwdIdeal.Gen Cert.ProjSpec
open Cert.ConvSpec (rd rd_of rd_at)

/-- What the blocks of tile `t` hold of the rows, of the gain and of the tables. -/
structure Tile (X G : Nat → Nat → EReal) (t : Nat) (x : Vec Ideal S512x1024 .f32) (g : Vec Ideal S1x1024 .f32) (b : Vec Ideal S3x512x128 .f32) : Prop where
  hx : ∀ r k, x (ix2 r k) = X (512 * t + r.val) k.val
  hg : ∀ k, g (ix2 0 k) = G 0 k.val
  hc : ∀ r l, b (ix3 0 r l) = cT (512 * t + r.val) l.val
  hm : ∀ r l, b (ix3 1 r l) = mT (512 * t + r.val) l.val
  hp : ∀ r l, b (ix3 2 r l) = pT (512 * t + r.val) l.val

section At
variable {X G W : Nat → Nat → EReal} {t : Nat} {x : Vec Ideal S512x1024 .f32} {g : Vec Ideal S1x1024 .f32} {b : Vec Ideal S3x512x128 .f32} (T : Tile X G t x g b)
include T

theorem norm_at (r : Fin 512) (k : Fin 1024) : k0_pay4 x g (ix2 r k) = hn X G (512 * t + r.val) k.val := by
  pointwise [k0_pay4]
  simp only [T.hx, T.hg]
  rfl

theorem tc_at (r : Fin 512) (l : Fin 128) : k0_pay5 (View.ld b (Rect.unit ![0, 0, 0] ![1, 512, 128] inb_S3x512x128_S1x512x128_0_0_0)) (ix2 r l) = cT (512 * t + r.val) l.val := by
  pointwise [k0_pay5]
  exact T.hc r l

theorem tm_at (r : Fin 512) (l : Fin 128) : k0_pay6 (View.ld b (Rect.unit ![1, 0, 0] ![1, 512, 128] inb_S3x512x128_S1x512x128_1_0_0)) (ix2 r l) = mT (512 * t + r.val) l.val := by
  pointwise [k0_pay6]
  exact T.hm r l

theorem tp_at (r : Fin 512) (l : Fin 128) : k0_pay7 (View.ld b (Rect.unit ![2, 0, 0] ![1, 512, 128] inb_S3x512x128_S1x512x128_2_0_0)) (ix2 r l) = pT (512 * t + r.val) l.val := by
  pointwise [k0_pay7]
  exact T.hp r l

/-- The sum of the normed row against a row of the weights. -/
theorem sum_at (r : Fin 512) (o : Nat) (w : Fin 1024 → EReal) (hw : ∀ k, w k = W o k.val) :
    ∑ k : Fin 1024, k0_pay4 x g (ix2 r k) * w k = pr X G W (512 * t + r.val) o :=
  Finset.sum_congr rfl fun k _ => by rw [norm_at T, hw]

end At

/-- A block of `n` rows of the weights from row `o` on. -/
def Rows {n : Nat} (W : Nat → Nat → EReal) (o : Nat) (w : (⟨2, ![n, 1024]⟩ : Shape).Idx → EReal) : Prop := ∀ l k, w (ix2 l k) = W (o + l.val) k.val

section Plain
variable {X G W : Nat → Nat → EReal} {t o : Nat} {x : Vec Ideal S512x1024 .f32} {g : Vec Ideal S1x1024 .f32} {b : Vec Ideal S3x512x128 .f32} (T : Tile X G t x g b)
    {w : Vec Ideal S512x1024 .bf16} (hw : Rows W o w) (r l : Fin 512)
include T hw

theorem p8 : k0_pay8 x g w (ix2 r l) = pr X G W (512 * t + r.val) (o + l.val) := by
  pointwise [k0_pay8]
  exact sum_at T r _ _ (hw l)
theorem p9 : k0_pay9 (k0_pay4 x g) w (ix2 r l) = pr X G W (512 * t + r.val) (o + l.val) := by
  pointwise [k0_pay9]
  exact sum_at T r _ _ (hw l)
theorem p10 : k0_pay10 (k0_pay4 x g) w (ix2 r l) = pr X G W (512 * t + r.val) (o + l.val) := p9 T hw r l
theorem p11 : k0_pay11 (k0_pay4 x g) w (ix2 r l) = pr X G W (512 * t + r.val) (o + l.val) := p9 T hw r l
theorem p20 : k0_pay20 (k0_pay4 x g) w (ix2 r l) = pr X G W (512 * t + r.val) (o + l.val) := p9 T hw r l
theorem p21 : k0_pay21 (k0_pay4 x g) w (ix2 r l) = pr X G W (512 * t + r.val) (o + l.val) := p9 T hw r l
theorem p22 : k0_pay22 (k0_pay4 x g) w (ix2 r l) = pr X G W (512 * t + r.val) (o + l.val) := p9 T hw r l
theorem p23 : k0_pay23 (k0_pay4 x g) w (ix2 r l) = pr X G W (512 * t + r.val) (o + l.val) := p9 T hw r l
theorem p24 : k0_pay24 (k0_pay4 x g) w (ix2 r l) = pr X G W (512 * t + r.val) (o + l.val) := p9 T hw r l
theorem p25 : k0_pay25 (k0_pay4 x g) w (ix2 r l) = pr X G W (512 * t + r.val) (o + l.val) := p9 T hw r l
theorem p1 : k0_pay1 (k0_pay4 x g) w (ix2 r l) = pr X G W (512 * t + r.val) (o + l.val) := p9 T hw r l
theorem p2 : k0_pay2 (k0_pay4 x g) w (ix2 r l) = pr X G W (512 * t + r.val) (o + l.val) := p9 T hw r l
theorem p3 : k0_pay3 (k0_pay4 x g) w (ix2 r l) = pr X G W (512 * t + r.val) (o + l.val) := p9 T hw r l

end Plain

theorem tri {a a' b b' c c' d d' e e' f f' : EReal} (ha : a = a') (hb : b = b') (hc : c = c') (hd : d = d') (he : e = e') (hf : f = f') :
    a * b + c * d + e * f = a' * b' + c' * d' + e' * f' := by
  rw [ha, hb, hc, hd, he, hf]

section Turned
variable {X G W : Nat → Nat → EReal} {t o : Nat} {x : Vec Ideal S512x1024 .f32} {g : Vec Ideal S1x1024 .f32} {b : Vec Ideal S3x512x128 .f32} (T : Tile X G t x g b)
include T

/-- The tables, as the body reads them. -/
abbrev bc (b : Vec Ideal S3x512x128 .f32) := k0_pay5 (View.ld b (Rect.unit ![0, 0, 0] ![1, 512, 128] inb_S3x512x128_S1x512x128_0_0_0))
abbrev bm (b : Vec Ideal S3x512x128 .f32) := k0_pay6 (View.ld b (Rect.unit ![1, 0, 0] ![1, 512, 128] inb_S3x512x128_S1x512x128_1_0_0))
abbrev bp (b : Vec Ideal S3x512x128 .f32) := k0_pay7 (View.ld b (Rect.unit ![2, 0, 0] ![1, 512, 128] inb_S3x512x128_S1x512x128_2_0_0))

theorem p13 {w : Vec Ideal S512x1024 .bf16} (hw : Rows W o w) (r : Fin 512) (l : Fin 128) :
    k0_pay13 (k0_pay4 x g) (bc b) (bm b) (bp b) w (ix2 r l) = rot (fun j => pr X G W (512 * t + r.val) (o + j)) (512 * t + r.val) (0 + l.val) := by
  have hl := l.isLt
  rw [← rot_eq _ _ 0 l.val rfl hl]
  simp only [Nat.zero_add]
  pointwise [k0_pay13, k0_pay12]
  exact tri (sum_at T r _ _ (hw _)) (tc_at T r l) (sum_at T r _ _ (hw _)) (tm_at T r l) (sum_at T r _ _ (hw _)) (tp_at T r l)

theorem p14 {w : Vec Ideal S512x1024 .bf16} (hw : Rows W o w) (r : Fin 512) (l : Fin 128) :
    k0_pay14 (k0_pay4 x g) (bc b) (bm b) (bp b) w (ix2 r l) = rot (fun j => pr X G W (512 * t + r.val) (o + j)) (512 * t + r.val) (128 + l.val) := by
  have hl := l.isLt
  rw [← rot_eq _ _ 128 l.val rfl hl]
  pointwise [k0_pay14, k0_pay12]
  exact tri (sum_at T r _ _ (hw _)) (tc_at T r l) (sum_at T r _ _ (hw _)) (tm_at T r l) (sum_at T r _ _ (hw _)) (tp_at T r l)

theorem p15 {w : Vec Ideal S512x1024 .bf16} (hw : Rows W o w) (r : Fin 512) (l : Fin 128) :
    k0_pay15 (bc b) (bm b) (bp b) (k0_pay12 (k0_pay4 x g) w) (ix2 r l) = rot (fun j => pr X G W (512 * t + r.val) (o + j)) (512 * t + r.val) (256 + l.val) := by
  have hl := l.isLt
  rw [← rot_eq _ _ 256 l.val rfl hl]
  pointwise [k0_pay15, k0_pay12]
  exact tri (sum_at T r _ _ (hw _)) (tc_at T r l) (sum_at T r _ _ (hw _)) (tm_at T r l) (sum_at T r _ _ (hw _)) (tp_at T r l)

theorem p16 {w : Vec Ideal S512x1024 .bf16} (hw : Rows W o w) (r : Fin 512) (l : Fin 128) :
    k0_pay16 (bc b) (bm b) (bp b) (k0_pay12 (k0_pay4 x g) w) (ix2 r l) = rot (fun j => pr X G W (512 * t + r.val) (o + j)) (512 * t + r.val) (384 + l.val) := by
  have hl := l.isLt
  rw [← rot_eq _ _ 384 l.val rfl hl]
  pointwise [k0_pay16, k0_pay12]
  exact tri (sum_at T r _ _ (hw _)) (tc_at T r l) (sum_at T r _ _ (hw _)) (tm_at T r l) (sum_at T r _ _ (hw _)) (tp_at T r l)

theorem p18 {w : Vec Ideal S256x1024 .bf16} (hw : Rows W o w) (r : Fin 512) (l : Fin 128) :
    k0_pay18 (k0_pay4 x g) (bc b) (bm b) (bp b) w (ix2 r l) = rot (fun j => pr X G W (512 * t + r.val) (o + j)) (512 * t + r.val) (0 + l.val) := by
  have hl := l.isLt
  rw [← rot_eq _ _ 0 l.val rfl hl]
  simp only [Nat.zero_add]
  pointwise [k0_pay18, k0_pay17]
  exact tri (sum_at T r _ _ (hw _)) (tc_at T r l) (sum_at T r _ _ (hw _)) (tm_at T r l) (sum_at T r _ _ (hw _)) (tp_at T r l)

theorem p19 {w : Vec Ideal S256x1024 .bf16} (hw : Rows W o w) (r : Fin 512) (l : Fin 128) :
    k0_pay19 (k0_pay4 x g) w (ix2 r l) = pr X G W (512 * t + r.val) (o + (128 + l.val)) := by
  pointwise [k0_pay19, k0_pay17]
  exact sum_at T r _ _ (hw _)

end Turned

variable (m : (ℓ : Loc nD τ sig) → Buf (Elt Ideal) ℓ)

theorem idx_val : ∀ t : Fin cfg0.N, (win0_1.index t = ![t.val, 0] ∧ win0_2.index t = ![0, 0] ∧ win0_3.index t = ![0, t.val, 0])
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0] :=
  (by decide +kernel : ∀ t : Fin grid0.N, _)

abbrev A0 (c : Dev nD) : FVec Ideal S4096x1024 .f32 := m ((c.tc : Thread nD τ).loc main_arg0)
abbrev A1 (c : Dev nD) : FVec Ideal S1x1024 .f32 := m ((c.tc : Thread nD τ).loc main_arg1)
abbrev A2 (c : Dev nD) : FVec Ideal S7424x1024 .bf16 := m ((c.tc : Thread nD τ).loc main_arg2)

theorem V0 (c : Dev nD) : V m c main_arg0 = A0 m c := V_main_arg0 m c
theorem V1 (c : Dev nD) : V m c main_arg1 = A1 m c := V_main_arg1 m c
theorem V2 (c : Dev nD) : V m c main_arg2 = A2 m c := V_main_arg2 m c

/-- The blocks of tile `t`. -/
theorem tile (c : Dev nD) (t : Fin cfg0.N) : Tile (rd (A0 m c)) (rd (A1 m c)) t.val (iblk m c 1 t) (iblk m c 2 t) (iblk m c 3 t) := by
  have ht : t.val < 8 := lt_of_lt_of_eq t.isLt N_0
  obtain ⟨⟨i1, i2, i3⟩, -⟩ := idx_val t
  refine ⟨fun r k => ?_, fun k => ?_, fun r l => ?_, fun r l => ?_, fun r l => ?_⟩
  all_goals (try have := r.isLt)
  · rw [rd_of (by omega) k.isLt, ← V0]
    blk_point [iblk, i1]
  · rw [rd_of (by omega) k.isLt, ← V1]
    blk_point [iblk, i2]
  · refine Eq.trans ?_ (T3_0 m c ⟨512 * t.val + r.val, by omega⟩ l)
    blk_point [iblk, i3]
  · refine Eq.trans ?_ (T3_1 m c ⟨512 * t.val + r.val, by omega⟩ l)
    blk_point [iblk, i3]
  · refine Eq.trans ?_ (T3_2 m c ⟨512 * t.val + r.val, by omega⟩ l)
    blk_point [iblk, i3]

/-- One piece over the whole array leaves its payload. -/
theorem canon_whole (v : Vec Ideal S7424x1024 .bf16) : View.canon (Val := Elt Ideal) [⟨Rect.whole S7424x1024, v⟩] = v := by
  funext y
  canon_tiles y h
  refine congrArg v ?_
  funext i
  fin_cases i
  · exact Fin.ext h0.symm
  · exact Fin.ext h1.symm

/-- The weights, once copied in: a load of them is a load of the argument. -/
theorem cov (c : Dev nD) (r : Rect S7424x1024) : (View.whole cc0_scratch0).readCov (Val := Elt Ideal)
    [⟨Rect.whole S7424x1024, ReadAs.same.apply (View.read (Elt Ideal) (View.whole main_arg2) (V m c main_arg2))⟩] r.toLoadRect = View.ld (A2 m c) r := by
  rw [View.readCov_eq_canon']
  funext j
  exact congrFun ((canon_whole _).trans (V2 m c)) _

/-- The weights stay as they were copied, from tile to tile. -/
theorem scr (c : Dev nD) : ∀ n (h : n < cfg0.N), (outsAt0 m c n h).2.2.2.2.2.2.2.2 = A2 m c := by
  intro n
  induction n with
  | zero =>
    intro h
    have e := outsAt0_A m c ⟨0, h⟩ rfl
    simp only at e
    rw [e]
    clear e
    frame_out
    exact (canon_whole _).trans (V2 m c)
  | succ n ih =>
    intro h
    by_cases hc : (n + 1) % 8 = 0
    · exact absurd (lt_of_lt_of_eq h N_0) (by omega)
    · have e := outsAt0_B m c ⟨n + 1, h⟩ hc
      simp only at e
      rw [e]
      exact ih (by omega)

theorem scr' (c : Dev nD) (n : Nat) (h : n < cfg0.N) (hw : (Memref.whole cc0_scratch0).IsWhole) :
    View.read (Elt Ideal) (View.whole cc0_scratch0) (hw.unread (outsAt0 m c n h).2.2.2.2.2.2.2.2) = A2 m c := by
  rw [scr]
  exact hw.read_unread _

/-- A load of rows of the weights. -/
theorem rows {n : Nat} (c : Dev nD) (o : Nat) (h : ∀ a, (![o, 0] : Fin 2 → Nat) a + (![n, 1024] : Fin 2 → Nat) a ≤ S7424x1024.size a) :
    Rows (n := n) (rd (A2 m c)) o (fun y => A2 m c ((Rect.unit (s := S7424x1024) ![o, 0] ![n, 1024] h).idx y)) := by
  intro l k
  have hl := l.isLt
  have ho : o + n ≤ 7424 := h 0
  rw [rd_of (by omega) k.isLt]
  refine congrArg (A2 m c) ?_
  funext i
  fin_cases i
  · exact Fin.ext (show o + 1 * l.val = o + l.val by omega)
  · exact Fin.ext (show 0 + 1 * k.val = k.val by omega)

end Cert.ProjFwdIdeal.Hand

end
-- ==== Proof.ProjEnds.lean ====
/- What the eight results of the projection hold when the call returns. -/
module

public import proofs.«01_k».proof.Proof.ProjTile

@[expose] public section

set_option maxRecDepth 16384
set_option maxHeartbeats 4000000

noncomputable section

open Idealize.ShloMosaic Idealize.ShloMosaic.TcCoe Idealize.SL.Sem
open Idealize.ShloMosaic.Pipeline (Dat)

namespace Cert.ProjFwdIdeal.Hand

open Cert.ProjFwdIdeal Cert.ProjFwdIdeal.Gen Cert.ProjSpec
open Cert.ConvSpec (rd rd_of rd_at)

variable (m : (ℓ : Loc nD τ sig) → Buf (Elt Ideal) ℓ)

/-- The projection at row `n` of the arguments, on row `o` of the weights. -/
abbrev pA (c : Dev nD) (n o : Nat) : EReal := pr (rd (A0 m c)) (rd (A1 m c)) (rd (A2 m c)) n o

theorem step {c : Dev nD} {v : EReal} {n o o' : Nat} (h : v = pA m c n o) (e : o = o') : v = pA m c n o' := h.trans (congrArg _ e)

theorem end4 (c : Dev nD) : (dats m 0 c).arrAt 4 cfg0.N = (fun j => hn (rd (A0 m c)) (rd (A1 m c)) (j 0).val (j 1).val : S4096x1024.Idx → EReal) := by
  refine (dats m 0 c).arrAt_eq_of_covers 4 _ (by decide +kernel) fun t hf y => ?_
  blk_simp
  have T := tile m c t
  obtain ⟨-, i4, -⟩ := idx_val t
  rw [after0_4]
  have e0 : win0_4.index t 0 * 512 + (y 0).val = 512 * t.val + (y 0).val := by rw [i4]; exact congrArg (· + _) (Nat.mul_comm t.val 512)
  have e1 : win0_4.index t 1 * 1024 + (y 1).val = (y 1).val := by rw [i4]; exact (congrArg (· + _) (Nat.zero_mul _)).trans (Nat.zero_add _)
  show _ = hn _ _ _ _
  rw [e0, e1]
  clear e0 e1 i4
  by_cases hc : t.val % 8 = 0
  · rw [outsAt0_A m c t hc]
    frame_out
    rw [(ix2_eta y).symm]
    exact norm_at T _ _
  · rw [outsAt0_B m c t hc]
    frame_out
    rw [(ix2_eta y).symm]
    exact norm_at T _ _

theorem end5 (c : Dev nD) : (dats m 0 c).arrAt 5 cfg0.N = (fun j => pA m c (j 0).val (j 1).val : S4096x2048.Idx → EReal) := by
  refine (dats m 0 c).arrAt_eq_of_covers 5 _ (by decide +kernel) fun t hf y => ?_
  blk_simp
  have T := tile m c t
  obtain ⟨-, -, i5, -⟩ := idx_val t
  rw [after0_5]
  have e0 : win0_5.index t 0 * 512 + (y 0).val = 512 * t.val + (y 0).val := by rw [i5]; exact congrArg (· + _) (Nat.mul_comm t.val 512)
  have e1 : win0_5.index t 1 * 2048 + (y 1).val = (y 1).val := by rw [i5]; exact (congrArg (· + _) (Nat.zero_mul _)).trans (Nat.zero_add _)
  show _ = pA m c _ _
  rw [e0, e1]
  clear e0 e1 i5
  by_cases hc : t.val % 8 = 0
  · rw [outsAt0_A m c t hc]
    frame_out
    simp only [cov m c]
    canon_tiles x h
    all_goals rw [h0, h1, (ix2_eta x).symm]
    · exact step m (p11 T (rows m c 1536 _) _ _) rfl
    · exact step m (p10 T (rows m c 1024 _) _ _) rfl
    · exact step m (p9 T (rows m c 512 _) _ _) rfl
    · exact step m (p8 T (rows m c 0 _) _ _) (Nat.zero_add _)
  · rw [outsAt0_B m c t hc]
    frame_out
    rw [scr' m c]
    canon_tiles x h
    all_goals rw [h0, h1, (ix2_eta x).symm]
    · exact step m (p11 T (rows m c 1536 _) _ _) rfl
    · exact step m (p10 T (rows m c 1024 _) _ _) rfl
    · exact step m (p9 T (rows m c 512 _) _ _) rfl
    · exact step m (p8 T (rows m c 0 _) _ _) (Nat.zero_add _)

theorem end6 (c : Dev nD) : (dats m 0 c).arrAt 6 cfg0.N = (fun j => qo (rd (A0 m c)) (rd (A1 m c)) (rd (A2 m c)) (j 0).val (j 1).val : S4096x512.Idx → EReal) := by
  refine (dats m 0 c).arrAt_eq_of_covers 6 _ (by decide +kernel) fun t hf y => ?_
  blk_simp
  have T := tile m c t
  obtain ⟨-, -, -, i6, -⟩ := idx_val t
  rw [after0_6]
  have e0 : win0_6.index t 0 * 512 + (y 0).val = 512 * t.val + (y 0).val := by rw [i6]; exact congrArg (· + _) (Nat.mul_comm t.val 512)
  have e1 : win0_6.index t 1 * 512 + (y 1).val = (y 1).val := by rw [i6]; exact (congrArg (· + _) (Nat.zero_mul _)).trans (Nat.zero_add _)
  show _ = qo _ _ _ _ _
  rw [e0, e1]
  clear e0 e1 i6
  by_cases hc : t.val % 8 = 0
  · rw [outsAt0_A m c t hc]
    frame_out
    simp only [cov m c]
    canon_tiles x h
    all_goals rw [h0, h1, (ix2_eta x).symm]
    · exact p16 T (rows m c 2048 _) _ _
    · exact p15 T (rows m c 2048 _) _ _
    · exact p14 T (rows m c 2048 _) _ _
    · exact (p13 T (rows m c 2048 _) _ _).trans (congrArg (rot _ _) (Nat.zero_add _))
  · rw [outsAt0_B m c t hc]
    frame_out
    rw [scr' m c]
    canon_tiles x h
    all_goals rw [h0, h1, (ix2_eta x).symm]
    · exact p16 T (rows m c 2048 _) _ _
    · exact p15 T (rows m c 2048 _) _ _
    · exact p14 T (rows m c 2048 _) _ _
    · exact (p13 T (rows m c 2048 _) _ _).trans (congrArg (rot _ _) (Nat.zero_add _))

/-- The keys' lanes and the values' lanes of the fourth result. -/
theorem kv_lo {X G W : Nat → Nat → EReal} {n l : Nat} (h : l < 128) : rot (fun j => pr X G W n (2560 + j)) n (0 + l) = kv X G W n l := by
  rw [kv, if_pos h, Nat.zero_add]

theorem kv_hi {X G W : Nat → Nat → EReal} {n l : Nat} : pr X G W n (2560 + (128 + l)) = kv X G W n (128 + l) := by
  rw [kv, if_neg (by omega)]

theorem end7 (c : Dev nD) : (dats m 0 c).arrAt 7 cfg0.N = (fun j => kv (rd (A0 m c)) (rd (A1 m c)) (rd (A2 m c)) (j 0).val (j 1).val : S4096x256.Idx → EReal) := by
  refine (dats m 0 c).arrAt_eq_of_covers 7 _ (by decide +kernel) fun t hf y => ?_
  blk_simp
  have T := tile m c t
  obtain ⟨-, -, -, -, i7, -⟩ := idx_val t
  rw [after0_7]
  have e0 : win0_7.index t 0 * 512 + (y 0).val = 512 * t.val + (y 0).val := by rw [i7]; exact congrArg (· + _) (Nat.mul_comm t.val 512)
  have e1 : win0_7.index t 1 * 256 + (y 1).val = (y 1).val := by rw [i7]; exact (congrArg (· + _) (Nat.zero_mul _)).trans (Nat.zero_add _)
  show _ = kv _ _ _ _ _
  rw [e0, e1]
  clear e0 e1 i7
  by_cases hc : t.val % 8 = 0
  · rw [outsAt0_A m c t hc]
    frame_out
    simp only [cov m c]
    canon_tiles x h
    all_goals rw [h0, h1, (ix2_eta x).symm]
    · exact (p19 T (rows m c 2560 _) _ _).trans kv_hi
    · exact (p18 T (rows m c 2560 _) _ _).trans (kv_lo x1_lt)
  · rw [outsAt0_B m c t hc]
    frame_out
    rw [scr' m c]
    canon_tiles x h
    all_goals rw [h0, h1, (ix2_eta x).symm]
    · exact (p19 T (rows m c 2560 _) _ _).trans kv_hi
    · exact (p18 T (rows m c 2560 _) _ _).trans (kv_lo x1_lt)

theorem end8 (c : Dev nD) : (dats m 0 c).arrAt 8 cfg0.N = (fun j => pA m c (j 0).val (2816 + (j 1).val) : S4096x512.Idx → EReal) := by
  refine (dats m 0 c).arrAt_eq_of_covers 8 _ (by decide +kernel) fun t hf y => ?_
  blk_simp
  have T := tile m c t
  obtain ⟨-, -, -, -, -, i8, -⟩ := idx_val t
  rw [after0_8]
  have e0 : win0_8.index t 0 * 512 + (y 0).val = 512 * t.val + (y 0).val := by rw [i8]; exact congrArg (· + _) (Nat.mul_comm t.val 512)
  have e1 : win0_8.index t 1 * 512 + (y 1).val = (y 1).val := by rw [i8]; exact (congrArg (· + _) (Nat.zero_mul _)).trans (Nat.zero_add _)
  show _ = pA m c _ _
  rw [e0, e1, (ix2_eta y).symm]
  clear e0 e1 i8
  by_cases hc : t.val % 8 = 0
  · rw [outsAt0_A m c t hc]
    frame_out
    simp only [cov m c]
    exact p20 T (rows m c 2816 _) _ _
  · rw [outsAt0_B m c t hc]
    frame_out
    rw [scr' m c]
    exact p20 T (rows m c 2816 _) _ _

theorem end9 (c : Dev nD) : (dats m 0 c).arrAt 9 cfg0.N = (fun j => pA m c (j 0).val (3328 + (j 1).val) : S4096x512.Idx → EReal) := by
  refine (dats m 0 c).arrAt_eq_of_covers 9 _ (by decide +kernel) fun t hf y => ?_
  blk_simp
  have T := tile m c t
  obtain ⟨-, -, -, -, -, -, i9, -⟩ := idx_val t
  rw [after0_9]
  have e0 : win0_9.index t 0 * 512 + (y 0).val = 512 * t.val + (y 0).val := by rw [i9]; exact congrArg (· + _) (Nat.mul_comm t.val 512)
  have e1 : win0_9.index t 1 * 512 + (y 1).val = (y 1).val := by rw [i9]; exact (congrArg (· + _) (Nat.zero_mul _)).trans (Nat.zero_add _)
  show _ = pA m c _ _
  rw [e0, e1, (ix2_eta y).symm]
  clear e0 e1 i9
  by_cases hc : t.val % 8 = 0
  · rw [outsAt0_A m c t hc]
    frame_out
    simp only [cov m c]
    exact p21 T (rows m c 3328 _) _ _
  · rw [outsAt0_B m c t hc]
    frame_out
    rw [scr' m c]
    exact p21 T (rows m c 3328 _) _ _

theorem end10 (c : Dev nD) : (dats m 0 c).arrAt 10 cfg0.N = (fun j => pA m c (j 0).val (3840 + (j 1).val) : S4096x512.Idx → EReal) := by
  refine (dats m 0 c).arrAt_eq_of_covers 10 _ (by decide +kernel) fun t hf y => ?_
  blk_simp
  have T := tile m c t
  obtain ⟨-, -, -, -, -, -, -, i10, -⟩ := idx_val t
  rw [after0_10]
  have e0 : win0_10.index t 0 * 512 + (y 0).val = 512 * t.val + (y 0).val := by rw [i10]; exact congrArg (· + _) (Nat.mul_comm t.val 512)
  have e1 : win0_10.index t 1 * 512 + (y 1).val = (y 1).val := by rw [i10]; exact (congrArg (· + _) (Nat.zero_mul _)).trans (Nat.zero_add _)
  show _ = pA m c _ _
  rw [e0, e1, (ix2_eta y).symm]
  clear e0 e1 i10
  by_cases hc : t.val % 8 = 0
  · rw [outsAt0_A m c t hc]
    frame_out
    simp only [cov m c]
    exact p22 T (rows m c 3840 _) _ _
  · rw [outsAt0_B m c t hc]
    frame_out
    rw [scr' m c]
    exact p22 T (rows m c 3840 _) _ _

theorem end11 (c : Dev nD) : (dats m 0 c).arrAt 11 cfg0.N = (fun j => pA m c (j 0).val (4352 + (j 1).val) : S4096x3072.Idx → EReal) := by
  refine (dats m 0 c).arrAt_eq_of_covers 11 _ (by decide +kernel) fun t hf y => ?_
  blk_simp
  have T := tile m c t
  obtain ⟨-, -, -, -, -, -, -, -, i11⟩ := idx_val t
  rw [after0_11]
  have e0 : win0_11.index t 0 * 512 + (y 0).val = 512 * t.val + (y 0).val := by rw [i11]; exact congrArg (· + _) (Nat.mul_comm t.val 512)
  have e1 : win0_11.index t 1 * 3072 + (y 1).val = (y 1).val := by rw [i11]; exact (congrArg (· + _) (Nat.zero_mul _)).trans (Nat.zero_add _)
  show _ = pA m c _ _
  rw [e0, e1]
  clear e0 e1 i11
  by_cases hc : t.val % 8 = 0
  · rw [outsAt0_A m c t hc]
    frame_out
    simp only [cov m c]
    canon_tiles x h
    all_goals rw [h0, h1, (ix2_eta x).symm]
    · exact step m (p3 T (rows m c 6912 _) _ _) (Nat.add_assoc 4352 2560 _)
    · exact step m (p2 T (rows m c 6400 _) _ _) (Nat.add_assoc 4352 2048 _)
    · exact step m (p1 T (rows m c 5888 _) _ _) (Nat.add_assoc 4352 1536 _)
    · exact step m (p25 T (rows m c 5376 _) _ _) (Nat.add_assoc 4352 1024 _)
    · exact step m (p24 T (rows m c 4864 _) _ _) (Nat.add_assoc 4352 512 _)
    · exact step m (p23 T (rows m c 4352 _) _ _) rfl
  · rw [outsAt0_B m c t hc]
    frame_out
    rw [scr' m c]
    canon_tiles x h
    all_goals rw [h0, h1, (ix2_eta x).symm]
    · exact step m (p3 T (rows m c 6912 _) _ _) (Nat.add_assoc 4352 2560 _)
    · exact step m (p2 T (rows m c 6400 _) _ _) (Nat.add_assoc 4352 2048 _)
    · exact step m (p1 T (rows m c 5888 _) _ _) (Nat.add_assoc 4352 1536 _)
    · exact step m (p25 T (rows m c 5376 _) _ _) (Nat.add_assoc 4352 1024 _)
    · exact step m (p24 T (rows m c 4864 _) _ _) (Nat.add_assoc 4352 512 _)
    · exact step m (p23 T (rows m c 4352 _) _ _) rfl

end Cert.ProjFwdIdeal.Hand

end
-- ==== Proof.ProjRef.lean ====
/- What the eight results of the reference hold. -/
module

public import proofs.«01_k».proof.Proof.ConvSpec
public import proofs.«01_k».proof.Proof.ProjSpec
public import proofs.«01_k».proof.Proof.Gen.ProjFwdRefIdeal.Run

@[expose] public section

set_option maxRecDepth 16384
set_option maxHeartbeats 4000000

noncomputable section

open Idealize.ShloMosaic Idealize.ShloMosaic.TcCoe Idealize.SL.Sem

namespace Cert.ProjFwdRefIdeal.Hand

open Cert.ProjFwdRefIdeal Cert.ProjFwdRefIdeal.Gen Cert.ProjFwdRefIdeal.Value Cert.ProjSpec
open Cert.ConvSpec (rd rd_of rd_at)

variable (m : (ℓ : Loc nD τ sig) → Buf (Elt Ideal) ℓ)

abbrev A0 (c : Dev nD) : FVec Ideal S4096x1024 .f32 := m ((c.tc : Thread nD τ).loc main_arg0)
abbrev A1 (c : Dev nD) : FVec Ideal S1x1024 .f32 := m ((c.tc : Thread nD τ).loc main_arg1)
abbrev A2 (c : Dev nD) : FVec Ideal S7424x1024 .bf16 := m ((c.tc : Thread nD τ).loc main_arg2)

/-- The projection at row `n` of the arguments, on row `o` of the weights. -/
abbrev pA (c : Dev nD) (n o : Nat) : EReal := pr (rd (A0 m c)) (rd (A1 m c)) (rd (A2 m c)) n o

/-- The normed row, and the sums against the weights, in the arguments' own entries. -/
theorem hn_eq (c : Dev nD) (r : Fin 4096) (k : Fin 1024) : A0 m c (ix2 r k) * Ideal.rsqrt
    (Ideal.div (∑ j : Fin 1024, A0 m c (ix2 r j) * A0 m c (ix2 r j)) (Ideal.ofBits FTy.f32 1149239296#32) + Ideal.ofBits FTy.f32 897988541#32) * A1 m c (ix2 0 k)
    = hn (rd (A0 m c)) (rd (A1 m c)) r.val k.val := by
  unfold hn
  simp only [rd_at (A0 m c), rd_at (A1 m c)]
  rfl

theorem pr_eq (c : Dev nD) (r : Fin 4096) (o : Fin 7424) (n : Nat) (h : o.val = n) : ∑ k : Fin 1024, A0 m c (ix2 r k) * Ideal.rsqrt
    (Ideal.div (∑ j : Fin 1024, A0 m c (ix2 r j) * A0 m c (ix2 r j)) (Ideal.ofBits FTy.f32 1149239296#32) + Ideal.ofBits FTy.f32 897988541#32) * A1 m c (ix2 0 k)
      * A2 m c (ix2 o k) = pA m c r.val n :=
  Finset.sum_congr rfl fun k _ => by rw [hn_eq, rd_at (A2 m c), h]

theorem q_eq (c : Dev nD) (r : Fin 4096) (l : Fin 512) : (res_out2 (F := Ideal) m c (ix2 r l) : EReal) = qo (rd (A0 m c)) (rd (A1 m c)) (rd (A2 m c)) r.val l.val := by
  unfold res_out2 res_main_v107
  pointwise []
  have hl := l.isLt
  unfold qo rot
  by_cases h16 : l.val % 64 < 16
  · by_cases h8 : l.val % 64 < 8
    · simp only [h16, h8, dif_pos, if_true]
      refine congrArg₂ _ (congrArg₂ _ (pr_eq m c r _ _ ?_) rfl) (congrArg₂ _ (pr_eq m c r _ _ ?_) rfl)
      · rfl
      · show 2048 + (l.val / 64 * 64 + (8 + l.val % 64)) = _
        omega
    · simp only [h16, h8, dif_pos, dif_neg, if_true, if_false, not_false_eq_true]
      refine congrArg₂ _ (congrArg₂ _ (pr_eq m c r _ _ ?_) rfl) (congrArg₂ _ (pr_eq m c r _ _ ?_) rfl)
      · show 2048 + (l.val / 64 * 64 + (8 + (l.val % 64 - 8))) = _
        omega
      · show 2048 + (l.val / 64 * 64 + (l.val % 64 - 8)) = _
        omega
  · simp only [h16, dif_neg, if_false, not_false_eq_true]
    refine pr_eq m c r _ _ ?_
    show 2048 + (l.val / 64 * 64 + (16 + (l.val % 64 - 16))) = _
    omega

theorem kv_eq (c : Dev nD) (r : Fin 4096) (l : Fin 256) : (res_out3 (F := Ideal) m c (ix2 r l) : EReal) = kv (rd (A0 m c)) (rd (A1 m c)) (rd (A2 m c)) r.val l.val := by
  unfold res_out3 res_main_v108
  pointwise []
  have hl := l.isLt
  unfold kv rot
  by_cases h : l.val < 128
  · by_cases h16 : l.val % 64 < 16
    · by_cases h8 : l.val % 64 < 8
      · simp only [h, h16, h8, dif_pos, if_true]
        refine congrArg₂ _ (congrArg₂ _ (pr_eq m c r _ _ ?_) rfl) (congrArg₂ _ (pr_eq m c r _ _ ?_) rfl)
        · show 2560 + (l.val / 64 * 64 + l.val % 64) = _
          omega
        · show 2560 + (l.val / 64 * 64 + (8 + l.val % 64)) = _
          omega
      · simp only [h, h16, h8, dif_pos, dif_neg, if_true, if_false, not_false_eq_true]
        refine congrArg₂ _ (congrArg₂ _ (pr_eq m c r _ _ ?_) rfl) (congrArg₂ _ (pr_eq m c r _ _ ?_) rfl)
        · show 2560 + (l.val / 64 * 64 + (8 + (l.val % 64 - 8))) = _
          omega
        · show 2560 + (l.val / 64 * 64 + (l.val % 64 - 8)) = _
          omega
    · simp only [h, h16, dif_pos, dif_neg, if_true, if_false, not_false_eq_true]
      refine pr_eq m c r _ _ ?_
      show 2560 + (l.val / 64 * 64 + (16 + (l.val % 64 - 16))) = _
      omega
  · simp only [h, dif_neg, if_false, not_false_eq_true]
    refine pr_eq m c r _ _ ?_
    show 2688 + (l.val - 128) = _
    omega

end Cert.ProjFwdRefIdeal.Hand

end
-- ==== Proof.ProjFwd.lean ====
/- The pre-norm, the input projection and the rotary embedding: the kernel's eight results are the formulas of `ProjSpec`, and so are the reference's. -/
module

public import proofs.«01_k».proof.Defs
public import proofs.«01_k».proof.Proof.ProjEnds
public import proofs.«01_k».proof.Proof.ProjRef

@[expose] public section

set_option maxRecDepth 16384

noncomputable section

open Idealize.ShloMosaic Idealize.ShloMosaic.TcCoe Idealize.SL.Sem

namespace Cert.ProjFwdProof

open Cert.ProjSpec
open Cert.ConvSpec (rd rd_of rd_at)

/-- The run of the reference, as a frame. -/
theorem ref_frame : Cert.quiescent_ProjFwdRefIdeal (hProjFwdRefIdeal := Cert.ProjFwdRefIdeal.Gen.facts) := fun m ρ _ =>
  (θ_run Cert.ProjFwdRefIdeal.defs _ _).mono (fun r h => ⟨fun c => (h c).2.2.2.2.2.2.2.2, Idealize.ShloMosaic.sem_eq_zero_of_no_sems (by decide) r.2⟩)
    (Cert.ProjFwdRefIdeal.Value.run (F := Ideal) m ρ)

/-- Two arrays of two axes which agree at every pair of coordinates are equal. -/
theorem ext2 {R L : Nat} {f g : (⟨2, ![R, L]⟩ : Shape).Idx → EReal} (h : ∀ (r : Fin R) (l : Fin L), f (ix2 r l) = g (ix2 r l)) : f = g :=
  funext fun j => by rw [(ix2_eta j).symm]; exact h _ _

set_option maxHeartbeats 4000000 in
theorem value : Cert.algebraic_ProjFwdIdeal_ProjFwdRefIdeal (hProjFwdIdeal := Cert.ProjFwdIdeal.Gen.facts) (hProjFwdRefIdeal := Cert.ProjFwdRefIdeal.Gen.facts) := by
  intro m ρ m' ρ' _ hagree
  refine ⟨fun c => _, fun c => _, fun c => _, fun c => _, fun c => _, fun c => _, fun c => _, fun c => _, Cert.ProjFwdIdeal.Value.run_blocks (F := Ideal) m ρ, ?_⟩
  refine (θ_run Cert.ProjFwdRefIdeal.defs _ _).mono (fun r h c => ?_) (Cert.ProjFwdRefIdeal.Value.run (F := Ideal) m' ρ')
  obtain ⟨h0, h1, h2, h3, h4, h5, h6, h7, hargs⟩ := h c
  obtain ⟨a0, a1, a2⟩ := hagree c
  have e0 : Cert.ProjFwdRefIdeal.Hand.A0 m' c = Cert.ProjFwdIdeal.Hand.A0 m c := a0
  have e1 : Cert.ProjFwdRefIdeal.Hand.A1 m' c = Cert.ProjFwdIdeal.Hand.A1 m c := a1
  have e2 : Cert.ProjFwdRefIdeal.Hand.A2 m' c = Cert.ProjFwdIdeal.Hand.A2 m c := a2
  refine ⟨h0.trans ?_, h1.trans ?_, h2.trans ?_, h3.trans ?_, h4.trans ?_, h5.trans ?_, h6.trans ?_, h7.trans ?_, hargs⟩
  · refine Eq.trans ?_ (Cert.ProjFwdIdeal.Hand.end4 m c).symm
    rw [← e0, ← e1]
    refine ext2 fun r l => ?_
    pointwise []
    exact Cert.ProjFwdRefIdeal.Hand.hn_eq m' c r l
  · refine Eq.trans ?_ (Cert.ProjFwdIdeal.Hand.end5 m c).symm
    unfold Cert.ProjFwdIdeal.Hand.pA
    rw [← e0, ← e1, ← e2]
    refine ext2 fun r l => ?_
    pointwise []
    exact Cert.ProjFwdRefIdeal.Hand.pr_eq m' c r _ _ rfl
  · refine Eq.trans ?_ (Cert.ProjFwdIdeal.Hand.end6 m c).symm
    rw [← e0, ← e1, ← e2]
    exact ext2 fun r l => Cert.ProjFwdRefIdeal.Hand.q_eq m' c r l
  · refine Eq.trans ?_ (Cert.ProjFwdIdeal.Hand.end7 m c).symm
    rw [← e0, ← e1, ← e2]
    exact ext2 fun r l => Cert.ProjFwdRefIdeal.Hand.kv_eq m' c r l
  · refine Eq.trans ?_ (Cert.ProjFwdIdeal.Hand.end8 m c).symm
    unfold Cert.ProjFwdIdeal.Hand.pA
    rw [← e0, ← e1, ← e2]
    refine ext2 fun r l => ?_
    pointwise []
    exact Cert.ProjFwdRefIdeal.Hand.pr_eq m' c r _ _ rfl
  · refine Eq.trans ?_ (Cert.ProjFwdIdeal.Hand.end9 m c).symm
    unfold Cert.ProjFwdIdeal.Hand.pA
    rw [← e0, ← e1, ← e2]
    refine ext2 fun r l => ?_
    pointwise []
    exact Cert.ProjFwdRefIdeal.Hand.pr_eq m' c r _ _ rfl
  · refine Eq.trans ?_ (Cert.ProjFwdIdeal.Hand.end10 m c).symm
    unfold Cert.ProjFwdIdeal.Hand.pA
    rw [← e0, ← e1, ← e2]
    refine ext2 fun r l => ?_
    pointwise []
    exact Cert.ProjFwdRefIdeal.Hand.pr_eq m' c r _ _ rfl
  · refine Eq.trans ?_ (Cert.ProjFwdIdeal.Hand.end11 m c).symm
    unfold Cert.ProjFwdIdeal.Hand.pA
    rw [← e0, ← e1, ← e2]
    refine ext2 fun r l => ?_
    pointwise []
    exact Cert.ProjFwdRefIdeal.Hand.pr_eq m' c r _ _ rfl

end Cert.ProjFwdProof

end
-- ==== Proof.lean ====
/- The certificate: each pair's frames in turn, of the kernel and of the reference, then each pair's
   preservation (no operation was rewritten) and value, from the pair's own module. -/
module

public import proofs.«01_k».proof.Defs
public import proofs.«01_k».proof.Proof.Gen.MemKvIdeal
public import proofs.«01_k».proof.Proof.Gen.MemKvIdeal.Frame
public import proofs.«01_k».proof.Proof.Gen.MemKvRefIdeal
public import proofs.«01_k».proof.Proof.Gen.MemKvRefIdeal.Run
public import proofs.«01_k».proof.Proof.Gen.ConvIdeal
public import proofs.«01_k».proof.Proof.Gen.ConvIdeal.Frame
public import proofs.«01_k».proof.Proof.Gen.ConvRefIdeal
public import proofs.«01_k».proof.Proof.Gen.ConvRefIdeal.Run
public import proofs.«01_k».proof.Proof.Gen.ConvIdeal.Value
public import proofs.«01_k».proof.Proof.Gen.MemAttnIdeal
public import proofs.«01_k».proof.Proof.Gen.MemAttnIdeal.Frame
public import proofs.«01_k».proof.Proof.Gen.MemAttnRefIdeal
public import proofs.«01_k».proof.Proof.Gen.MemAttnRefIdeal.Run
public import proofs.«01_k».proof.Proof.Gen.MemAttnIdeal.Value
public import proofs.«01_k».proof.Proof.Gen.MidIdeal
public import proofs.«01_k».proof.Proof.Gen.MidRefIdeal
public import proofs.«01_k».proof.Proof.Gen.MidRefIdeal.Run
public import proofs.«01_k».proof.Proof.Gen.MemFwdIdeal
public import proofs.«01_k».proof.Proof.Gen.MemFwdIdeal.Frame
public import proofs.«01_k».proof.Proof.Gen.MemFwdRefIdeal
public import proofs.«01_k».proof.Proof.Gen.MemFwdRefIdeal.Run
public import proofs.«01_k».proof.Proof.Gen.MemFwdIdeal.Value
public import proofs.«01_k».proof.Proof.Gen.DhIdeal
public import proofs.«01_k».proof.Proof.Gen.DhRefIdeal
public import proofs.«01_k».proof.Proof.Gen.DhRefIdeal.Run
public import proofs.«01_k».proof.Proof.Gen.ConvFwdIdeal
public import proofs.«01_k».proof.Proof.Gen.ConvFwdIdeal.Frame
public import proofs.«01_k».proof.Proof.Gen.ConvFwdRefIdeal
public import proofs.«01_k».proof.Proof.Gen.ConvFwdRefIdeal.Run
public import proofs.«01_k».proof.Proof.Gen.ConvFwdIdeal.Value
public import proofs.«01_k».proof.Proof.Gen.ProjFwdIdeal
public import proofs.«01_k».proof.Proof.Gen.ProjFwdIdeal.Frame
public import proofs.«01_k».proof.Proof.Gen.ProjFwdRefIdeal
public import proofs.«01_k».proof.Proof.Gen.ProjFwdRefIdeal.Run
public import proofs.«01_k».proof.Proof.Gen.ProjFwdIdeal.Value
public import proofs.«01_k».proof.Proof.Gen.MemKv
public import proofs.«01_k».proof.Proof.Gen.MemKv.Frame
public import proofs.«01_k».proof.Proof.MemKv
public import proofs.«01_k».proof.Proof.Gen.Conv
public import proofs.«01_k».proof.Proof.Gen.Conv.Frame
public import proofs.«01_k».proof.Proof.Conv
public import proofs.«01_k».proof.Proof.Gen.MemAttn
public import proofs.«01_k».proof.Proof.Gen.MemAttn.Frame
public import proofs.«01_k».proof.Proof.MemAttn
public import proofs.«01_k».proof.Proof.Gen.Mid
public import proofs.«01_k».proof.Proof.Mid
public import proofs.«01_k».proof.Proof.Gen.MemFwd
public import proofs.«01_k».proof.Proof.Gen.MemFwd.Frame
public import proofs.«01_k».proof.Proof.MemFwd
public import proofs.«01_k».proof.Proof.Gen.Dh
public import proofs.«01_k».proof.Proof.DhProof
public import proofs.«01_k».proof.Proof.Gen.ConvFwd
public import proofs.«01_k».proof.Proof.Gen.ConvFwd.Frame
public import proofs.«01_k».proof.Proof.ConvFwd
public import proofs.«01_k».proof.Proof.Gen.ProjFwd
public import proofs.«01_k».proof.Proof.Gen.ProjFwd.Frame
public import proofs.«01_k».proof.Proof.ProjFwd

@[expose] public section

noncomputable section

namespace Cert.Proof

open Idealize.ShloMosaic Idealize.SL.Sem

theorem claim : Cert.Claim := ⟨Cert.MemKv.Gen.facts, Cert.MemKvIdeal.Gen.facts, Cert.MemKvRefIdeal.Gen.facts, Cert.Conv.Gen.facts, Cert.ConvIdeal.Gen.facts, Cert.ConvRefIdeal.Gen.facts, Cert.MemAttn.Gen.facts, Cert.MemAttnIdeal.Gen.facts, Cert.MemAttnRefIdeal.Gen.facts, Cert.Mid.Gen.facts, Cert.MidIdeal.Gen.facts, Cert.MidRefIdeal.Gen.facts, Cert.MemFwd.Gen.facts, Cert.MemFwdIdeal.Gen.facts, Cert.MemFwdRefIdeal.Gen.facts, Cert.Dh.Gen.facts, Cert.DhIdeal.Gen.facts, Cert.DhRefIdeal.Gen.facts, Cert.ConvFwd.Gen.facts, Cert.ConvFwdIdeal.Gen.facts, Cert.ConvFwdRefIdeal.Gen.facts, Cert.ProjFwd.Gen.facts, Cert.ProjFwdIdeal.Gen.facts, Cert.ProjFwdRefIdeal.Gen.facts, Cert.ConvProof.pre_facts, Cert.MemAttnProof.pre_facts, Cert.MidProof.pre_facts, Cert.MemFwdProof.pre_facts, Cert.DhProof.pre_facts,
  fun m ρ _ => Cert.MemKv.Gen.frame m ρ, fun m ρ _ => Cert.MemKvIdeal.Gen.frame m ρ, Cert.MemKvProof.ref_frame,
  fun m ρ _ => Cert.Conv.Gen.frame m ρ, fun m ρ _ => Cert.ConvIdeal.Gen.frame m ρ, fun m ρ _ => Cert.ConvIdeal.Gen.frame m ρ, Cert.ConvProof.ref_frame, fun m ρ _ => Cert.ConvProof.ref_frame m ρ trivial,
  fun m ρ _ => Cert.MemAttn.Gen.frame m ρ, fun m ρ _ => Cert.MemAttnIdeal.Gen.frame m ρ, fun m ρ _ => Cert.MemAttnIdeal.Gen.frame m ρ, Cert.MemAttnProof.ref_frame, fun m ρ _ => Cert.MemAttnProof.ref_frame m ρ trivial,
  Cert.MidProof.frame_bits, Cert.MidProof.frame, fun m ρ _ => Cert.MidProof.frame m ρ trivial, Cert.MidProof.ref_frame, fun m ρ _ => Cert.MidProof.ref_frame m ρ trivial,
  fun m ρ _ => Cert.MemFwd.Gen.frame m ρ, fun m ρ _ => Cert.MemFwdIdeal.Gen.frame m ρ, fun m ρ _ => Cert.MemFwdIdeal.Gen.frame m ρ, Cert.MemFwdProof.ref_frame, fun m ρ _ => Cert.MemFwdProof.ref_frame m ρ trivial,
  Cert.DhProof.frame_bits, Cert.DhProof.frame, fun m ρ _ => Cert.DhProof.frame m ρ trivial, Cert.DhProof.ref_frame, fun m ρ _ => Cert.DhProof.ref_frame m ρ trivial,
  fun m ρ _ => Cert.ConvFwd.Gen.frame m ρ, fun m ρ _ => Cert.ConvFwdIdeal.Gen.frame m ρ, Cert.ConvFwdProof.ref_frame,
  fun m ρ _ => Cert.ProjFwd.Gen.frame m ρ, fun m ρ _ => Cert.ProjFwdIdeal.Gen.frame m ρ, Cert.ProjFwdProof.ref_frame,
  trivial, Cert.MemKvProof.value,
  trivial, Cert.ConvProof.value,
  trivial, Cert.MemAttnProof.value,
  trivial, Cert.MidProof.value,
  trivial, Cert.MemFwdProof.value,
  trivial, Cert.DhProof.value,
  trivial, Cert.ConvFwdProof.value,
  trivial, Cert.ProjFwdProof.value⟩

end Cert.Proof

end
